-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_v83) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v22_0)) (v1 : (c : Dev Cert.Kernel7Ideal.nD) → Buf (Elt Ideal) ((c.tc : Thread Cert.Kernel7Ideal.nD Cert.Kernel7Ideal.τ).loc Cert.Kernel7Ideal.main_v22_1)) (v2 : (c : Dev Cert.Kernel7Ideal.nD) → Buf (Elt Ideal) ((c.tc : Thread Cert.Kernel7Ideal.nD Cert.Kernel7Ideal.τ).loc Cert.Kernel7Ideal.main_v22_2)) (v3 : (c : Dev Cert.Kernel7Ideal.nD) → Buf (Elt Ideal) ((c.tc : Thread Cert.Kernel7Ideal.nD Cert.Kernel7Ideal.τ).loc Cert.Kernel7Ideal.main_v22_3)) (v4 : (c : Dev Cert.Kernel7Ideal.nD) → Buf (Elt Ideal) ((c.tc : Thread Cert.Kernel7Ideal.nD Cert.Kernel7Ideal.τ).loc Cert.Kernel7Ideal.main_v22_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22_0) = v0 c
          ∧ r.2.mem ((c.tc : Thread Cert.Kernel7Ideal.nD Cert.Kernel7Ideal.τ).loc Cert.Kernel7Ideal.main_v22_1) = v1 c
          ∧ r.2.mem ((c.tc : Thread Cert.Kernel7Ideal.nD Cert.Kernel7Ideal.τ).loc Cert.Kernel7Ideal.main_v22_2) = v2 c
          ∧ r.2.mem ((c.tc : Thread Cert.Kernel7Ideal.nD Cert.Kernel7Ideal.τ).loc Cert.Kernel7Ideal.main_v22_3) = v3 c
          ∧ r.2.mem ((c.tc : Thread Cert.Kernel7Ideal.nD Cert.Kernel7Ideal.τ).loc Cert.Kernel7Ideal.main_v22_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v100) = v0 c
          ∧ r.2.mem ((c.tc : Thread Cert.Reference7Ideal.nD Cert.Reference7Ideal.τ).loc Cert.Reference7Ideal.main_v101) = v1 c
          ∧ r.2.mem ((c.tc : Thread Cert.Reference7Ideal.nD Cert.Reference7Ideal.τ).loc Cert.Reference7Ideal.main_v102) = v2 c
          ∧ r.2.mem ((c.tc : Thread Cert.Reference7Ideal.nD Cert.Reference7Ideal.τ).loc Cert.Reference7Ideal.main_v103) = v3 c
          ∧ r.2.mem ((c.tc : Thread Cert.Reference7Ideal.nD Cert.Reference7Ideal.τ).loc Cert.Reference7Ideal.main_v99) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v19_0)) (v1 : (c : Dev Cert.Kernel8Ideal.nD) → Buf (Elt Ideal) ((c.tc : Thread Cert.Kernel8Ideal.nD Cert.Kernel8Ideal.τ).loc Cert.Kernel8Ideal.main_v19_1)) (v2 : (c : Dev Cert.Kernel8Ideal.nD) → Buf (Elt Ideal) ((c.tc : Thread Cert.Kernel8Ideal.nD Cert.Kernel8Ideal.τ).loc Cert.Kernel8Ideal.main_v19_2)) (v3 : (c : Dev Cert.Kernel8Ideal.nD) → Buf (Elt Ideal) ((c.tc : Thread Cert.Kernel8Ideal.nD Cert.Kernel8Ideal.τ).loc Cert.Kernel8Ideal.main_v19_3)) (v4 : (c : Dev Cert.Kernel8Ideal.nD) → Buf (Elt Ideal) ((c.tc : Thread Cert.Kernel8Ideal.nD Cert.Kernel8Ideal.τ).loc Cert.Kernel8Ideal.main_v19_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v19_0) = v0 c
          ∧ r.2.mem ((c.tc : Thread Cert.Kernel8Ideal.nD Cert.Kernel8Ideal.τ).loc Cert.Kernel8Ideal.main_v19_1) = v1 c
          ∧ r.2.mem ((c.tc : Thread Cert.Kernel8Ideal.nD Cert.Kernel8Ideal.τ).loc Cert.Kernel8Ideal.main_v19_2) = v2 c
          ∧ r.2.mem ((c.tc : Thread Cert.Kernel8Ideal.nD Cert.Kernel8Ideal.τ).loc Cert.Kernel8Ideal.main_v19_3) = v3 c
          ∧ r.2.mem ((c.tc : Thread Cert.Kernel8Ideal.nD Cert.Kernel8Ideal.τ).loc Cert.Kernel8Ideal.main_v19_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v58) = v0 c
          ∧ r.2.mem ((c.tc : Thread Cert.Reference8Ideal.nD Cert.Reference8Ideal.τ).loc Cert.Reference8Ideal.main_v59) = v1 c
          ∧ r.2.mem ((c.tc : Thread Cert.Reference8Ideal.nD Cert.Reference8Ideal.τ).loc Cert.Reference8Ideal.main_v60) = v2 c
          ∧ r.2.mem ((c.tc : Thread Cert.Reference8Ideal.nD Cert.Reference8Ideal.τ).loc Cert.Reference8Ideal.main_v57) = v3 c
          ∧ r.2.mem ((c.tc : Thread Cert.Reference8Ideal.nD Cert.Reference8Ideal.τ).loc Cert.Reference8Ideal.main_v37) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v13) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)) (v3 : (c : Dev Cert.Kernel12Ideal.nD) → Buf (Elt Ideal) ((c.tc : Thread Cert.Kernel12Ideal.nD Cert.Kernel12Ideal.τ).loc Cert.Kernel12Ideal.main_v2_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_v2_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v28) = v1 c
          ∧ r.2.mem ((c.tc : Thread Cert.Reference12Ideal.nD Cert.Reference12Ideal.τ).loc Cert.Reference12Ideal.main_v9) = v2 c
          ∧ r.2.mem ((c.tc : Thread Cert.Reference12Ideal.nD Cert.Reference12Ideal.τ).loc Cert.Reference12Ideal.main_v15) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)) (v3 : (c : Dev Cert.Kernel13Ideal.nD) → Buf (Elt Ideal) ((c.tc : Thread Cert.Kernel13Ideal.nD Cert.Kernel13Ideal.τ).loc Cert.Kernel13Ideal.main_v2_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_v2_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_v15) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v25) = v0 c
          ∧ r.2.mem ((c.tc : Thread Cert.Reference18Ideal.nD Cert.Reference18Ideal.τ).loc Cert.Reference18Ideal.main_v38) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v8_0)) (v1 : (c : Dev Cert.Kernel20Ideal.nD) → Buf (Elt Ideal) ((c.tc : Thread Cert.Kernel20Ideal.nD Cert.Kernel20Ideal.τ).loc Cert.Kernel20Ideal.main_v8_1)) (v2 : (c : Dev Cert.Kernel20Ideal.nD) → Buf (Elt Ideal) ((c.tc : Thread Cert.Kernel20Ideal.nD Cert.Kernel20Ideal.τ).loc Cert.Kernel20Ideal.main_v8_2)) (v3 : (c : Dev Cert.Kernel20Ideal.nD) → Buf (Elt Ideal) ((c.tc : Thread Cert.Kernel20Ideal.nD Cert.Kernel20Ideal.τ).loc Cert.Kernel20Ideal.main_v8_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v8_0) = v0 c
          ∧ r.2.mem ((c.tc : Thread Cert.Kernel20Ideal.nD Cert.Kernel20Ideal.τ).loc Cert.Kernel20Ideal.main_v8_1) = v1 c
          ∧ r.2.mem ((c.tc : Thread Cert.Kernel20Ideal.nD Cert.Kernel20Ideal.τ).loc Cert.Kernel20Ideal.main_v8_2) = v2 c
          ∧ r.2.mem ((c.tc : Thread Cert.Kernel20Ideal.nD Cert.Kernel20Ideal.τ).loc Cert.Kernel20Ideal.main_v8_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v22) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_v21) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v12_0)) (v1 : (c : Dev Cert.Kernel21Ideal.nD) → Buf (Elt Ideal) ((c.tc : Thread Cert.Kernel21Ideal.nD Cert.Kernel21Ideal.τ).loc Cert.Kernel21Ideal.main_v12_1)) (v2 : (c : Dev Cert.Kernel21Ideal.nD) → Buf (Elt Ideal) ((c.tc : Thread Cert.Kernel21Ideal.nD Cert.Kernel21Ideal.τ).loc Cert.Kernel21Ideal.main_v12_2)) (v3 : (c : Dev Cert.Kernel21Ideal.nD) → Buf (Elt Ideal) ((c.tc : Thread Cert.Kernel21Ideal.nD Cert.Kernel21Ideal.τ).loc Cert.Kernel21Ideal.main_v12_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v12_0) = v0 c
          ∧ r.2.mem ((c.tc : Thread Cert.Kernel21Ideal.nD Cert.Kernel21Ideal.τ).loc Cert.Kernel21Ideal.main_v12_1) = v1 c
          ∧ r.2.mem ((c.tc : Thread Cert.Kernel21Ideal.nD Cert.Kernel21Ideal.τ).loc Cert.Kernel21Ideal.main_v12_2) = v2 c
          ∧ r.2.mem ((c.tc : Thread Cert.Kernel21Ideal.nD Cert.Kernel21Ideal.τ).loc Cert.Kernel21Ideal.main_v12_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v43) = v0 c
          ∧ r.2.mem ((c.tc : Thread Cert.Reference21Ideal.nD Cert.Reference21Ideal.τ).loc Cert.Reference21Ideal.main_v44) = v1 c
          ∧ r.2.mem ((c.tc : Thread Cert.Reference21Ideal.nD Cert.Reference21Ideal.τ).loc Cert.Reference21Ideal.main_v40) = v2 c
          ∧ r.2.mem ((c.tc : Thread Cert.Reference21Ideal.nD Cert.Reference21Ideal.τ).loc Cert.Reference21Ideal.main_v42) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)) →
    ∃ (v0 : (c : Dev Cert.Kernel22Ideal.nD) → Buf (Elt Ideal) ((c.tc : Thread Cert.Kernel22Ideal.nD Cert.Kernel22Ideal.τ).loc Cert.Kernel22Ideal.main_v31_0)) (v1 : (c : Dev Cert.Kernel22Ideal.nD) → Buf (Elt Ideal) ((c.tc : Thread Cert.Kernel22Ideal.nD Cert.Kernel22Ideal.τ).loc Cert.Kernel22Ideal.main_v31_1)) (v2 : (c : Dev Cert.Kernel22Ideal.nD) → Buf (Elt Ideal) ((c.tc : Thread Cert.Kernel22Ideal.nD Cert.Kernel22Ideal.τ).loc Cert.Kernel22Ideal.main_v31_2)) (v3 : (c : Dev Cert.Kernel22Ideal.nD) → Buf (Elt Ideal) ((c.tc : Thread Cert.Kernel22Ideal.nD Cert.Kernel22Ideal.τ).loc Cert.Kernel22Ideal.main_v31_3)) (v4 : (c : Dev Cert.Kernel22Ideal.nD) → Buf (Elt Ideal) ((c.tc : Thread Cert.Kernel22Ideal.nD Cert.Kernel22Ideal.τ).loc Cert.Kernel22Ideal.main_v31_4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v31_0) = v0 c
          ∧ r.2.mem ((c.tc : Thread Cert.Kernel22Ideal.nD Cert.Kernel22Ideal.τ).loc Cert.Kernel22Ideal.main_v31_1) = v1 c
          ∧ r.2.mem ((c.tc : Thread Cert.Kernel22Ideal.nD Cert.Kernel22Ideal.τ).loc Cert.Kernel22Ideal.main_v31_2) = v2 c
          ∧ r.2.mem ((c.tc : Thread Cert.Kernel22Ideal.nD Cert.Kernel22Ideal.τ).loc Cert.Kernel22Ideal.main_v31_3) = v3 c
          ∧ r.2.mem ((c.tc : Thread Cert.Kernel22Ideal.nD Cert.Kernel22Ideal.τ).loc Cert.Kernel22Ideal.main_v31_4) = v4 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v67) = v0 c
          ∧ r.2.mem ((c.tc : Thread Cert.Reference22Ideal.nD Cert.Reference22Ideal.τ).loc Cert.Reference22Ideal.main_v68) = v1 c
          ∧ r.2.mem ((c.tc : Thread Cert.Reference22Ideal.nD Cert.Reference22Ideal.τ).loc Cert.Reference22Ideal.main_v69) = v2 c
          ∧ r.2.mem ((c.tc : Thread Cert.Reference22Ideal.nD Cert.Reference22Ideal.τ).loc Cert.Reference22Ideal.main_v64) = v3 c
          ∧ r.2.mem ((c.tc : Thread Cert.Reference22Ideal.nD Cert.Reference22Ideal.τ).loc Cert.Reference22Ideal.main_v66) = v4 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Kernel.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8x128 : Shape := ⟨2, ![8, 128]⟩
abbrev S8x1024 : Shape := ⟨2, ![8, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩
abbrev S1x512x1024 : Shape := ⟨3, ![1, 512, 1024]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 40
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S1024x4096, .bf16⟩
  | .hbm, ⟨28, _⟩ => ⟨S1024x8x512, .bf16⟩
  | .hbm, ⟨29, _⟩ => ⟨S8x1024x512, .bf16⟩
  | .hbm, ⟨30, _⟩ => ⟨S4096x1024, .bf16⟩
  | .hbm, ⟨31, _⟩ => ⟨S8x512x1024, .bf16⟩
  | .hbm, ⟨32, _⟩ => ⟨S_, .f32⟩
  | .hbm, ⟨33, _⟩ => ⟨S8x128, .f32⟩
  | .hbm, ⟨34, _⟩ => ⟨S8192x4096, .bf16⟩
  | .hbm, ⟨35, _⟩ => ⟨S8192x1024, .f32⟩
  | .hbm, ⟨36, _⟩ => ⟨S8192x1024, .bf16⟩
  | .hbm, ⟨37, _⟩ => ⟨S8192x1024, .bf16⟩
  | .hbm, ⟨38, _⟩ => ⟨S8192x4096, .bf16⟩
  | .hbm, ⟨39, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x4096, .bf16⟩
  | .local _ .vmem, ⟨7, _⟩ => ⟨S256x4096, .bf16⟩
  | .local _ .vmem, ⟨8, _⟩ => ⟨S1x1024, .f32⟩
  | .local _ .vmem, ⟨9, _⟩ => ⟨S8x1024x512, .bf16⟩
  | .local _ .vmem, ⟨10, _⟩ => ⟨S8x512x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x4096, .bf16⟩
  | .local _ .vmem, ⟨19, _⟩ => ⟨S256x4096, .bf16⟩
  | .local _ .vmem, ⟨20, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev main_v23_4 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S6x1024 : Shape := ⟨2, ![6, 1024]⟩
abbrev S8x1024 : Shape := ⟨2, ![8, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .i1⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x4096, .f32⟩
  | .hbm, ⟨86, _⟩ => ⟨S8192x4096, .f32⟩
  | .hbm, ⟨87, _⟩ => ⟨S_, .f32⟩
  | .hbm, ⟨88, _⟩ => ⟨S8192x4096, .f32⟩
  | .hbm, ⟨89, _⟩ => ⟨S8192x4096, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S8192x1024, .f32⟩
  | .hbm, ⟨102, _⟩ => ⟨S8192x1024, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S_, .f32⟩
  | .hbm, ⟨113, _⟩ => ⟨S6x1024, .f32⟩
  | .hbm, ⟨114, _⟩ => ⟨S8x1024, .f32⟩
  | .hbm, ⟨115, _⟩ => ⟨S8192x1024, .f32⟩
  | .hbm, ⟨116, _⟩ => ⟨S8192x1024, .bf16⟩
  | .hbm, ⟨117, _⟩ => ⟨S8192x1024, .bf16⟩
  | .hbm, ⟨118, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_16 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_19 : Ref sig .tc := ⟨.hbm, 104, rfl⟩
abbrev main_v76 : Ref sig .tc := ⟨.hbm, 105, rfl⟩
abbrev main_v77 : Ref sig .tc := ⟨.hbm, 106, rfl⟩
abbrev main_cst_20 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_21 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]
-- ==== Kernel2.lean ====
abbrev S8192x1024 : Shape := ⟨2, ![8192, 1024]⟩
abbrev S8192x4096 : Shape := ⟨2, ![8192, 4096]⟩
abbrev S8x1024x512 : Shape := ⟨3, ![8, 1024, 512]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S8x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S8x512x1024 : Shape := ⟨3, ![8, 512, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S8x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | .hbm, ⟨11, _⟩ => ⟨S8x512x1024, .f32⟩
  | .hbm, ⟨12, _⟩ => ⟨S8x512x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S8192x2048 : Shape := ⟨2, ![8192, 2048]⟩
abbrev S8x1024x256 : Shape := ⟨3, ![8, 1024, 256]⟩
abbrev S4096x1024 : Shape := ⟨2, ![4096, 1024]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S8x1024x256, .bf16⟩
  | .local _ .vmem, ⟨0, _⟩ => ⟨S4096x1024, .bf16⟩
  | .local _ .vmem, ⟨1, _⟩ => ⟨S4096x1024, .bf16⟩
  | .local _ .vmem, ⟨2, _⟩ => ⟨S4096x256, .bf16⟩
  | .local _ .vmem, ⟨3, _⟩ => ⟨S4096x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x1024, .bf16⟩
  | .hbm, ⟨9, _⟩ => ⟨S8x512x1024, .bf16⟩
  | .hbm, ⟨10, _⟩ => ⟨S8192x4096, .bf16⟩
  | .hbm, ⟨11, _⟩ => ⟨S8192x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S8x512x1024, .bf16⟩
  | .local _ .vmem, ⟨5, _⟩ => ⟨S1x1024, .f32⟩
  | .local _ .vmem, ⟨6, _⟩ => ⟨S512x4096, .bf16⟩
  | .local _ .vmem, ⟨7, _⟩ => ⟨S512x4096, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x4096, .bf16⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S8x1024 : Shape := ⟨2, ![8, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩
abbrev S1x512x1024 : Shape := ⟨3, ![1, 512, 1024]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S1 : Shape := ⟨1, ![1]⟩
abbrev S1x1 : Shape := ⟨2, ![1, 1]⟩

abbrev nBuf : Space → Nat
  | .hbm => 39
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S1024x4096, .bf16⟩
  | .hbm, ⟨29, _⟩ => ⟨S1024x8x512, .bf16⟩
  | .hbm, ⟨30, _⟩ => ⟨S8x1024x512, .bf16⟩
  | .hbm, ⟨31, _⟩ => ⟨S4096x1024, .bf16⟩
  | .hbm, ⟨32, _⟩ => ⟨S8x512x1024, .bf16⟩
  | .hbm, ⟨33, _⟩ => ⟨S8192x4096, .bf16⟩
  | .hbm, ⟨34, _⟩ => ⟨S8192x1024, .f32⟩
  | .hbm, ⟨35, _⟩ => ⟨S8192x1024, .bf16⟩
  | .hbm, ⟨36, _⟩ => ⟨S8192x1024, .bf16⟩
  | .hbm, ⟨37, _⟩ => ⟨S8192x4096, .bf16⟩
  | .hbm, ⟨38, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x4096, .bf16⟩
  | .local _ .vmem, ⟨7, _⟩ => ⟨S256x4096, .bf16⟩
  | .local _ .vmem, ⟨8, _⟩ => ⟨S1x1024, .f32⟩
  | .local _ .vmem, ⟨9, _⟩ => ⟨S8x1024x512, .bf16⟩
  | .local _ .vmem, ⟨10, _⟩ => ⟨S8x512x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x4096, .bf16⟩
  | .local _ .vmem, ⟨21, _⟩ => ⟨S256x4096, .bf16⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v22_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S5x1024 : Shape := ⟨2, ![5, 1024]⟩
abbrev S8x1024 : Shape := ⟨2, ![8, 1024]⟩

abbrev nBuf : Space → Nat
  | .hbm => 144
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S1024x4096, .f32⟩
  | 5 => ⟨S4096x1024, .f32⟩
  | 6 => ⟨S1x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192, .f32⟩
  | 14 => ⟨S_, .f32⟩
  | 15 => ⟨S8192, .f32⟩
  | 16 => ⟨S8192, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S8192, .f32⟩
  | 25 => ⟨S_, .f32⟩
  | 26 => ⟨S8192, .f32⟩
  | 27 => ⟨S8192, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S8192x1024, .f32⟩
  | 51 => ⟨S8192x1024, .f32⟩
  | 52 => ⟨S8192x4096, .f32⟩
  | 53 => ⟨S_, .f32⟩
  | 54 => ⟨S8192x4096, .f32⟩
  | 55 => ⟨S8192x4096, .f32⟩
  | 56 => ⟨S_, .f32⟩
  | 57 => ⟨S8192x4096, .f32⟩
  | 58 => ⟨S8192x4096, .i1⟩
  | 59 => ⟨S_, .f32⟩
  | 60 => ⟨S8192x4096, .f32⟩
  | 61 => ⟨S8192x4096, .f32⟩
  | 62 => ⟨S_, .f32⟩
  | 63 => ⟨S8192x4096, .f32⟩
  | 64 => ⟨S8192x4096, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S_, .f32⟩
  | 77 => ⟨S8192x1, .f32⟩
  | 78 => ⟨S8192x1, .f32⟩
  | 79 => ⟨S8192x1, .f32⟩
  | 80 => ⟨S8192x1, .f32⟩
  | 81 => ⟨S_, .f32⟩
  | 82 => ⟨S8192x1, .f32⟩
  | 83 => ⟨S8192x1, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192, .f32⟩
  | 106 => ⟨S8192x1024, .f32⟩
  | 107 => ⟨S8192x1024, .f32⟩
  | 108 => ⟨S8192x1024, .f32⟩
  | 109 => ⟨S8192x4096, .f32⟩
  | 110 => ⟨S8192x4096, .f32⟩
  | 111 => ⟨S_, .f32⟩
  | 112 => ⟨S8192x4096, .f32⟩
  | 113 => ⟨S8192x4096, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S8192x1024, .f32⟩
  | 122 => ⟨S_, .f32⟩
  | 123 => ⟨S8192, .f32⟩
  | 124 => ⟨S8192x1, .f32⟩
  | 125 => ⟨S8192x1024, .f32⟩
  | 126 => ⟨S8192x1024, .f32⟩
  | 127 => ⟨S8192x1, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S_, .f32⟩
  | 4 => ⟨S8192, .f32⟩
  | 5 => ⟨S8192x1024, .f32⟩
  | 6 => ⟨S8192x1024, .f32⟩
  | 7 => ⟨S8192x1024, .f32⟩
  | 8 => ⟨S1x1024, .f32⟩
  | 9 => ⟨S_, .f32⟩
  | 10 => ⟨S5x1024, .f32⟩
  | 11 => ⟨S8x1024, .f32⟩
  | 12 => ⟨S8192x1024, .f32⟩
  | 13 => ⟨S8192x1024, .bf16⟩
  | 14 => ⟨S8192x1024, .bf16⟩
  | 15 => ⟨S8192x4096, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_cst_4 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_cst_6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_v19 : Ref sig .tc := ⟨.hbm, 36, rfl⟩
abbrev main_cst_9 : Ref sig .tc := ⟨.hbm, 37, rfl⟩
abbrev main_v20 : Ref sig .tc := ⟨.hbm, 38, rfl⟩
abbrev main_v21 : Ref sig .tc := ⟨.hbm, 39, rfl⟩
abbrev main_cst_10 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_11 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_v37 : Ref sig .tc := ⟨.hbm, 61, rfl⟩
abbrev main_cst_14 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_15 : Ref sig .tc := ⟨.hbm, 67, rfl⟩
abbrev main_v42 : Ref sig .tc := ⟨.hbm, 68, rfl⟩
abbrev main_v43 : Ref sig .tc := ⟨.hbm, 69, rfl⟩
abbrev main_cst_16 : Ref sig .tc := ⟨.hbm, 70, rfl⟩
abbrev main_v44 : Ref sig .tc := ⟨.hbm, 71, rfl⟩
abbrev main_v45 : Ref sig .tc := ⟨.hbm, 72, rfl⟩
abbrev main_cst_17 : Ref sig .tc := ⟨.hbm, 73, rfl⟩
abbrev main_v46 : Ref sig .tc := ⟨.hbm, 74, rfl⟩
abbrev main_v47 : Ref sig .tc := ⟨.hbm, 75, rfl⟩
abbrev main_cst_18 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_19 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_20 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_21 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_22 : Ref sig .tc := ⟨.hbm, 101, rfl⟩
abbrev main_v69 : Ref sig .tc := ⟨.hbm, 102, rfl⟩
abbrev main_v70 : Ref sig .tc := ⟨.hbm, 103, rfl⟩
abbrev main_cst_23 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_24 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_25 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_26 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_27 : Ref sig .tc := ⟨.hbm, 128, rfl⟩
abbrev main_v91 : Ref sig .tc := ⟨.hbm, 129, rfl⟩
abbrev main_v92 : Ref sig .tc := ⟨.hbm, 130, rfl⟩
abbrev main_cst_28 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_29 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S1024x8x256 : Shape := ⟨3, ![1024, 8, 256]⟩
abbrev S8x1024x256 : Shape := ⟨3, ![8, 1024, 256]⟩
abbrev S8x128 : Shape := ⟨2, ![8, 128]⟩
abbrev S8x1024 : Shape := ⟨2, ![8, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩
abbrev S256 : Shape := ⟨1, ![256]⟩
abbrev S1x256 : Shape := ⟨2, ![1, 256]⟩
abbrev S1x1024x256 : Shape := ⟨3, ![1, 1024, 256]⟩
abbrev S1024x256 : Shape := ⟨2, ![1024, 256]⟩
abbrev S1024 : Shape := ⟨1, ![1024]⟩

abbrev nBuf : Space → Nat
  | .hbm => 34
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x2048, .f32⟩
  | .hbm, ⟨5, _⟩ => ⟨S1x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S1024x2048, .bf16⟩
  | .hbm, ⟨25, _⟩ => ⟨S1024x8x256, .bf16⟩
  | .hbm, ⟨26, _⟩ => ⟨S8x1024x256, .bf16⟩
  | .hbm, ⟨27, _⟩ => ⟨S_, .f32⟩
  | .hbm, ⟨28, _⟩ => ⟨S8x128, .f32⟩
  | .hbm, ⟨29, _⟩ => ⟨S8192x1024, .f32⟩
  | .hbm, ⟨30, _⟩ => ⟨S8192x1024, .bf16⟩
  | .hbm, ⟨31, _⟩ => ⟨S8192x2048, .bf16⟩
  | .hbm, ⟨32, _⟩ => ⟨S8x1024, .f32⟩
  | .hbm, ⟨33, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S8x1024x256, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S8x1024, .f32⟩
  | .local _ .vmem, ⟨17, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S8192x1024 : Shape := ⟨2, ![8192, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S2048 : Shape := ⟨1, ![2048]⟩
abbrev S1024 : Shape := ⟨1, ![1024]⟩
abbrev S7x1024 : Shape := ⟨2, ![7, 1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024x2048, .f32⟩
  | .hbm, ⟨5, _⟩ => ⟨S1x2048, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S7x1024, .f32⟩
  | .hbm, ⟨77, _⟩ => ⟨S8x1024, .f32⟩
  | .hbm, ⟨78, _⟩ => ⟨S8192x1024, .f32⟩
  | .hbm, ⟨79, _⟩ => ⟨S8192x1024, .bf16⟩
  | .hbm, ⟨80, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x2048 : Shape := ⟨2, ![1024, 2048]⟩
abbrev S1x2048 : Shape := ⟨2, ![1, 2048]⟩
abbrev S1024x8x256 : Shape := ⟨3, ![1024, 8, 256]⟩
abbrev S8x1024x256 : Shape := ⟨3, ![8, 1024, 256]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1x2048, .f32⟩
  | .hbm, ⟨4, _⟩ => ⟨S1024x2048, .bf16⟩
  | .hbm, ⟨5, _⟩ => ⟨S1024x8x256, .bf16⟩
  | .hbm, ⟨6, _⟩ => ⟨S8x1024x256, .bf16⟩
  | .hbm, ⟨7, _⟩ => ⟨S8192x2048, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x1024 : Shape := ⟨2, ![8192, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1x2048, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel11.lean ====
abbrev S8x16x1024 : Shape := ⟨3, ![8, 16, 1024]⟩
abbrev S1x16x1024 : Shape := ⟨3, ![1, 16, 1024]⟩
abbrev S16x1024 : Shape := ⟨2, ![16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S1x16x1024, .f32⟩
  | .hbm, ⟨2, _⟩ => ⟨S1x16x1024, .f32⟩
  | .hbm, ⟨3, _⟩ => ⟨S1x16x1024, .f32⟩
  | .hbm, ⟨4, _⟩ => ⟨S1x16x1024, .f32⟩
  | .hbm, ⟨5, _⟩ => ⟨S1x16x1024, .f32⟩
  | .hbm, ⟨6, _⟩ => ⟨S1x16x1024, .f32⟩
  | .hbm, ⟨7, _⟩ => ⟨S1x16x1024, .f32⟩
  | .local _ .vmem, ⟨0, _⟩ => ⟨S8x16x1024, .f32⟩
  | .local _ .vmem, ⟨1, _⟩ => ⟨S1x16x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x1024, .f32⟩
  | .local _ .vmem, ⟨7, _⟩ => ⟨S1x16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference11Ideal.lean ====
abbrev S8x16x1024 : Shape := ⟨3, ![8, 16, 1024]⟩
abbrev S1x16x1024 : Shape := ⟨3, ![1, 16, 1024]⟩
abbrev S_ : Shape := ⟨0, ![]⟩
abbrev S16x1024 : Shape := ⟨2, ![16, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1x16x1024, .f32⟩
  | .hbm, ⟨2, _⟩ => ⟨S1x16x1024, .f32⟩
  | .hbm, ⟨3, _⟩ => ⟨S1x16x1024, .f32⟩
  | .hbm, ⟨4, _⟩ => ⟨S_, .f32⟩
  | .hbm, ⟨5, _⟩ => ⟨S16x1024, .f32⟩
  | .hbm, ⟨6, _⟩ => ⟨S1x16x1024, .f32⟩
  | .hbm, ⟨7, _⟩ => ⟨S_, .f32⟩
  | .hbm, ⟨8, _⟩ => ⟨S1x16x1024, .f32⟩
  | .hbm, ⟨9, _⟩ => ⟨S1x16x1024, .f32⟩
  | .hbm, ⟨10, _⟩ => ⟨S_, .f32⟩
  | .hbm, ⟨11, _⟩ => ⟨S1x16x1024, .f32⟩
  | .hbm, ⟨12, _⟩ => ⟨S1x16x1024, .f32⟩
  | .hbm, ⟨13, _⟩ => ⟨S1x16x1024, .f32⟩
  | .hbm, ⟨14, _⟩ => ⟨S_, .f32⟩
  | .hbm, ⟨15, _⟩ => ⟨S1x16x1024, .f32⟩
  | .hbm, ⟨16, _⟩ => ⟨S1x16x1024, .f32⟩
  | .hbm, ⟨17, _⟩ => ⟨S1x16x1024, .f32⟩
  | .hbm, ⟨18, _⟩ => ⟨S_, .f32⟩
  | .hbm, ⟨19, _⟩ => ⟨S1x16x1024, .f32⟩
  | .hbm, ⟨20, _⟩ => ⟨S1x16x1024, .f32⟩
  | .hbm, ⟨21, _⟩ => ⟨S1x16x1024, .f32⟩
  | .hbm, ⟨22, _⟩ => ⟨S_, .f32⟩
  | .hbm, ⟨23, _⟩ => ⟨S1x16x1024, .f32⟩
  | .hbm, ⟨24, _⟩ => ⟨S1x16x1024, .f32⟩
  | .hbm, ⟨25, _⟩ => ⟨S_, .f32⟩
  | .hbm, ⟨26, _⟩ => ⟨S1x16x1024, .f32⟩
  | .hbm, ⟨27, _⟩ => ⟨S1x16x1024, .f32⟩
  | .hbm, ⟨28, _⟩ => ⟨S1x16x1024, .f32⟩
  | .hbm, ⟨29, _⟩ => ⟨S_, .f32⟩
  | .hbm, ⟨30, _⟩ => ⟨S1x16x1024, .f32⟩
  | .hbm, ⟨31, _⟩ => ⟨S1x16x1024, .f32⟩
  | .hbm, ⟨32, _⟩ => ⟨S1x16x1024, .f32⟩
  | .hbm, ⟨33, _⟩ => ⟨S_, .f32⟩
  | .hbm, ⟨34, _⟩ => ⟨S1x16x1024, .f32⟩
  | .hbm, ⟨35, _⟩ => ⟨S1x16x1024, .f32⟩
  | .hbm, ⟨36, _⟩ => ⟨S1x16x1024, .f32⟩
  | .hbm, ⟨37, _⟩ => ⟨S_, .f32⟩
  | .hbm, ⟨38, _⟩ => ⟨S1x16x1024, .f32⟩
  | .hbm, ⟨39, _⟩ => ⟨S1x16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S8x1024x512 : Shape := ⟨3, ![8, 1024, 512]⟩
abbrev S2x1024x512 : Shape := ⟨3, ![2, 1024, 512]⟩
abbrev S8x512x512 : Shape := ⟨3, ![8, 512, 512]⟩
abbrev S1x512x512 : Shape := ⟨3, ![1, 512, 512]⟩
abbrev S512x512 : Shape := ⟨2, ![512, 512]⟩

abbrev nBuf : Space → Nat
  | .hbm => 11
  | .vmem => 18
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x1024x512, .bf16⟩
  | .hbm, ⟨6, _⟩ => ⟨S8x1024x512, .bf16⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .local _ .vmem, ⟨0, _⟩ => ⟨S8x512x512, .bf16⟩
  | .local _ .vmem, ⟨1, _⟩ => ⟨S8x512x512, .bf16⟩
  | .local _ .vmem, ⟨2, _⟩ => ⟨S8x512x512, .bf16⟩
  | .local _ .vmem, ⟨3, _⟩ => ⟨S8x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1x1024x512, .f32⟩
  | .hbm, ⟨10, _⟩ => ⟨S1x1024x512, .f32⟩
  | .hbm, ⟨11, _⟩ => ⟨S2x1024x512, .f32⟩
  | .hbm, ⟨12, _⟩ => ⟨S_, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S2x1024x512, .f32⟩
  | .hbm, ⟨23, _⟩ => ⟨S_, .f32⟩
  | .hbm, ⟨24, _⟩ => ⟨S2x1024x512, .f32⟩
  | .hbm, ⟨25, _⟩ => ⟨S2x1024x512, .f32⟩
  | .hbm, ⟨26, _⟩ => ⟨S2x1024x512, .f32⟩
  | .hbm, ⟨27, _⟩ => ⟨S_, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2x1024x512, .f32⟩
  | .hbm, ⟨38, _⟩ => ⟨S_, .f32⟩
  | .hbm, ⟨39, _⟩ => ⟨S2x1024x512, .f32⟩
  | .hbm, ⟨40, _⟩ => ⟨S2x1024x512, .f32⟩
  | .hbm, ⟨41, _⟩ => ⟨S2x1024x512, .f32⟩
  | .hbm, ⟨42, _⟩ => ⟨S_, .f32⟩
  | .hbm, ⟨43, _⟩ => ⟨S2x1024x512, .f32⟩
  | .hbm, ⟨44, _⟩ => ⟨S2x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel13.lean ====
abbrev S8x512x1024 : Shape := ⟨3, ![8, 512, 1024]⟩
abbrev S2x512x1024 : Shape := ⟨3, ![2, 512, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 11
  | .vmem => 18
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S8x512x1024, .bf16⟩
  | .hbm, ⟨6, _⟩ => ⟨S8x512x1024, .bf16⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S8x512x1024 : Shape := ⟨3, ![8, 512, 1024]⟩
abbrev S2x512x1024 : Shape := ⟨3, ![2, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S1x512x1024, .f32⟩
  | .hbm, ⟨10, _⟩ => ⟨S1x512x1024, .f32⟩
  | .hbm, ⟨11, _⟩ => ⟨S2x512x1024, .f32⟩
  | .hbm, ⟨12, _⟩ => ⟨S_, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S2x512x1024, .f32⟩
  | .hbm, ⟨23, _⟩ => ⟨S_, .f32⟩
  | .hbm, ⟨24, _⟩ => ⟨S2x512x1024, .f32⟩
  | .hbm, ⟨25, _⟩ => ⟨S2x512x1024, .f32⟩
  | .hbm, ⟨26, _⟩ => ⟨S2x512x1024, .f32⟩
  | .hbm, ⟨27, _⟩ => ⟨S_, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S2x512x1024, .f32⟩
  | .hbm, ⟨38, _⟩ => ⟨S_, .f32⟩
  | .hbm, ⟨39, _⟩ => ⟨S2x512x1024, .f32⟩
  | .hbm, ⟨40, _⟩ => ⟨S2x512x1024, .f32⟩
  | .hbm, ⟨41, _⟩ => ⟨S2x512x1024, .f32⟩
  | .hbm, ⟨42, _⟩ => ⟨S_, .f32⟩
  | .hbm, ⟨43, _⟩ => ⟨S2x512x1024, .f32⟩
  | .hbm, ⟨44, _⟩ => ⟨S2x512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel14.lean ====
abbrev S8x1024x512 : Shape := ⟨3, ![8, 1024, 512]⟩
abbrev S1x1024x386 : Shape := ⟨3, ![1, 1024, 386]⟩
abbrev S8x512x512 : Shape := ⟨3, ![8, 512, 512]⟩
abbrev S1x512x386 : Shape := ⟨3, ![1, 512, 386]⟩
abbrev S512x386 : Shape := ⟨2, ![512, 386]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x512, .f32⟩
  | .hbm, ⟨1, _⟩ => ⟨S1x1024x386, .f32⟩
  | .hbm, ⟨2, _⟩ => ⟨S1x1024x386, .f32⟩
  | .hbm, ⟨3, _⟩ => ⟨S1x1024x386, .f32⟩
  | .hbm, ⟨4, _⟩ => ⟨S8x1024x512, .bf16⟩
  | .hbm, ⟨5, _⟩ => ⟨S1x1024x386, .f32⟩
  | .hbm, ⟨6, _⟩ => ⟨S1x1024x386, .f32⟩
  | .hbm, ⟨7, _⟩ => ⟨S1x1024x386, .f32⟩
  | .hbm, ⟨8, _⟩ => ⟨S1x1024x386, .f32⟩
  | .local _ .vmem, ⟨0, _⟩ => ⟨S8x512x512, .bf16⟩
  | .local _ .vmem, ⟨1, _⟩ => ⟨S8x512x512, .bf16⟩
  | .local _ .vmem, ⟨2, _⟩ => ⟨S1x512x386, .f32⟩
  | .local _ .vmem, ⟨3, _⟩ => ⟨S1x512x386, .f32⟩
  | .local _ .vmem, ⟨4, _⟩ => ⟨S1x512x386, .f32⟩
  | .local _ .vmem, ⟨5, _⟩ => ⟨S1x512x386, .f32⟩
  | .local _ .vmem, ⟨6, _⟩ => ⟨S1x512x386, .f32⟩
  | .local _ .vmem, ⟨7, _⟩ => ⟨S1x512x386, .f32⟩
  | .local _ .vmem, ⟨8, _⟩ => ⟨S1x512x386, .f32⟩
  | .local _ .vmem, ⟨9, _⟩ => ⟨S1x512x386, .f32⟩
  | .local _ .vmem, ⟨10, _⟩ => ⟨S1x512x386, .f32⟩
  | .local _ .vmem, ⟨11, _⟩ => ⟨S1x512x386, .f32⟩
  | .local _ .vmem, ⟨12, _⟩ => ⟨S1x512x386, .f32⟩
  | .local _ .vmem, ⟨13, _⟩ => ⟨S1x512x386, .f32⟩
  | .local _ .vmem, ⟨14, _⟩ => ⟨S1x512x386, .f32⟩
  | .local _ .vmem, ⟨15, _⟩ => ⟨S1x512x386, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S8x1024x512 : Shape := ⟨3, ![8, 1024, 512]⟩
abbrev S1x1024x386 : Shape := ⟨3, ![1, 1024, 386]⟩
abbrev S8x1024x386 : Shape := ⟨3, ![8, 1024, 386]⟩
abbrev S_ : Shape := ⟨0, ![]⟩
abbrev S1024x386 : Shape := ⟨2, ![1024, 386]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S1x1024x386, .f32⟩
  | .hbm, ⟨2, _⟩ => ⟨S1x1024x386, .f32⟩
  | .hbm, ⟨3, _⟩ => ⟨S1x1024x386, .f32⟩
  | .hbm, ⟨4, _⟩ => ⟨S8x1024x386, .f32⟩
  | .hbm, ⟨5, _⟩ => ⟨S_, .f32⟩
  | .hbm, ⟨6, _⟩ => ⟨S1024x386, .f32⟩
  | .hbm, ⟨7, _⟩ => ⟨S1x1024x386, .f32⟩
  | .hbm, ⟨8, _⟩ => ⟨S_, .f32⟩
  | .hbm, ⟨9, _⟩ => ⟨S1x1024x386, .f32⟩
  | .hbm, ⟨10, _⟩ => ⟨S1x1024x386, .f32⟩
  | .hbm, ⟨11, _⟩ => ⟨S_, .f32⟩
  | .hbm, ⟨12, _⟩ => ⟨S1x1024x386, .f32⟩
  | .hbm, ⟨13, _⟩ => ⟨S1x1024x386, .f32⟩
  | .hbm, ⟨14, _⟩ => ⟨S1x1024x386, .f32⟩
  | .hbm, ⟨15, _⟩ => ⟨S_, .f32⟩
  | .hbm, ⟨16, _⟩ => ⟨S1x1024x386, .f32⟩
  | .hbm, ⟨17, _⟩ => ⟨S1x1024x386, .f32⟩
  | .hbm, ⟨18, _⟩ => ⟨S1x1024x386, .f32⟩
  | .hbm, ⟨19, _⟩ => ⟨S_, .f32⟩
  | .hbm, ⟨20, _⟩ => ⟨S1x1024x386, .f32⟩
  | .hbm, ⟨21, _⟩ => ⟨S1x1024x386, .f32⟩
  | .hbm, ⟨22, _⟩ => ⟨S1x1024x386, .f32⟩
  | .hbm, ⟨23, _⟩ => ⟨S_, .f32⟩
  | .hbm, ⟨24, _⟩ => ⟨S1x1024x386, .f32⟩
  | .hbm, ⟨25, _⟩ => ⟨S1x1024x386, .f32⟩
  | .hbm, ⟨26, _⟩ => ⟨S_, .f32⟩
  | .hbm, ⟨27, _⟩ => ⟨S1x1024x386, .f32⟩
  | .hbm, ⟨28, _⟩ => ⟨S1x1024x386, .f32⟩
  | .hbm, ⟨29, _⟩ => ⟨S1x1024x386, .f32⟩
  | .hbm, ⟨30, _⟩ => ⟨S_, .f32⟩
  | .hbm, ⟨31, _⟩ => ⟨S1x1024x386, .f32⟩
  | .hbm, ⟨32, _⟩ => ⟨S1x1024x386, .f32⟩
  | .hbm, ⟨33, _⟩ => ⟨S1x1024x386, .f32⟩
  | .hbm, ⟨34, _⟩ => ⟨S_, .f32⟩
  | .hbm, ⟨35, _⟩ => ⟨S1x1024x386, .f32⟩
  | .hbm, ⟨36, _⟩ => ⟨S1x1024x386, .f32⟩
  | .hbm, ⟨37, _⟩ => ⟨S1x1024x386, .f32⟩
  | .hbm, ⟨38, _⟩ => ⟨S_, .f32⟩
  | .hbm, ⟨39, _⟩ => ⟨S1x1024x386, .f32⟩
  | .hbm, ⟨40, _⟩ => ⟨S1x1024x386, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference15Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S_, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S_, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S_, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S_, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x1024x256 : Shape := ⟨3, ![8, 1024, 256]⟩
abbrev S1x1024x256 : Shape := ⟨3, ![1, 1024, 256]⟩
abbrev S1024x256 : Shape := ⟨2, ![1024, 256]⟩

abbrev nBuf : Space → Nat
  | .hbm => 9
  | .vmem => 8
  | .smem => 0
  | _ => 0

abbrev bufTy : (tb : Table) → Fin (tcTables nBuf tb) → BufTy
  | .hbm, ⟨0, _⟩ => ⟨S8x1024x256, .f32⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x1024x256, .bf16⟩
  | .hbm, ⟨5, _⟩ => ⟨S1x1024x256, .f32⟩
  | .hbm, ⟨6, _⟩ => ⟨S1x1024x256, .f32⟩
  | .hbm, ⟨7, _⟩ => ⟨S1x1024x256, .f32⟩
  | .hbm, ⟨8, _⟩ => ⟨S1x1024x256, .f32⟩
  | .local _ .vmem, ⟨0, _⟩ => ⟨S8x1024x256, .bf16⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference16Ideal.lean ====
abbrev S8x1024x256 : Shape := ⟨3, ![8, 1024, 256]⟩
abbrev S1x1024x256 : Shape := ⟨3, ![1, 1024, 256]⟩
abbrev S_ : Shape := ⟨0, ![]⟩
abbrev S1024x256 : Shape := ⟨2, ![1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S_, .f32⟩
  | .hbm, ⟨5, _⟩ => ⟨S1024x256, .f32⟩
  | .hbm, ⟨6, _⟩ => ⟨S1x1024x256, .f32⟩
  | .hbm, ⟨7, _⟩ => ⟨S_, .f32⟩
  | .hbm, ⟨8, _⟩ => ⟨S1x1024x256, .f32⟩
  | .hbm, ⟨9, _⟩ => ⟨S1x1024x256, .f32⟩
  | .hbm, ⟨10, _⟩ => ⟨S_, .f32⟩
  | .hbm, ⟨11, _⟩ => ⟨S1x1024x256, .f32⟩
  | .hbm, ⟨12, _⟩ => ⟨S1x1024x256, .f32⟩
  | .hbm, ⟨13, _⟩ => ⟨S1x1024x256, .f32⟩
  | .hbm, ⟨14, _⟩ => ⟨S_, .f32⟩
  | .hbm, ⟨15, _⟩ => ⟨S1x1024x256, .f32⟩
  | .hbm, ⟨16, _⟩ => ⟨S1x1024x256, .f32⟩
  | .hbm, ⟨17, _⟩ => ⟨S1x1024x256, .f32⟩
  | .hbm, ⟨18, _⟩ => ⟨S_, .f32⟩
  | .hbm, ⟨19, _⟩ => ⟨S1x1024x256, .f32⟩
  | .hbm, ⟨20, _⟩ => ⟨S1x1024x256, .f32⟩
  | .hbm, ⟨21, _⟩ => ⟨S1x1024x256, .f32⟩
  | .hbm, ⟨22, _⟩ => ⟨S_, .f32⟩
  | .hbm, ⟨23, _⟩ => ⟨S1x1024x256, .f32⟩
  | .hbm, ⟨24, _⟩ => ⟨S1x1024x256, .f32⟩
  | .hbm, ⟨25, _⟩ => ⟨S_, .f32⟩
  | .hbm, ⟨26, _⟩ => ⟨S1x1024x256, .f32⟩
  | .hbm, ⟨27, _⟩ => ⟨S1x1024x256, .f32⟩
  | .hbm, ⟨28, _⟩ => ⟨S1x1024x256, .f32⟩
  | .hbm, ⟨29, _⟩ => ⟨S_, .f32⟩
  | .hbm, ⟨30, _⟩ => ⟨S1x1024x256, .f32⟩
  | .hbm, ⟨31, _⟩ => ⟨S1x1024x256, .f32⟩
  | .hbm, ⟨32, _⟩ => ⟨S1x1024x256, .f32⟩
  | .hbm, ⟨33, _⟩ => ⟨S_, .f32⟩
  | .hbm, ⟨34, _⟩ => ⟨S1x1024x256, .f32⟩
  | .hbm, ⟨35, _⟩ => ⟨S1x1024x256, .f32⟩
  | .hbm, ⟨36, _⟩ => ⟨S1x1024x256, .f32⟩
  | .hbm, ⟨37, _⟩ => ⟨S_, .f32⟩
  | .hbm, ⟨38, _⟩ => ⟨S1x1024x256, .f32⟩
  | .hbm, ⟨39, _⟩ => ⟨S1x1024x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x31x128 : Shape := ⟨3, ![8, 31, 128]⟩
abbrev S1x31x128 : Shape := ⟨3, ![1, 31, 128]⟩
abbrev S31x128 : Shape := ⟨2, ![31, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S1x31x128, .f32⟩
  | .hbm, ⟨5, _⟩ => ⟨S1x31x128, .f32⟩
  | .hbm, ⟨6, _⟩ => ⟨S1x31x128, .f32⟩
  | .hbm, ⟨7, _⟩ => ⟨S1x31x128, .f32⟩
  | .local _ .vmem, ⟨0, _⟩ => ⟨S8x31x128, .f32⟩
  | .local _ .vmem, ⟨1, _⟩ => ⟨S1x31x128, .f32⟩
  | .local _ .vmem, ⟨2, _⟩ => ⟨S1x31x128, .f32⟩
  | .local _ .vmem, ⟨3, _⟩ => ⟨S1x31x128, .f32⟩
  | .local _ .vmem, ⟨4, _⟩ => ⟨S1x31x128, .f32⟩
  | .local _ .vmem, ⟨5, _⟩ => ⟨S1x31x128, .f32⟩
  | .local _ .vmem, ⟨6, _⟩ => ⟨S1x31x128, .f32⟩
  | .local _ .vmem, ⟨7, _⟩ => ⟨S1x31x128, .f32⟩
  | _, _ => ⟨S8x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x31x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference17Ideal.lean ====
abbrev S8x31x128 : Shape := ⟨3, ![8, 31, 128]⟩
abbrev S1x31x128 : Shape := ⟨3, ![1, 31, 128]⟩
abbrev S_ : Shape := ⟨0, ![]⟩
abbrev S31x128 : Shape := ⟨2, ![31, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S_, .f32⟩
  | .hbm, ⟨5, _⟩ => ⟨S31x128, .f32⟩
  | .hbm, ⟨6, _⟩ => ⟨S1x31x128, .f32⟩
  | .hbm, ⟨7, _⟩ => ⟨S_, .f32⟩
  | .hbm, ⟨8, _⟩ => ⟨S1x31x128, .f32⟩
  | .hbm, ⟨9, _⟩ => ⟨S1x31x128, .f32⟩
  | .hbm, ⟨10, _⟩ => ⟨S_, .f32⟩
  | .hbm, ⟨11, _⟩ => ⟨S1x31x128, .f32⟩
  | .hbm, ⟨12, _⟩ => ⟨S1x31x128, .f32⟩
  | .hbm, ⟨13, _⟩ => ⟨S1x31x128, .f32⟩
  | .hbm, ⟨14, _⟩ => ⟨S_, .f32⟩
  | .hbm, ⟨15, _⟩ => ⟨S1x31x128, .f32⟩
  | .hbm, ⟨16, _⟩ => ⟨S1x31x128, .f32⟩
  | .hbm, ⟨17, _⟩ => ⟨S1x31x128, .f32⟩
  | .hbm, ⟨18, _⟩ => ⟨S_, .f32⟩
  | .hbm, ⟨19, _⟩ => ⟨S1x31x128, .f32⟩
  | .hbm, ⟨20, _⟩ => ⟨S1x31x128, .f32⟩
  | .hbm, ⟨21, _⟩ => ⟨S1x31x128, .f32⟩
  | .hbm, ⟨22, _⟩ => ⟨S_, .f32⟩
  | .hbm, ⟨23, _⟩ => ⟨S1x31x128, .f32⟩
  | .hbm, ⟨24, _⟩ => ⟨S1x31x128, .f32⟩
  | .hbm, ⟨25, _⟩ => ⟨S_, .f32⟩
  | .hbm, ⟨26, _⟩ => ⟨S1x31x128, .f32⟩
  | .hbm, ⟨27, _⟩ => ⟨S1x31x128, .f32⟩
  | .hbm, ⟨28, _⟩ => ⟨S1x31x128, .f32⟩
  | .hbm, ⟨29, _⟩ => ⟨S_, .f32⟩
  | .hbm, ⟨30, _⟩ => ⟨S1x31x128, .f32⟩
  | .hbm, ⟨31, _⟩ => ⟨S1x31x128, .f32⟩
  | .hbm, ⟨32, _⟩ => ⟨S1x31x128, .f32⟩
  | .hbm, ⟨33, _⟩ => ⟨S_, .f32⟩
  | .hbm, ⟨34, _⟩ => ⟨S1x31x128, .f32⟩
  | .hbm, ⟨35, _⟩ => ⟨S1x31x128, .f32⟩
  | .hbm, ⟨36, _⟩ => ⟨S1x31x128, .f32⟩
  | .hbm, ⟨37, _⟩ => ⟨S_, .f32⟩
  | .hbm, ⟨38, _⟩ => ⟨S1x31x128, .f32⟩
  | .hbm, ⟨39, _⟩ => ⟨S1x31x128, .f32⟩
  | _, _ => ⟨S8x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S8192x1024, .f32⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Kernel19.lean ====
abbrev S8192x1024 : Shape := ⟨2, ![8192, 1024]⟩
abbrev S8192x128 : Shape := ⟨2, ![8192, 128]⟩
abbrev S1x1024x128 : Shape := ⟨3, ![1, 1024, 128]⟩
abbrev S4096x1024 : Shape := ⟨2, ![4096, 1024]⟩
abbrev S4096x128 : Shape := ⟨2, ![4096, 128]⟩
abbrev S1024x128 : Shape := ⟨2, ![1024, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x1024, .bf16⟩
  | .hbm, ⟨3, _⟩ => ⟨S8192x128, .bf16⟩
  | .hbm, ⟨4, _⟩ => ⟨S1x1024x128, .bf16⟩
  | .local _ .vmem, ⟨0, _⟩ => ⟨S4096x1024, .bf16⟩
  | .local _ .vmem, ⟨1, _⟩ => ⟨S4096x1024, .bf16⟩
  | .local _ .vmem, ⟨2, _⟩ => ⟨S4096x128, .bf16⟩
  | .local _ .vmem, ⟨3, _⟩ => ⟨S4096x128, .bf16⟩
  | .local _ .vmem, ⟨4, _⟩ => ⟨S1x1024x128, .bf16⟩
  | .local _ .vmem, ⟨5, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference19Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩
abbrev S1x1024x128 : Shape := ⟨3, ![1, 1024, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x128, .f32⟩
  | .hbm, ⟨5, _⟩ => ⟨S128x1024, .f32⟩
  | .hbm, ⟨6, _⟩ => ⟨S1024x128, .f32⟩
  | .hbm, ⟨7, _⟩ => ⟨S1x1024x128, .f32⟩
  | .hbm, ⟨8, _⟩ => ⟨S1x1024x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8192x1024 : Shape := ⟨2, ![8192, 1024]⟩
abbrev S1x1024 : Shape := ⟨2, ![1, 1024]⟩
abbrev S1024x3088 : Shape := ⟨2, ![1024, 3088]⟩
abbrev S1x16 : Shape := ⟨2, ![1, 16]⟩
abbrev S1024x3072 : Shape := ⟨2, ![1024, 3072]⟩
abbrev S1024x16 : Shape := ⟨2, ![1024, 16]⟩
abbrev S_ : Shape := ⟨0, ![]⟩
abbrev S1024x112 : Shape := ⟨2, ![1024, 112]⟩
abbrev S1024x128 : Shape := ⟨2, ![1024, 128]⟩
abbrev S1x112 : Shape := ⟨2, ![1, 112]⟩
abbrev S1x128 : Shape := ⟨2, ![1, 128]⟩
abbrev S8192x128 : Shape := ⟨2, ![8192, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩

abbrev nBuf : Space → Nat
  | .hbm => 18
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3088, .f32⟩
  | .hbm, ⟨3, _⟩ => ⟨S1x16, .f32⟩
  | .hbm, ⟨4, _⟩ => ⟨S1024x3072, .f32⟩
  | .hbm, ⟨5, _⟩ => ⟨S1024x3072, .bf16⟩
  | .hbm, ⟨6, _⟩ => ⟨S1024x16, .f32⟩
  | .hbm, ⟨7, _⟩ => ⟨S1024x16, .bf16⟩
  | .hbm, ⟨8, _⟩ => ⟨S_, .bf16⟩
  | .hbm, ⟨9, _⟩ => ⟨S1024x112, .bf16⟩
  | .hbm, ⟨10, _⟩ => ⟨S1024x128, .bf16⟩
  | .hbm, ⟨11, _⟩ => ⟨S_, .f32⟩
  | .hbm, ⟨12, _⟩ => ⟨S1x112, .f32⟩
  | .hbm, ⟨13, _⟩ => ⟨S1x128, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S8192x1024 : Shape := ⟨2, ![8192, 1024]⟩
abbrev S1x1024 : Shape := ⟨2, ![1, 1024]⟩
abbrev S1024x3088 : Shape := ⟨2, ![1024, 3088]⟩
abbrev S1x16 : Shape := ⟨2, ![1, 16]⟩
abbrev S_ : Shape := ⟨0, ![]⟩
abbrev S8192 : Shape := ⟨1, ![8192]⟩
abbrev S8192x1 : Shape := ⟨2, ![8192, 1]⟩
abbrev S8192x3088 : Shape := ⟨2, ![8192, 3088]⟩
abbrev S8192x16 : Shape := ⟨2, ![8192, 16]⟩
abbrev S8192x112 : Shape := ⟨2, ![8192, 112]⟩
abbrev S8192x128 : Shape := ⟨2, ![8192, 128]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3088, .f32⟩
  | .hbm, ⟨3, _⟩ => ⟨S1x16, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x3088, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .i1⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S_, .f32⟩
  | .hbm, ⟨44, _⟩ => ⟨S8192x112, .f32⟩
  | .hbm, ⟨45, _⟩ => ⟨S8192x128, .f32⟩
  | .hbm, ⟨46, _⟩ => ⟨S8192x1024, .bf16⟩
  | .hbm, ⟨47, _⟩ => ⟨S8192x1024, .f32⟩
  | .hbm, ⟨48, _⟩ => ⟨S8192x1024, .bf16⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]
-- ==== Kernel21.lean ====
abbrev S8192x1024 : Shape := ⟨2, ![8192, 1024]⟩
abbrev S1024x1024 : Shape := ⟨2, ![1024, 1024]⟩
abbrev S1x1024 : Shape := ⟨2, ![1, 1024]⟩
abbrev S16x128 : Shape := ⟨2, ![16, 128]⟩
abbrev S_ : Shape := ⟨0, ![]⟩
abbrev S16x1x128 : Shape := ⟨3, ![16, 1, 128]⟩
abbrev S16x64x128 : Shape := ⟨3, ![16, 64, 128]⟩
abbrev S1024x128 : Shape := ⟨2, ![1024, 128]⟩
abbrev S8x128 : Shape := ⟨2, ![8, 128]⟩
abbrev S8192x128 : Shape := ⟨2, ![8192, 128]⟩
abbrev S8x1024 : Shape := ⟨2, ![8, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 22
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S16x128, .i32⟩
  | .hbm, ⟨5, _⟩ => ⟨S16x128, .i32⟩
  | .hbm, ⟨6, _⟩ => ⟨S_, .i32⟩
  | .hbm, ⟨7, _⟩ => ⟨S16x128, .i32⟩
  | .hbm, ⟨8, _⟩ => ⟨S16x128, .i32⟩
  | .hbm, ⟨9, _⟩ => ⟨S16x128, .i1⟩
  | .hbm, ⟨10, _⟩ => ⟨S16x128, .f32⟩
  | .hbm, ⟨11, _⟩ => ⟨S16x1x128, .f32⟩
  | .hbm, ⟨12, _⟩ => ⟨S16x64x128, .f32⟩
  | .hbm, ⟨13, _⟩ => ⟨S1024x128, .f32⟩
  | .hbm, ⟨14, _⟩ => ⟨S_, .f32⟩
  | .hbm, ⟨15, _⟩ => ⟨S8x128, .f32⟩
  | .hbm, ⟨16, _⟩ => ⟨S8192x1024, .f32⟩
  | .hbm, ⟨17, _⟩ => ⟨S1024x1024, .bf16⟩
  | .hbm, ⟨18, _⟩ => ⟨S8192x1024, .bf16⟩
  | .hbm, ⟨19, _⟩ => ⟨S8192x1024, .bf16⟩
  | .hbm, ⟨20, _⟩ => ⟨S8192x128, .f32⟩
  | .hbm, ⟨21, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x128, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | .local _ .vmem, ⟨15, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference21Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8192x16x64 : Shape := ⟨3, ![8192, 16, 64]⟩
abbrev S8192x16 : Shape := ⟨2, ![8192, 16]⟩
abbrev S8192x112 : Shape := ⟨2, ![8192, 112]⟩
abbrev S8192x128 : Shape := ⟨2, ![8192, 128]⟩
abbrev S7x1024 : Shape := ⟨2, ![7, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x16x64, .f32⟩
  | .hbm, ⟨51, _⟩ => ⟨S_, .f32⟩
  | .hbm, ⟨52, _⟩ => ⟨S8192x16, .f32⟩
  | .hbm, ⟨53, _⟩ => ⟨S_, .f32⟩
  | .hbm, ⟨54, _⟩ => ⟨S8192x112, .f32⟩
  | .hbm, ⟨55, _⟩ => ⟨S8192x128, .f32⟩
  | .hbm, ⟨56, _⟩ => ⟨S_, .f32⟩
  | .hbm, ⟨57, _⟩ => ⟨S7x1024, .f32⟩
  | .hbm, ⟨58, _⟩ => ⟨S8x1024, .f32⟩
  | .hbm, ⟨59, _⟩ => ⟨S8192x1024, .bf16⟩
  | .hbm, ⟨60, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel22.lean ====
abbrev S8192x1024 : Shape := ⟨2, ![8192, 1024]⟩
abbrev S1x1024 : Shape := ⟨2, ![1, 1024]⟩
abbrev S1024x3088 : Shape := ⟨2, ![1024, 3088]⟩
abbrev S1x16 : Shape := ⟨2, ![1, 16]⟩
abbrev S8192x128 : Shape := ⟨2, ![8192, 128]⟩
abbrev S1024x3072 : Shape := ⟨2, ![1024, 3072]⟩
abbrev S1024x16 : Shape := ⟨2, ![1024, 16]⟩
abbrev S_ : Shape := ⟨0, ![]⟩
abbrev S1024x112 : Shape := ⟨2, ![1024, 112]⟩
abbrev S1024x128 : Shape := ⟨2, ![1024, 128]⟩
abbrev S8192 : Shape := ⟨1, ![8192]⟩
abbrev S8192x1 : Shape := ⟨2, ![8192, 1]⟩
abbrev S8192x3088 : Shape := ⟨2, ![8192, 3088]⟩
abbrev S8192x16 : Shape := ⟨2, ![8192, 16]⟩
abbrev S8192x112 : Shape := ⟨2, ![8192, 112]⟩
abbrev S8x1024 : Shape := ⟨2, ![8, 1024]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024 : Shape := ⟨1, ![1024]⟩
abbrev S128 : Shape := ⟨1, ![128]⟩

abbrev nBuf : Space → Nat
  | .hbm => 65
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x3088, .f32⟩
  | .hbm, ⟨4, _⟩ => ⟨S1x16, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x128, .f32⟩
  | .hbm, ⟨9, _⟩ => ⟨S1024x3072, .f32⟩
  | .hbm, ⟨10, _⟩ => ⟨S1024x3072, .bf16⟩
  | .hbm, ⟨11, _⟩ => ⟨S1024x16, .f32⟩
  | .hbm, ⟨12, _⟩ => ⟨S1024x16, .bf16⟩
  | .hbm, ⟨13, _⟩ => ⟨S_, .bf16⟩
  | .hbm, ⟨14, _⟩ => ⟨S1024x112, .bf16⟩
  | .hbm, ⟨15, _⟩ => ⟨S1024x128, .bf16⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x3088, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S_, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x16, .i1⟩
  | .hbm, ⟨45, _⟩ => ⟨S8192x16, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S8192x16, .f32⟩
  | .hbm, ⟨50, _⟩ => ⟨S8192x16, .f32⟩
  | .hbm, ⟨51, _⟩ => ⟨S8192x16, .f32⟩
  | .hbm, ⟨52, _⟩ => ⟨S8192x16, .f32⟩
  | .hbm, ⟨53, _⟩ => ⟨S8192x16, .f32⟩
  | .hbm, ⟨54, _⟩ => ⟨S_, .f32⟩
  | .hbm, ⟨55, _⟩ => ⟨S8192x112, .f32⟩
  | .hbm, ⟨56, _⟩ => ⟨S8192x128, .f32⟩
  | .hbm, ⟨57, _⟩ => ⟨S8192x1024, .bf16⟩
  | .hbm, ⟨58, _⟩ => ⟨S8192x1024, .bf16⟩
  | .hbm, ⟨59, _⟩ => ⟨S8192x1024, .bf16⟩
  | .hbm, ⟨60, _⟩ => ⟨S8192x1024, .f32⟩
  | .hbm, ⟨61, _⟩ => ⟨S8192x1024, .bf16⟩
  | .hbm, ⟨62, _⟩ => ⟨S8192x128, .bf16⟩
  | .hbm, ⟨63, _⟩ => ⟨S8x1024, .f32⟩
  | .hbm, ⟨64, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1024x3072, .bf16⟩
  | .local _ .vmem, ⟨16, _⟩ => ⟨S1024x128, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .bf16⟩
  | .local _ .vmem, ⟨22, _⟩ => ⟨S512x128, .bf16⟩
  | .local _ .vmem, ⟨23, _⟩ => ⟨S8x1024, .f32⟩
  | .local _ .vmem, ⟨24, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31_0 : Ref sig .tc := ⟨.hbm, 60, rfl⟩
abbrev main_v31_1 : Ref sig .tc := ⟨.hbm, 61, rfl⟩
abbrev main_v31_2 : Ref sig .tc := ⟨.hbm, 62, rfl⟩
abbrev main_v31_3 : Ref sig .tc := ⟨.hbm, 63, rfl⟩
abbrev main_v31_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference22Ideal.lean ====
abbrev S8192x1024 : Shape := ⟨2, ![8192, 1024]⟩
abbrev S1x1024 : Shape := ⟨2, ![1, 1024]⟩
abbrev S1024x3088 : Shape := ⟨2, ![1024, 3088]⟩
abbrev S1x16 : Shape := ⟨2, ![1, 16]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x3088 : Shape := ⟨2, ![8192, 3088]⟩
abbrev S8192x16 : Shape := ⟨2, ![8192, 16]⟩
abbrev S1024 : Shape := ⟨1, ![1024]⟩
abbrev S16 : Shape := ⟨1, ![16]⟩
abbrev S8192x112 : Shape := ⟨2, ![8192, 112]⟩
abbrev S7x1024 : Shape := ⟨2, ![7, 1024]⟩
abbrev S8x1024 : Shape := ⟨2, ![8, 1024]⟩
abbrev S1x112 : Shape := ⟨2, ![1, 112]⟩
abbrev S1x128 : Shape := ⟨2, ![1, 128]⟩

abbrev nBuf : Space → Nat
  | .hbm => 194
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x3088, .f32⟩
  | 4 => ⟨S1x16, .f32⟩
  | 5 => ⟨S8192x1024, .f32⟩
  | 6 => ⟨S8192x1024, .f32⟩
  | 7 => ⟨S8192x1024, .f32⟩
  | 8 => ⟨S8192x128, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S8192x1024, .f32⟩
  | 30 => ⟨S8192x1024, .f32⟩
  | 31 => ⟨S8192x3088, .f32⟩
  | 32 => ⟨S8192x1024, .f32⟩
  | 33 => ⟨S8192x1024, .f32⟩
  | 34 => ⟨S8192x1024, .f32⟩
  | 35 => ⟨S8192x16, .f32⟩
  | 36 => ⟨S8192x16, .f32⟩
  | 37 => ⟨S8192x16, .f32⟩
  | 38 => ⟨S8192x16, .f32⟩
  | 39 => ⟨S_, .f32⟩
  | 40 => ⟨S8192x16, .f32⟩
  | 41 => ⟨S8192x16, .f32⟩
  | 42 => ⟨S8192x16, .f32⟩
  | 43 => ⟨S8192x16, .f32⟩
  | 44 => ⟨S8192x16, .i1⟩
  | 45 => ⟨S8192x16, .f32⟩
  | 46 => ⟨S8192x16, .f32⟩
  | 47 => ⟨S8192x16, .f32⟩
  | 48 => ⟨S8192x16, .f32⟩
  | 49 => ⟨S8192x16, .f32⟩
  | 50 => ⟨S8192x16, .f32⟩
  | 51 => ⟨S8192x16, .f32⟩
  | 52 => ⟨S8192x16, .f32⟩
  | 53 => ⟨S_, .f32⟩
  | 54 => ⟨S8192x16, .f32⟩
  | 55 => ⟨S8192x16, .i1⟩
  | 56 => ⟨S_, .f32⟩
  | 57 => ⟨S8192x16, .f32⟩
  | 58 => ⟨S8192x16, .f32⟩
  | 59 => ⟨S_, .f32⟩
  | 60 => ⟨S8192x16, .f32⟩
  | 61 => ⟨S8192x16, .i1⟩
  | 62 => ⟨S_, .f32⟩
  | 63 => ⟨S8192x16, .f32⟩
  | 64 => ⟨S8192x16, .f32⟩
  | 65 => ⟨S8192x16, .f32⟩
  | 66 => ⟨S8192x16, .f32⟩
  | 67 => ⟨S_, .f32⟩
  | 68 => ⟨S_, .f32⟩
  | 69 => ⟨S_, .i1⟩
  | 70 => ⟨S_, .f32⟩
  | 71 => ⟨S_, .f32⟩
  | 72 => ⟨S_, .f32⟩
  | 73 => ⟨S_, .f32⟩
  | 74 => ⟨S8192x16, .f32⟩
  | 75 => ⟨S8192x16, .i1⟩
  | 76 => ⟨S_, .f32⟩
  | 77 => ⟨S8192x16, .f32⟩
  | 78 => ⟨S8192x16, .f32⟩
  | 79 => ⟨S8192x16, .f32⟩
  | 80 => ⟨S8192x16, .f32⟩
  | 81 => ⟨S8192x16, .f32⟩
  | 82 => ⟨S_, .f32⟩
  | 83 => ⟨S8192x16, .f32⟩
  | 84 => ⟨S8192x16, .f32⟩
  | 85 => ⟨S8192x16, .f32⟩
  | 86 => ⟨S8192x16, .f32⟩
  | 87 => ⟨S8192x16, .f32⟩
  | 88 => ⟨S8192x16, .f32⟩
  | 89 => ⟨S8192x16, .f32⟩
  | 90 => ⟨S_, .f32⟩
  | 91 => ⟨S8192x3088, .f32⟩
  | 92 => ⟨S_, .f32⟩
  | 93 => ⟨S8192x3088, .f32⟩
  | 94 => ⟨S8192x3088, .f32⟩
  | 95 => ⟨S_, .f32⟩
  | 96 => ⟨S8192x3088, .f32⟩
  | 97 => ⟨S8192x3088, .f32⟩
  | 98 => ⟨S_, .f32⟩
  | 99 => ⟨S8192x3088, .f32⟩
  | 100 => ⟨S8192x3088, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S_, .f32⟩
  | 110 => ⟨S8192, .f32⟩
  | 111 => ⟨S8192x1, .f32⟩
  | 112 => ⟨S8192x1024, .f32⟩
  | 113 => ⟨S8192x1024, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S8192x1024, .f32⟩
  | 123 => ⟨S8192x3088, .f32⟩
  | 124 => ⟨S8192x16, .f32⟩
  | 125 => ⟨S8192x16, .f32⟩
  | 126 => ⟨S8192x16, .f32⟩
  | 127 => ⟨S8192x16, .f32⟩
  | _ => ⟨S8192x1024, .f32⟩

abbrev hbmTy0_1 (i : Nat) : BufTy := match i % 128 with
  | 0 => ⟨S_, .f32⟩
  | 1 => ⟨S8192x16, .f32⟩
  | 2 => ⟨S8192x16, .f32⟩
  | 3 => ⟨S8192x16, .f32⟩
  | 4 => ⟨S8192x16, .f32⟩
  | 5 => ⟨S8192x16, .i1⟩
  | 6 => ⟨S8192x16, .f32⟩
  | 7 => ⟨S8192x16, .f32⟩
  | 8 => ⟨S8192x16, .f32⟩
  | 9 => ⟨S8192x16, .f32⟩
  | 10 => ⟨S8192x16, .f32⟩
  | 11 => ⟨S8192x16, .f32⟩
  | 12 => ⟨S8192x16, .f32⟩
  | 13 => ⟨S8192x16, .f32⟩
  | 14 => ⟨S_, .f32⟩
  | 15 => ⟨S8192x16, .f32⟩
  | 16 => ⟨S8192x16, .i1⟩
  | 17 => ⟨S_, .f32⟩
  | 18 => ⟨S8192x16, .f32⟩
  | 19 => ⟨S8192x16, .f32⟩
  | 20 => ⟨S_, .f32⟩
  | 21 => ⟨S8192x16, .f32⟩
  | 22 => ⟨S8192x16, .i1⟩
  | 23 => ⟨S_, .f32⟩
  | 24 => ⟨S8192x16, .f32⟩
  | 25 => ⟨S8192x16, .f32⟩
  | 26 => ⟨S8192x16, .f32⟩
  | 27 => ⟨S8192x16, .f32⟩
  | 28 => ⟨S_, .f32⟩
  | 29 => ⟨S_, .f32⟩
  | 30 => ⟨S_, .i1⟩
  | 31 => ⟨S_, .f32⟩
  | 32 => ⟨S_, .f32⟩
  | 33 => ⟨S_, .f32⟩
  | 34 => ⟨S_, .f32⟩
  | 35 => ⟨S8192x16, .f32⟩
  | 36 => ⟨S8192x16, .i1⟩
  | 37 => ⟨S_, .f32⟩
  | 38 => ⟨S8192x16, .f32⟩
  | 39 => ⟨S8192x16, .f32⟩
  | 40 => ⟨S8192x16, .f32⟩
  | 41 => ⟨S8192x16, .f32⟩
  | 42 => ⟨S8192x16, .f32⟩
  | 43 => ⟨S_, .f32⟩
  | 44 => ⟨S8192x16, .f32⟩
  | 45 => ⟨S8192x16, .f32⟩
  | 46 => ⟨S8192x16, .f32⟩
  | 47 => ⟨S8192x16, .f32⟩
  | 48 => ⟨S8192x16, .f32⟩
  | 49 => ⟨S8192x16, .f32⟩
  | 50 => ⟨S8192x16, .f32⟩
  | 51 => ⟨S_, .f32⟩
  | 52 => ⟨S16, .f32⟩
  | 53 => ⟨S1x16, .f32⟩
  | 54 => ⟨S_, .f32⟩
  | 55 => ⟨S8192x112, .f32⟩
  | 56 => ⟨S8192x128, .f32⟩
  | 57 => ⟨S_, .f32⟩
  | 58 => ⟨S7x1024, .f32⟩
  | 59 => ⟨S8x1024, .f32⟩
  | 60 => ⟨S_, .f32⟩
  | 61 => ⟨S1x112, .f32⟩
  | 62 => ⟨S1x128, .f32⟩
  | 63 => ⟨S8192x1024, .f32⟩
  | 64 => ⟨S8192x1024, .bf16⟩
  | 65 => ⟨S8192x128, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1_0 : Ref sig .tc := ⟨.hbm, 52, rfl⟩
abbrev main_call0_call0_cst_0 : Ref sig .tc := ⟨.hbm, 53, rfl⟩
abbrev main_call0_call0_v13 : Ref sig .tc := ⟨.hbm, 54, rfl⟩
abbrev main_call0_call0_v14 : Ref sig .tc := ⟨.hbm, 55, rfl⟩
abbrev main_call0_call0_cst_1 : Ref sig .tc := ⟨.hbm, 56, rfl⟩
abbrev main_call0_call0_v15 : Ref sig .tc := ⟨.hbm, 57, rfl⟩
abbrev main_call0_call0_v16 : Ref sig .tc := ⟨.hbm, 58, rfl⟩
abbrev main_call0_call0_cst_2 : Ref sig .tc := ⟨.hbm, 59, rfl⟩
abbrev main_call0_call0_v17 : Ref sig .tc := ⟨.hbm, 60, rfl⟩
abbrev main_call0_call0_v18 : Ref sig .tc := ⟨.hbm, 61, rfl⟩
abbrev main_call0_call0_cst_3 : Ref sig .tc := ⟨.hbm, 62, rfl⟩
abbrev main_call0_call0_v19 : Ref sig .tc := ⟨.hbm, 63, rfl⟩
abbrev main_call0_call0_v20 : Ref sig .tc := ⟨.hbm, 64, rfl⟩
abbrev main_call0_call0_v21 : Ref sig .tc := ⟨.hbm, 65, rfl⟩
abbrev main_v24_1 : Ref sig .tc := ⟨.hbm, 66, rfl⟩
abbrev main_call0_call0_cst_4 : Ref sig .tc := ⟨.hbm, 67, rfl⟩
abbrev main_call0_call0_cst_5 : Ref sig .tc := ⟨.hbm, 68, rfl⟩
abbrev main_call0_call0_v23 : Ref sig .tc := ⟨.hbm, 69, rfl⟩
abbrev main_call0_call0_cst_6 : Ref sig .tc := ⟨.hbm, 70, rfl⟩
abbrev main_call0_call0_cst_7 : Ref sig .tc := ⟨.hbm, 71, rfl⟩
abbrev main_call0_call0_v24 : Ref sig .tc := ⟨.hbm, 72, rfl⟩
abbrev main_call0_call0_cst_8 : Ref sig .tc := ⟨.hbm, 73, rfl⟩
abbrev main_call0_call0_v25 : Ref sig .tc := ⟨.hbm, 74, rfl⟩
abbrev main_call0_call0_v26 : Ref sig .tc := ⟨.hbm, 75, rfl⟩
abbrev main_call0_call0_cst_9 : Ref sig .tc := ⟨.hbm, 76, rfl⟩
abbrev main_call0_call0_v27 : Ref sig .tc := ⟨.hbm, 77, rfl⟩
abbrev main_call0_call0_v28 : Ref sig .tc := ⟨.hbm, 78, rfl⟩
abbrev main_call0_call0_v29 : Ref sig .tc := ⟨.hbm, 79, rfl⟩
abbrev main_call0_call0_v30 : Ref sig .tc := ⟨.hbm, 80, rfl⟩
abbrev main_call0_call0_v31 : Ref sig .tc := ⟨.hbm, 81, rfl⟩
abbrev main_call0_call0_cst_10 : Ref sig .tc := ⟨.hbm, 82, rfl⟩
abbrev main_call0_call0_v32 : Ref sig .tc := ⟨.hbm, 83, rfl⟩
abbrev main_v24_2 : Ref sig .tc := ⟨.hbm, 84, rfl⟩
abbrev main_v24_0 : Ref sig .tc := ⟨.hbm, 85, rfl⟩
abbrev main_v25 : Ref sig .tc := ⟨.hbm, 86, rfl⟩
abbrev main_call1_v0 : Ref sig .tc := ⟨.hbm, 87, rfl⟩
abbrev main_call1_v1 : Ref sig .tc := ⟨.hbm, 88, rfl⟩
abbrev main_v26 : Ref sig .tc := ⟨.hbm, 89, rfl⟩
abbrev main_cst_4 : Ref sig .tc := ⟨.hbm, 90, rfl⟩
abbrev main_v27 : Ref sig .tc := ⟨.hbm, 91, rfl⟩
abbrev main_cst_5 : Ref sig .tc := ⟨.hbm, 92, rfl⟩
abbrev main_v28 : Ref sig .tc := ⟨.hbm, 93, rfl⟩
abbrev main_v29 : Ref sig .tc := ⟨.hbm, 94, rfl⟩
abbrev main_cst_6 : Ref sig .tc := ⟨.hbm, 95, rfl⟩
abbrev main_v30 : Ref sig .tc := ⟨.hbm, 96, rfl⟩
abbrev main_v31 : Ref sig .tc := ⟨.hbm, 97, rfl⟩
abbrev main_cst_7 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_cst_8 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_cst_9 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_10 : Ref sig .tc := ⟨.hbm, 115, rfl⟩
abbrev main_v46 : Ref sig .tc := ⟨.hbm, 116, rfl⟩
abbrev main_v47 : Ref sig .tc := ⟨.hbm, 117, rfl⟩
abbrev main_cst_11 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_call2_v0 : Ref sig .tc := ⟨.hbm, 127, rfl⟩
abbrev main_call2_call0_cst : Ref sig .tc := ⟨.hbm, 128, rfl⟩
abbrev main_call2_call0_v0 : Ref sig .tc := ⟨.hbm, 129, rfl⟩
abbrev main_call2_call0_v1 : Ref sig .tc := ⟨.hbm, 130, rfl⟩
abbrev main_call2_call0_v2 : Ref sig .tc := ⟨.hbm, 131, rfl⟩
abbrev main_call2_call0_v3 : Ref sig .tc := ⟨.hbm, 132, rfl⟩
abbrev main_call2_call0_v4 : Ref sig .tc := ⟨.hbm, 133, rfl⟩
abbrev main_call2_call0_v5 : Ref sig .tc := ⟨.hbm, 134, rfl⟩
abbrev main_call2_call0_v6 : Ref sig .tc := ⟨.hbm, 135, rfl⟩
abbrev main_call2_call0_v7 : Ref sig .tc := ⟨.hbm, 136, rfl⟩
abbrev main_call2_call0_v8 : Ref sig .tc := ⟨.hbm, 137, rfl⟩
abbrev main_call2_call0_v9 : Ref sig .tc := ⟨.hbm, 138, rfl⟩
abbrev main_call2_call0_v10 : Ref sig .tc := ⟨.hbm, 139, rfl⟩
abbrev main_call2_call0_v11 : Ref sig .tc := ⟨.hbm, 140, rfl⟩
abbrev main_call2_v1_0 : Ref sig .tc := ⟨.hbm, 141, rfl⟩
abbrev main_call2_call0_cst_0 : Ref sig .tc := ⟨.hbm, 142, rfl⟩
abbrev main_call2_call0_v13 : Ref sig .tc := ⟨.hbm, 143, rfl⟩
abbrev main_call2_call0_v14 : Ref sig .tc := ⟨.hbm, 144, rfl⟩
abbrev main_call2_call0_cst_1 : Ref sig .tc := ⟨.hbm, 145, rfl⟩
abbrev main_call2_call0_v15 : Ref sig .tc := ⟨.hbm, 146, rfl⟩
abbrev main_call2_call0_v16 : Ref sig .tc := ⟨.hbm, 147, rfl⟩
abbrev main_call2_call0_cst_2 : Ref sig .tc := ⟨.hbm, 148, rfl⟩
abbrev main_call2_call0_v17 : Ref sig .tc := ⟨.hbm, 149, rfl⟩
abbrev main_call2_call0_v18 : Ref sig .tc := ⟨.hbm, 150, rfl⟩
abbrev main_call2_call0_cst_3 : Ref sig .tc := ⟨.hbm, 151, rfl⟩
abbrev main_call2_call0_v19 : Ref sig .tc := ⟨.hbm, 152, rfl⟩
abbrev main_call2_call0_v20 : Ref sig .tc := ⟨.hbm, 153, rfl⟩
abbrev main_call2_call0_v21 : Ref sig .tc := ⟨.hbm, 154, rfl⟩
abbrev main_v56_1 : Ref sig .tc := ⟨.hbm, 155, rfl⟩
abbrev main_call2_call0_cst_4 : Ref sig .tc := ⟨.hbm, 156, rfl⟩
abbrev main_call2_call0_cst_5 : Ref sig .tc := ⟨.hbm, 157, rfl⟩
abbrev main_call2_call0_v23 : Ref sig .tc := ⟨.hbm, 158, rfl⟩
abbrev main_call2_call0_cst_6 : Ref sig .tc := ⟨.hbm, 159, rfl⟩
abbrev main_call2_call0_cst_7 : Ref sig .tc := ⟨.hbm, 160, rfl⟩
abbrev main_call2_call0_v24 : Ref sig .tc := ⟨.hbm, 161, rfl⟩
abbrev main_call2_call0_cst_8 : Ref sig .tc := ⟨.hbm, 162, rfl⟩
abbrev main_call2_call0_v25 : Ref sig .tc := ⟨.hbm, 163, rfl⟩
abbrev main_call2_call0_v26 : Ref sig .tc := ⟨.hbm, 164, rfl⟩
abbrev main_call2_call0_cst_9 : Ref sig .tc := ⟨.hbm, 165, rfl⟩
abbrev main_call2_call0_v27 : Ref sig .tc := ⟨.hbm, 166, rfl⟩
abbrev main_call2_call0_v28 : Ref sig .tc := ⟨.hbm, 167, rfl⟩
abbrev main_call2_call0_v29 : Ref sig .tc := ⟨.hbm, 168, rfl⟩
abbrev main_call2_call0_v30 : Ref sig .tc := ⟨.hbm, 169, rfl⟩
abbrev main_call2_call0_v31 : Ref sig .tc := ⟨.hbm, 170, rfl⟩
abbrev main_call2_call0_cst_10 : Ref sig .tc := ⟨.hbm, 171, rfl⟩
abbrev main_call2_call0_v32 : Ref sig .tc := ⟨.hbm, 172, rfl⟩
abbrev main_v56_2 : Ref sig .tc := ⟨.hbm, 173, rfl⟩
abbrev main_v56_0 : Ref sig .tc := ⟨.hbm, 174, rfl⟩
abbrev main_v57 : Ref sig .tc := ⟨.hbm, 175, rfl⟩
abbrev main_call3_v0 : Ref sig .tc := ⟨.hbm, 176, rfl⟩
abbrev main_call3_v1 : Ref sig .tc := ⟨.hbm, 177, rfl⟩
abbrev main_v58 : Ref sig .tc := ⟨.hbm, 178, rfl⟩
abbrev main_cst_12 : Ref sig .tc := ⟨.hbm, 179, rfl⟩
abbrev main_v59 : Ref sig .tc := ⟨.hbm, 180, rfl⟩
abbrev main_v60 : Ref sig .tc := ⟨.hbm, 181, rfl⟩
abbrev main_cst_13 : Ref sig .tc := ⟨.hbm, 182, rfl⟩
abbrev main_v61 : Ref sig .tc := ⟨.hbm, 183, rfl⟩
abbrev main_v62 : Ref sig .tc := ⟨.hbm, 184, rfl⟩
abbrev main_cst_14 : Ref sig .tc := ⟨.hbm, 185, rfl⟩
abbrev main_v63 : Ref sig .tc := ⟨.hbm, 186, rfl⟩
abbrev main_v64 : Ref sig .tc := ⟨.hbm, 187, rfl⟩
abbrev main_cst_15 : Ref sig .tc := ⟨.hbm, 188, rfl⟩
abbrev main_v65 : Ref sig .tc := ⟨.hbm, 189, rfl⟩
abbrev main_v66 : Ref sig .tc := ⟨.hbm, 190, rfl⟩
abbrev main_v67 : Ref sig .tc := ⟨.hbm, 191, rfl⟩
abbrev main_v68 : Ref sig .tc := ⟨.hbm, 192, rfl⟩
abbrev main_v69 : Ref sig .tc := ⟨.hbm, 193, rfl⟩

abbrev nD : Nat := 1
abbrev τ : Topo := Topo.v7x

variable {F : FTy → Type} [FloatOps F]
-- ==== Kernel23.lean ====
abbrev S8192x128 : Shape := ⟨2, ![8192, 128]⟩
abbrev S_ : Shape := ⟨0, ![]⟩
abbrev S512x128 : Shape := ⟨2, ![512, 128]⟩
abbrev S1x128 : Shape := ⟨2, ![1, 128]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S_, .f32⟩
  | .hbm, ⟨2, _⟩ => ⟨S8192x128, .f32⟩
  | .hbm, ⟨3, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S8192x128 : Shape := ⟨2, ![8192, 128]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S_, .f32⟩
  | .hbm, ⟨2, _⟩ => ⟨S_, .f32⟩
  | .hbm, ⟨3, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel24.lean ====
abbrev S8192x128 : Shape := ⟨2, ![8192, 128]⟩
abbrev S512x128 : Shape := ⟨2, ![512, 128]⟩
abbrev S1x128 : Shape := ⟨2, ![1, 128]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S8192x128 : Shape := ⟨2, ![8192, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192x128, .f32⟩
  | .hbm, ⟨4, _⟩ => ⟨S_, .f32⟩
  | .hbm, ⟨5, _⟩ => ⟨S_, .f32⟩
  | .hbm, ⟨6, _⟩ => ⟨S8192x128, .f32⟩
  | .hbm, ⟨7, _⟩ => ⟨S_, .f32⟩
  | .hbm, ⟨8, _⟩ => ⟨S_, .f32⟩
  | .hbm, ⟨9, _⟩ => ⟨S8192x128, .f32⟩
  | .hbm, ⟨10, _⟩ => ⟨S_, .f32⟩
  | .hbm, ⟨11, _⟩ => ⟨S_, .f32⟩
  | .hbm, ⟨12, _⟩ => ⟨S8192x128, .f32⟩
  | .hbm, ⟨13, _⟩ => ⟨S_, .f32⟩
  | .hbm, ⟨14, _⟩ => ⟨S_, .f32⟩
  | .hbm, ⟨15, _⟩ => ⟨S8192x128, .f32⟩
  | .hbm, ⟨16, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_call1_call0_cst : Ref sig .tc := ⟨.hbm, 7, rfl⟩
abbrev main_call1_call0_v0 : Ref sig .tc := ⟨.hbm, 8, rfl⟩
abbrev main_v2 : Ref sig .tc := ⟨.hbm, 9, rfl⟩
abbrev main_call2_call0_cst : Ref sig .tc := ⟨.hbm, 10, rfl⟩
abbrev main_call2_call0_v0 : Ref sig .tc := ⟨.hbm, 11, rfl⟩
abbrev main_v3 : Ref sig .tc := ⟨.hbm, 12, rfl⟩
abbrev main_call3_call0_cst : Ref sig .tc := ⟨.hbm, 13, rfl⟩
abbrev main_call3_call0_v0 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.RowNorm.lean ====
/- The gradient of RMSNorm along one row of 1024 entries, over the extended reals: the form that keeps the normalised row
   and the form that differentiates the reciprocal square root are the same number, whatever the entries are. -/
module

public import Idealize.ShloMosaic.Lib.Pointwise

@[expose] public section

noncomputable section

namespace Cert.RowNorm

open Idealize.ShloMosaic

/-- The row length 1024, as the float constant both programs divide by. -/
abbrev len : EReal := Ideal.ofBits .f32 0x44800000#32
/-- The constant added to the mean square. -/
abbrev eps : EReal := Ideal.ofBits .f32 0x358637BD#32
/-- The constant two. -/
abbrev two : EReal := Ideal.ofBits .f32 0x40000000#32
/-- The constant minus one half. -/
abbrev negHalf : EReal := Ideal.ofBits .f32 0xBF000000#32

theorem len_eq : len = ((1024 : ℝ) : EReal) := by
  simp [len, Ideal.ofBits, Ideal.ieee, -EReal.coe_mul]; norm_num

theorem two_eq : two = ((2 : ℝ) : EReal) := by
  simp [two, Ideal.ofBits, Ideal.ieee, -EReal.coe_mul]; norm_num

theorem negHalf_eq : negHalf = ((-(1 / 2) : ℝ) : EReal) := by
  simp [negHalf, Ideal.ofBits, Ideal.ieee, -EReal.coe_mul, -EReal.coe_neg]; norm_num

theorem eps_pos : ∃ e : ℝ, 0 < e ∧ eps = (e : EReal) := by
  refine ⟨_, ?_, by simp [eps, Ideal.ofBits, Ideal.ieee, -EReal.coe_mul]; rfl⟩
  positivity

/-- The mean square of a row plus the small constant. -/
def meanSq (x : Fin 1024 → EReal) : EReal := Ideal.div (∑ k, x k * x k) len + eps

/-- The factor that normalises a row. -/
def scale (x : Fin 1024 → EReal) : EReal := Ideal.rsqrt (meanSq x)

/-- The gradient through the normalisation, by the normalised row. -/
def grad (x dn : Fin 1024 → EReal) (j : Fin 1024) : EReal :=
  scale x * (dn j - x j * scale x * Ideal.div (∑ k, dn k * (x k * scale x)) len)

/-- The gradient through the normalisation, by the derivative of the reciprocal square root. -/
def gradRsqrt (x dn : Fin 1024 → EReal) (j : Fin 1024) : EReal :=
  dn j * scale x + Ideal.div ((∑ k, x k * dn k) * (negHalf * Ideal.div (scale x) (meanSq x))) len * (two * x j)

theorem div_len (a : EReal) : Ideal.div a len = a * (((1024 : ℝ)⁻¹ : ℝ) : EReal) := by
  rw [len_eq, Ideal.div, if_neg (by exact_mod_cast (by norm_num : (1024 : ℝ) ≠ 0)), ← EReal.coe_inv]

theorem square_nonneg (a : EReal) : 0 ≤ a * a := by
  induction a with
  | bot => simp
  | top => simp
  | coe r => rw [← EReal.coe_mul]; exact_mod_cast mul_self_nonneg r

/-- The mean square plus the constant is positive: either infinite, or a positive real. -/
theorem meanSq_cases (x : Fin 1024 → EReal) : meanSq x = ⊤ ∨ ∃ a : ℝ, 0 < a ∧ meanSq x = (a : EReal) := by
  obtain ⟨e, he, h⟩ := eps_pos
  have hs : 0 ≤ Ideal.div (∑ k, x k * x k) len := by
    rw [div_len]
    exact mul_nonneg (Finset.sum_nonneg fun k _ => square_nonneg _) (by exact_mod_cast (by positivity))
  have hp : (0 : EReal) < meanSq x := by
    unfold meanSq; rw [h]
    exact lt_of_lt_of_le (by exact_mod_cast he : (0 : EReal) < (e : EReal)) (le_add_of_nonneg_left hs)
  generalize meanSq x = y at hp ⊢
  induction y with
  | bot => simp at hp
  | top => exact Or.inl rfl
  | coe a => exact Or.inr ⟨a, by exact_mod_cast hp, rfl⟩

/-- A sum of products with one non-negative real is the product of the sum with it. -/
theorem sum_mul_real {n : ℕ} (f : Fin n → EReal) {c : ℝ} (hc : 0 ≤ c) : ∑ k, f k * (c : EReal) = (∑ k, f k) * (c : EReal) := by
  have h : ∀ s : Finset (Fin n), ∑ k ∈ s, f k * (c : EReal) = (∑ k ∈ s, f k) * (c : EReal) := by
    intro s
    induction s using Finset.induction_on with
    | empty => simp
    | insert a s ha ih =>
      rw [Finset.sum_insert ha, Finset.sum_insert ha, ih,
        EReal.right_distrib_of_nonneg_of_ne_top (by exact_mod_cast hc) (EReal.coe_ne_top c)]
  exact h _

/-- THE TWO GRADIENTS AGREE, for rows of arbitrary extended reals. -/
theorem gradRsqrt_eq (x dn : Fin 1024 → EReal) (j : Fin 1024) : gradRsqrt x dn j = grad x dn j := by
  unfold gradRsqrt grad scale
  rcases meanSq_cases x with h | ⟨a, ha, h⟩
  · rw [h]
    have hd : Ideal.div 0 ⊤ = 0 := by rw [Ideal.div, if_neg (by simp), zero_mul]
    show dn j * 0 + _ = 0 * _
    rw [show Ideal.rsqrt ⊤ = 0 from rfl, hd, mul_zero, mul_zero, div_len]
    simp
  · have hr : Ideal.rsqrt (a : EReal) = ((Real.sqrt a)⁻¹ : ℝ) := by
      show (if a < 0 then (⊥ : EReal) else if a = 0 then ⊤ else ((Real.sqrt a)⁻¹ : ℝ)) = _
      rw [if_neg (by linarith), if_neg (by linarith)]
    have hq : 0 < (Real.sqrt a)⁻¹ := inv_pos.mpr (Real.sqrt_pos.mpr ha)
    have ha' : a⁻¹ = (Real.sqrt a)⁻¹ * (Real.sqrt a)⁻¹ := by rw [← mul_inv, Real.mul_self_sqrt ha.le]
    rw [h, hr, div_len, div_len, negHalf_eq, two_eq, Ideal.div, if_neg (by exact_mod_cast ha.ne'), ← EReal.coe_inv, ha']
    generalize (Real.sqrt a)⁻¹ = q at hq
    have hsum : ∑ k, dn k * (x k * (q : EReal)) = (∑ k, x k * dn k) * (q : EReal) := by
      rw [← sum_mul_real _ hq.le]
      exact Finset.sum_congr rfl fun k _ => by rw [← mul_assoc, mul_comm (dn k)]
    rw [hsum, sub_eq_add_neg, EReal.left_distrib_of_nonneg_of_ne_top (by exact_mod_cast hq.le) (EReal.coe_ne_top q), mul_comm (dn j)]
    congr 1
    generalize ∑ k, x k * dn k = S
    have e1 : S * (((-(1 / 2) : ℝ) : EReal) * ((q : EReal) * ((q * q : ℝ) : EReal))) * (((1024 : ℝ)⁻¹ : ℝ) : EReal) * (((2 : ℝ) : EReal) * x j)
        = (S * x j) * (((-(1 / 2) : ℝ) : EReal) * ((q : EReal) * ((q * q : ℝ) : EReal)) * (((1024 : ℝ)⁻¹ : ℝ) : EReal) * ((2 : ℝ) : EReal)) := by ac_rfl
    have e2 : x j * (q : EReal) * (S * (q : EReal) * (((1024 : ℝ)⁻¹ : ℝ) : EReal))
        = (S * x j) * ((q : EReal) * (q : EReal) * (((1024 : ℝ)⁻¹ : ℝ) : EReal)) := by ac_rfl
    rw [e1, e2, ← mul_neg, mul_left_comm (q : EReal)]
    simp only [← EReal.coe_mul, ← EReal.coe_neg]
    congr 2
    ring

end Cert.RowNorm

end
-- ==== Proof.MlpBlock.lean ====
/- What one grid point of the gradient kernel computes: every stored entry as a formula over the point's input blocks. -/
module

public import proofs.«01_k».proof.Proof.Gen.KernelIdeal.Skeleton
public import proofs.«01_k».proof.Proof.RowNorm
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen Cert.RowNorm

variable (x0 x1 x2 : FVec Ideal S256x1024 .f32) (x3 : FVec Ideal S256x4096 .bf16) (x4 : FVec Ideal S1x1024 .f32)
  (x5 : FVec Ideal S8x1024x512 .bf16) (x6 : FVec Ideal S8x512x1024 .bf16) (x7 : FVec Ideal S1x1024 .f32)

/-- The gradient that enters the down projection, entry `(i, k)` of the block. -/
theorem dm_at (i : Fin 256) (k : Fin 1024) : k0_pay9 (F := Ideal) x0 x1 x7 (ix2 i k)
    = grad (fun k => x1 (ix2 i k)) (fun k => x0 (ix2 i k) * x7 (ix2 0 k)) k := by
  pointwise [k0_pay9, k0_pay7, k0_pay6, k0_pay5, grad, scale, meanSq]

/-- The normalised input row, times the gain. -/
theorem h_at (i : Fin 256) (k : Fin 1024) : k0_pay11 (F := Ideal) x2 x4 (k0_pay10 (F := Ideal) x2) (ix2 i k)
    = x2 (ix2 i k) * scale (fun k => x2 (ix2 i k)) * x4 (ix2 0 k) := by
  pointwise [k0_pay11, k0_pay10, scale, meanSq]

/-- The column sums of the first gain's gradient over the block's rows. -/
theorem dgpost_at (k : Fin 1024) : k0_pay8 (F := Ideal) x0 x1 (ix2 0 k)
    = ∑ i : Fin 256, x0 (ix2 i k) * (x1 (ix2 i k) * scale (fun k => x1 (ix2 i k))) := by
  pointwise [k0_pay8, k0_pay7, k0_pay6, k0_pay5, scale, meanSq]

/-- The gradient at the hidden layer of one slice of 512 columns. -/
theorem dup_at (v29 : FVec Ideal S256x1024 .bf16) (w : FVec Ideal S1x512x1024 .bf16) (u : FVec Ideal S256x512 .bf16) (i : Fin 256) (f : Fin 512) :
    k0_pay12 (F := Ideal) v29 w u (ix2 i f) = (∑ k : Fin 1024, v29 (ix2 i k) * w (ix3 0 f k)) * (two * max (u (ix2 i f)) 0) := by
  pointwise [k0_pay12]

/-- The sum over slices zero to six of the hidden gradient times the up projection, from the point's input blocks. -/
def sixSlices (v29 : FVec Ideal S256x1024 .bf16) : FVec Ideal S256x1024 .f32 :=
  k0_pay26 (F := Ideal) v29 (k0_pay22 v29 (k0_pay18 v29 (k0_pay13 v29 (View.ld (Val := Elt Ideal) (S := S8x512x1024) (e' := .bf16) x6 (Rect.unit (s := S8x512x1024) ![0, 0, 0] ![1, 512, 1024] inb_S8x512x1024_S1x512x1024_0_0_0)) (View.ld (Val := Elt Ideal) (S := S256x4096) (e' := .bf16) x3 (Rect.unit (s := S256x4096) ![0, 0] ![256, 512] inb_S256x4096_S256x512_0_0)) (View.ld (Val := Elt Ideal) (S := S8x1024x512) (e' := .bf16) x5 (Rect.unit (s := S8x1024x512) ![0, 0, 0] ![1, 1024, 512] inb_S8x1024x512_S1x1024x512_0_0_0)))
        (k0_pay14 v29 (View.ld (Val := Elt Ideal) (S := S8x512x1024) (e' := .bf16) x6 (Rect.unit (s := S8x512x1024) ![1, 0, 0] ![1, 512, 1024] inb_S8x512x1024_S1x512x1024_1_0_0))) (k0_pay15 (View.ld (Val := Elt Ideal) (S := S256x4096) (e' := .bf16) x3 (Rect.unit (s := S256x4096) ![0, 512] ![256, 512] inb_S256x4096_S256x512_0_512))) (FloatOps.ofBits .f32 0#32)
        (View.ld (Val := Elt Ideal) (S := S8x1024x512) (e' := .bf16) x5 (Rect.unit (s := S8x1024x512) ![1, 0, 0] ![1, 1024, 512] inb_S8x1024x512_S1x1024x512_1_0_0)) (View.ld (Val := Elt Ideal) (S := S8x512x1024) (e' := .bf16) x6 (Rect.unit (s := S8x512x1024) ![2, 0, 0] ![1, 512, 1024] inb_S8x512x1024_S1x512x1024_2_0_0)) (View.ld (Val := Elt Ideal) (S := S256x4096) (e' := .bf16) x3 (Rect.unit (s := S256x4096) ![0, 1024] ![256, 512] inb_S256x4096_S256x512_0_1024)) (View.ld (Val := Elt Ideal) (S := S8x1024x512) (e' := .bf16) x5 (Rect.unit (s := S8x1024x512) ![2, 0, 0] ![1, 1024, 512] inb_S8x1024x512_S1x1024x512_2_0_0)))
      (k0_pay19 v29 (View.ld (Val := Elt Ideal) (S := S8x512x1024) (e' := .bf16) x6 (Rect.unit (s := S8x512x1024) ![3, 0, 0] ![1, 512, 1024] inb_S8x512x1024_S1x512x1024_3_0_0))) (View.ld (Val := Elt Ideal) (S := S256x4096) (e' := .bf16) x3 (Rect.unit (s := S256x4096) ![0, 1536] ![256, 512] inb_S256x4096_S256x512_0_1536)) (View.ld (Val := Elt Ideal) (S := S8x1024x512) (e' := .bf16) x5 (Rect.unit (s := S8x1024x512) ![3, 0, 0] ![1, 1024, 512] inb_S8x1024x512_S1x1024x512_3_0_0)) (View.ld (Val := Elt Ideal) (S := S8x512x1024) (e' := .bf16) x6 (Rect.unit (s := S8x512x1024) ![4, 0, 0] ![1, 512, 1024] inb_S8x512x1024_S1x512x1024_4_0_0)) (View.ld (Val := Elt Ideal) (S := S256x4096) (e' := .bf16) x3 (Rect.unit (s := S256x4096) ![0, 2048] ![256, 512] inb_S256x4096_S256x512_0_2048)) (View.ld (Val := Elt Ideal) (S := S8x1024x512) (e' := .bf16) x5 (Rect.unit (s := S8x1024x512) ![4, 0, 0] ![1, 1024, 512] inb_S8x1024x512_S1x1024x512_4_0_0)))
    (k0_pay23 (View.ld (Val := Elt Ideal) (S := S8x512x1024) (e' := .bf16) x6 (Rect.unit (s := S8x512x1024) ![5, 0, 0] ![1, 512, 1024] inb_S8x512x1024_S1x512x1024_5_0_0))) (View.ld (Val := Elt Ideal) (S := S256x4096) (e' := .bf16) x3 (Rect.unit (s := S256x4096) ![0, 2560] ![256, 512] inb_S256x4096_S256x512_0_2560)) (View.ld (Val := Elt Ideal) (S := S8x1024x512) (e' := .bf16) x5 (Rect.unit (s := S8x1024x512) ![5, 0, 0] ![1, 1024, 512] inb_S8x1024x512_S1x1024x512_5_0_0)) (View.ld (Val := Elt Ideal) (S := S8x512x1024) (e' := .bf16) x6 (Rect.unit (s := S8x512x1024) ![6, 0, 0] ![1, 512, 1024] inb_S8x512x1024_S1x512x1024_6_0_0)) (View.ld (Val := Elt Ideal) (S := S256x4096) (e' := .bf16) x3 (Rect.unit (s := S256x4096) ![0, 3072] ![256, 512] inb_S256x4096_S256x512_0_3072)) (View.ld (Val := Elt Ideal) (S := S8x1024x512) (e' := .bf16) x5 (Rect.unit (s := S8x1024x512) ![6, 0, 0] ![1, 1024, 512] inb_S8x1024x512_S1x1024x512_6_0_0))

/-- … and the whole sum over the eight slices. -/
abbrev hidden (v29 : FVec Ideal S256x1024 .bf16) : FVec Ideal S256x1024 .f32 :=
  k0_pay28 (F := Ideal) v29 (sixSlices x3 x5 x6 v29) (View.ld (Val := Elt Ideal) (S := S8x512x1024) (e' := .bf16) x6 (Rect.unit (s := S8x512x1024) ![7, 0, 0] ![1, 512, 1024] inb_S8x512x1024_S1x512x1024_7_0_0)) (View.ld (Val := Elt Ideal) (S := S256x4096) (e' := .bf16) x3 (Rect.unit (s := S256x4096) ![0, 3584] ![256, 512] inb_S256x4096_S256x512_0_3584)) (View.ld (Val := Elt Ideal) (S := S8x1024x512) (e' := .bf16) x5 (Rect.unit (s := S8x1024x512) ![7, 0, 0] ![1, 1024, 512] inb_S8x1024x512_S1x1024x512_7_0_0))

/-- The gradient below the up projection: the sum over all eight slices of 512 hidden columns. -/
theorem hidden_at (v29 : FVec Ideal S256x1024 .bf16) (i : Fin 256) (j : Fin 1024) : hidden x3 x5 x6 v29 (ix2 i j)
    = ∑ s : Fin 8, ∑ f : Fin 512, (∑ k : Fin 1024, v29 (ix2 i k) * x6 (ix3 s f k))
        * (two * max (x3 (ix2 i ⟨s.val * 512 + f.val, by omega⟩)) 0) * x5 (ix3 s j f) := by
  rw [Fin.sum_univ_eight]
  pointwise [hidden, sixSlices, k0_pay28, k0_pay26, k0_pay22, k0_pay18, k0_pay13, k0_pay12, k0_pay14, k0_pay15, k0_pay16, k0_pay17,
    k0_pay19, k0_pay20, k0_pay21, k0_pay23, k0_pay24, k0_pay25, k0_pay27]

/-- The gradient of the layer's input, entry `(i, j)` of the block. -/
theorem dxi_at (v29 : FVec Ideal S256x1024 .bf16) (i : Fin 256) (j : Fin 1024) :
    k0_pay1 (F := Ideal) x0 (k0_pay29 x2) (k0_pay30 x2) (k0_pay32 v29 (sixSlices x3 x5 x6 v29) (View.ld (Val := Elt Ideal) (S := S8x512x1024) (e' := .bf16) x6 (Rect.unit (s := S8x512x1024) ![7, 0, 0] ![1, 512, 1024] inb_S8x512x1024_S1x512x1024_7_0_0)) (View.ld (Val := Elt Ideal) (S := S256x4096) (e' := .bf16) x3 (Rect.unit (s := S256x4096) ![0, 3584] ![256, 512] inb_S256x4096_S256x512_0_3584)) (View.ld (Val := Elt Ideal) (S := S8x1024x512) (e' := .bf16) x5 (Rect.unit (s := S8x1024x512) ![7, 0, 0] ![1, 1024, 512] inb_S8x1024x512_S1x1024x512_7_0_0)) x4)
      (k0_pay33 v29 x2 (sixSlices x3 x5 x6 v29) (View.ld (Val := Elt Ideal) (S := S8x512x1024) (e' := .bf16) x6 (Rect.unit (s := S8x512x1024) ![7, 0, 0] ![1, 512, 1024] inb_S8x512x1024_S1x512x1024_7_0_0)) (View.ld (Val := Elt Ideal) (S := S256x4096) (e' := .bf16) x3 (Rect.unit (s := S256x4096) ![0, 3584] ![256, 512] inb_S256x4096_S256x512_0_3584)) (View.ld (Val := Elt Ideal) (S := S8x1024x512) (e' := .bf16) x5 (Rect.unit (s := S8x1024x512) ![7, 0, 0] ![1, 1024, 512] inb_S8x1024x512_S1x1024x512_7_0_0)) x4) (ix2 i j)
    = x0 (ix2 i j) + grad (fun k => x2 (ix2 i k)) (fun k => hidden x3 x5 x6 v29 (ix2 i k) * x4 (ix2 0 k)) j := by
  pointwise [k0_pay1, k0_pay29, k0_pay30, k0_pay32, k0_pay33, grad, scale, meanSq]

/-- The column sums of the second gain's gradient over the block's rows. -/
theorem dgpre_at (v29 : FVec Ideal S256x1024 .bf16) (k : Fin 1024) :
    k0_pay31 (F := Ideal) v29 x2 (sixSlices x3 x5 x6 v29) (View.ld (Val := Elt Ideal) (S := S8x512x1024) (e' := .bf16) x6 (Rect.unit (s := S8x512x1024) ![7, 0, 0] ![1, 512, 1024] inb_S8x512x1024_S1x512x1024_7_0_0)) (View.ld (Val := Elt Ideal) (S := S256x4096) (e' := .bf16) x3 (Rect.unit (s := S256x4096) ![0, 3584] ![256, 512] inb_S256x4096_S256x512_0_3584)) (View.ld (Val := Elt Ideal) (S := S8x1024x512) (e' := .bf16) x5 (Rect.unit (s := S8x1024x512) ![7, 0, 0] ![1, 1024, 512] inb_S8x1024x512_S1x1024x512_7_0_0)) (ix2 0 k)
    = ∑ i : Fin 256, hidden x3 x5 x6 v29 (ix2 i k) * (x2 (ix2 i k) * scale (fun k => x2 (ix2 i k))) := by
  pointwise [k0_pay31, k0_pay29, k0_pay30, scale, meanSq]

end Cert.KernelIdeal.Block

end
-- ==== Proof.MlpGrad.lean ====
/- The gradient of the squared-ReLU sub-layer `dxo ↦ mid · scale · gq` with its two RMSNorms, entry by entry over the
   extended reals: the formulas that kernel and reference are both shown to compute. -/
module

public import proofs.«01_k».proof.Proof.RowNorm

@[expose] public section

noncomputable section

namespace Cert.MlpGrad

open Idealize.ShloMosaic Cert.RowNorm

variable (dxo x : Fin 8192 → Fin 1024 → EReal) (gp gq : Fin 1024 → EReal)
  (U : Fin 1024 → Fin 4096 → EReal) (W : Fin 4096 → Fin 1024 → EReal)

/-- The normalised input, times its gain. -/
def h (r : Fin 8192) (k : Fin 1024) : EReal := x r k * scale (x r) * gp k
/-- The hidden layer before the activation. -/
def up (r : Fin 8192) (c : Fin 4096) : EReal := ∑ k, h x gp r k * U k c
/-- The output of the down projection. -/
def mid (r : Fin 8192) (j : Fin 1024) : EReal := ∑ c, max (up x gp U r c) 0 * max (up x gp U r c) 0 * W c j
/-- The gradient at the output of the down projection. -/
def dm (r : Fin 8192) (k : Fin 1024) : EReal := grad (mid x gp U W r) (fun k => dxo r k * gq k) k
/-- The gradient at the hidden layer. -/
def dup (r : Fin 8192) (c : Fin 4096) : EReal := (∑ k, dm dxo x gp gq U W r k * W c k) * (two * max (up x gp U r c) 0)
/-- The gradient at the normalised input. -/
def dh (r : Fin 8192) (j : Fin 1024) : EReal := ∑ c, dup dxo x gp gq U W r c * U j c
/-- The gradient at the sub-layer's input, the residual branch included. -/
def dx (r : Fin 8192) (j : Fin 1024) : EReal := dxo r j + grad (x r) (fun k => dh dxo x gp gq U W r k * gp k) j
/-- The gradient of the gain after the sub-layer. -/
def dgPost (k : Fin 1024) : EReal := ∑ r, dxo r k * (mid x gp U W r k * scale (mid x gp U W r))
/-- The gradient of the gain before the sub-layer. -/
def dgPre (k : Fin 1024) : EReal := ∑ r, dh dxo x gp gq U W r k * (x r k * scale (x r))
/-- The two gains' gradients as the first rows of one array, zeros below. -/
def sums (a : Fin 8) (k : Fin 1024) : EReal :=
  if a.val = 0 then dgPost dxo x gp U W k else if a.val = 1 then dgPre dxo x gp gq U W k else 0

end Cert.MlpGrad

end
-- ==== Proof.MlpArrays.lean ====
/- What the result arrays of the gradient kernel hold after the run: the formulas of `MlpGrad` over the argument arrays. -/
module

public import proofs.«01_k».proof.Proof.Gen.KernelIdeal.Value
public import proofs.«01_k».proof.Proof.MlpBlock
public import proofs.«01_k».proof.Proof.MlpGrad
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.RowNorm Cert.MlpGrad

variable (m : (ℓ : Loc nD τ sig) → Buf (Elt Ideal) ℓ) (c : Dev nD)

/-- The argument arrays, as functions of row and column. -/
abbrev DXO (r : Fin 8192) (k : Fin 1024) : EReal := m ((c : Thread nD τ).loc main_arg0) (ix2 r k)
abbrev X (r : Fin 8192) (k : Fin 1024) : EReal := m ((c : Thread nD τ).loc main_arg1) (ix2 r k)
abbrev GP (k : Fin 1024) : EReal := m ((c : Thread nD τ).loc main_arg2) (ix2 0 k)
abbrev U (k : Fin 1024) (f : Fin 4096) : EReal := m ((c : Thread nD τ).loc main_arg3) (ix2 k f)
abbrev W (f : Fin 4096) (k : Fin 1024) : EReal := m ((c : Thread nD τ).loc main_arg4) (ix2 f k)
abbrev GQ (k : Fin 1024) : EReal := m ((c : Thread nD τ).loc main_arg5) (ix2 0 k)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![0, 0] :=
  (by decide +kernel : ∀ t : Fin grid0.N, _)

/-- The array row that row `i` of grid point `t`'s block is. -/
def row (t : Fin cfg0.N) (i : Fin 256) : Fin 8192 := ⟨t.val * 256 + i.val, by have := lt_of_lt_of_eq t.isLt N_0; omega⟩

/-- The hidden layer that the host code hands the kernel. -/
theorem up_at (r : Fin 8192) (f : Fin 4096) :
    (V m c main_v22 : FVec Ideal S8192x4096 .bf16) (ix2 r f) = up (X m c) (GP m c) (U m c) r f := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise [up, h, scale, meanSq]

/-- The sub-layer's output before its norm, which the host code hands the kernel. -/
theorem mid_at (r : Fin 8192) (j : Fin 1024) :
    (V m c main_v15 : FVec Ideal S8192x1024 .f32) (ix2 r j) = mid (X m c) (GP m c) (U m c) (W m c) r j := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise [mid, up, h, scale, meanSq]

/-- The up projection by slices. -/
theorem wup_at (s : Fin 8) (j : Fin 1024) (f : Fin 512) :
    (V m c main_v18 : FVec Ideal S8x1024x512 .bf16) (ix3 s j f) = U m c j ⟨s.val * 512 + f.val, by omega⟩ := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

/-- The down projection by slices. -/
theorem wdown_at (s : Fin 8) (f : Fin 512) (k : Fin 1024) :
    (V m c main_v20 : FVec Ideal S8x512x1024 .bf16) (ix3 s f k) = W m c ⟨s.val * 512 + f.val, by omega⟩ k := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

/-! ## The input blocks of a grid point, at coordinates -/

theorem blk0 (t : Fin cfg0.N) (i : Fin 256) (k : Fin 1024) :
    (iblk m c 0 t : FVec Ideal S256x1024 .f32) (ix2 i k) = DXO m c (row t i) k := by
  blk_ext [iblk, V_main_arg0, idx t, row]

theorem blk1 (t : Fin cfg0.N) (i : Fin 256) (k : Fin 1024) :
    (iblk m c 1 t : FVec Ideal S256x1024 .f32) (ix2 i k) = mid (X m c) (GP m c) (U m c) (W m c) (row t i) k := by
  rw [← mid_at]
  blk_ext [iblk, idx t, row]

theorem blk2 (t : Fin cfg0.N) (i : Fin 256) (k : Fin 1024) :
    (iblk m c 2 t : FVec Ideal S256x1024 .f32) (ix2 i k) = X m c (row t i) k := by
  blk_ext [iblk, V_main_arg1, idx t, row]

theorem blk3 (t : Fin cfg0.N) (i : Fin 256) (f : Fin 4096) :
    (iblk m c 3 t : FVec Ideal S256x4096 .bf16) (ix2 i f) = up (X m c) (GP m c) (U m c) (row t i) f := by
  rw [← up_at]
  blk_ext [iblk, idx t, row]

theorem blk4 (t : Fin cfg0.N) (k : Fin 1024) : (iblk m c 4 t : FVec Ideal S1x1024 .f32) (ix2 0 k) = GP m c k := by
  blk_ext [iblk, V_main_arg2, idx t]

theorem blk5 (t : Fin cfg0.N) (s : Fin 8) (j : Fin 1024) (f : Fin 512) :
    (iblk m c 5 t : FVec Ideal S8x1024x512 .bf16) (ix3 s j f) = U m c j ⟨s.val * 512 + f.val, by omega⟩ := by
  rw [← wup_at]
  blk_ext [iblk, idx t]

theorem blk6 (t : Fin cfg0.N) (s : Fin 8) (f : Fin 512) (k : Fin 1024) :
    (iblk m c 6 t : FVec Ideal S8x512x1024 .bf16) (ix3 s f k) = W m c ⟨s.val * 512 + f.val, by omega⟩ k := by
  rw [← wdown_at]
  blk_ext [iblk, idx t]

theorem blk7 (t : Fin cfg0.N) (k : Fin 1024) : (iblk m c 7 t : FVec Ideal S1x1024 .f32) (ix2 0 k) = GQ m c k := by
  blk_ext [iblk, V_main_arg5, idx t]

/-! ## What a grid point computes, at the rows of its block -/

/-- The gradient at the down projection's output. -/
theorem dm_row (t : Fin cfg0.N) (i : Fin 256) (k : Fin 1024) :
    k0_pay9 (F := Ideal) (iblk m c 0 t) (iblk m c 1 t) (iblk m c 7 t) (ix2 i k)
    = dm (DXO m c) (X m c) (GP m c) (GQ m c) (U m c) (W m c) (row t i) k := by
  refine (Block.dm_at _ _ _ i k).trans ?_
  simp only [blk0, blk1, blk7]
  rfl

/-- The gradient at the normalised input. -/
theorem dh_row (t : Fin cfg0.N) (i : Fin 256) (j : Fin 1024) :
    Block.hidden (iblk m c 3 t) (iblk m c 5 t) (iblk m c 6 t) (k0_pay9 (F := Ideal) (iblk m c 0 t) (iblk m c 1 t) (iblk m c 7 t)) (ix2 i j)
    = dh (DXO m c) (X m c) (GP m c) (GQ m c) (U m c) (W m c) (row t i) j := by
  refine (Block.hidden_at _ _ _ _ i j).trans ?_
  simp only [dm_row, blk3, blk5, blk6]
  rw [dh, Fin.sum_univ_tiles 8 512 rfl]
  rfl

/-- The gradient at the sub-layer's input. -/
theorem point8 (t : Fin cfg0.N) (y : S256x1024.Idx) : (outsAt0 m c t.val t.isLt).1 y
    = dx (DXO m c) (X m c) (GP m c) (GQ m c) (U m c) (W m c) (row t (y 0)) (y 1) := by
  idx_vars y
  have key := Block.dxi_at (iblk m c 0 t) (iblk m c 2 t) (iblk m c 3 t) (iblk m c 4 t) (iblk m c 5 t) (iblk m c 6 t)
    (k0_pay9 (F := Ideal) (iblk m c 0 t) (iblk m c 1 t) (iblk m c 7 t)) y0 y1
  simp only [dh_row, blk0, blk2, blk4] at key
  by_cases h : t.val % 32 = 0
  · rw [outsAt0_A m c t h]; frame_out
    exact key
  · rw [outsAt0_B m c t h]; frame_out
    exact key

/-- The normalised input. -/
theorem point9 (t : Fin cfg0.N) (y : S256x1024.Idx) : (outsAt0 m c t.val t.isLt).2.1 y
    = h (X m c) (GP m c) (row t (y 0)) (y 1) := by
  idx_vars y
  have key := Block.h_at (iblk m c 2 t) (iblk m c 4 t) y0 y1
  simp only [blk2, blk4] at key
  by_cases h : t.val % 32 = 0
  · rw [outsAt0_A m c t h]; frame_out
    exact key
  · rw [outsAt0_B m c t h]; frame_out
    exact key

/-- The gradient at the down projection's output. -/
theorem point10 (t : Fin cfg0.N) (y : S256x1024.Idx) : (outsAt0 m c t.val t.isLt).2.2.1 y
    = dm (DXO m c) (X m c) (GP m c) (GQ m c) (U m c) (W m c) (row t (y 0)) (y 1) := by
  idx_vars y
  by_cases h : t.val % 32 = 0
  · rw [outsAt0_A m c t h]; frame_out
    exact dm_row m c t y0 y1
  · rw [outsAt0_B m c t h]; frame_out
    exact dm_row m c t y0 y1

/-- The gradient at the hidden layer, at column `f` of the slice that starts at column `o`. -/
theorem dup_row (t : Fin cfg0.N) (s : Fin 8) (o : ℕ) (i : Fin 256) (f : Fin 512) (j : Fin 4096) (ho : s.val * 512 = o) (hj : j.val = o + f.val) :
    dup (DXO m c) (X m c) (GP m c) (GQ m c) (U m c) (W m c) (row t i) j
    = (∑ k : Fin 1024, k0_pay9 (F := Ideal) (iblk m c 0 t) (iblk m c 1 t) (iblk m c 7 t) (ix2 i k)
        * (show FVec Ideal S8x512x1024 .bf16 from iblk m c 6 t) (ix3 s f k))
      * (two * max ((show FVec Ideal S256x4096 .bf16 from iblk m c 3 t) (ix2 i ⟨o + f.val, by omega⟩)) 0) := by
  subst ho
  obtain ⟨j, hj'⟩ := j
  obtain rfl : j = s.val * 512 + f.val := hj
  simp only [dm_row, blk3, blk6]
  rfl

/-- The gradient at the hidden layer: eight stored column tiles. -/
theorem point11 (t : Fin cfg0.N) (y : S256x4096.Idx) : (outsAt0 m c t.val t.isLt).2.2.2.1 y
    = dup (DXO m c) (X m c) (GP m c) (GQ m c) (U m c) (W m c) (row t (y 0)) (y 1) := by
  by_cases h : t.val % 32 = 0
  · rw [outsAt0_A m c t h]; frame_out
    canon_tiles x h
    all_goals
      idx_vars x
      idx_vars y
      obtain rfl : y0 = x0 := Fin.ext h0
      first
      | refine Eq.trans ?_ (dup_row m c t 0 0 y0 x1 y1 rfl (h1.trans (Nat.zero_add _).symm)).symm
      | refine Eq.trans ?_ (dup_row m c t 1 512 y0 x1 y1 rfl h1).symm
      | refine Eq.trans ?_ (dup_row m c t 2 1024 y0 x1 y1 rfl h1).symm
      | refine Eq.trans ?_ (dup_row m c t 3 1536 y0 x1 y1 rfl h1).symm
      | refine Eq.trans ?_ (dup_row m c t 4 2048 y0 x1 y1 rfl h1).symm
      | refine Eq.trans ?_ (dup_row m c t 5 2560 y0 x1 y1 rfl h1).symm
      | refine Eq.trans ?_ (dup_row m c t 6 3072 y0 x1 y1 rfl h1).symm
      | refine Eq.trans ?_ (dup_row m c t 7 3584 y0 x1 y1 rfl h1).symm
      pointwise [k0_pay12, k0_pay14, k0_pay15, k0_pay16, k0_pay17, k0_pay19, k0_pay20, k0_pay21, k0_pay23, k0_pay24, k0_pay25, k0_pay27]
  · rw [outsAt0_B m c t h]; frame_out
    canon_tiles x h
    all_goals
      idx_vars x
      idx_vars y
      obtain rfl : y0 = x0 := Fin.ext h0
      first
      | refine Eq.trans ?_ (dup_row m c t 0 0 y0 x1 y1 rfl (h1.trans (Nat.zero_add _).symm)).symm
      | refine Eq.trans ?_ (dup_row m c t 1 512 y0 x1 y1 rfl h1).symm
      | refine Eq.trans ?_ (dup_row m c t 2 1024 y0 x1 y1 rfl h1).symm
      | refine Eq.trans ?_ (dup_row m c t 3 1536 y0 x1 y1 rfl h1).symm
      | refine Eq.trans ?_ (dup_row m c t 4 2048 y0 x1 y1 rfl h1).symm
      | refine Eq.trans ?_ (dup_row m c t 5 2560 y0 x1 y1 rfl h1).symm
      | refine Eq.trans ?_ (dup_row m c t 6 3072 y0 x1 y1 rfl h1).symm
      | refine Eq.trans ?_ (dup_row m c t 7 3584 y0 x1 y1 rfl h1).symm
      pointwise [k0_pay12, k0_pay14, k0_pay15, k0_pay16, k0_pay17, k0_pay19, k0_pay20, k0_pay21, k0_pay23, k0_pay24, k0_pay25, k0_pay27]

end Cert.KernelIdeal.Arrays

end
-- ==== Proof.MlpFinal.lean ====
/- The gradient kernel's result arrays after the run, each one formula of `MlpGrad` over the argument arrays. -/
module

public import proofs.«01_k».proof.Proof.MlpArrays

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.RowNorm Cert.MlpGrad

variable (m : (ℓ : Loc nD τ sig) → Buf (Elt Ideal) ℓ) (c : Dev nD)

/-- The gradient at the sub-layer's input. -/
theorem final8 : (dats m 0 c).arrAt 8 cfg0.N
    = fun i => dx (DXO m c) (X m c) (GP m c) (GQ m c) (U m c) (W m c) (i 0) (i 1) := by
  refine (dats m 0 c).arrAt_eq_of_covers 8 _ (by decide +kernel) fun t hf y => ?_
  blk_simp
  rw [after0_8]
  refine (point8 m c t y).trans (congrArg₂ (dx (DXO m c) (X m c) (GP m c) (GQ m c) (U m c) (W m c)) (Fin.ext ?_) (Fin.ext ?_))
  · blk_simp [idx t, row]
  · blk_simp [idx t, row]

/-- The normalised input. -/
theorem final9 : (dats m 0 c).arrAt 9 cfg0.N = fun i => h (X m c) (GP m c) (i 0) (i 1) := by
  refine (dats m 0 c).arrAt_eq_of_covers 9 _ (by decide +kernel) fun t hf y => ?_
  blk_simp
  rw [after0_9]
  refine (point9 m c t y).trans (congrArg₂ (h (X m c) (GP m c)) (Fin.ext ?_) (Fin.ext ?_)) <;> blk_simp [idx t, row]

/-- The gradient at the down projection's output. -/
theorem final10 : (dats m 0 c).arrAt 10 cfg0.N
    = fun i => dm (DXO m c) (X m c) (GP m c) (GQ m c) (U m c) (W m c) (i 0) (i 1) := by
  refine (dats m 0 c).arrAt_eq_of_covers 10 _ (by decide +kernel) fun t hf y => ?_
  blk_simp
  rw [after0_10]
  refine (point10 m c t y).trans (congrArg₂ (dm (DXO m c) (X m c) (GP m c) (GQ m c) (U m c) (W m c)) (Fin.ext ?_) (Fin.ext ?_)) <;> blk_simp [idx t, row]

/-- The gradient at the hidden layer. -/
theorem final11 : (dats m 0 c).arrAt 11 cfg0.N
    = fun i => dup (DXO m c) (X m c) (GP m c) (GQ m c) (U m c) (W m c) (i 0) (i 1) := by
  refine (dats m 0 c).arrAt_eq_of_covers 11 _ (by decide +kernel) fun t hf y => ?_
  blk_simp
  rw [after0_11]
  refine (point11 m c t y).trans (congrArg₂ (dup (DXO m c) (X m c) (GP m c) (GQ m c) (U m c) (W m c)) (Fin.ext ?_) (Fin.ext ?_)) <;> blk_simp [idx t, row]

end Cert.KernelIdeal.Arrays

end
-- ==== Proof.MlpSums.lean ====
/- The gradient kernel's array of gain gradients: the grid points add their rows' sums into one block, the first point after
   clearing it, and the block is written back once. -/
module

public import proofs.«01_k».proof.Proof.MlpArrays
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.KernelIdeal.Arrays

open Cert.KernelIdeal Cert.KernelIdeal.Gen Cert.MlpGrad Cert.RowNorm

variable (m : (ℓ : Loc nD τ sig) → Buf (Elt Ideal) ℓ) (c : Dev nD)

/-- What one grid point adds to row `a` of the block. -/
def part (t : Fin cfg0.N) (a : Fin 8) (k : Fin 1024) : EReal :=
  if a.val = 0 then ∑ i : Fin 256, DXO m c (row t i) k * (mid (X m c) (GP m c) (U m c) (W m c) (row t i) k * scale (mid (X m c) (GP m c) (U m c) (W m c) (row t i)))
  else if a.val = 1 then ∑ i : Fin 256, dh (DXO m c) (X m c) (GP m c) (GQ m c) (U m c) (W m c) (row t i) k * (X m c (row t i) k * scale (X m c (row t i)))
  else 0

theorem post_part (t : Fin cfg0.N) (k : Fin 1024) : k0_pay8 (F := Ideal) (iblk m c 0 t) (iblk m c 1 t) (ix2 0 k) = part m c t 0 k := by
  refine (Block.dgpost_at _ _ k).trans ?_
  simp only [blk0, blk1]
  rfl

theorem pre_part (t : Fin cfg0.N) (k : Fin 1024) :
    k0_pay31 (F := Ideal) (k0_pay9 (F := Ideal) (iblk m c 0 t) (iblk m c 1 t) (iblk m c 7 t)) (iblk m c 2 t)
      (Block.sixSlices (iblk m c 3 t) (iblk m c 5 t) (iblk m c 6 t) (k0_pay9 (F := Ideal) (iblk m c 0 t) (iblk m c 1 t) (iblk m c 7 t)))
      (View.ld (Val := Elt Ideal) (S := S8x512x1024) (e' := .bf16) (iblk m c 6 t) (Rect.unit (s := S8x512x1024) ![7, 0, 0] ![1, 512, 1024] inb_S8x512x1024_S1x512x1024_7_0_0))
      (View.ld (Val := Elt Ideal) (S := S256x4096) (e' := .bf16) (iblk m c 3 t) (Rect.unit (s := S256x4096) ![0, 3584] ![256, 512] inb_S256x4096_S256x512_0_3584))
      (View.ld (Val := Elt Ideal) (S := S8x1024x512) (e' := .bf16) (iblk m c 5 t) (Rect.unit (s := S8x1024x512) ![7, 0, 0] ![1, 1024, 512] inb_S8x1024x512_S1x1024x512_7_0_0)) (ix2 0 k)
    = part m c t 1 k := by
  refine (Block.dgpre_at _ _ _ _ _ k).trans ?_
  simp only [dh_row, blk2]
  rfl

theorem add_post_of (p q : FVec Ideal S1x1024 .f32) (k : Fin 1024) {a : EReal} (b : EReal) (hp : p (ix2 0 k) = b) (hq : q (ix2 0 k) = a) :
    k0_pay3 (F := Ideal) p q (ix2 0 k) = a + b := by
  subst hp hq
  pointwise [k0_pay3]

theorem add_pre_of (p q : FVec Ideal S1x1024 .f32) (k : Fin 1024) {a : EReal} (b : EReal) (hp : p (ix2 0 k) = b) (hq : q (ix2 0 k) = a) :
    k0_pay4 (F := Ideal) p q (ix2 0 k) = a + b := by
  subst hp hq
  pointwise [k0_pay4]

section Rows

variable {κ : Kind} {sp : Space} (v : View sig κ sp S8x1024 .f32) (f : v.ty.Contents (Elt Ideal)) (w : FVec Ideal S1x1024 .f32)
  (z : FVec Ideal S8x1024 .f32) (L : List (View.Piece (Elt Ideal) S8x1024 .f32)) (a : Fin 8) (k : Fin 1024)

/-- Row one, just written. -/
theorem row1_hit : v.read (Elt Ideal) (v.writes (Elt Ideal) f (⟨Rect.unit (s := S8x1024) ![1, 0] ![1, 1024] inb_S8x1024_S1x1024_1_0, w⟩ :: L)) (ix2 1 k) = w (ix2 0 k) :=
  View.read_writes_cons_rows_of_mem (o := 1) v f _ w L _ (ix2 0 k) rfl rfl rfl

/-- Another row, after a write of row one. -/
theorem row1_miss (h : a.val ≠ 1) : v.read (Elt Ideal) (v.writes (Elt Ideal) f (⟨Rect.unit (s := S8x1024) ![1, 0] ![1, 1024] inb_S8x1024_S1x1024_1_0, w⟩ :: L)) (ix2 a k)
    = v.read (Elt Ideal) (v.writes (Elt Ideal) f L) (ix2 a k) :=
  View.read_writes_cons_rows_of_not_mem (o := 1) (W := 1) v f _ w L _ rfl rfl (by show a.val < 1 ∨ 2 ≤ a.val; omega)

/-- Row zero, just written. -/
theorem row0_hit : v.read (Elt Ideal) (v.writes (Elt Ideal) f (⟨Rect.unit (s := S8x1024) ![0, 0] ![1, 1024] inb_S8x1024_S1x1024_0_0, w⟩ :: L)) (ix2 0 k) = w (ix2 0 k) :=
  View.read_writes_cons_rows_of_mem (o := 0) v f _ w L _ (ix2 0 k) rfl rfl rfl

/-- Another row, after a write of row zero. -/
theorem row0_miss (h : a.val ≠ 0) : v.read (Elt Ideal) (v.writes (Elt Ideal) f (⟨Rect.unit (s := S8x1024) ![0, 0] ![1, 1024] inb_S8x1024_S1x1024_0_0, w⟩ :: L)) (ix2 a k)
    = v.read (Elt Ideal) (v.writes (Elt Ideal) f L) (ix2 a k) :=
  View.read_writes_cons_rows_of_not_mem (o := 0) (W := 1) v f _ w L _ rfl rfl (by show a.val < 0 ∨ 1 ≤ a.val; omega)

/-- Any row, after a write of the whole block. -/
theorem whole_hit : v.read (Elt Ideal) (v.writes (Elt Ideal) f (⟨Rect.unit (s := S8x1024) ![0, 0] ![8, 1024] inb_S8x1024_S8x1024_0_0, z⟩ :: L)) (ix2 a k) = z (ix2 a k) :=
  View.read_writes_cons_rows_of_mem (o := 0) v f _ z L _ (ix2 a k) rfl (Nat.zero_add _).symm rfl

end Rows

/-- The first grid point clears the block and adds its part. -/
theorem sums_first (t : Fin cfg0.N) (h : t.val % 32 = 0) (a : Fin 8) (k : Fin 1024) :
    (outsAt0 m c t.val t.isLt).2.2.2.2 (ix2 a k) = 0 + part m c t a k := by
  rw [outsAt0_A m c t h]
  frame_open
  simp (disch := decide) only [↓ View.readCov_skip, ↓ View.readCov_cons_toLoadRect, ↓ View.readCov_fill]
  frame_out
  rw [← View.read_writes_junk_apply_eq_canon (ms0_12 t).view]
  by_cases h1 : a.val = 1
  · obtain rfl : a = 1 := Fin.ext h1
    refine (row1_hit _ _ _ _ k).trans (add_pre_of _ _ k _ (pre_part m c t k) ?_)
    pointwise [k0_pay2]
  refine (row1_miss _ _ _ _ a k h1).trans ?_
  by_cases h0 : a.val = 0
  · obtain rfl : a = 0 := Fin.ext h0
    refine (row0_hit _ _ _ _ k).trans (add_post_of _ _ k _ (post_part m c t k) ?_)
    pointwise [k0_pay2]
  refine (row0_miss _ _ _ _ a k h0).trans ?_
  refine (whole_hit _ _ _ _ a k).trans ?_
  pointwise [k0_pay2, part]
  simp only [h0, h1, if_false, add_zero]

/-- Every later grid point adds its part. -/
theorem sums_next (t : Fin cfg0.N) (h : ¬ t.val % 32 = 0) (a : Fin 8) (k : Fin 1024) :
    (outsAt0 m c t.val t.isLt).2.2.2.2 (ix2 a k)
    = (outsAt0 m c (t.val - 1) (Nat.lt_of_le_of_lt (Nat.sub_le _ _) t.isLt)).2.2.2.2 (ix2 a k) + part m c t a k := by
  rw [outsAt0_B m c t h]
  frame_out
  by_cases h1 : a.val = 1
  · obtain rfl : a = 1 := Fin.ext h1
    refine (row1_hit _ _ _ _ k).trans (add_pre_of _ _ k _ (pre_part m c t k) ?_)
    pointwise
  refine (row1_miss _ _ _ _ a k h1).trans ?_
  by_cases h0 : a.val = 0
  · obtain rfl : a = 0 := Fin.ext h0
    refine (row0_hit _ _ _ _ k).trans (add_post_of _ _ k _ (post_part m c t k) ?_)
    pointwise
  refine (row0_miss _ _ _ _ a k h0).trans ?_
  rw [View.writes_nil, Memref.IsWhole.read_unread, part, if_neg h0, if_neg h1, add_zero]

/-- A sum over the array's rows is a sum over grid points and the rows of a block. -/
theorem sum_rows (f : Fin 8192 → EReal) : ∑ t : Fin cfg0.N, ∑ i : Fin 256, f (row t i) = ∑ r, f r := by
  rw [Fin.sum_univ_tiles 32 256 rfl]
  rfl

/-- The block after the last grid point. -/
theorem sums_last (t : Fin cfg0.N) (h : t.val % 32 = 31) (a : Fin 8) (k : Fin 1024) :
    (outsAt0 m c t.val t.isLt).2.2.2.2 (ix2 a k) = sums (DXO m c) (X m c) (GP m c) (GQ m c) (U m c) (W m c) a k := by
  have ht := lt_of_lt_of_eq t.isLt N_0
  have key := Pipeline.eq_sum_fin_of_reset_step_apply_last (N := cfg0.N) (fun n h (i : Fin 8 × Fin 1024) => (outsAt0 m c n h).2.2.2.2 (ix2 i.1 i.2)) 32 (fun _ => (0 : EReal))
    (fun t i => part m c t i.1 i.2) (fun t h i => sums_first m c t h i.1 i.2) (fun t h i => sums_next m c t h i.1 i.2) N_0.le
    t (by show t.val + 1 = grid0.N; rw [N_0]; omega) (a, k)
  refine key.trans ?_
  rw [zero_add]
  unfold part sums dgPost dgPre
  split_ifs
  · exact sum_rows fun r => DXO m c r k * (mid (X m c) (GP m c) (U m c) (W m c) r k * scale (mid (X m c) (GP m c) (U m c) (W m c) r))
  · exact sum_rows fun r => dh (DXO m c) (X m c) (GP m c) (GQ m c) (U m c) (W m c) r k * (X m c r k * scale (X m c r))
  · exact Finset.sum_const_zero

/-- The gains' gradients. -/
theorem final12 : (dats m 0 c).arrAt 12 cfg0.N
    = fun i => sums (DXO m c) (X m c) (GP m c) (GQ m c) (U m c) (W m c) (i 0) (i 1) := by
  refine (dats m 0 c).arrAt_eq_of_covers 12 _ (by decide +kernel) fun t hf y => ?_
  blk_simp
  rw [after0_12]
  have hy : y = ix2 (y 0) (y 1) := eq_ix2 y
  rw [hy]
  refine (sums_last m c t ((flush0_12 t).mp hf) (y 0) (y 1)).trans (congrArg₂ (sums (DXO m c) (X m c) (GP m c) (GQ m c) (U m c) (W m c)) (Fin.ext ?_) (Fin.ext ?_)) <;> blk_simp [idx t]

end Cert.KernelIdeal.Arrays

end
-- ==== Proof.MlpReference.lean ====
/- What the reference's terms are, entry by entry: the formulas of `MlpGrad` over the argument arrays. Each operation group
   of the reference is named once and read at an index once; the results are then these groups, one inside another. -/
module

public import proofs.«01_k».proof.Proof.Gen.ReferenceIdeal.Run
public import proofs.«01_k».proof.Proof.MlpGrad
public import Idealize.ShloMosaic.Lib.Claim

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen Cert.RowNorm

/-! ## The groups of operations -/

/-- The mean square of every row plus the small constant, as a column. -/
def meanCol (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- Every row divided by the root of its mean square. -/
def normal (x : FVec Ideal S8192x1024 .f32) : FVec Ideal S8192x1024 .f32 :=
  mulf x (broadcastInDim S8192x1024 ![0, 1] bcast_S8192x1_S8192x1024_0_1 (Host.rsqrt (meanCol x)))

/-- A gain row, repeated over all rows. -/
def gain (g : FVec Ideal S1x1024 .f32) : FVec Ideal S8192x1024 .f32 :=
  broadcastInDim S8192x1024 ![0, 1] bcast_S1x1024_S8192x1024_0_1 g

/-- The gradient through the normalisation, `dn` the gradient at the normalised rows. -/
def gradRows (x dn : FVec Ideal S8192x1024 .f32) : FVec Ideal S8192x1024 .f32 :=
  addf (mulf dn (broadcastInDim S8192x1024 ![0, 1] bcast_S8192x1_S8192x1024_0_1 (Host.rsqrt (meanCol x))))
    (mulf (broadcastInDim S8192x1024 ![0] bcast_S8192_S8192x1024_0 (Host.reduceAdd (Host.divf (mulf (shapeCast S8192x1 (Host.reduceAdd (mulf x dn) (constant S_ .f32 0x00000000#32) reducesTo_S8192x1024_S8192_d1 h_S_) shapeCasts_S8192_S8192x1)
        (mulf (broadcastInDim S8192x1 ![] bcast_S_S8192x1 (constant S_ .f32 0xBF000000#32)) (Host.divf (Host.rsqrt (meanCol x)) (meanCol x)))) (broadcastInDim S8192x1 ![] bcast_S_S8192x1 (constant S_ .f32 0x44800000#32))) (constant S_ .f32 0x00000000#32) reducesTo_S8192x1_S8192_d1 h_S_))
      (mulf (broadcastInDim S8192x1024 ![] bcast_S_S8192x1024 (constant S_ .f32 0x40000000#32)) x))

/-- The gradient of the gain: the column sums of the normalised rows times the gradient above. -/
def gradGain (x dy : FVec Ideal S8192x1024 .f32) : FVec Ideal S1x1024 .f32 :=
  shapeCast S1x1024 (Host.reduceAdd (mulf (normal x) dy) (constant S_ .f32 0x00000000#32) reducesTo_S8192x1024_S1024_d0 h_S_) shapeCasts_S1024_S1x1024

/-- The up projection. -/
def upProj (h : FVec Ideal S8192x1024 .f32) (U : FVec Ideal S1024x4096 .f32) : FVec Ideal S8192x4096 .f32 :=
  Host.dotGeneral dot_S8192x1024_S1024x4096_S8192x4096_1_0_0_1_n_n none h U

/-- The positive part of the hidden layer. -/
def positive (u : FVec Ideal S8192x4096 .f32) : FVec Ideal S8192x4096 .f32 :=
  maximumf u (broadcastInDim S8192x4096 ![] bcast_S_S8192x4096 (constant S_ .f32 0x00000000#32))

/-- The down projection of the squared positive part. -/
def downProj (u : FVec Ideal S8192x4096 .f32) (W : FVec Ideal S4096x1024 .f32) : FVec Ideal S8192x1024 .f32 :=
  Host.dotGeneral dot_S8192x4096_S4096x1024_S8192x1024_1_0_0_1_n_n none (mulf (positive u) (positive u)) W

/-- The gradient through the activation and the down projection. -/
def gradDown (u : FVec Ideal S8192x4096 .f32) (W : FVec Ideal S4096x1024 .f32) (dm : FVec Ideal S8192x1024 .f32) : FVec Ideal S8192x4096 .f32 :=
  select (cmpf .ogt u (broadcastInDim S8192x4096 ![] bcast_S_S8192x4096 (constant S_ .f32 0x00000000#32)))
    (mulf (Host.dotGeneral dot_S8192x1024_S4096x1024_S8192x4096_1_1_0_0_n_n none dm W) (mulf (broadcastInDim S8192x4096 ![] bcast_S_S8192x4096 (constant S_ .f32 0x40000000#32)) (positive u)))
    (broadcastInDim S8192x4096 ![] bcast_S_S8192x4096 (constant S_ .f32 0x00000000#32))

/-- The gradient through the up projection. -/
def gradUp (du : FVec Ideal S8192x4096 .f32) (U : FVec Ideal S1024x4096 .f32) : FVec Ideal S8192x1024 .f32 :=
  Host.dotGeneral dot_S8192x4096_S1024x4096_S8192x1024_1_1_0_0_n_n none du U

/-! ## The groups at an index -/

variable (x dn dy h dmid : FVec Ideal S8192x1024 .f32) (g : FVec Ideal S1x1024 .f32) (u du : FVec Ideal S8192x4096 .f32)
  (U : FVec Ideal S1024x4096 .f32) (W : FVec Ideal S4096x1024 .f32) (r : Fin 8192) (k : Fin 1024) (f : Fin 4096)

theorem meanCol_at : meanCol x (ix2 r 0) = meanSq (fun k => x (ix2 r k)) := by
  pointwise [meanCol, meanSq]

theorem normal_at : normal x (ix2 r k) = x (ix2 r k) * scale (fun k => x (ix2 r k)) := by
  pointwise [normal, scale, meanCol_at]

theorem gain_at : gain g (ix2 r k) = g (ix2 0 k) := by
  pointwise [gain]

theorem gradRows_at : gradRows x dn (ix2 r k) = grad (fun k => x (ix2 r k)) (fun k => dn (ix2 r k)) k := by
  rw [← gradRsqrt_eq]
  pointwise [gradRows, gradRsqrt, scale, meanCol_at]
  rw [Fin.sum_univ_one, meanCol_at]

theorem gradGain_at : gradGain x dy (ix2 0 k) = ∑ r : Fin 8192, dy (ix2 r k) * (x (ix2 r k) * scale (fun k => x (ix2 r k))) := by
  pointwise [gradGain, normal_at]
  exact Finset.sum_congr rfl fun r _ => mul_comm _ _

theorem upProj_at : upProj h U (ix2 r f) = ∑ k : Fin 1024, h (ix2 r k) * U (ix2 k f) := by
  pointwise [upProj]

theorem positive_at : positive u (ix2 r f) = max (u (ix2 r f)) 0 := by
  pointwise [positive]

theorem downProj_at : downProj u W (ix2 r k) = ∑ f : Fin 4096, max (u (ix2 r f)) 0 * max (u (ix2 r f)) 0 * W (ix2 f k) := by
  pointwise [downProj, positive_at]

theorem gradDown_at : gradDown u W dmid (ix2 r f) = (∑ k : Fin 1024, dmid (ix2 r k) * W (ix2 f k)) * (two * max (u (ix2 r f)) 0) := by
  pointwise [gradDown, positive_at]
  split_ifs with h
  · rfl
  · rw [max_eq_right (not_lt.mp h), mul_zero, mul_zero]

theorem gradUp_at : gradUp du U (ix2 r k) = ∑ f : Fin 4096, du (ix2 r f) * U (ix2 k f) := by
  pointwise [gradUp]

/-! ## The results -/

section Results

open Cert.MlpGrad

variable (m : (ℓ : Loc nD τ sig) → Buf (Elt Ideal) ℓ) (c : Dev nD)

abbrev DXO (r : Fin 8192) (k : Fin 1024) : EReal := m ((c.tc : Thread nD τ).loc main_arg0) (ix2 r k)
abbrev X (r : Fin 8192) (k : Fin 1024) : EReal := m ((c.tc : Thread nD τ).loc main_arg1) (ix2 r k)
abbrev GP (k : Fin 1024) : EReal := m ((c.tc : Thread nD τ).loc main_arg2) (ix2 0 k)
abbrev UP (k : Fin 1024) (f : Fin 4096) : EReal := m ((c.tc : Thread nD τ).loc main_arg3) (ix2 k f)
abbrev WD (f : Fin 4096) (k : Fin 1024) : EReal := m ((c.tc : Thread nD τ).loc main_arg4) (ix2 f k)
abbrev GQ (k : Fin 1024) : EReal := m ((c.tc : Thread nD τ).loc main_arg5) (ix2 0 k)

def hV : FVec Ideal S8192x1024 .f32 := mulf (normal (m ((c.tc : Thread nD τ).loc main_arg1))) (gain (m ((c.tc : Thread nD τ).loc main_arg2)))
def upV : FVec Ideal S8192x4096 .f32 := upProj (hV m c) (m ((c.tc : Thread nD τ).loc main_arg3))
def midV : FVec Ideal S8192x1024 .f32 := downProj (upV m c) (m ((c.tc : Thread nD τ).loc main_arg4))
def dmV : FVec Ideal S8192x1024 .f32 := gradRows (midV m c) (mulf (m ((c.tc : Thread nD τ).loc main_arg0)) (gain (m ((c.tc : Thread nD τ).loc main_arg5))))
def dupV : FVec Ideal S8192x4096 .f32 := gradDown (upV m c) (m ((c.tc : Thread nD τ).loc main_arg4)) (dmV m c)
def dhV : FVec Ideal S8192x1024 .f32 := gradUp (dupV m c) (m ((c.tc : Thread nD τ).loc main_arg3))
def dxV : FVec Ideal S8192x1024 .f32 :=
  addf (m ((c.tc : Thread nD τ).loc main_arg0)) (gradRows (m ((c.tc : Thread nD τ).loc main_arg1)) (mulf (dhV m c) (gain (m ((c.tc : Thread nD τ).loc main_arg2)))))
def sumsV : FVec Ideal S8x1024 .f32 :=
  concatenate S8x1024 0 [⟨S1x1024, gradGain (midV m c) (m ((c.tc : Thread nD τ).loc main_arg0))⟩, ⟨S1x1024, gradGain (m ((c.tc : Thread nD τ).loc main_arg1)) (dhV m c)⟩,
    ⟨S6x1024, broadcastInDim S6x1024 ![] bcast_S_S6x1024 (constant S_ .f32 0x00000000#32)⟩] concatenates_S1x1024_S1x1024_S6x1024_S8x1024_d0

theorem hV_at (r : Fin 8192) (k : Fin 1024) : hV m c (ix2 r k) = MlpGrad.h (X m c) (GP m c) r k := by
  pointwise [hV, normal_at, gain_at, MlpGrad.h]

theorem upV_at (r : Fin 8192) (f : Fin 4096) : upV m c (ix2 r f) = up (X m c) (GP m c) (UP m c) r f := by
  simp only [upV, upProj_at, hV_at]; rfl

theorem midV_at (r : Fin 8192) (k : Fin 1024) : midV m c (ix2 r k) = mid (X m c) (GP m c) (UP m c) (WD m c) r k := by
  simp only [midV, downProj_at, upV_at]; rfl

theorem dmV_at (r : Fin 8192) (k : Fin 1024) : dmV m c (ix2 r k) = dm (DXO m c) (X m c) (GP m c) (GQ m c) (UP m c) (WD m c) r k := by
  simp only [dmV, gradRows_at, midV_at]
  pointwise [gain_at, dm]

theorem dupV_at (r : Fin 8192) (f : Fin 4096) : dupV m c (ix2 r f) = dup (DXO m c) (X m c) (GP m c) (GQ m c) (UP m c) (WD m c) r f := by
  simp only [dupV, gradDown_at, dmV_at, upV_at]; rfl

theorem dhV_at (r : Fin 8192) (k : Fin 1024) : dhV m c (ix2 r k) = dh (DXO m c) (X m c) (GP m c) (GQ m c) (UP m c) (WD m c) r k := by
  simp only [dhV, gradUp_at, dupV_at]; rfl

theorem dxV_at (r : Fin 8192) (k : Fin 1024) : dxV m c (ix2 r k) = dx (DXO m c) (X m c) (GP m c) (GQ m c) (UP m c) (WD m c) r k := by
  pointwise [dxV, gradRows_at, gain_at, dhV_at, dx]

theorem sumsV_at (a : Fin 8) (k : Fin 1024) : sumsV m c (ix2 a k) = sums (DXO m c) (X m c) (GP m c) (GQ m c) (UP m c) (WD m c) a k := by
  fin_cases a <;> pointwise [sumsV, gradGain_at, midV_at, dhV_at, sums, dgPost, dgPre]

theorem res0_eq : Value.res_out0 m c = dxV m c := by
  unfold Value.res_out0 Value.res_main_v84; rfl

theorem res2_eq : Value.res_out2 m c = truncf .bf16 (dmV m c) bitsLt_bf16_f32 := by
  unfold Value.res_out2 Value.res_main_v86; rfl

theorem res3_eq : Value.res_out3 m c = truncf .bf16 (dupV m c) bitsLt_bf16_f32 := by
  unfold Value.res_out3 Value.res_main_v87; rfl

theorem res4_eq : Value.res_out4 m c = sumsV m c := by
  unfold Value.res_out4 Value.res_main_v83; rfl

end Results

end Cert.ReferenceIdeal.Stages

end
-- ==== Proof.MlpEquation.lean ====
/- The gradient kernel's results are the reference's: both are the formulas of `MlpGrad` over equal arguments. -/
module

public import proofs.«01_k».proof.Proof.MlpFinal
public import proofs.«01_k».proof.Proof.MlpSums
public import proofs.«01_k».proof.Proof.MlpReference

@[expose] public section

noncomputable section

open Idealize.ShloMosaic Idealize.ShloMosaic.TcCoe Idealize.SL.Sem

namespace Cert.MlpEquation

open Cert Cert.KernelIdeal.Gen Cert.ReferenceIdeal.Gen

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))
  (h3 : m' ((c.tc : Thread ReferenceIdeal.nD ReferenceIdeal.τ).loc ReferenceIdeal.main_arg3) = m ((c.tc : Thread KernelIdeal.nD KernelIdeal.τ).loc KernelIdeal.main_arg3))
  (h4 : m' ((c.tc : Thread ReferenceIdeal.nD ReferenceIdeal.τ).loc ReferenceIdeal.main_arg4) = m ((c.tc : Thread KernelIdeal.nD KernelIdeal.τ).loc KernelIdeal.main_arg4))
  (h5 : m' ((c.tc : Thread ReferenceIdeal.nD ReferenceIdeal.τ).loc ReferenceIdeal.main_arg5) = m ((c.tc : Thread KernelIdeal.nD KernelIdeal.τ).loc KernelIdeal.main_arg5))
include h0 h1 h2 h3 h4 h5

/-- The two argument arrays read the same. -/
theorem args_eq :
    ReferenceIdeal.Stages.DXO m' c = KernelIdeal.Arrays.DXO m c
    ∧ ReferenceIdeal.Stages.X m' c = KernelIdeal.Arrays.X m c
    ∧ ReferenceIdeal.Stages.GP m' c = KernelIdeal.Arrays.GP m c
    ∧ ReferenceIdeal.Stages.UP m' c = KernelIdeal.Arrays.U m c
    ∧ ReferenceIdeal.Stages.WD m' c = KernelIdeal.Arrays.W m c
    ∧ ReferenceIdeal.Stages.GQ m' c = KernelIdeal.Arrays.GQ m c :=
  ⟨by funext r k; exact congrFun h0 _,
    by funext r k; exact congrFun h1 _,
    by funext k; exact congrFun h2 _,
    by funext k f; exact congrFun h3 _,
    by funext f k; exact congrFun h4 _,
    by funext k; exact congrFun h5 _⟩

/-- The gradient at the sub-layer's input. -/
theorem result0 : ReferenceIdeal.Value.res_out0 m' c = (KernelIdeal.Gen.dats m 0 c).arrAt 8 KernelIdeal.cfg0.N := by
  obtain ⟨e0, e1, e2, e3, e4, e5⟩ := args_eq m m' c h0 h1 h2 h3 h4 h5
  rw [ReferenceIdeal.Stages.res0_eq, KernelIdeal.Arrays.final8]
  funext y
  idx_vars y
  refine (ReferenceIdeal.Stages.dxV_at m' c y0 y1).trans ?_
  rw [e0, e1, e2, e3, e4, e5]

/-- The normalised input. -/
theorem result1 : truncf .bf16 (ReferenceIdeal.Stages.hV m' c) (by decide) = (KernelIdeal.Gen.dats m 0 c).arrAt 9 KernelIdeal.cfg0.N := by
  obtain ⟨e0, e1, e2, e3, e4, e5⟩ := args_eq m m' c h0 h1 h2 h3 h4 h5
  rw [KernelIdeal.Arrays.final9]
  funext y
  idx_vars y
  refine (ReferenceIdeal.Stages.hV_at m' c y0 y1).trans ?_
  rw [e1, e2]

/-- The gradient at the down projection's output. -/
theorem result2 : ReferenceIdeal.Value.res_out2 m' c = (KernelIdeal.Gen.dats m 0 c).arrAt 10 KernelIdeal.cfg0.N := by
  obtain ⟨e0, e1, e2, e3, e4, e5⟩ := args_eq m m' c h0 h1 h2 h3 h4 h5
  rw [ReferenceIdeal.Stages.res2_eq, KernelIdeal.Arrays.final10]
  funext y
  idx_vars y
  refine (ReferenceIdeal.Stages.dmV_at m' c y0 y1).trans ?_
  rw [e0, e1, e2, e3, e4, e5]

/-- The gradient at the hidden layer. -/
theorem result3 : ReferenceIdeal.Value.res_out3 m' c = (KernelIdeal.Gen.dats m 0 c).arrAt 11 KernelIdeal.cfg0.N := by
  obtain ⟨e0, e1, e2, e3, e4, e5⟩ := args_eq m m' c h0 h1 h2 h3 h4 h5
  rw [ReferenceIdeal.Stages.res3_eq, KernelIdeal.Arrays.final11]
  funext y
  idx_vars y
  refine (ReferenceIdeal.Stages.dupV_at m' c y0 y1).trans ?_
  rw [e0, e1, e2, e3, e4, e5]

/-- The gains' gradients. -/
theorem result4 : ReferenceIdeal.Value.res_out4 m' c = (KernelIdeal.Gen.dats m 0 c).arrAt 12 KernelIdeal.cfg0.N := by
  obtain ⟨e0, e1, e2, e3, e4, e5⟩ := args_eq m m' c h0 h1 h2 h3 h4 h5
  rw [ReferenceIdeal.Stages.res4_eq, KernelIdeal.Arrays.final12]
  funext y
  idx_vars y
  refine (ReferenceIdeal.Stages.sumsV_at m' c y0 y1).trans ?_
  rw [e0, e1, e2, e3, e4, e5]

end Cert.MlpEquation

end
-- ==== Proof.UpWeights.lean ====
/- The gradient of the up projection's weight: the kernel adds the products of two halves of the rows in a carried block, for
   each slice of 512 columns, and its result array is the whole sum over rows; so is the reference's. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel2Ideal.Arrays

open Cert.Kernel2Ideal Cert.Kernel2Ideal.Gen

variable (m : (ℓ : Loc nD τ sig) → Buf (Elt Ideal) ℓ) (c : Dev nD)

/-- The normalised input and the gradient at the hidden layer. -/
abbrev H (r : Fin 8192) (k : Fin 1024) : EReal := m ((c : Thread nD τ).loc main_arg0) (ix2 r k)
abbrev DU (r : Fin 8192) (f : Fin 4096) : EReal := m ((c : Thread nD τ).loc main_arg1) (ix2 r f)

theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The array row and the array column of a grid point's blocks. -/
def row (t : Fin cfg0.N) (i : Fin 4096) : Fin 8192 := ⟨t.val % 2 * 4096 + i.val, by omega⟩
def col (t : Fin cfg0.N) (f : Fin 512) : Fin 4096 := ⟨t.val / 2 * 512 + f.val, by have := lt_of_lt_of_eq t.isLt N_0; omega⟩

theorem left_at (r : Fin 8192) (k : Fin 1024) : (V m c main_v0 : FVec Ideal S8192x1024 .bf16) (ix2 r k) = H m c r k := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem right_at (r : Fin 8192) (f : Fin 4096) : (V m c main_v1 : FVec Ideal S8192x4096 .bf16) (ix2 r f) = DU m c r f := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (i : Fin 4096) (k : Fin 1024) :
    (iblk m c 0 t : FVec Ideal S4096x1024 .bf16) (ix2 i k) = H m c (row t i) k := by
  rw [← left_at]
  blk_ext [iblk, idx t, row]

theorem blk1 (t : Fin cfg0.N) (i : Fin 4096) (f : Fin 512) :
    (iblk m c 1 t : FVec Ideal S4096x512 .bf16) (ix2 i f) = DU m c (row t i) (col t f) := by
  rw [← right_at]
  blk_ext [iblk, idx t, row, col]

/-- The product over one half of the rows. -/
def part (t : Fin cfg0.N) (k : Fin 1024) (f : Fin 512) : EReal := ∑ i : Fin 4096, H m c (row t i) k * DU m c (row t i) (col t f)

/-- The first half is stored. -/
theorem first (t : Fin cfg0.N) (h : t.val % 2 = 0) (k : Fin 1024) (f : Fin 512) :
    (outsAt0 m c t.val t.isLt).2 (ix2 k f) = part m c t k f := by
  rw [outsAt0_A m c t h (by omega) (by omega)]
  frame_out
  pointwise [k0_pay2, k0_pay1, blk0, blk1]
  rfl

/-- The second half is added, and the sum goes out. -/
theorem second (t : Fin cfg0.N) (h : t.val % 2 = 1) (k : Fin 1024) (f : Fin 512) :
    (outsAt0 m c t.val t.isLt).1 (ix3 0 k f)
    = (outsAt0 m c (t.val - 1) (Nat.lt_of_le_of_lt (Nat.sub_le _ _) t.isLt)).2 (ix2 k f) + part m c t k f := by
  rw [outsAt0_B m c t (by omega) h h]
  frame_open
  simp (disch := decide) only [↓ View.readCov_skip, ↓ View.readCov_cons_toLoadRect, ↓ View.readCov_fill]
  frame_out
  pointwise [k0_pay4, k0_pay3, k0_pay1, blk0, blk1]
  rw [read_unread_whole]
  rfl

/-- A sum over the rows is the sum over the two halves. -/
theorem halves (f : Fin 8192 → EReal) (t : Fin cfg0.N) (h : t.val % 2 = 1) (h' : t.val - 1 < cfg0.N) :
    ∑ i : Fin 4096, f (row ⟨t.val - 1, h'⟩ i) + ∑ i : Fin 4096, f (row t i) = ∑ r, f r := by
  rw [Fin.sum_univ_tiles 2 4096 rfl, Fin.sum_univ_two]
  refine congrArg₂ (· + ·) (Finset.sum_congr rfl fun i _ => congrArg f (Fin.ext ?_)) (Finset.sum_congr rfl fun i _ => congrArg f (Fin.ext ?_))
  · show (t.val - 1) % 2 * 4096 + i.val = 0 * 4096 + i.val; omega
  · show t.val % 2 * 4096 + i.val = 1 * 4096 + i.val; omega

/-- What goes out of the last point of a slice. -/
theorem out (t : Fin cfg0.N) (h : t.val % 2 = 1) (k : Fin 1024) (f : Fin 512) :
    (outsAt0 m c t.val t.isLt).1 (ix3 0 k f) = ∑ r, H m c r k * DU m c r (col t f) := by
  have h' : t.val - 1 < cfg0.N := Nat.lt_of_le_of_lt (Nat.sub_le _ _) t.isLt
  rw [second m c t h, first m c ⟨t.val - 1, h'⟩ (by show (t.val - 1) % 2 = 0; omega), ← halves (fun r => H m c r k * DU m c r (col t f)) t h h']
  have hc : col ⟨t.val - 1, h'⟩ f = col t f := Fin.ext (by show (t.val - 1) / 2 * 512 + f.val = t.val / 2 * 512 + f.val; omega)
  unfold part
  rw [hc]

/-- The weight's gradient, by slices of columns. -/
def grad (s : Fin 8) (k : Fin 1024) (f : Fin 512) : EReal := ∑ r, H m c r k * DU m c r ⟨s.val * 512 + f.val, by omega⟩

theorem final2 : (dats m 0 c).arrAt 2 cfg0.N = fun i => grad m c (i 0) (i 1) (i 2) := by
  refine (dats m 0 c).arrAt_eq_of_covers 2 _ (by decide +kernel) fun t hf y => ?_
  blk_simp
  rw [after0_2]
  have ht := (flush0_2 t).mp hf
  idx_vars y
  obtain rfl : y0 = 0 := Subsingleton.elim _ _
  refine (out m c t ht y1 y2).trans ?_
  unfold grad
  refine Finset.sum_congr rfl fun r _ => congrArg₂ (fun a b => H m c r a * DU m c r b) (Fin.ext ?_) (Fin.ext ?_) <;> blk_simp [idx t, col] <;> try rfl

end Cert.Kernel2Ideal.Arrays

namespace Cert.UpWeights

open Cert Cert.Reference2Ideal Cert.Reference2Ideal.Gen Idealize.ShloMosaic.StableHlo

variable (m : (ℓ : Loc Kernel2Ideal.nD Kernel2Ideal.τ Kernel2Ideal.sig) → Buf (Elt Ideal) ℓ)
  (m' : (ℓ : Loc nD τ sig) → Buf (Elt Ideal) ℓ) (c : Dev nD)
  (h0 : m' ((c.tc : Thread nD τ).loc main_arg0) = m ((c.tc : Thread Kernel2Ideal.nD Kernel2Ideal.τ).loc Kernel2Ideal.main_arg0))
  (h1 : m' ((c.tc : Thread nD τ).loc main_arg1) = m ((c.tc : Thread Kernel2Ideal.nD Kernel2Ideal.τ).loc Kernel2Ideal.main_arg1))
include h0 h1

/-- The two programs' weight gradients are equal. -/
theorem result : truncf (F := Ideal) .bf16 (transpose S8x1024x512 [1, 0, 2] (shapeCast _ (transpose S1024x4096 [1, 0] (Host.dotGeneral dot_S8192x4096_S8192x1024_S4096x1024_0_0_1_1_n_n none (φ₁ := .f32) (φ₂ := .f32) (m' ((c.tc : Thread nD τ).loc main_arg1)) (m' ((c.tc : Thread nD τ).loc main_arg0))) transposes_S4096x1024_S1024x4096_1_0) shapeCasts_S1024x4096_S1024x8x512) transposes_S1024x8x512_S8x1024x512_1_0_2) bitsLt_bf16_f32
    = (Kernel2Ideal.Gen.dats m 0 c).arrAt 2 Kernel2Ideal.cfg0.N := by
  rw [Kernel2Ideal.Arrays.final2, h0, h1]
  funext y
  idx_vars y
  pointwise [Kernel2Ideal.Arrays.grad]
  exact Finset.sum_congr rfl fun r _ => mul_comm _ _

end Cert.UpWeights

end
-- ==== Proof.DownWeights.lean ====
/- The gradient of the down projection's weight: the kernel squares the positive part of the saved hidden layer, adds the products of two halves of the rows in a carried block, for
   each slice of 512 rows, and its result array is the whole sum over rows; so is the reference's. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel3Ideal.Arrays

open Cert.Kernel3Ideal Cert.Kernel3Ideal.Gen

variable (m : (ℓ : Loc nD τ sig) → Buf (Elt Ideal) ℓ) (c : Dev nD)

/-- The saved hidden layer, the gradient at the block's product, and the hidden layer after its activation. -/
abbrev U (r : Fin 8192) (f : Fin 4096) : EReal := m ((c : Thread nD τ).loc main_arg0) (ix2 r f)
abbrev DM (r : Fin 8192) (k : Fin 1024) : EReal := m ((c : Thread nD τ).loc main_arg1) (ix2 r k)
def Act (r : Fin 8192) (f : Fin 4096) : EReal := max (U m c r f) 0 * max (U m c r f) 0

theorem idx : ∀ t : Fin cfg0.N, win0_0.index t = ![t.val % 2, t.val / 2] ∧ win0_1.index t = ![t.val % 2, 0] ∧ win0_2.index t = ![t.val / 2, 0, 0] :=
  (by decide +kernel : ∀ t : Fin grid0.N, _)

/-- The array row and the array column of a grid point's blocks. -/
def row (t : Fin cfg0.N) (i : Fin 4096) : Fin 8192 := ⟨t.val % 2 * 4096 + i.val, by omega⟩
def col (t : Fin cfg0.N) (f : Fin 512) : Fin 4096 := ⟨t.val / 2 * 512 + f.val, by have := lt_of_lt_of_eq t.isLt N_0; omega⟩

theorem left_at (r : Fin 8192) (f : Fin 4096) : (V m c main_v0 : FVec Ideal S8192x4096 .bf16) (ix2 r f) = U m c r f := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem right_at (r : Fin 8192) (k : Fin 1024) : (V m c main_v1 : FVec Ideal S8192x1024 .bf16) (ix2 r k) = DM m c r k := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (i : Fin 4096) (f : Fin 512) :
    (iblk m c 0 t : FVec Ideal S4096x512 .bf16) (ix2 i f) = U m c (row t i) (col t f) := by
  rw [← left_at]
  blk_ext [iblk, idx t, row, col]

theorem blk1 (t : Fin cfg0.N) (i : Fin 4096) (k : Fin 1024) :
    (iblk m c 1 t : FVec Ideal S4096x1024 .bf16) (ix2 i k) = DM m c (row t i) k := by
  rw [← right_at]
  blk_ext [iblk, idx t, row]

/-- The product over one half of the rows. -/
def part (t : Fin cfg0.N) (f : Fin 512) (k : Fin 1024) : EReal := ∑ i : Fin 4096, Act m c (row t i) (col t f) * DM m c (row t i) k

/-- The first half is stored. -/
theorem first (t : Fin cfg0.N) (h : t.val % 2 = 0) (f : Fin 512) (k : Fin 1024) :
    (outsAt0 m c t.val t.isLt).2 (ix2 f k) = part m c t f k := by
  rw [outsAt0_A m c t h (by omega) (by omega)]
  frame_out
  pointwise [k0_pay2, k0_pay1, blk0, blk1]
  rfl

/-- The second half is added, and the sum goes out. -/
theorem second (t : Fin cfg0.N) (h : t.val % 2 = 1) (f : Fin 512) (k : Fin 1024) :
    (outsAt0 m c t.val t.isLt).1 (ix3 0 f k)
    = (outsAt0 m c (t.val - 1) (Nat.lt_of_le_of_lt (Nat.sub_le _ _) t.isLt)).2 (ix2 f k) + part m c t f k := by
  rw [outsAt0_B m c t (by omega) h h]
  frame_open
  simp (disch := decide) only [↓ View.readCov_skip, ↓ View.readCov_cons_toLoadRect, ↓ View.readCov_fill]
  frame_out
  pointwise [k0_pay4, k0_pay3, k0_pay1, blk0, blk1]
  rw [read_unread_whole]
  rfl

/-- A sum over the rows is the sum over the two halves. -/
theorem halves (f : Fin 8192 → EReal) (t : Fin cfg0.N) (h : t.val % 2 = 1) (h' : t.val - 1 < cfg0.N) :
    ∑ i : Fin 4096, f (row ⟨t.val - 1, h'⟩ i) + ∑ i : Fin 4096, f (row t i) = ∑ r, f r := by
  rw [Fin.sum_univ_tiles 2 4096 rfl, Fin.sum_univ_two]
  refine congrArg₂ (· + ·) (Finset.sum_congr rfl fun i _ => congrArg f (Fin.ext ?_)) (Finset.sum_congr rfl fun i _ => congrArg f (Fin.ext ?_))
  · show (t.val - 1) % 2 * 4096 + i.val = 0 * 4096 + i.val; omega
  · show t.val % 2 * 4096 + i.val = 1 * 4096 + i.val; omega

/-- What goes out of the last point of a slice. -/
theorem out (t : Fin cfg0.N) (h : t.val % 2 = 1) (f : Fin 512) (k : Fin 1024) :
    (outsAt0 m c t.val t.isLt).1 (ix3 0 f k) = ∑ r, Act m c r (col t f) * DM m c r k := by
  have h' : t.val - 1 < cfg0.N := Nat.lt_of_le_of_lt (Nat.sub_le _ _) t.isLt
  rw [second m c t h, first m c ⟨t.val - 1, h'⟩ (by show (t.val - 1) % 2 = 0; omega), ← halves (fun r => Act m c r (col t f) * DM m c r k) t h h']
  have hc : col ⟨t.val - 1, h'⟩ f = col t f := Fin.ext (by show (t.val - 1) / 2 * 512 + f.val = t.val / 2 * 512 + f.val; omega)
  unfold part
  rw [hc]

/-- The weight's gradient, by slices of rows. -/
def grad (s : Fin 8) (f : Fin 512) (k : Fin 1024) : EReal := ∑ r, Act m c r ⟨s.val * 512 + f.val, by omega⟩ * DM m c r k

theorem final2 : (dats m 0 c).arrAt 2 cfg0.N = fun i => grad m c (i 0) (i 1) (i 2) := by
  refine (dats m 0 c).arrAt_eq_of_covers 2 _ (by decide +kernel) fun t hf y => ?_
  blk_simp
  rw [after0_2]
  have ht := (flush0_2 t).mp hf
  idx_vars y
  obtain rfl : y0 = 0 := Subsingleton.elim _ _
  refine (out m c t ht y1 y2).trans ?_
  unfold grad
  refine Finset.sum_congr rfl fun r _ => congrArg₂ (fun a b => Act m c r a * DM m c r b) (Fin.ext ?_) (Fin.ext ?_) <;> blk_simp [idx t, col] <;> try rfl

end Cert.Kernel3Ideal.Arrays

namespace Cert.DownWeights

open Cert Cert.Reference3Ideal Cert.Reference3Ideal.Gen Idealize.ShloMosaic.StableHlo

variable (m : (ℓ : Loc Kernel3Ideal.nD Kernel3Ideal.τ Kernel3Ideal.sig) → Buf (Elt Ideal) ℓ)
  (m' : (ℓ : Loc nD τ sig) → Buf (Elt Ideal) ℓ) (c : Dev nD)
  (h0 : m' ((c.tc : Thread nD τ).loc main_arg0) = m ((c.tc : Thread Kernel3Ideal.nD Kernel3Ideal.τ).loc Kernel3Ideal.main_arg0))
  (h1 : m' ((c.tc : Thread nD τ).loc main_arg1) = m ((c.tc : Thread Kernel3Ideal.nD Kernel3Ideal.τ).loc Kernel3Ideal.main_arg1))
include h0 h1

/-- The two programs' weight gradients are equal. -/
theorem result : truncf (F := Ideal) .bf16 (shapeCast _ (transpose S4096x1024 [1, 0] (Host.dotGeneral dot_S8192x1024_S8192x4096_S1024x4096_0_0_1_1_n_n none (φ₁ := .f32) (φ₂ := .f32) (m' ((c.tc : Thread nD τ).loc main_arg1)) (mulf (maximumf (m' ((c.tc : Thread nD τ).loc main_arg0)) (broadcastInDim S8192x4096 ![] bcast_S_S8192x4096 (constant S_ .f32 0x00000000#32))) (maximumf (m' ((c.tc : Thread nD τ).loc main_arg0)) (broadcastInDim S8192x4096 ![] bcast_S_S8192x4096 (constant S_ .f32 0x00000000#32))))) transposes_S1024x4096_S4096x1024_1_0) shapeCasts_S4096x1024_S8x512x1024) bitsLt_bf16_f32
    = (Kernel3Ideal.Gen.dats m 0 c).arrAt 2 Kernel3Ideal.cfg0.N := by
  rw [Kernel3Ideal.Arrays.final2, h0, h1]
  funext y
  idx_vars y
  pointwise [Kernel3Ideal.Arrays.grad, Kernel3Ideal.Arrays.Act]
  exact Finset.sum_congr rfl fun r _ => mul_comm _ _

end Cert.DownWeights

end
-- ==== Proof.SquareWeights.lean ====
/- The gradient of a square weight: the kernel adds the products of four quarters of the rows in a carried block, and its
   result array is the whole sum over rows; so is the reference's. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel4Ideal.Arrays

open Cert.Kernel4Ideal Cert.Kernel4Ideal.Gen

variable (m : (ℓ : Loc nD τ sig) → Buf (Elt Ideal) ℓ) (c : Dev nD)

/-- The normalised input and the gradient at the product. -/
abbrev H (r : Fin 8192) (k : Fin 1024) : EReal := m ((c : Thread nD τ).loc main_arg0) (ix2 r k)
abbrev DQ (r : Fin 8192) (f : Fin 1024) : EReal := m ((c : Thread nD τ).loc main_arg1) (ix2 r f)

theorem idx : ∀ t : Fin cfg0.N, win0_0.index t = ![t.val, 0] ∧ win0_1.index t = ![t.val, 0] ∧ win0_2.index t = ![0, 0, 0] :=
  (by decide +kernel : ∀ t : Fin grid0.N, _)

/-- The array row of a grid point's blocks. -/
def row (t : Fin cfg0.N) (i : Fin 2048) : Fin 8192 := ⟨t.val * 2048 + i.val, by have := lt_of_lt_of_eq t.isLt N_0; omega⟩

theorem left_at (r : Fin 8192) (k : Fin 1024) : (V m c main_v0 : FVec Ideal S8192x1024 .bf16) (ix2 r k) = H m c r k := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem right_at (r : Fin 8192) (f : Fin 1024) : (V m c main_v1 : FVec Ideal S8192x1024 .bf16) (ix2 r f) = DQ m c r f := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (i : Fin 2048) (k : Fin 1024) :
    (iblk m c 0 t : FVec Ideal S2048x1024 .bf16) (ix2 i k) = H m c (row t i) k := by
  rw [← left_at]
  blk_ext [iblk, idx t, row]

theorem blk1 (t : Fin cfg0.N) (i : Fin 2048) (f : Fin 1024) :
    (iblk m c 1 t : FVec Ideal S2048x1024 .bf16) (ix2 i f) = DQ m c (row t i) f := by
  rw [← right_at]
  blk_ext [iblk, idx t, row]

/-- The product over one quarter of the rows. -/
def part (t : Fin cfg0.N) (k f : Fin 1024) : EReal := ∑ i : Fin 2048, H m c (row t i) k * DQ m c (row t i) f

/-- The first quarter is stored. -/
theorem first (t : Fin cfg0.N) (h : t.val = 0) (k f : Fin 1024) :
    (outsAt0 m c t.val t.isLt).2 (ix2 k f) = part m c t k f := by
  rw [outsAt0_A m c t (by omega) (by omega) (by omega)]
  frame_out
  pointwise [k0_pay2, k0_pay1, blk0, blk1]
  rfl

/-- The next two are added. -/
theorem middle (t : Fin cfg0.N) (h : 1 ≤ t.val) (h2 : t.val ≤ 2) (k f : Fin 1024) :
    (outsAt0 m c t.val t.isLt).2 (ix2 k f)
    = (outsAt0 m c (t.val - 1) (Nat.lt_of_le_of_lt (Nat.sub_le _ _) t.isLt)).2 (ix2 k f) + part m c t k f := by
  rw [outsAt0_B m c t (by omega) h (by omega)]
  frame_out
  pointwise [k0_pay3, k0_pay1, blk0, blk1]
  rw [read_unread_whole]
  rfl

/-- The last quarter is added, and the sum goes out. -/
theorem last (t : Fin cfg0.N) (h : t.val = 3) (k f : Fin 1024) :
    (outsAt0 m c t.val t.isLt).1 (ix3 0 k f)
    = (outsAt0 m c (t.val - 1) (Nat.lt_of_le_of_lt (Nat.sub_le _ _) t.isLt)).2 (ix2 k f) + part m c t k f := by
  rw [outsAt0_C m c t (by omega) (by omega) (by omega)]
  frame_open
  simp (disch := decide) only [↓ View.readCov_skip, ↓ View.readCov_cons_toLoadRect, ↓ View.readCov_fill]
  frame_out
  pointwise [k0_pay4, k0_pay3, k0_pay1, blk0, blk1]
  rw [read_unread_whole]
  rfl

/-- What goes out of the last point. -/
theorem out (t : Fin cfg0.N) (h : t.val = 3) (k f : Fin 1024) :
    (outsAt0 m c t.val t.isLt).1 (ix3 0 k f) = ∑ r, H m c r k * DQ m c r f := by
  obtain ⟨n, hn⟩ := t
  obtain rfl : n = 3 := h
  rw [Fin.sum_univ_tiles 4 2048 rfl, Fin.sum_univ_four]
  refine (last m c ⟨3, hn⟩ rfl k f).trans (congrArg₂ (· + ·) ?_ rfl)
  refine (middle m c ⟨2, by omega⟩ (Nat.le_of_ble_eq_true rfl) (Nat.le_of_ble_eq_true rfl) k f).trans (congrArg₂ (· + ·) ?_ rfl)
  refine (middle m c ⟨1, by omega⟩ (Nat.le_of_ble_eq_true rfl) (Nat.le_of_ble_eq_true rfl) k f).trans (congrArg₂ (· + ·) ?_ rfl)
  exact first m c ⟨0, by omega⟩ rfl k f

/-- The weight's gradient. -/
def grad (k f : Fin 1024) : EReal := ∑ r, H m c r k * DQ m c r f

theorem final2 : (dats m 0 c).arrAt 2 cfg0.N = fun i => grad m c (i 1) (i 2) := by
  refine (dats m 0 c).arrAt_eq_of_covers 2 _ (by decide +kernel) fun t hf y => ?_
  blk_simp
  rw [after0_2]
  have ht := (flush0_2 t).mp hf
  have := lt_of_lt_of_eq t.isLt N_0
  idx_vars y
  obtain rfl : y0 = 0 := Subsingleton.elim _ _
  refine (out m c t (by omega) y1 y2).trans ?_
  unfold grad
  refine Finset.sum_congr rfl fun r _ => congrArg₂ (fun a b => H m c r a * DQ m c r b) (Fin.ext ?_) (Fin.ext ?_) <;> blk_simp [idx t] <;> try rfl

end Cert.Kernel4Ideal.Arrays

namespace Cert.SquareWeights

open Cert Cert.Reference4Ideal Cert.Reference4Ideal.Gen Idealize.ShloMosaic.StableHlo

variable (m : (ℓ : Loc Kernel4Ideal.nD Kernel4Ideal.τ Kernel4Ideal.sig) → Buf (Elt Ideal) ℓ)
  (m' : (ℓ : Loc nD τ sig) → Buf (Elt Ideal) ℓ) (c : Dev nD)
  (h0 : m' ((c.tc : Thread nD τ).loc main_arg0) = m ((c.tc : Thread Kernel4Ideal.nD Kernel4Ideal.τ).loc Kernel4Ideal.main_arg0))
  (h1 : m' ((c.tc : Thread nD τ).loc main_arg1) = m ((c.tc : Thread Kernel4Ideal.nD Kernel4Ideal.τ).loc Kernel4Ideal.main_arg1))
include h0 h1

/-- The two programs' weight gradients are equal. -/
theorem result : truncf (F := Ideal) .bf16 (broadcastInDim S1x1024x1024 ![1, 2] bcast_S1024x1024_S1x1024x1024_1_2 (transpose S1024x1024 [1, 0] (Host.dotGeneral dot_S8192x1024_S8192x1024_S1024x1024_0_0_1_1_n_n none (φ₁ := .f32) (φ₂ := .f32) (m' ((c.tc : Thread nD τ).loc main_arg1)) (m' ((c.tc : Thread nD τ).loc main_arg0))) transposes_S1024x1024_S1024x1024_1_0)) bitsLt_bf16_f32
    = (Kernel4Ideal.Gen.dats m 0 c).arrAt 2 Kernel4Ideal.cfg0.N := by
  rw [Kernel4Ideal.Arrays.final2, h0, h1]
  funext y
  idx_vars y
  pointwise [Kernel4Ideal.Arrays.grad]
  exact Finset.sum_congr rfl fun r _ => mul_comm _ _

end Cert.SquareWeights

end
-- ==== Proof.EntranceWeights.lean ====
/- The gradient of the weight at the convolution module's entrance: the kernel adds the products of two halves of the rows in a carried block, for
   each slice of 256 columns, and its result array is the whole sum over rows; so is the reference's. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel5Ideal.Arrays

open Cert.Kernel5Ideal Cert.Kernel5Ideal.Gen

variable (m : (ℓ : Loc nD τ sig) → Buf (Elt Ideal) ℓ) (c : Dev nD)

/-- The normalised input and the gradient at the entrance's product. -/
abbrev H (r : Fin 8192) (k : Fin 1024) : EReal := m ((c : Thread nD τ).loc main_arg0) (ix2 r k)
abbrev DA (r : Fin 8192) (f : Fin 2048) : EReal := m ((c : Thread nD τ).loc main_arg1) (ix2 r f)

theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The array row and the array column of a grid point's blocks. -/
def row (t : Fin cfg0.N) (i : Fin 4096) : Fin 8192 := ⟨t.val % 2 * 4096 + i.val, by omega⟩
def col (t : Fin cfg0.N) (f : Fin 256) : Fin 2048 := ⟨t.val / 2 * 256 + f.val, by have := lt_of_lt_of_eq t.isLt N_0; omega⟩

theorem left_at (r : Fin 8192) (k : Fin 1024) : (V m c main_v0 : FVec Ideal S8192x1024 .bf16) (ix2 r k) = H m c r k := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem right_at (r : Fin 8192) (f : Fin 2048) : (V m c main_v1 : FVec Ideal S8192x2048 .bf16) (ix2 r f) = DA m c r f := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (i : Fin 4096) (k : Fin 1024) :
    (iblk m c 0 t : FVec Ideal S4096x1024 .bf16) (ix2 i k) = H m c (row t i) k := by
  rw [← left_at]
  blk_ext [iblk, idx t, row]

theorem blk1 (t : Fin cfg0.N) (i : Fin 4096) (f : Fin 256) :
    (iblk m c 1 t : FVec Ideal S4096x256 .bf16) (ix2 i f) = DA m c (row t i) (col t f) := by
  rw [← right_at]
  blk_ext [iblk, idx t, row, col]

/-- The product over one half of the rows. -/
def part (t : Fin cfg0.N) (k : Fin 1024) (f : Fin 256) : EReal := ∑ i : Fin 4096, H m c (row t i) k * DA m c (row t i) (col t f)

/-- The first half is stored. -/
theorem first (t : Fin cfg0.N) (h : t.val % 2 = 0) (k : Fin 1024) (f : Fin 256) :
    (outsAt0 m c t.val t.isLt).2 (ix2 k f) = part m c t k f := by
  rw [outsAt0_A m c t h (by omega) (by omega)]
  frame_out
  pointwise [k0_pay2, k0_pay1, blk0, blk1]
  rfl

/-- The second half is added, and the sum goes out. -/
theorem second (t : Fin cfg0.N) (h : t.val % 2 = 1) (k : Fin 1024) (f : Fin 256) :
    (outsAt0 m c t.val t.isLt).1 (ix3 0 k f)
    = (outsAt0 m c (t.val - 1) (Nat.lt_of_le_of_lt (Nat.sub_le _ _) t.isLt)).2 (ix2 k f) + part m c t k f := by
  rw [outsAt0_B m c t (by omega) h h]
  frame_open
  simp (disch := decide) only [↓ View.readCov_skip, ↓ View.readCov_cons_toLoadRect, ↓ View.readCov_fill]
  frame_out
  pointwise [k0_pay4, k0_pay3, k0_pay1, blk0, blk1]
  rw [read_unread_whole]
  rfl

/-- A sum over the rows is the sum over the two halves. -/
theorem halves (f : Fin 8192 → EReal) (t : Fin cfg0.N) (h : t.val % 2 = 1) (h' : t.val - 1 < cfg0.N) :
    ∑ i : Fin 4096, f (row ⟨t.val - 1, h'⟩ i) + ∑ i : Fin 4096, f (row t i) = ∑ r, f r := by
  rw [Fin.sum_univ_tiles 2 4096 rfl, Fin.sum_univ_two]
  refine congrArg₂ (· + ·) (Finset.sum_congr rfl fun i _ => congrArg f (Fin.ext ?_)) (Finset.sum_congr rfl fun i _ => congrArg f (Fin.ext ?_))
  · show (t.val - 1) % 2 * 4096 + i.val = 0 * 4096 + i.val; omega
  · show t.val % 2 * 4096 + i.val = 1 * 4096 + i.val; omega

/-- What goes out of the last point of a slice. -/
theorem out (t : Fin cfg0.N) (h : t.val % 2 = 1) (k : Fin 1024) (f : Fin 256) :
    (outsAt0 m c t.val t.isLt).1 (ix3 0 k f) = ∑ r, H m c r k * DA m c r (col t f) := by
  have h' : t.val - 1 < cfg0.N := Nat.lt_of_le_of_lt (Nat.sub_le _ _) t.isLt
  rw [second m c t h, first m c ⟨t.val - 1, h'⟩ (by show (t.val - 1) % 2 = 0; omega), ← halves (fun r => H m c r k * DA m c r (col t f)) t h h']
  have hc : col ⟨t.val - 1, h'⟩ f = col t f := Fin.ext (by show (t.val - 1) / 2 * 256 + f.val = t.val / 2 * 256 + f.val; omega)
  unfold part
  rw [hc]

/-- The weight's gradient, by slices of columns. -/
def grad (s : Fin 8) (k : Fin 1024) (f : Fin 256) : EReal := ∑ r, H m c r k * DA m c r ⟨s.val * 256 + f.val, by omega⟩

theorem final2 : (dats m 0 c).arrAt 2 cfg0.N = fun i => grad m c (i 0) (i 1) (i 2) := by
  refine (dats m 0 c).arrAt_eq_of_covers 2 _ (by decide +kernel) fun t hf y => ?_
  blk_simp
  rw [after0_2]
  have ht := (flush0_2 t).mp hf
  idx_vars y
  obtain rfl : y0 = 0 := Subsingleton.elim _ _
  refine (out m c t ht y1 y2).trans ?_
  unfold grad
  refine Finset.sum_congr rfl fun r _ => congrArg₂ (fun a b => H m c r a * DA m c r b) (Fin.ext ?_) (Fin.ext ?_) <;> blk_simp [idx t, col] <;> try rfl

end Cert.Kernel5Ideal.Arrays

namespace Cert.EntranceWeights

open Cert Cert.Reference5Ideal Cert.Reference5Ideal.Gen Idealize.ShloMosaic.StableHlo

variable (m : (ℓ : Loc Kernel5Ideal.nD Kernel5Ideal.τ Kernel5Ideal.sig) → Buf (Elt Ideal) ℓ)
  (m' : (ℓ : Loc nD τ sig) → Buf (Elt Ideal) ℓ) (c : Dev nD)
  (h0 : m' ((c.tc : Thread nD τ).loc main_arg0) = m ((c.tc : Thread Kernel5Ideal.nD Kernel5Ideal.τ).loc Kernel5Ideal.main_arg0))
  (h1 : m' ((c.tc : Thread nD τ).loc main_arg1) = m ((c.tc : Thread Kernel5Ideal.nD Kernel5Ideal.τ).loc Kernel5Ideal.main_arg1))
include h0 h1

/-- The two programs' weight gradients are equal. -/
theorem result : truncf (F := Ideal) .bf16 (transpose S8x1024x256 [1, 0, 2] (shapeCast _ (transpose S1024x2048 [1, 0] (Host.dotGeneral dot_S8192x2048_S8192x1024_S2048x1024_0_0_1_1_n_n none (φ₁ := .f32) (φ₂ := .f32) (m' ((c.tc : Thread nD τ).loc main_arg1)) (m' ((c.tc : Thread nD τ).loc main_arg0))) transposes_S2048x1024_S1024x2048_1_0) shapeCasts_S1024x2048_S1024x8x256) transposes_S1024x8x256_S8x1024x256_1_0_2) bitsLt_bf16_f32
    = (Kernel5Ideal.Gen.dats m 0 c).arrAt 2 Kernel5Ideal.cfg0.N := by
  rw [Kernel5Ideal.Arrays.final2, h0, h1]
  funext y
  idx_vars y
  pointwise [Kernel5Ideal.Arrays.grad]
  exact Finset.sum_congr rfl fun r _ => mul_comm _ _

end Cert.EntranceWeights

end
-- ==== Proof.MlpForward.lean ====
/- The forward pass of the MLP sub-layer. -/
module

public import proofs.«01_k».proof.Proof.Gen.Kernel6Ideal.Value
public import proofs.«01_k».proof.Proof.Gen.Reference6Ideal.Run
public import proofs.«01_k».proof.Proof.MlpGrad
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel6Ideal.Arrays

open Cert.Kernel6Ideal Cert.Kernel6Ideal.Gen Cert.RowNorm

variable (m : (ℓ : Loc nD τ sig) → Buf (Elt Ideal) ℓ) (c : Dev nD)

open Cert.MlpGrad

/-- The argument arrays. -/
abbrev X (r : Fin 8192) (k : Fin 1024) : EReal := m ((c : Thread nD τ).loc main_arg0) (ix2 r k)
abbrev GP (k : Fin 1024) : EReal := m ((c : Thread nD τ).loc main_arg1) (ix2 0 k)
abbrev U (k : Fin 1024) (f : Fin 4096) : EReal := m ((c : Thread nD τ).loc main_arg2) (ix2 k f)
abbrev W (f : Fin 4096) (k : Fin 1024) : EReal := m ((c : Thread nD τ).loc main_arg3) (ix2 f k)
abbrev GQ (k : Fin 1024) : EReal := m ((c : Thread nD τ).loc main_arg4) (ix2 0 k)

/-- The sub-layer's result with its residual. -/
def out (r : Fin 8192) (j : Fin 1024) : EReal :=
  X m c r j + mid (X m c) (GP m c) (U m c) (W m c) r j * scale (mid (X m c) (GP m c) (U m c) (W m c) r) * GQ m c j

theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] ∧ win0_6.index t = ![t.val, 0] ∧ win0_7.index t = ![t.val, 0] :=
  (by decide +kernel : ∀ t : Fin grid0.N, _)

/-- The array row of a block's row. -/
def row (t : Fin cfg0.N) (i : Fin 512) : Fin 8192 := ⟨t.val * 512 + i.val, by have := lt_of_lt_of_eq t.isLt N_0; omega⟩

/-- The two projections by slices. -/
theorem wup_at (s : Fin 8) (j : Fin 1024) (f : Fin 512) :
    (V m c main_v2 : FVec Ideal S8x1024x512 .bf16) (ix3 s j f) = U m c j ⟨s.val * 512 + f.val, by omega⟩ := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem wdown_at (s : Fin 8) (f : Fin 512) (k : Fin 1024) :
    (V m c main_v4 : FVec Ideal S8x512x1024 .bf16) (ix3 s f k) = W m c ⟨s.val * 512 + f.val, by omega⟩ k := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (i : Fin 512) (k : Fin 1024) :
    (iblk m c 0 t : FVec Ideal S512x1024 .f32) (ix2 i k) = X m c (row t i) k := by
  blk_ext [iblk, V_main_arg0, idx t, row]

theorem blk1 (t : Fin cfg0.N) (k : Fin 1024) : (iblk m c 1 t : FVec Ideal S1x1024 .f32) (ix2 0 k) = GP m c k := by
  blk_ext [iblk, V_main_arg1, idx t]

theorem blk2 (t : Fin cfg0.N) (s : Fin 8) (j : Fin 1024) (f : Fin 512) :
    (iblk m c 2 t : FVec Ideal S8x1024x512 .bf16) (ix3 s j f) = U m c j ⟨s.val * 512 + f.val, by omega⟩ := by
  rw [← wup_at]
  blk_ext [iblk, idx t]

theorem blk3 (t : Fin cfg0.N) (s : Fin 8) (f : Fin 512) (k : Fin 1024) :
    (iblk m c 3 t : FVec Ideal S8x512x1024 .bf16) (ix3 s f k) = W m c ⟨s.val * 512 + f.val, by omega⟩ k := by
  rw [← wdown_at]
  blk_ext [iblk, idx t]

theorem blk4 (t : Fin cfg0.N) (k : Fin 1024) : (iblk m c 4 t : FVec Ideal S1x1024 .f32) (ix2 0 k) = GQ m c k := by
  blk_ext [iblk, V_main_arg4, idx t]

/-- The normalised input. -/
theorem h_at (t : Fin cfg0.N) (i : Fin 512) (k : Fin 1024) :
    k0_pay2 (F := Ideal) (iblk m c 0 t) (iblk m c 1 t) (ix2 i k) = h (X m c) (GP m c) (row t i) k := by
  pointwise [k0_pay2, blk0, blk1, h, scale, meanSq]

/-- An entry of the hidden layer in slice `s`, which starts at column `o`. -/
theorem up_row (t : Fin cfg0.N) (s : Fin 8) (o : ℕ) (i : Fin 512) (f : Fin 512) (j : Fin 4096) (ho : s.val * 512 = o) (hj : j.val = o + f.val) :
    up (X m c) (GP m c) (U m c) (row t i) j
    = ∑ k : Fin 1024, h (X m c) (GP m c) (row t i) k * (show FVec Ideal S8x1024x512 .bf16 from iblk m c 2 t) (ix3 s k f) := by
  subst ho
  obtain ⟨j, hj'⟩ := j
  obtain rfl : j = s.val * 512 + f.val := hj
  simp only [blk2]
  rfl

/-- The hidden layer: eight stored column tiles. -/
theorem out5 (t : Fin cfg0.N) (y : S512x4096.Idx) :
    out0_5 (iblk m c 0 t) (iblk m c 1 t) (iblk m c 2 t) (iblk m c 3 t) (iblk m c 4 t) y = up (X m c) (GP m c) (U m c) (row t (y 0)) (y 1) := by
  unfold_out out0_5
  frame_out
  canon_tiles x h
  all_goals
    idx_vars x
    idx_vars y
    obtain rfl : y0 = x0 := Fin.ext h0
    first
    | refine Eq.trans ?_ (up_row m c t 0 0 y0 x1 y1 rfl (h1.trans (Nat.zero_add _).symm)).symm
    | refine Eq.trans ?_ (up_row m c t 1 512 y0 x1 y1 rfl h1).symm
    | refine Eq.trans ?_ (up_row m c t 2 1024 y0 x1 y1 rfl h1).symm
    | refine Eq.trans ?_ (up_row m c t 3 1536 y0 x1 y1 rfl h1).symm
    | refine Eq.trans ?_ (up_row m c t 4 2048 y0 x1 y1 rfl h1).symm
    | refine Eq.trans ?_ (up_row m c t 5 2560 y0 x1 y1 rfl h1).symm
    | refine Eq.trans ?_ (up_row m c t 6 3072 y0 x1 y1 rfl h1).symm
    | refine Eq.trans ?_ (up_row m c t 7 3584 y0 x1 y1 rfl h1).symm
    pointwise [k0_pay3, k0_pay4, k0_pay5, k0_pay6, k0_pay7, k0_pay8, k0_pay9, k0_pay10, k0_pay11, k0_pay12, k0_pay13, k0_pay14, k0_pay15, k0_pay16, h_at]

/-- The down projection, slice by slice. -/
theorem mid_row (t : Fin cfg0.N) (i : Fin 512) (j : Fin 1024) :
    mid (X m c) (GP m c) (U m c) (W m c) (row t i) j
    = ∑ s : Fin 8, ∑ f : Fin 512,
        max (∑ k : Fin 1024, h (X m c) (GP m c) (row t i) k * (show FVec Ideal S8x1024x512 .bf16 from iblk m c 2 t) (ix3 s k f)) 0
        * max (∑ k : Fin 1024, h (X m c) (GP m c) (row t i) k * (show FVec Ideal S8x1024x512 .bf16 from iblk m c 2 t) (ix3 s k f)) 0
        * (show FVec Ideal S8x512x1024 .bf16 from iblk m c 3 t) (ix3 s f j) := by
  simp only [blk2, blk3]
  rw [mid, Fin.sum_univ_tiles 8 512 rfl]
  rfl

theorem out6 (t : Fin cfg0.N) (i : Fin 512) (j : Fin 1024) :
    out0_6 (iblk m c 0 t) (iblk m c 1 t) (iblk m c 2 t) (iblk m c 3 t) (iblk m c 4 t) (ix2 i j) = mid (X m c) (GP m c) (U m c) (W m c) (row t i) j := by
  rw [mid_row, Fin.sum_univ_eight]
  unfold_out out0_6
  frame_out
  pointwise [k0_pay3, k0_pay4, k0_pay5, k0_pay6, k0_pay7, k0_pay8, k0_pay9, k0_pay10, k0_pay11, k0_pay12, k0_pay13, k0_pay14, k0_pay15, k0_pay16, h_at]

/-- The last stage, from the product's block. -/
theorem pay1_at (v0 M : FVec Ideal S512x1024 .f32) (g : FVec Ideal S1x1024 .f32) (i : Fin 512) (j : Fin 1024) :
    k0_pay1 v0 M g (ix2 i j) = v0 (ix2 i j) + M (ix2 i j) * scale (fun k => M (ix2 i k)) * g (ix2 0 j) := by
  pointwise [k0_pay1, scale, meanSq]

theorem out7 (t : Fin cfg0.N) (i : Fin 512) (j : Fin 1024) :
    out0_7 (iblk m c 0 t) (iblk m c 1 t) (iblk m c 2 t) (iblk m c 3 t) (iblk m c 4 t) (ix2 i j) = out m c (row t i) j := by
  have key := fun k => out6 m c t i k
  unfold out0_6 at key
  unfold out0_7
  revert key
  frame_out
  intro key
  refine (pay1_at _ _ _ i j).trans ?_
  simp only [key, blk0, blk4]
  rfl

theorem final5 : (dats m 0 c).arrAt 5 cfg0.N = fun i => up (X m c) (GP m c) (U m c) (i 0) (i 1) := by
  refine (dats m 0 c).arrAt_eq_of_covers 5 _ (by decide +kernel) fun t hf y => ?_
  blk_simp
  rw [after0_5]
  refine (out5 m c t y).trans (congrArg₂ (up (X m c) (GP m c) (U m c)) (Fin.ext ?_) (Fin.ext ?_)) <;> blk_simp [idx t, row]

theorem final6 : (dats m 0 c).arrAt 6 cfg0.N = fun i => mid (X m c) (GP m c) (U m c) (W m c) (i 0) (i 1) := by
  refine (dats m 0 c).arrAt_eq_of_covers 6 _ (by decide +kernel) fun t hf y => ?_
  blk_simp
  rw [after0_6]
  idx_vars y
  refine (out6 m c t y0 y1).trans (congrArg₂ (mid (X m c) (GP m c) (U m c) (W m c)) (Fin.ext ?_) (Fin.ext ?_)) <;> blk_simp [idx t, row]

theorem final7 : (dats m 0 c).arrAt 7 cfg0.N = fun i => out m c (i 0) (i 1) := by
  refine (dats m 0 c).arrAt_eq_of_covers 7 _ (by decide +kernel) fun t hf y => ?_
  blk_simp
  rw [after0_7]
  idx_vars y
  refine (out7 m c t y0 y1).trans (congrArg₂ (out m c) (Fin.ext ?_) (Fin.ext ?_)) <;> blk_simp [idx t, row]

end Cert.Kernel6Ideal.Arrays

namespace Cert.MlpForward

open Cert Cert.Reference6Ideal Cert.Reference6Ideal.Gen Idealize.ShloMosaic.StableHlo

variable (m : (ℓ : Loc Kernel6Ideal.nD Kernel6Ideal.τ Kernel6Ideal.sig) → Buf (Elt Ideal) ℓ)
  (m' : (ℓ : Loc nD τ sig) → Buf (Elt Ideal) ℓ) (c : Dev nD)
  (h0 : m' ((c.tc : Thread nD τ).loc main_arg0) = m ((c.tc : Thread Kernel6Ideal.nD Kernel6Ideal.τ).loc Kernel6Ideal.main_arg0))
  (h1 : m' ((c.tc : Thread nD τ).loc main_arg1) = m ((c.tc : Thread Kernel6Ideal.nD Kernel6Ideal.τ).loc Kernel6Ideal.main_arg1))
  (h2 : m' ((c.tc : Thread nD τ).loc main_arg2) = m ((c.tc : Thread Kernel6Ideal.nD Kernel6Ideal.τ).loc Kernel6Ideal.main_arg2))
  (h3 : m' ((c.tc : Thread nD τ).loc main_arg3) = m ((c.tc : Thread Kernel6Ideal.nD Kernel6Ideal.τ).loc Kernel6Ideal.main_arg3))
  (h4 : m' ((c.tc : Thread nD τ).loc main_arg4) = m ((c.tc : Thread Kernel6Ideal.nD Kernel6Ideal.τ).loc Kernel6Ideal.main_arg4))
include h0 h1 h2 h3 h4

/-- The hidden layers are equal. -/
theorem result0 : truncf (F := Ideal) .bf16 (Host.dotGeneral dot_S8192x1024_S1024x4096_S8192x4096_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2))) bitsLt_bf16_f32
    = (Kernel6Ideal.Gen.dats m 0 c).arrAt 5 Kernel6Ideal.cfg0.N := by
  simp only [Kernel6Ideal.Arrays.final5, h0, h1, h2, h3, h4]
  funext y
  idx_vars y
  pointwise [MlpGrad.up, MlpGrad.h, RowNorm.scale, RowNorm.meanSq]

/-- The down projections are equal. -/
theorem result1 : Host.dotGeneral dot_S8192x4096_S4096x1024_S8192x1024_1_0_0_1_n_n none (φ₁ := .f32) (φ₂ := .f32) (mulf (maximumf (Host.dotGeneral dot_S8192x1024_S1024x4096_S8192x4096_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2))) (broadcastInDim S8192x4096 ![] bcast_S_S8192x4096 (constant (F := Ideal) S_ .f32 0x00000000#32))) (maximumf (Host.dotGeneral dot_S8192x1024_S1024x4096_S8192x4096_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2))) (broadcastInDim S8192x4096 ![] bcast_S_S8192x4096 (constant (F := Ideal) S_ .f32 0x00000000#32)))) (m' ((c.tc : Thread nD τ).loc main_arg3))
    = (Kernel6Ideal.Gen.dats m 0 c).arrAt 6 Kernel6Ideal.cfg0.N := by
  simp only [Kernel6Ideal.Arrays.final6, h0, h1, h2, h3, h4]
  funext y
  idx_vars y
  pointwise [MlpGrad.mid, MlpGrad.up, MlpGrad.h, RowNorm.scale, RowNorm.meanSq]

/-- The outputs are equal. -/
theorem result2 : Value.res_main_v29 m' c
    = (Kernel6Ideal.Gen.dats m 0 c).arrAt 7 Kernel6Ideal.cfg0.N := by
  simp only [Kernel6Ideal.Arrays.final7, h0, h1, h2, h3, h4]
  unfold Value.res_main_v29
  simp only [h0, h1, h2, h3, h4]
  funext y
  idx_vars y
  pointwise [Kernel6Ideal.Arrays.out, MlpGrad.mid, MlpGrad.up, MlpGrad.h, RowNorm.scale, RowNorm.meanSq]

end Cert.MlpForward

end
-- ==== Proof.LossMath.lean ====
/- The gradient of half the mean squared error, entry by entry over the extended reals, and the rows of the array that
   collects the sums of the last sub-layer's gradient kernel. -/
module

public import proofs.«01_k».proof.Proof.MlpGrad

@[expose] public section

noncomputable section

namespace Cert.LossGrad

open Idealize.ShloMosaic Cert.RowNorm

/-- The constant one half. -/
abbrev half : EReal := Ideal.ofBits .f32 0x3F000000#32
/-- The constant one. -/
abbrev one : EReal := Ideal.ofBits .f32 0x3F800000#32
/-- The constant `1 / 1024`. -/
abbrev step : EReal := Ideal.ofBits .f32 0x3A800000#32

theorem half_eq : half = ((1 / 2 : ℝ) : EReal) := by
  simp [half, Ideal.ofBits, Ideal.ieee, -EReal.coe_mul]; norm_num

theorem one_eq : one = ((1 : ℝ) : EReal) := by
  simp [one, Ideal.ofBits, Ideal.ieee, -EReal.coe_mul, -EReal.coe_one]; norm_num

theorem step_eq : step = (((1024 : ℝ)⁻¹ : ℝ) : EReal) := by
  simp [step, Ideal.ofBits, Ideal.ieee, -EReal.coe_mul]; norm_num

/-- The derivative of `half · e² / 1024`, as the chain rule writes it, is `e / 1024`. -/
theorem chain_eq (e : EReal) : Ideal.div (half * one) len * (two * e) = e * step := by
  rw [div_len, half_eq, one_eq, two_eq, step_eq, mul_comm e, ← mul_assoc]
  congr 1
  simp only [← EReal.coe_mul]
  norm_num

variable (y t x : Fin 8192 → Fin 1024 → EReal) (gp gq : Fin 1024 → EReal)
  (U : Fin 1024 → Fin 4096 → EReal) (W : Fin 4096 → Fin 1024 → EReal)

/-- The gradient of the loss at the prediction `y` with target `t`. -/
def dxo (r : Fin 8192) (k : Fin 1024) : EReal := (y r k - t r k) * step

/-- The mean squared error of one row. -/
def rowLoss (r : Fin 8192) : EReal := Ideal.div (∑ k, (y r k - t r k) * (y r k - t r k)) len

/-- The loss: half the sum of the rows' mean squared errors. -/
def loss : EReal := half * ∑ r, rowLoss y t r

/-- Half of a sum is the sum of the halves. -/
theorem half_sum {n : ℕ} (f : Fin n → EReal) : ∑ i, half * f i = half * ∑ i, f i := by
  rw [half_eq, mul_comm, ← sum_mul_real f (by norm_num)]
  exact Finset.sum_congr rfl fun i _ => mul_comm _ _

/-- The gains' gradients and the loss as the first rows of one array, zeros below. -/
def sums (a : Fin 8) (k : Fin 1024) : EReal :=
  if a.val = 0 then MlpGrad.dgPost (dxo y t) x gp U W k
  else if a.val = 1 then MlpGrad.dgPre (dxo y t) x gp gq U W k
  else if a.val = 2 then loss y t
  else 0

end Cert.LossGrad

end
-- ==== Proof.LossBlock.lean ====
/- What one grid point of the last sub-layer's gradient kernel computes: every stored entry as a formula over the point's
   input blocks. -/
module

public import proofs.«01_k».proof.Proof.Gen.Kernel7Ideal.Skeleton
public import proofs.«01_k».proof.Proof.LossMath
public import Idealize.ShloMosaic.Lib.Pipeline.ValueKit

@[expose] public section

set_option maxRecDepth 16384

noncomputable section

open Idealize.ShloMosaic Idealize.ShloMosaic.TcCoe Idealize.SL.Sem

namespace Cert.Kernel7Ideal.Block

open Cert.Kernel7Ideal Cert.Kernel7Ideal.Gen Cert.RowNorm Cert.LossGrad

variable (x0 x8 x1 x2 : FVec Ideal S256x1024 .f32) (x3 : FVec Ideal S256x4096 .bf16) (x4 : FVec Ideal S1x1024 .f32)
  (x5 : FVec Ideal S8x1024x512 .bf16) (x6 : FVec Ideal S8x512x1024 .bf16) (x7 : FVec Ideal S1x1024 .f32)

/-- The loss gradient, entry `(i, k)` of the block. -/
theorem dxo_at (i : Fin 256) (k : Fin 1024) : k0_pay2 (F := Ideal) x0 x8 (ix2 i k) = (x0 (ix2 i k) - x8 (ix2 i k)) * step := by
  pointwise [k0_pay2, k0_pay1]

/-- The gradient that enters the down projection, entry `(i, k)` of the block. -/
theorem dm_at (i : Fin 256) (k : Fin 1024) : k0_pay7 (F := Ideal) x0 x8 x1 x7 (ix2 i k)
    = grad (fun k => x1 (ix2 i k)) (fun k => k0_pay2 (F := Ideal) x0 x8 (ix2 i k) * x7 (ix2 0 k)) k := by
  pointwise [k0_pay7, k0_pay5, k0_pay4, k0_pay3, grad, scale, meanSq]

/-- The normalised input row, times the gain. -/
theorem h_at (i : Fin 256) (k : Fin 1024) : k0_pay8 (F := Ideal) x2 x4 (ix2 i k)
    = x2 (ix2 i k) * scale (fun k => x2 (ix2 i k)) * x4 (ix2 0 k) := by
  pointwise [k0_pay8, scale, meanSq]

/-- The column sums of the first gain's gradient over the block's rows. -/
theorem dgpost_at (k : Fin 1024) : k0_pay6 (F := Ideal) x0 x8 x1 (ix2 0 k)
    = ∑ i : Fin 256, k0_pay2 (F := Ideal) x0 x8 (ix2 i k) * (x1 (ix2 i k) * scale (fun k => x1 (ix2 i k))) := by
  pointwise [k0_pay6, k0_pay5, k0_pay4, k0_pay3, scale, meanSq]

/-- What the block's rows add to the loss. -/
theorem loss_at (q : FVec Ideal S1x1024 .f32) (k : Fin 1024) : k0_pay32 (F := Ideal) (k0_pay1 x0 x8) q (ix2 0 k)
    = q (ix2 0 k) + half * ∑ i : Fin 256, Ideal.div (∑ k : Fin 1024, (x0 (ix2 i k) - x8 (ix2 i k)) * (x0 (ix2 i k) - x8 (ix2 i k))) len := by
  pointwise [k0_pay32, k0_pay1]

/-- The sum over slices zero to five of the hidden gradient times the up projection, from the point's input blocks. -/
def fiveSlices (v29 : FVec Ideal S256x1024 .bf16) : FVec Ideal S256x1024 .f32 :=
  k0_pay20 (F := Ideal) v29 (k0_pay16 v29 (k0_pay14 v29 (k0_pay10 v29 (View.ld (Val := Elt Ideal) (S := S8x512x1024) (e' := .bf16) x6 (Rect.unit (s := S8x512x1024) ![0, 0, 0] ![1, 512, 1024] inb_S8x512x1024_S1x512x1024_0_0_0)) (View.ld (Val := Elt Ideal) (S := S256x4096) (e' := .bf16) x3 (Rect.unit (s := S256x4096) ![0, 0] ![256, 512] inb_S256x4096_S256x512_0_0)) (View.ld (Val := Elt Ideal) (S := S8x1024x512) (e' := .bf16) x5 (Rect.unit (s := S8x1024x512) ![0, 0, 0] ![1, 1024, 512] inb_S8x1024x512_S1x1024x512_0_0_0)))
        (k0_pay11 (View.ld (Val := Elt Ideal) (S := S8x512x1024) (e' := .bf16) x6 (Rect.unit (s := S8x512x1024) ![1, 0, 0] ![1, 512, 1024] inb_S8x512x1024_S1x512x1024_1_0_0))) (constant S256x512 .f32 0x00000000#32) (View.ld (Val := Elt Ideal) (S := S256x4096) (e' := .bf16) x3 (Rect.unit (s := S256x4096) ![0, 512] ![256, 512] inb_S256x4096_S256x512_0_512)) (View.ld (Val := Elt Ideal) (S := S8x1024x512) (e' := .bf16) x5 (Rect.unit (s := S8x1024x512) ![1, 0, 0] ![1, 1024, 512] inb_S8x1024x512_S1x1024x512_1_0_0)) (View.ld (Val := Elt Ideal) (S := S8x512x1024) (e' := .bf16) x6 (Rect.unit (s := S8x512x1024) ![2, 0, 0] ![1, 512, 1024] inb_S8x512x1024_S1x512x1024_2_0_0)) (View.ld (Val := Elt Ideal) (S := S256x4096) (e' := .bf16) x3 (Rect.unit (s := S256x4096) ![0, 1024] ![256, 512] inb_S256x4096_S256x512_0_1024)) (View.ld (Val := Elt Ideal) (S := S8x1024x512) (e' := .bf16) x5 (Rect.unit (s := S8x1024x512) ![2, 0, 0] ![1, 1024, 512] inb_S8x1024x512_S1x1024x512_2_0_0)))
      (View.ld (Val := Elt Ideal) (S := S8x512x1024) (e' := .bf16) x6 (Rect.unit (s := S8x512x1024) ![3, 0, 0] ![1, 512, 1024] inb_S8x512x1024_S1x512x1024_3_0_0)) (View.ld (Val := Elt Ideal) (S := S256x4096) (e' := .bf16) x3 (Rect.unit (s := S256x4096) ![0, 1536] ![256, 512] inb_S256x4096_S256x512_0_1536)) (View.ld (Val := Elt Ideal) (S := S8x1024x512) (e' := .bf16) x5 (Rect.unit (s := S8x1024x512) ![3, 0, 0] ![1, 1024, 512] inb_S8x1024x512_S1x1024x512_3_0_0)))
    (k0_pay17 v29 (View.ld (Val := Elt Ideal) (S := S8x512x1024) (e' := .bf16) x6 (Rect.unit (s := S8x512x1024) ![4, 0, 0] ![1, 512, 1024] inb_S8x512x1024_S1x512x1024_4_0_0)) (View.ld (Val := Elt Ideal) (S := S256x4096) (e' := .bf16) x3 (Rect.unit (s := S256x4096) ![0, 2048] ![256, 512] inb_S256x4096_S256x512_0_2048))) (k0_pay18 (View.ld (Val := Elt Ideal) (S := S8x1024x512) (e' := .bf16) x5 (Rect.unit (s := S8x1024x512) ![4, 0, 0] ![1, 1024, 512] inb_S8x1024x512_S1x1024x512_4_0_0))) (constant S256x1024 .f32 0x00000000#32) (View.ld (Val := Elt Ideal) (S := S8x512x1024) (e' := .bf16) x6 (Rect.unit (s := S8x512x1024) ![5, 0, 0] ![1, 512, 1024] inb_S8x512x1024_S1x512x1024_5_0_0)) (View.ld (Val := Elt Ideal) (S := S256x4096) (e' := .bf16) x3 (Rect.unit (s := S256x4096) ![0, 2560] ![256, 512] inb_S256x4096_S256x512_0_2560)) (View.ld (Val := Elt Ideal) (S := S8x1024x512) (e' := .bf16) x5 (Rect.unit (s := S8x1024x512) ![5, 0, 0] ![1, 1024, 512] inb_S8x1024x512_S1x1024x512_5_0_0))

/-- … and the whole sum over the eight slices. -/
abbrev hidden (v29 : FVec Ideal S256x1024 .bf16) : FVec Ideal S256x1024 .f32 :=
  k0_pay23 (F := Ideal) v29 (fiveSlices x3 x5 x6 v29) (k0_pay21 v29 (View.ld (Val := Elt Ideal) (S := S8x512x1024) (e' := .bf16) x6 (Rect.unit (s := S8x512x1024) ![6, 0, 0] ![1, 512, 1024] inb_S8x512x1024_S1x512x1024_6_0_0)) (View.ld (Val := Elt Ideal) (S := S256x4096) (e' := .bf16) x3 (Rect.unit (s := S256x4096) ![0, 3072] ![256, 512] inb_S256x4096_S256x512_0_3072))) (View.ld (Val := Elt Ideal) (S := S8x1024x512) (e' := .bf16) x5 (Rect.unit (s := S8x1024x512) ![6, 0, 0] ![1, 1024, 512] inb_S8x1024x512_S1x1024x512_6_0_0)) (View.ld (Val := Elt Ideal) (S := S8x512x1024) (e' := .bf16) x6 (Rect.unit (s := S8x512x1024) ![7, 0, 0] ![1, 512, 1024] inb_S8x512x1024_S1x512x1024_7_0_0)) (View.ld (Val := Elt Ideal) (S := S256x4096) (e' := .bf16) x3 (Rect.unit (s := S256x4096) ![0, 3584] ![256, 512] inb_S256x4096_S256x512_0_3584)) (View.ld (Val := Elt Ideal) (S := S8x1024x512) (e' := .bf16) x5 (Rect.unit (s := S8x1024x512) ![7, 0, 0] ![1, 1024, 512] inb_S8x1024x512_S1x1024x512_7_0_0))

/-- The gradient below the up projection: the sum over all eight slices of 512 hidden columns. -/
theorem hidden_at (v29 : FVec Ideal S256x1024 .bf16) (i : Fin 256) (j : Fin 1024) : hidden x3 x5 x6 v29 (ix2 i j)
    = ∑ s : Fin 8, ∑ f : Fin 512, (∑ k : Fin 1024, v29 (ix2 i k) * x6 (ix3 s f k))
        * (two * max (x3 (ix2 i ⟨s.val * 512 + f.val, by omega⟩)) 0) * x5 (ix3 s j f) := by
  rw [Fin.sum_univ_eight]
  pointwise [hidden, fiveSlices, k0_pay23, k0_pay20, k0_pay16, k0_pay14, k0_pay9, k0_pay10, k0_pay11, k0_pay12, k0_pay13, k0_pay15, k0_pay17, k0_pay18, k0_pay19, k0_pay21, k0_pay22]

/-- The gradient of the layer's input, entry `(i, j)` of the block. -/
theorem dxi_at (v29 : FVec Ideal S256x1024 .bf16) (i : Fin 256) (j : Fin 1024) :
    k0_pay28 (F := Ideal) (k0_pay2 x0 x8) (k0_pay24 x2) (k0_pay25 x2)
      (k0_pay27 v29 (fiveSlices x3 x5 x6 v29) (k0_pay21 v29 (View.ld (Val := Elt Ideal) (S := S8x512x1024) (e' := .bf16) x6 (Rect.unit (s := S8x512x1024) ![6, 0, 0] ![1, 512, 1024] inb_S8x512x1024_S1x512x1024_6_0_0)) (View.ld (Val := Elt Ideal) (S := S256x4096) (e' := .bf16) x3 (Rect.unit (s := S256x4096) ![0, 3072] ![256, 512] inb_S256x4096_S256x512_0_3072))) (View.ld (Val := Elt Ideal) (S := S8x1024x512) (e' := .bf16) x5 (Rect.unit (s := S8x1024x512) ![6, 0, 0] ![1, 1024, 512] inb_S8x1024x512_S1x1024x512_6_0_0)) (View.ld (Val := Elt Ideal) (S := S8x512x1024) (e' := .bf16) x6 (Rect.unit (s := S8x512x1024) ![7, 0, 0] ![1, 512, 1024] inb_S8x512x1024_S1x512x1024_7_0_0)) (View.ld (Val := Elt Ideal) (S := S256x4096) (e' := .bf16) x3 (Rect.unit (s := S256x4096) ![0, 3584] ![256, 512] inb_S256x4096_S256x512_0_3584)) (View.ld (Val := Elt Ideal) (S := S8x1024x512) (e' := .bf16) x5 (Rect.unit (s := S8x1024x512) ![7, 0, 0] ![1, 1024, 512] inb_S8x1024x512_S1x1024x512_7_0_0)) x4) (ix2 i j)
    = k0_pay2 (F := Ideal) x0 x8 (ix2 i j) + grad (fun k => x2 (ix2 i k)) (fun k => hidden x3 x5 x6 v29 (ix2 i k) * x4 (ix2 0 k)) j := by
  pointwise [k0_pay28, k0_pay24, k0_pay25, k0_pay27, grad, scale, meanSq]

/-- The column sums of the second gain's gradient over the block's rows. -/
theorem dgpre_at (v29 : FVec Ideal S256x1024 .bf16) (k : Fin 1024) :
    k0_pay26 (F := Ideal) v29 x2 (fiveSlices x3 x5 x6 v29) (k0_pay21 v29 (View.ld (Val := Elt Ideal) (S := S8x512x1024) (e' := .bf16) x6 (Rect.unit (s := S8x512x1024) ![6, 0, 0] ![1, 512, 1024] inb_S8x512x1024_S1x512x1024_6_0_0)) (View.ld (Val := Elt Ideal) (S := S256x4096) (e' := .bf16) x3 (Rect.unit (s := S256x4096) ![0, 3072] ![256, 512] inb_S256x4096_S256x512_0_3072))) (View.ld (Val := Elt Ideal) (S := S8x1024x512) (e' := .bf16) x5 (Rect.unit (s := S8x1024x512) ![6, 0, 0] ![1, 1024, 512] inb_S8x1024x512_S1x1024x512_6_0_0)) (View.ld (Val := Elt Ideal) (S := S8x512x1024) (e' := .bf16) x6 (Rect.unit (s := S8x512x1024) ![7, 0, 0] ![1, 512, 1024] inb_S8x512x1024_S1x512x1024_7_0_0)) (View.ld (Val := Elt Ideal) (S := S256x4096) (e' := .bf16) x3 (Rect.unit (s := S256x4096) ![0, 3584] ![256, 512] inb_S256x4096_S256x512_0_3584)) (View.ld (Val := Elt Ideal) (S := S8x1024x512) (e' := .bf16) x5 (Rect.unit (s := S8x1024x512) ![7, 0, 0] ![1, 1024, 512] inb_S8x1024x512_S1x1024x512_7_0_0)) (ix2 0 k)
    = ∑ i : Fin 256, hidden x3 x5 x6 v29 (ix2 i k) * (x2 (ix2 i k) * scale (fun k => x2 (ix2 i k))) := by
  pointwise [k0_pay26, k0_pay25, k0_pay24, scale, meanSq]

end Cert.Kernel7Ideal.Block

end
-- ==== Proof.LossArrays.lean ====
/- What the result arrays of the last sub-layer's gradient kernel hold after the run: the formulas of `MlpGrad` over the
   argument arrays, the gradient above being that of the loss. -/
module

public import proofs.«01_k».proof.Proof.Gen.Kernel7Ideal.Value
public import proofs.«01_k».proof.Proof.LossBlock
public import proofs.«01_k».proof.Proof.LossMath
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Arrays

open Cert.Kernel7Ideal Cert.Kernel7Ideal.Gen Cert.RowNorm Cert.MlpGrad Cert.LossGrad

variable (m : (ℓ : Loc nD τ sig) → Buf (Elt Ideal) ℓ) (c : Dev nD)

/-- The argument arrays, as functions of row and column. -/
abbrev Y (r : Fin 8192) (k : Fin 1024) : EReal := m ((c : Thread nD τ).loc main_arg0) (ix2 r k)
abbrev T (r : Fin 8192) (k : Fin 1024) : EReal := m ((c : Thread nD τ).loc main_arg1) (ix2 r k)
abbrev X (r : Fin 8192) (k : Fin 1024) : EReal := m ((c : Thread nD τ).loc main_arg2) (ix2 r k)
abbrev GP (k : Fin 1024) : EReal := m ((c : Thread nD τ).loc main_arg3) (ix2 0 k)
abbrev U (k : Fin 1024) (f : Fin 4096) : EReal := m ((c : Thread nD τ).loc main_arg4) (ix2 k f)
abbrev W (f : Fin 4096) (k : Fin 1024) : EReal := m ((c : Thread nD τ).loc main_arg5) (ix2 f k)
abbrev GQ (k : Fin 1024) : EReal := m ((c : Thread nD τ).loc main_arg6) (ix2 0 k)
/-- The loss gradient. -/
abbrev DXO : Fin 8192 → Fin 1024 → EReal := dxo (Y m c) (T m c)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0] :=
  (by decide +kernel : ∀ t : Fin grid0.N, _)

/-- The array row that row `i` of grid point `t`'s block is. -/
def row (t : Fin cfg0.N) (i : Fin 256) : Fin 8192 := ⟨t.val * 256 + i.val, by have := lt_of_lt_of_eq t.isLt N_0; omega⟩

/-- The hidden layer that the host code hands the kernel. -/
theorem up_at (r : Fin 8192) (f : Fin 4096) :
    (V m c main_v21 : FVec Ideal S8192x4096 .bf16) (ix2 r f) = up (X m c) (GP m c) (U m c) r f := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise [up, h, scale, meanSq]

/-- The sub-layer's output before its norm, which the host code hands the kernel. -/
theorem mid_at (r : Fin 8192) (j : Fin 1024) :
    (V m c main_v15 : FVec Ideal S8192x1024 .f32) (ix2 r j) = mid (X m c) (GP m c) (U m c) (W m c) r j := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise [mid, up, h, scale, meanSq]

/-- The up projection by slices. -/
theorem wup_at (s : Fin 8) (j : Fin 1024) (f : Fin 512) :
    (V m c main_v18 : FVec Ideal S8x1024x512 .bf16) (ix3 s j f) = U m c j ⟨s.val * 512 + f.val, by omega⟩ := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

/-- The down projection by slices. -/
theorem wdown_at (s : Fin 8) (f : Fin 512) (k : Fin 1024) :
    (V m c main_v20 : FVec Ideal S8x512x1024 .bf16) (ix3 s f k) = W m c ⟨s.val * 512 + f.val, by omega⟩ k := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

/-! ## The input blocks of a grid point, at coordinates -/

theorem blk0 (t : Fin cfg0.N) (i : Fin 256) (k : Fin 1024) :
    (iblk m c 0 t : FVec Ideal S256x1024 .f32) (ix2 i k) = Y m c (row t i) k := by
  blk_ext [iblk, V_main_arg0, idx t, row]

theorem blk8 (t : Fin cfg0.N) (i : Fin 256) (k : Fin 1024) :
    (iblk m c 8 t : FVec Ideal S256x1024 .f32) (ix2 i k) = T m c (row t i) k := by
  blk_ext [iblk, V_main_arg1, idx t, row]

theorem blk1 (t : Fin cfg0.N) (i : Fin 256) (k : Fin 1024) :
    (iblk m c 1 t : FVec Ideal S256x1024 .f32) (ix2 i k) = mid (X m c) (GP m c) (U m c) (W m c) (row t i) k := by
  rw [← mid_at]
  blk_ext [iblk, idx t, row]

theorem blk2 (t : Fin cfg0.N) (i : Fin 256) (k : Fin 1024) :
    (iblk m c 2 t : FVec Ideal S256x1024 .f32) (ix2 i k) = X m c (row t i) k := by
  blk_ext [iblk, V_main_arg2, idx t, row]

theorem blk3 (t : Fin cfg0.N) (i : Fin 256) (f : Fin 4096) :
    (iblk m c 3 t : FVec Ideal S256x4096 .bf16) (ix2 i f) = up (X m c) (GP m c) (U m c) (row t i) f := by
  rw [← up_at]
  blk_ext [iblk, idx t, row]

theorem blk4 (t : Fin cfg0.N) (k : Fin 1024) : (iblk m c 4 t : FVec Ideal S1x1024 .f32) (ix2 0 k) = GP m c k := by
  blk_ext [iblk, V_main_arg3, idx t]

theorem blk5 (t : Fin cfg0.N) (s : Fin 8) (j : Fin 1024) (f : Fin 512) :
    (iblk m c 5 t : FVec Ideal S8x1024x512 .bf16) (ix3 s j f) = U m c j ⟨s.val * 512 + f.val, by omega⟩ := by
  rw [← wup_at]
  blk_ext [iblk, idx t]

theorem blk6 (t : Fin cfg0.N) (s : Fin 8) (f : Fin 512) (k : Fin 1024) :
    (iblk m c 6 t : FVec Ideal S8x512x1024 .bf16) (ix3 s f k) = W m c ⟨s.val * 512 + f.val, by omega⟩ k := by
  rw [← wdown_at]
  blk_ext [iblk, idx t]

theorem blk7 (t : Fin cfg0.N) (k : Fin 1024) : (iblk m c 7 t : FVec Ideal S1x1024 .f32) (ix2 0 k) = GQ m c k := by
  blk_ext [iblk, V_main_arg6, idx t]

/-! ## What a grid point computes, at the rows of its block -/

/-- The loss gradient. -/
theorem dxo_row (t : Fin cfg0.N) (i : Fin 256) (k : Fin 1024) :
    k0_pay2 (F := Ideal) (iblk m c 0 t) (iblk m c 8 t) (ix2 i k) = DXO m c (row t i) k := by
  refine (Block.dxo_at _ _ i k).trans ?_
  simp only [blk0, blk8]
  rfl

/-- The gradient at the down projection's output. -/
theorem dm_row (t : Fin cfg0.N) (i : Fin 256) (k : Fin 1024) :
    k0_pay7 (F := Ideal) (iblk m c 0 t) (iblk m c 8 t) (iblk m c 1 t) (iblk m c 7 t) (ix2 i k)
    = dm (DXO m c) (X m c) (GP m c) (GQ m c) (U m c) (W m c) (row t i) k := by
  refine (Block.dm_at _ _ _ _ i k).trans ?_
  simp only [dxo_row, blk1, blk7]
  rfl

/-- The gradient at the normalised input. -/
theorem dh_row (t : Fin cfg0.N) (i : Fin 256) (j : Fin 1024) :
    Block.hidden (iblk m c 3 t) (iblk m c 5 t) (iblk m c 6 t) (k0_pay7 (F := Ideal) (iblk m c 0 t) (iblk m c 8 t) (iblk m c 1 t) (iblk m c 7 t)) (ix2 i j)
    = dh (DXO m c) (X m c) (GP m c) (GQ m c) (U m c) (W m c) (row t i) j := by
  refine (Block.hidden_at _ _ _ _ i j).trans ?_
  simp only [dm_row, blk3, blk5, blk6]
  rw [dh, Fin.sum_univ_tiles 8 512 rfl]
  rfl

/-- The gradient at the sub-layer's input. -/
theorem point9 (t : Fin cfg0.N) (y : S256x1024.Idx) : (outsAt0 m c t.val t.isLt).1 y
    = dx (DXO m c) (X m c) (GP m c) (GQ m c) (U m c) (W m c) (row t (y 0)) (y 1) := by
  idx_vars y
  have key := Block.dxi_at (iblk m c 0 t) (iblk m c 8 t) (iblk m c 2 t) (iblk m c 3 t) (iblk m c 4 t) (iblk m c 5 t) (iblk m c 6 t)
    (k0_pay7 (F := Ideal) (iblk m c 0 t) (iblk m c 8 t) (iblk m c 1 t) (iblk m c 7 t)) y0 y1
  simp only [dh_row, dxo_row, blk2, blk4] at key
  by_cases h : t.val % 32 = 0
  · rw [outsAt0_A m c t h]; frame_out
    exact key
  · rw [outsAt0_B m c t h]; frame_out
    exact key

/-- The normalised input. -/
theorem point10 (t : Fin cfg0.N) (y : S256x1024.Idx) : (outsAt0 m c t.val t.isLt).2.1 y
    = h (X m c) (GP m c) (row t (y 0)) (y 1) := by
  idx_vars y
  have key := Block.h_at (iblk m c 2 t) (iblk m c 4 t) y0 y1
  simp only [blk2, blk4] at key
  by_cases h : t.val % 32 = 0
  · rw [outsAt0_A m c t h]; frame_out
    exact key
  · rw [outsAt0_B m c t h]; frame_out
    exact key

/-- The gradient at the down projection's output. -/
theorem point11 (t : Fin cfg0.N) (y : S256x1024.Idx) : (outsAt0 m c t.val t.isLt).2.2.1 y
    = dm (DXO m c) (X m c) (GP m c) (GQ m c) (U m c) (W m c) (row t (y 0)) (y 1) := by
  idx_vars y
  by_cases h : t.val % 32 = 0
  · rw [outsAt0_A m c t h]; frame_out
    exact dm_row m c t y0 y1
  · rw [outsAt0_B m c t h]; frame_out
    exact dm_row m c t y0 y1

/-- The gradient at the hidden layer, at column `f` of the slice that starts at column `o`. -/
theorem dup_row (t : Fin cfg0.N) (s : Fin 8) (o : ℕ) (i : Fin 256) (f : Fin 512) (j : Fin 4096) (ho : s.val * 512 = o) (hj : j.val = o + f.val) :
    dup (DXO m c) (X m c) (GP m c) (GQ m c) (U m c) (W m c) (row t i) j
    = (∑ k : Fin 1024, k0_pay7 (F := Ideal) (iblk m c 0 t) (iblk m c 8 t) (iblk m c 1 t) (iblk m c 7 t) (ix2 i k)
        * (show FVec Ideal S8x512x1024 .bf16 from iblk m c 6 t) (ix3 s f k))
      * (two * max ((show FVec Ideal S256x4096 .bf16 from iblk m c 3 t) (ix2 i ⟨o + f.val, by omega⟩)) 0) := by
  subst ho
  obtain ⟨j, hj'⟩ := j
  obtain rfl : j = s.val * 512 + f.val := hj
  simp only [dm_row, blk3, blk6]
  rfl

/-- The gradient at the hidden layer: eight stored column tiles. -/
theorem point12 (t : Fin cfg0.N) (y : S256x4096.Idx) : (outsAt0 m c t.val t.isLt).2.2.2.1 y
    = dup (DXO m c) (X m c) (GP m c) (GQ m c) (U m c) (W m c) (row t (y 0)) (y 1) := by
  by_cases h : t.val % 32 = 0
  · rw [outsAt0_A m c t h]; frame_out
    canon_tiles x h
    all_goals
      idx_vars x
      idx_vars y
      obtain rfl : y0 = x0 := Fin.ext h0
      first
      | refine Eq.trans ?_ (dup_row m c t 0 0 y0 x1 y1 rfl (h1.trans (Nat.zero_add _).symm)).symm
      | refine Eq.trans ?_ (dup_row m c t 1 512 y0 x1 y1 rfl h1).symm
      | refine Eq.trans ?_ (dup_row m c t 2 1024 y0 x1 y1 rfl h1).symm
      | refine Eq.trans ?_ (dup_row m c t 3 1536 y0 x1 y1 rfl h1).symm
      | refine Eq.trans ?_ (dup_row m c t 4 2048 y0 x1 y1 rfl h1).symm
      | refine Eq.trans ?_ (dup_row m c t 5 2560 y0 x1 y1 rfl h1).symm
      | refine Eq.trans ?_ (dup_row m c t 6 3072 y0 x1 y1 rfl h1).symm
      | refine Eq.trans ?_ (dup_row m c t 7 3584 y0 x1 y1 rfl h1).symm
      pointwise [k0_pay9, k0_pay11, k0_pay12, k0_pay13, k0_pay15, k0_pay17, k0_pay19, k0_pay21, k0_pay22]
  · rw [outsAt0_B m c t h]; frame_out
    canon_tiles x h
    all_goals
      idx_vars x
      idx_vars y
      obtain rfl : y0 = x0 := Fin.ext h0
      first
      | refine Eq.trans ?_ (dup_row m c t 0 0 y0 x1 y1 rfl (h1.trans (Nat.zero_add _).symm)).symm
      | refine Eq.trans ?_ (dup_row m c t 1 512 y0 x1 y1 rfl h1).symm
      | refine Eq.trans ?_ (dup_row m c t 2 1024 y0 x1 y1 rfl h1).symm
      | refine Eq.trans ?_ (dup_row m c t 3 1536 y0 x1 y1 rfl h1).symm
      | refine Eq.trans ?_ (dup_row m c t 4 2048 y0 x1 y1 rfl h1).symm
      | refine Eq.trans ?_ (dup_row m c t 5 2560 y0 x1 y1 rfl h1).symm
      | refine Eq.trans ?_ (dup_row m c t 6 3072 y0 x1 y1 rfl h1).symm
      | refine Eq.trans ?_ (dup_row m c t 7 3584 y0 x1 y1 rfl h1).symm
      pointwise [k0_pay9, k0_pay11, k0_pay12, k0_pay13, k0_pay15, k0_pay17, k0_pay19, k0_pay21, k0_pay22]

end Cert.Kernel7Ideal.Arrays

end
-- ==== Proof.LossFinal.lean ====
/- The last sub-layer's gradient kernel's result arrays after the run, each one formula of
   `MlpGrad` over the argument arrays. -/
module

public import proofs.«01_k».proof.Proof.LossArrays

@[expose] public section

set_option maxRecDepth 16384

noncomputable section

open Idealize.ShloMosaic Idealize.ShloMosaic.TcCoe Idealize.SL.Sem
open Idealize.ShloMosaic.Pipeline (Dat)

namespace Cert.Kernel7Ideal.Arrays

open Cert.Kernel7Ideal Cert.Kernel7Ideal.Gen Cert.RowNorm Cert.MlpGrad Cert.LossGrad

variable (m : (ℓ : Loc nD τ sig) → Buf (Elt Ideal) ℓ) (c : Dev nD)

/-- The gradient at the sub-layer's input. -/
theorem final9 : (dats m 0 c).arrAt 9 cfg0.N
    = fun i => dx (DXO m c) (X m c) (GP m c) (GQ m c) (U m c) (W m c) (i 0) (i 1) := by
  refine (dats m 0 c).arrAt_eq_of_covers 9 _ (by decide +kernel) fun t hf y => ?_
  blk_simp
  rw [after0_9]
  refine (point9 m c t y).trans (congrArg₂ (dx (DXO m c) (X m c) (GP m c) (GQ m c) (U m c) (W m c)) (Fin.ext ?_) (Fin.ext ?_))
  · blk_simp [idx t, row]
  · blk_simp [idx t, row]

/-- The normalised input. -/
theorem final10 : (dats m 0 c).arrAt 10 cfg0.N = fun i => h (X m c) (GP m c) (i 0) (i 1) := by
  refine (dats m 0 c).arrAt_eq_of_covers 10 _ (by decide +kernel) fun t hf y => ?_
  blk_simp
  rw [after0_10]
  refine (point10 m c t y).trans (congrArg₂ (h (X m c) (GP m c)) (Fin.ext ?_) (Fin.ext ?_)) <;> blk_simp [idx t, row]

/-- The gradient at the down projection's output. -/
theorem final11 : (dats m 0 c).arrAt 11 cfg0.N
    = fun i => dm (DXO m c) (X m c) (GP m c) (GQ m c) (U m c) (W m c) (i 0) (i 1) := by
  refine (dats m 0 c).arrAt_eq_of_covers 11 _ (by decide +kernel) fun t hf y => ?_
  blk_simp
  rw [after0_11]
  refine (point11 m c t y).trans (congrArg₂ (dm (DXO m c) (X m c) (GP m c) (GQ m c) (U m c) (W m c)) (Fin.ext ?_) (Fin.ext ?_)) <;> blk_simp [idx t, row]

/-- The gradient at the hidden layer. -/
theorem final12 : (dats m 0 c).arrAt 12 cfg0.N
    = fun i => dup (DXO m c) (X m c) (GP m c) (GQ m c) (U m c) (W m c) (i 0) (i 1) := by
  refine (dats m 0 c).arrAt_eq_of_covers 12 _ (by decide +kernel) fun t hf y => ?_
  blk_simp
  rw [after0_12]
  refine (point12 m c t y).trans (congrArg₂ (dup (DXO m c) (X m c) (GP m c) (GQ m c) (U m c) (W m c)) (Fin.ext ?_) (Fin.ext ?_)) <;> blk_simp [idx t, row]

end Cert.Kernel7Ideal.Arrays

end
-- ==== Proof.LossSums.lean ====
/- The array of gain gradients and the loss: the grid points of the last sub-layer's gradient kernel add their rows' sums into
   one block, the first point after clearing it, and the block is written back once. -/
module

public import proofs.«01_k».proof.Proof.LossArrays
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.Kernel7Ideal.Arrays

open Cert.Kernel7Ideal Cert.Kernel7Ideal.Gen Cert.RowNorm Cert.LossGrad
open Cert.MlpGrad (mid dh dgPost dgPre)

variable (m : (ℓ : Loc nD τ sig) → Buf (Elt Ideal) ℓ) (c : Dev nD)

/-- What one grid point adds to row `a` of the block. -/
def part (t : Fin cfg0.N) (a : Fin 8) (k : Fin 1024) : EReal :=
  if a.val = 0 then ∑ i : Fin 256, DXO m c (row t i) k * (mid (X m c) (GP m c) (U m c) (W m c) (row t i) k * scale (mid (X m c) (GP m c) (U m c) (W m c) (row t i)))
  else if a.val = 1 then ∑ i : Fin 256, dh (DXO m c) (X m c) (GP m c) (GQ m c) (U m c) (W m c) (row t i) k * (X m c (row t i) k * scale (X m c (row t i)))
  else if a.val = 2 then half * ∑ i : Fin 256, rowLoss (Y m c) (T m c) (row t i)
  else 0

theorem post_part (t : Fin cfg0.N) (k : Fin 1024) : k0_pay6 (F := Ideal) (iblk m c 0 t) (iblk m c 8 t) (iblk m c 1 t) (ix2 0 k) = part m c t 0 k := by
  refine (Block.dgpost_at _ _ _ k).trans ?_
  simp only [dxo_row, blk1]
  rfl

theorem pre_part (t : Fin cfg0.N) (k : Fin 1024) :
    k0_pay26 (F := Ideal) (k0_pay7 (F := Ideal) (iblk m c 0 t) (iblk m c 8 t) (iblk m c 1 t) (iblk m c 7 t)) (iblk m c 2 t)
      (Block.fiveSlices (iblk m c 3 t) (iblk m c 5 t) (iblk m c 6 t) (k0_pay7 (F := Ideal) (iblk m c 0 t) (iblk m c 8 t) (iblk m c 1 t) (iblk m c 7 t))) (k0_pay21 (k0_pay7 (F := Ideal) (iblk m c 0 t) (iblk m c 8 t) (iblk m c 1 t) (iblk m c 7 t)) (View.ld (Val := Elt Ideal) (S := S8x512x1024) (e' := .bf16) (iblk m c 6 t) (Rect.unit (s := S8x512x1024) ![6, 0, 0] ![1, 512, 1024] inb_S8x512x1024_S1x512x1024_6_0_0)) (View.ld (Val := Elt Ideal) (S := S256x4096) (e' := .bf16) (iblk m c 3 t) (Rect.unit (s := S256x4096) ![0, 3072] ![256, 512] inb_S256x4096_S256x512_0_3072))) (View.ld (Val := Elt Ideal) (S := S8x1024x512) (e' := .bf16) (iblk m c 5 t) (Rect.unit (s := S8x1024x512) ![6, 0, 0] ![1, 1024, 512] inb_S8x1024x512_S1x1024x512_6_0_0)) (View.ld (Val := Elt Ideal) (S := S8x512x1024) (e' := .bf16) (iblk m c 6 t) (Rect.unit (s := S8x512x1024) ![7, 0, 0] ![1, 512, 1024] inb_S8x512x1024_S1x512x1024_7_0_0)) (View.ld (Val := Elt Ideal) (S := S256x4096) (e' := .bf16) (iblk m c 3 t) (Rect.unit (s := S256x4096) ![0, 3584] ![256, 512] inb_S256x4096_S256x512_0_3584)) (View.ld (Val := Elt Ideal) (S := S8x1024x512) (e' := .bf16) (iblk m c 5 t) (Rect.unit (s := S8x1024x512) ![7, 0, 0] ![1, 1024, 512] inb_S8x1024x512_S1x1024x512_7_0_0)) (ix2 0 k)
    = part m c t 1 k := by
  refine (Block.dgpre_at _ _ _ _ _ k).trans ?_
  simp only [dh_row, blk2]
  rfl

theorem loss_of (t : Fin cfg0.N) (q : FVec Ideal S1x1024 .f32) (k : Fin 1024) {a : EReal} (hq : q (ix2 0 k) = a) :
    k0_pay32 (F := Ideal) (k0_pay1 (F := Ideal) (iblk m c 0 t) (iblk m c 8 t)) q (ix2 0 k) = a + part m c t 2 k := by
  subst hq
  refine (Block.loss_at _ _ q k).trans ?_
  simp only [blk0, blk8]
  rfl

theorem add_post_of (p q : FVec Ideal S1x1024 .f32) (k : Fin 1024) {a : EReal} (b : EReal) (hp : p (ix2 0 k) = b) (hq : q (ix2 0 k) = a) :
    k0_pay30 (F := Ideal) p q (ix2 0 k) = a + b := by
  subst hp hq
  pointwise [k0_pay30]

theorem add_pre_of (p q : FVec Ideal S1x1024 .f32) (k : Fin 1024) {a : EReal} (b : EReal) (hp : p (ix2 0 k) = b) (hq : q (ix2 0 k) = a) :
    k0_pay31 (F := Ideal) p q (ix2 0 k) = a + b := by
  subst hp hq
  pointwise [k0_pay31]

section Rows

variable {κ : Kind} {sp : Space} (v : View sig κ sp S8x1024 .f32) (f : v.ty.Contents (Elt Ideal)) (w : FVec Ideal S1x1024 .f32)
  (z : FVec Ideal S8x1024 .f32) (L : List (View.Piece (Elt Ideal) S8x1024 .f32)) (a : Fin 8) (k : Fin 1024)

/-- Row two, just written. -/
theorem row2_hit : v.read (Elt Ideal) (v.writes (Elt Ideal) f (⟨Rect.unit (s := S8x1024) ![2, 0] ![1, 1024] inb_S8x1024_S1x1024_2_0, w⟩ :: L)) (ix2 2 k) = w (ix2 0 k) :=
  View.read_writes_cons_rows_of_mem (o := 2) v f _ w L _ (ix2 0 k) rfl rfl rfl

/-- Another row, after a write of row two. -/
theorem row2_miss (h : a.val ≠ 2) : v.read (Elt Ideal) (v.writes (Elt Ideal) f (⟨Rect.unit (s := S8x1024) ![2, 0] ![1, 1024] inb_S8x1024_S1x1024_2_0, w⟩ :: L)) (ix2 a k)
    = v.read (Elt Ideal) (v.writes (Elt Ideal) f L) (ix2 a k) :=
  View.read_writes_cons_rows_of_not_mem (o := 2) (W := 1) v f _ w L _ rfl rfl (by show a.val < 2 ∨ 3 ≤ a.val; omega)

/-- Row one, just written. -/
theorem row1_hit : v.read (Elt Ideal) (v.writes (Elt Ideal) f (⟨Rect.unit (s := S8x1024) ![1, 0] ![1, 1024] inb_S8x1024_S1x1024_1_0, w⟩ :: L)) (ix2 1 k) = w (ix2 0 k) :=
  View.read_writes_cons_rows_of_mem (o := 1) v f _ w L _ (ix2 0 k) rfl rfl rfl

/-- Another row, after a write of row one. -/
theorem row1_miss (h : a.val ≠ 1) : v.read (Elt Ideal) (v.writes (Elt Ideal) f (⟨Rect.unit (s := S8x1024) ![1, 0] ![1, 1024] inb_S8x1024_S1x1024_1_0, w⟩ :: L)) (ix2 a k)
    = v.read (Elt Ideal) (v.writes (Elt Ideal) f L) (ix2 a k) :=
  View.read_writes_cons_rows_of_not_mem (o := 1) (W := 1) v f _ w L _ rfl rfl (by show a.val < 1 ∨ 2 ≤ a.val; omega)

/-- Row zero, just written. -/
theorem row0_hit : v.read (Elt Ideal) (v.writes (Elt Ideal) f (⟨Rect.unit (s := S8x1024) ![0, 0] ![1, 1024] inb_S8x1024_S1x1024_0_0, w⟩ :: L)) (ix2 0 k) = w (ix2 0 k) :=
  View.read_writes_cons_rows_of_mem (o := 0) v f _ w L _ (ix2 0 k) rfl rfl rfl

/-- Another row, after a write of row zero. -/
theorem row0_miss (h : a.val ≠ 0) : v.read (Elt Ideal) (v.writes (Elt Ideal) f (⟨Rect.unit (s := S8x1024) ![0, 0] ![1, 1024] inb_S8x1024_S1x1024_0_0, w⟩ :: L)) (ix2 a k)
    = v.read (Elt Ideal) (v.writes (Elt Ideal) f L) (ix2 a k) :=
  View.read_writes_cons_rows_of_not_mem (o := 0) (W := 1) v f _ w L _ rfl rfl (by show a.val < 0 ∨ 1 ≤ a.val; omega)

/-- Any row, after a write of the whole block. -/
theorem whole_hit : v.read (Elt Ideal) (v.writes (Elt Ideal) f (⟨Rect.unit (s := S8x1024) ![0, 0] ![8, 1024] inb_S8x1024_S8x1024_0_0, z⟩ :: L)) (ix2 a k) = z (ix2 a k) :=
  View.read_writes_cons_rows_of_mem (o := 0) v f _ z L _ (ix2 a k) rfl (Nat.zero_add _).symm rfl

end Rows

/-- The first grid point clears the block and adds its part. -/
theorem sums_first (t : Fin cfg0.N) (h : t.val % 32 = 0) (a : Fin 8) (k : Fin 1024) :
    (outsAt0 m c t.val t.isLt).2.2.2.2 (ix2 a k) = 0 + part m c t a k := by
  rw [outsAt0_A m c t h]
  frame_open
  simp (disch := decide) only [↓ View.readCov_skip, ↓ View.readCov_cons_toLoadRect, ↓ View.readCov_fill]
  frame_out
  rw [← View.read_writes_junk_apply_eq_canon (ms0_13 t).view]
  by_cases h2 : a.val = 2
  · obtain rfl : a = 2 := Fin.ext h2
    refine (row2_hit _ _ _ _ k).trans (loss_of m c t _ k ?_)
    pointwise [k0_pay29]
  refine (row2_miss _ _ _ _ a k h2).trans ?_
  by_cases h1 : a.val = 1
  · obtain rfl : a = 1 := Fin.ext h1
    refine (row1_hit _ _ _ _ k).trans (add_pre_of _ _ k _ (pre_part m c t k) ?_)
    pointwise [k0_pay29]
  refine (row1_miss _ _ _ _ a k h1).trans ?_
  by_cases h0 : a.val = 0
  · obtain rfl : a = 0 := Fin.ext h0
    refine (row0_hit _ _ _ _ k).trans (add_post_of _ _ k _ (post_part m c t k) ?_)
    pointwise [k0_pay29]
  refine (row0_miss _ _ _ _ a k h0).trans ?_
  refine (whole_hit _ _ _ _ a k).trans ?_
  pointwise [k0_pay29, part]
  simp only [h0, h1, h2, if_false, add_zero]

/-- Every later grid point adds its part. -/
theorem sums_next (t : Fin cfg0.N) (h : ¬ t.val % 32 = 0) (a : Fin 8) (k : Fin 1024) :
    (outsAt0 m c t.val t.isLt).2.2.2.2 (ix2 a k)
    = (outsAt0 m c (t.val - 1) (Nat.lt_of_le_of_lt (Nat.sub_le _ _) t.isLt)).2.2.2.2 (ix2 a k) + part m c t a k := by
  rw [outsAt0_B m c t h]
  frame_out
  by_cases h2 : a.val = 2
  · obtain rfl : a = 2 := Fin.ext h2
    refine (row2_hit _ _ _ _ k).trans (loss_of m c t _ k ?_)
    pointwise
  refine (row2_miss _ _ _ _ a k h2).trans ?_
  by_cases h1 : a.val = 1
  · obtain rfl : a = 1 := Fin.ext h1
    refine (row1_hit _ _ _ _ k).trans (add_pre_of _ _ k _ (pre_part m c t k) ?_)
    pointwise
  refine (row1_miss _ _ _ _ a k h1).trans ?_
  by_cases h0 : a.val = 0
  · obtain rfl : a = 0 := Fin.ext h0
    refine (row0_hit _ _ _ _ k).trans (add_post_of _ _ k _ (post_part m c t k) ?_)
    pointwise
  refine (row0_miss _ _ _ _ a k h0).trans ?_
  rw [View.writes_nil, Memref.IsWhole.read_unread, part, if_neg h0, if_neg h1, if_neg h2, add_zero]

/-- A sum over the array's rows is a sum over grid points and the rows of a block. -/
theorem sum_rows (f : Fin 8192 → EReal) : ∑ t : Fin cfg0.N, ∑ i : Fin 256, f (row t i) = ∑ r, f r := by
  rw [Fin.sum_univ_tiles 32 256 rfl]
  rfl

/-- The block after the last grid point. -/
theorem sums_last (t : Fin cfg0.N) (h : t.val % 32 = 31) (a : Fin 8) (k : Fin 1024) :
    (outsAt0 m c t.val t.isLt).2.2.2.2 (ix2 a k) = sums (Y m c) (T m c) (X m c) (GP m c) (GQ m c) (U m c) (W m c) a k := by
  have ht := lt_of_lt_of_eq t.isLt N_0
  have key := Pipeline.eq_sum_fin_of_reset_step_apply_last (N := cfg0.N) (fun n h (i : Fin 8 × Fin 1024) => (outsAt0 m c n h).2.2.2.2 (ix2 i.1 i.2)) 32 (fun _ => (0 : EReal))
    (fun t i => part m c t i.1 i.2) (fun t h i => sums_first m c t h i.1 i.2) (fun t h i => sums_next m c t h i.1 i.2) N_0.le
    t (by show t.val + 1 = grid0.N; rw [N_0]; omega) (a, k)
  refine key.trans ?_
  rw [zero_add]
  unfold part sums dgPost dgPre loss
  split_ifs
  · exact sum_rows fun r => DXO m c r k * (mid (X m c) (GP m c) (U m c) (W m c) r k * scale (mid (X m c) (GP m c) (U m c) (W m c) r))
  · exact sum_rows fun r => dh (DXO m c) (X m c) (GP m c) (GQ m c) (U m c) (W m c) r k * (X m c r k * scale (X m c r))
  · rw [half_sum]
    exact congrArg (half * ·) (sum_rows fun r => rowLoss (Y m c) (T m c) r)
  · exact Finset.sum_const_zero

/-- The gains' gradients and the loss. -/
theorem final13 : (dats m 0 c).arrAt 13 cfg0.N
    = fun i => sums (Y m c) (T m c) (X m c) (GP m c) (GQ m c) (U m c) (W m c) (i 0) (i 1) := by
  refine (dats m 0 c).arrAt_eq_of_covers 13 _ (by decide +kernel) fun t hf y => ?_
  blk_simp
  rw [after0_13]
  have hy : y = ix2 (y 0) (y 1) := eq_ix2 y
  rw [hy]
  refine (sums_last m c t ((flush0_13 t).mp hf) (y 0) (y 1)).trans (congrArg₂ (sums (Y m c) (T m c) (X m c) (GP m c) (GQ m c) (U m c) (W m c)) (Fin.ext ?_) (Fin.ext ?_)) <;> blk_simp [idx t]

end Cert.Kernel7Ideal.Arrays

end
-- ==== Proof.LossReference.lean ====
/- What the terms of the last sub-layer's reference are, entry by entry: the formulas of `MlpGrad` and `LossMath` over the
   argument arrays. Each operation group of the reference is named once and read at an index once; the results are then these
   groups, one inside another. -/
module

public import proofs.«01_k».proof.Proof.Gen.Reference7Ideal.Run
public import proofs.«01_k».proof.Proof.LossMath
public import Idealize.ShloMosaic.Lib.Claim

@[expose] public section

set_option maxRecDepth 16384

noncomputable section

open Idealize.ShloMosaic Idealize.ShloMosaic.TcCoe Idealize.SL.Sem

namespace Cert.Reference7Ideal.Stages

open Cert.Reference7Ideal Cert.Reference7Ideal.Gen Cert.RowNorm Cert.LossGrad

/-! ## The groups of operations -/

/-- The mean square of every row plus the small constant, as a column. -/
def meanCol (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- Every row divided by the root of its mean square. -/
def normal (x : FVec Ideal S8192x1024 .f32) : FVec Ideal S8192x1024 .f32 :=
  mulf x (broadcastInDim S8192x1024 ![0, 1] bcast_S8192x1_S8192x1024_0_1 (Host.rsqrt (meanCol x)))

/-- A gain row, repeated over all rows. -/
def gain (g : FVec Ideal S1x1024 .f32) : FVec Ideal S8192x1024 .f32 :=
  broadcastInDim S8192x1024 ![0, 1] bcast_S1x1024_S8192x1024_0_1 g

/-- The gradient through the normalisation, `dn` the gradient at the normalised rows. -/
def gradRows (x dn : FVec Ideal S8192x1024 .f32) : FVec Ideal S8192x1024 .f32 :=
  addf (mulf dn (broadcastInDim S8192x1024 ![0, 1] bcast_S8192x1_S8192x1024_0_1 (Host.rsqrt (meanCol x))))
    (mulf (broadcastInDim S8192x1024 ![0] bcast_S8192_S8192x1024_0 (Host.reduceAdd (Host.divf (mulf (shapeCast S8192x1 (Host.reduceAdd (mulf x dn) (constant S_ .f32 0x00000000#32) reducesTo_S8192x1024_S8192_d1 h_S_) shapeCasts_S8192_S8192x1)
        (mulf (broadcastInDim S8192x1 ![] bcast_S_S8192x1 (constant S_ .f32 0xBF000000#32)) (Host.divf (Host.rsqrt (meanCol x)) (meanCol x)))) (broadcastInDim S8192x1 ![] bcast_S_S8192x1 (constant S_ .f32 0x44800000#32))) (constant S_ .f32 0x00000000#32) reducesTo_S8192x1_S8192_d1 h_S_))
      (mulf (broadcastInDim S8192x1024 ![] bcast_S_S8192x1024 (constant S_ .f32 0x40000000#32)) x))

/-- The gradient of the gain: the column sums of the normalised rows times the gradient above. -/
def gradGain (x dy : FVec Ideal S8192x1024 .f32) : FVec Ideal S1x1024 .f32 :=
  shapeCast S1x1024 (Host.reduceAdd (mulf (normal x) dy) (constant S_ .f32 0x00000000#32) reducesTo_S8192x1024_S1024_d0 h_S_) shapeCasts_S1024_S1x1024

/-- The up projection. -/
def upProj (h : FVec Ideal S8192x1024 .f32) (U : FVec Ideal S1024x4096 .f32) : FVec Ideal S8192x4096 .f32 :=
  Host.dotGeneral dot_S8192x1024_S1024x4096_S8192x4096_1_0_0_1_n_n none h U

/-- The positive part of the hidden layer. -/
def positive (u : FVec Ideal S8192x4096 .f32) : FVec Ideal S8192x4096 .f32 :=
  maximumf u (broadcastInDim S8192x4096 ![] bcast_S_S8192x4096 (constant S_ .f32 0x00000000#32))

/-- The down projection of the squared positive part. -/
def downProj (u : FVec Ideal S8192x4096 .f32) (W : FVec Ideal S4096x1024 .f32) : FVec Ideal S8192x1024 .f32 :=
  Host.dotGeneral dot_S8192x4096_S4096x1024_S8192x1024_1_0_0_1_n_n none (mulf (positive u) (positive u)) W

/-- The gradient through the activation and the down projection. -/
def gradDown (u : FVec Ideal S8192x4096 .f32) (W : FVec Ideal S4096x1024 .f32) (dm : FVec Ideal S8192x1024 .f32) : FVec Ideal S8192x4096 .f32 :=
  select (cmpf .ogt u (broadcastInDim S8192x4096 ![] bcast_S_S8192x4096 (constant S_ .f32 0x00000000#32)))
    (mulf (Host.dotGeneral dot_S8192x1024_S4096x1024_S8192x4096_1_1_0_0_n_n none dm W) (mulf (broadcastInDim S8192x4096 ![] bcast_S_S8192x4096 (constant S_ .f32 0x40000000#32)) (positive u)))
    (broadcastInDim S8192x4096 ![] bcast_S_S8192x4096 (constant S_ .f32 0x00000000#32))

/-- The gradient through the up projection. -/
def gradUp (du : FVec Ideal S8192x4096 .f32) (U : FVec Ideal S1024x4096 .f32) : FVec Ideal S8192x1024 .f32 :=
  Host.dotGeneral dot_S8192x4096_S1024x4096_S8192x1024_1_1_0_0_n_n none du U

/-- The loss gradient. -/
def gradLoss (y t : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) (subf y t))

/-- The loss, repeated along a row. -/
def lossRow (y t : FVec Ideal S8192x1024 .f32) : FVec Ideal S1x1024 .f32 :=
  broadcastInDim S1x1024 ![] bcast_S_S1x1024 (mulf (constant S_ .f32 0x3F000000#32) (Host.reduceAdd (Host.divf (Host.reduceAdd (mulf (subf y t) (subf y t)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

/-! ## The groups at an index -/

variable (x dn dy h dmid : FVec Ideal S8192x1024 .f32) (g : FVec Ideal S1x1024 .f32) (u du : FVec Ideal S8192x4096 .f32)
  (U : FVec Ideal S1024x4096 .f32) (W : FVec Ideal S4096x1024 .f32) (r : Fin 8192) (k : Fin 1024) (f : Fin 4096)

theorem gradLoss_at : gradLoss x dn (ix2 r k) = (x (ix2 r k) - dn (ix2 r k)) * step := by
  rw [← chain_eq]
  pointwise [gradLoss]

theorem lossRow_at : lossRow x dn (ix2 0 k) = loss (fun r k => x (ix2 r k)) (fun r k => dn (ix2 r k)) := by
  pointwise [lossRow, loss, rowLoss]

theorem meanCol_at : meanCol x (ix2 r 0) = meanSq (fun k => x (ix2 r k)) := by
  pointwise [meanCol, meanSq]

theorem normal_at : normal x (ix2 r k) = x (ix2 r k) * scale (fun k => x (ix2 r k)) := by
  pointwise [normal, scale, meanCol_at]

theorem gain_at : gain g (ix2 r k) = g (ix2 0 k) := by
  pointwise [gain]

theorem gradRows_at : gradRows x dn (ix2 r k) = grad (fun k => x (ix2 r k)) (fun k => dn (ix2 r k)) k := by
  rw [← gradRsqrt_eq]
  pointwise [gradRows, gradRsqrt, scale, meanCol_at]
  rw [Fin.sum_univ_one, meanCol_at]

theorem gradGain_at : gradGain x dy (ix2 0 k) = ∑ r : Fin 8192, dy (ix2 r k) * (x (ix2 r k) * scale (fun k => x (ix2 r k))) := by
  pointwise [gradGain, normal_at]
  exact Finset.sum_congr rfl fun r _ => mul_comm _ _

theorem upProj_at : upProj h U (ix2 r f) = ∑ k : Fin 1024, h (ix2 r k) * U (ix2 k f) := by
  pointwise [upProj]

theorem positive_at : positive u (ix2 r f) = max (u (ix2 r f)) 0 := by
  pointwise [positive]

theorem downProj_at : downProj u W (ix2 r k) = ∑ f : Fin 4096, max (u (ix2 r f)) 0 * max (u (ix2 r f)) 0 * W (ix2 f k) := by
  pointwise [downProj, positive_at]

theorem gradDown_at : gradDown u W dmid (ix2 r f) = (∑ k : Fin 1024, dmid (ix2 r k) * W (ix2 f k)) * (two * max (u (ix2 r f)) 0) := by
  pointwise [gradDown, positive_at]
  split_ifs with h
  · rfl
  · rw [max_eq_right (not_lt.mp h), mul_zero, mul_zero]

theorem gradUp_at : gradUp du U (ix2 r k) = ∑ f : Fin 4096, du (ix2 r f) * U (ix2 k f) := by
  pointwise [gradUp]

/-! ## The results -/

section Results

open Cert.MlpGrad

variable (m : (ℓ : Loc nD τ sig) → Buf (Elt Ideal) ℓ) (c : Dev nD)

abbrev Y (r : Fin 8192) (k : Fin 1024) : EReal := m ((c.tc : Thread nD τ).loc main_arg0) (ix2 r k)
abbrev T (r : Fin 8192) (k : Fin 1024) : EReal := m ((c.tc : Thread nD τ).loc main_arg1) (ix2 r k)
abbrev X (r : Fin 8192) (k : Fin 1024) : EReal := m ((c.tc : Thread nD τ).loc main_arg2) (ix2 r k)
abbrev GP (k : Fin 1024) : EReal := m ((c.tc : Thread nD τ).loc main_arg3) (ix2 0 k)
abbrev UP (k : Fin 1024) (f : Fin 4096) : EReal := m ((c.tc : Thread nD τ).loc main_arg4) (ix2 k f)
abbrev WD (f : Fin 4096) (k : Fin 1024) : EReal := m ((c.tc : Thread nD τ).loc main_arg5) (ix2 f k)
abbrev GQ (k : Fin 1024) : EReal := m ((c.tc : Thread nD τ).loc main_arg6) (ix2 0 k)
abbrev DXO : Fin 8192 → Fin 1024 → EReal := dxo (Y m c) (T m c)

def dxoV : FVec Ideal S8192x1024 .f32 := gradLoss (m ((c.tc : Thread nD τ).loc main_arg0)) (m ((c.tc : Thread nD τ).loc main_arg1))
def hV : FVec Ideal S8192x1024 .f32 := mulf (normal (m ((c.tc : Thread nD τ).loc main_arg2))) (gain (m ((c.tc : Thread nD τ).loc main_arg3)))
def upV : FVec Ideal S8192x4096 .f32 := upProj (hV m c) (m ((c.tc : Thread nD τ).loc main_arg4))
def midV : FVec Ideal S8192x1024 .f32 := downProj (upV m c) (m ((c.tc : Thread nD τ).loc main_arg5))
def dmV : FVec Ideal S8192x1024 .f32 := gradRows (midV m c) (mulf (dxoV m c) (gain (m ((c.tc : Thread nD τ).loc main_arg6))))
def dupV : FVec Ideal S8192x4096 .f32 := gradDown (upV m c) (m ((c.tc : Thread nD τ).loc main_arg5)) (dmV m c)
def dhV : FVec Ideal S8192x1024 .f32 := gradUp (dupV m c) (m ((c.tc : Thread nD τ).loc main_arg4))
def dxV : FVec Ideal S8192x1024 .f32 :=
  addf (dxoV m c) (gradRows (m ((c.tc : Thread nD τ).loc main_arg2)) (mulf (dhV m c) (gain (m ((c.tc : Thread nD τ).loc main_arg3)))))
def sumsV : FVec Ideal S8x1024 .f32 :=
  concatenate S8x1024 0 [⟨S1x1024, gradGain (midV m c) (dxoV m c)⟩, ⟨S1x1024, gradGain (m ((c.tc : Thread nD τ).loc main_arg2)) (dhV m c)⟩,
    ⟨S1x1024, lossRow (m ((c.tc : Thread nD τ).loc main_arg0)) (m ((c.tc : Thread nD τ).loc main_arg1))⟩,
    ⟨S5x1024, broadcastInDim S5x1024 ![] bcast_S_S5x1024 (constant S_ .f32 0x00000000#32)⟩] concatenates_S1x1024_S1x1024_S1x1024_S5x1024_S8x1024_d0

theorem dxoV_at (r : Fin 8192) (k : Fin 1024) : dxoV m c (ix2 r k) = DXO m c r k :=
  gradLoss_at _ _ r k

theorem hV_at (r : Fin 8192) (k : Fin 1024) : hV m c (ix2 r k) = MlpGrad.h (X m c) (GP m c) r k := by
  pointwise [hV, normal_at, gain_at, MlpGrad.h]

theorem upV_at (r : Fin 8192) (f : Fin 4096) : upV m c (ix2 r f) = up (X m c) (GP m c) (UP m c) r f := by
  simp only [upV, upProj_at, hV_at]; rfl

theorem midV_at (r : Fin 8192) (k : Fin 1024) : midV m c (ix2 r k) = mid (X m c) (GP m c) (UP m c) (WD m c) r k := by
  simp only [midV, downProj_at, upV_at]; rfl

theorem dmV_at (r : Fin 8192) (k : Fin 1024) : dmV m c (ix2 r k) = dm (DXO m c) (X m c) (GP m c) (GQ m c) (UP m c) (WD m c) r k := by
  simp only [dmV, gradRows_at, midV_at]
  pointwise [gain_at, dxoV_at, dm]

theorem dupV_at (r : Fin 8192) (f : Fin 4096) : dupV m c (ix2 r f) = dup (DXO m c) (X m c) (GP m c) (GQ m c) (UP m c) (WD m c) r f := by
  simp only [dupV, gradDown_at, dmV_at, upV_at]; rfl

theorem dhV_at (r : Fin 8192) (k : Fin 1024) : dhV m c (ix2 r k) = dh (DXO m c) (X m c) (GP m c) (GQ m c) (UP m c) (WD m c) r k := by
  simp only [dhV, gradUp_at, dupV_at]; rfl

theorem dxV_at (r : Fin 8192) (k : Fin 1024) : dxV m c (ix2 r k) = dx (DXO m c) (X m c) (GP m c) (GQ m c) (UP m c) (WD m c) r k := by
  pointwise [dxV, gradRows_at, gain_at, dhV_at, dxoV_at, dx]

theorem sumsV_at (a : Fin 8) (k : Fin 1024) : sumsV m c (ix2 a k) = LossGrad.sums (Y m c) (T m c) (X m c) (GP m c) (GQ m c) (UP m c) (WD m c) a k := by
  fin_cases a <;> pointwise [sumsV, gradGain_at, lossRow_at, midV_at, dhV_at, dxoV_at, LossGrad.sums, dgPost, dgPre]

theorem res0_eq : Value.res_out0 m c = dxV m c := by
  unfold Value.res_out0 Value.res_main_v100; rfl

theorem res2_eq : Value.res_out2 m c = truncf .bf16 (dmV m c) bitsLt_bf16_f32 := by
  unfold Value.res_out2 Value.res_main_v102; rfl

theorem res3_eq : Value.res_out3 m c = truncf .bf16 (dupV m c) bitsLt_bf16_f32 := by
  unfold Value.res_out3 Value.res_main_v103; rfl

theorem res4_eq : Value.res_out4 m c = sumsV m c := by
  unfold Value.res_out4 Value.res_main_v99; rfl

end Results

end Cert.Reference7Ideal.Stages

end
-- ==== Proof.LossEquation.lean ====
/- The results of the last sub-layer's gradient kernel are the reference's: both are the formulas of `MlpGrad` and `LossMath`
   over equal arguments. -/
module

public import proofs.«01_k».proof.Proof.LossFinal
public import proofs.«01_k».proof.Proof.LossSums
public import proofs.«01_k».proof.Proof.LossReference

@[expose] public section

noncomputable section

open Idealize.ShloMosaic Idealize.ShloMosaic.TcCoe Idealize.SL.Sem

namespace Cert.LossEquation

open Cert Cert.Kernel7Ideal.Gen Cert.Reference7Ideal.Gen

variable (m : (ℓ : Loc Kernel7Ideal.nD Kernel7Ideal.τ Kernel7Ideal.sig) → Buf (Elt Ideal) ℓ)
  (m' : (ℓ : Loc Reference7Ideal.nD Reference7Ideal.τ Reference7Ideal.sig) → Buf (Elt Ideal) ℓ) (c : Dev Kernel7Ideal.nD)
  (h0 : m' ((c.tc : Thread Reference7Ideal.nD Reference7Ideal.τ).loc Reference7Ideal.main_arg0) = m ((c.tc : Thread Kernel7Ideal.nD Kernel7Ideal.τ).loc Kernel7Ideal.main_arg0))
  (h1 : m' ((c.tc : Thread Reference7Ideal.nD Reference7Ideal.τ).loc Reference7Ideal.main_arg1) = m ((c.tc : Thread Kernel7Ideal.nD Kernel7Ideal.τ).loc Kernel7Ideal.main_arg1))
  (h2 : m' ((c.tc : Thread Reference7Ideal.nD Reference7Ideal.τ).loc Reference7Ideal.main_arg2) = m ((c.tc : Thread Kernel7Ideal.nD Kernel7Ideal.τ).loc Kernel7Ideal.main_arg2))
  (h3 : m' ((c.tc : Thread Reference7Ideal.nD Reference7Ideal.τ).loc Reference7Ideal.main_arg3) = m ((c.tc : Thread Kernel7Ideal.nD Kernel7Ideal.τ).loc Kernel7Ideal.main_arg3))
  (h4 : m' ((c.tc : Thread Reference7Ideal.nD Reference7Ideal.τ).loc Reference7Ideal.main_arg4) = m ((c.tc : Thread Kernel7Ideal.nD Kernel7Ideal.τ).loc Kernel7Ideal.main_arg4))
  (h5 : m' ((c.tc : Thread Reference7Ideal.nD Reference7Ideal.τ).loc Reference7Ideal.main_arg5) = m ((c.tc : Thread Kernel7Ideal.nD Kernel7Ideal.τ).loc Kernel7Ideal.main_arg5))
  (h6 : m' ((c.tc : Thread Reference7Ideal.nD Reference7Ideal.τ).loc Reference7Ideal.main_arg6) = m ((c.tc : Thread Kernel7Ideal.nD Kernel7Ideal.τ).loc Kernel7Ideal.main_arg6))
include h0 h1 h2 h3 h4 h5 h6

/-- The two argument arrays read the same. -/
theorem args_eq :
    Reference7Ideal.Stages.Y m' c = Kernel7Ideal.Arrays.Y m c
    ∧ Reference7Ideal.Stages.T m' c = Kernel7Ideal.Arrays.T m c
    ∧ Reference7Ideal.Stages.X m' c = Kernel7Ideal.Arrays.X m c
    ∧ Reference7Ideal.Stages.GP m' c = Kernel7Ideal.Arrays.GP m c
    ∧ Reference7Ideal.Stages.UP m' c = Kernel7Ideal.Arrays.U m c
    ∧ Reference7Ideal.Stages.WD m' c = Kernel7Ideal.Arrays.W m c
    ∧ Reference7Ideal.Stages.GQ m' c = Kernel7Ideal.Arrays.GQ m c :=
  ⟨by funext r k; exact congrFun h0 _,
    by funext r k; exact congrFun h1 _,
    by funext r k; exact congrFun h2 _,
    by funext k; exact congrFun h3 _,
    by funext k f; exact congrFun h4 _,
    by funext f k; exact congrFun h5 _,
    by funext k; exact congrFun h6 _⟩

/-- The gradient at the sub-layer's input. -/
theorem result0 : Reference7Ideal.Value.res_out0 m' c = (Kernel7Ideal.Gen.dats m 0 c).arrAt 9 Kernel7Ideal.cfg0.N := by
  obtain ⟨e0, e1, e2, e3, e4, e5, e6⟩ := args_eq m m' c h0 h1 h2 h3 h4 h5 h6
  rw [Reference7Ideal.Stages.res0_eq, Kernel7Ideal.Arrays.final9]
  funext y
  idx_vars y
  refine (Reference7Ideal.Stages.dxV_at m' c y0 y1).trans ?_
  unfold Reference7Ideal.Stages.DXO
  rw [e0, e1, e2, e3, e4, e5, e6]

/-- The normalised input. -/
theorem result1 : truncf .bf16 (Reference7Ideal.Stages.hV m' c) (by decide) = (Kernel7Ideal.Gen.dats m 0 c).arrAt 10 Kernel7Ideal.cfg0.N := by
  obtain ⟨e0, e1, e2, e3, e4, e5, e6⟩ := args_eq m m' c h0 h1 h2 h3 h4 h5 h6
  rw [Kernel7Ideal.Arrays.final10]
  funext y
  idx_vars y
  refine (Reference7Ideal.Stages.hV_at m' c y0 y1).trans ?_
  rw [e2, e3]

/-- The gradient at the down projection's output. -/
theorem result2 : Reference7Ideal.Value.res_out2 m' c = (Kernel7Ideal.Gen.dats m 0 c).arrAt 11 Kernel7Ideal.cfg0.N := by
  obtain ⟨e0, e1, e2, e3, e4, e5, e6⟩ := args_eq m m' c h0 h1 h2 h3 h4 h5 h6
  rw [Reference7Ideal.Stages.res2_eq, Kernel7Ideal.Arrays.final11]
  funext y
  idx_vars y
  refine (Reference7Ideal.Stages.dmV_at m' c y0 y1).trans ?_
  unfold Reference7Ideal.Stages.DXO
  rw [e0, e1, e2, e3, e4, e5, e6]

/-- The gradient at the hidden layer. -/
theorem result3 : Reference7Ideal.Value.res_out3 m' c = (Kernel7Ideal.Gen.dats m 0 c).arrAt 12 Kernel7Ideal.cfg0.N := by
  obtain ⟨e0, e1, e2, e3, e4, e5, e6⟩ := args_eq m m' c h0 h1 h2 h3 h4 h5 h6
  rw [Reference7Ideal.Stages.res3_eq, Kernel7Ideal.Arrays.final12]
  funext y
  idx_vars y
  refine (Reference7Ideal.Stages.dupV_at m' c y0 y1).trans ?_
  unfold Reference7Ideal.Stages.DXO
  rw [e0, e1, e2, e3, e4, e5, e6]

/-- The gains' gradients and the loss. -/
theorem result4 : Reference7Ideal.Value.res_out4 m' c = (Kernel7Ideal.Gen.dats m 0 c).arrAt 13 Kernel7Ideal.cfg0.N := by
  obtain ⟨e0, e1, e2, e3, e4, e5, e6⟩ := args_eq m m' c h0 h1 h2 h3 h4 h5 h6
  rw [Reference7Ideal.Stages.res4_eq, Kernel7Ideal.Arrays.final13]
  funext y
  idx_vars y
  refine (Reference7Ideal.Stages.sumsV_at m' c y0 y1).trans ?_
  rw [e0, e1, e2, e3, e4, e5, e6]

end Cert.LossEquation

end
-- ==== Proof.ConvMath.lean ====
/- The gradient of the gated entrance `x ↦ (u · logistic g)`, `[u, g] = norm x · W + b`, entry by entry over the extended
   reals: the formulas that kernel and reference are both shown to compute. -/
module

public import proofs.«01_k».proof.Proof.RowNorm

@[expose] public section

noncomputable section

namespace Cert.ConvMath

open Idealize.ShloMosaic Cert.RowNorm

/-- The gradient at the two halves of the gate's input, for one row: below column 1024 the gradient of the value, above it
    the gradient of the gate. -/
def gate (du : Fin 1024 → EReal) (a : Fin 2048 → EReal) (c : Fin 2048) : EReal :=
  if h : c.val < 1024 then du ⟨c.val, h⟩ * Ideal.logistic (a ⟨1024 + c.val, by omega⟩)
  else du ⟨c.val - 1024, by omega⟩ * a ⟨c.val - 1024, by omega⟩ * Ideal.logistic (a c) * (1 - Ideal.logistic (a c))

theorem gate_lo (du : Fin 1024 → EReal) (a : Fin 2048 → EReal) (k : Fin 1024) (c : Fin 2048) (h : c.val = k.val) :
    gate du a c = du k * Ideal.logistic (a ⟨1024 + k.val, by omega⟩) := by
  obtain ⟨c, hc⟩ := c
  obtain rfl : c = k.val := h
  rw [gate, dif_pos k.isLt]

theorem gate_hi (du : Fin 1024 → EReal) (a : Fin 2048 → EReal) (k : Fin 1024) (c : Fin 2048) (h : c.val = 1024 + k.val) :
    gate du a c = du k * a ⟨k.val, by omega⟩ * Ideal.logistic (a ⟨1024 + k.val, by omega⟩) * (1 - Ideal.logistic (a ⟨1024 + k.val, by omega⟩)) := by
  obtain ⟨c, hc⟩ := c
  obtain rfl : c = 1024 + k.val := h
  rw [gate, dif_neg (by simp)]
  have e : (1024 + k.val) - 1024 = k.val := by omega
  simp only [e]

/-- A sum over the 2048 columns against the gate's gradient, by four slices of 256 columns of either half. -/
theorem sum_gate (du : Fin 1024 → EReal) (a w : Fin 2048 → EReal) :
    ∑ c, gate du a c * w c
    = ∑ s : Fin 4, ∑ f : Fin 256, du ⟨s.val * 256 + f.val, by omega⟩ * Ideal.logistic (a ⟨1024 + (s.val * 256 + f.val), by omega⟩) * w ⟨s.val * 256 + f.val, by omega⟩
    + ∑ s : Fin 4, ∑ f : Fin 256, du ⟨s.val * 256 + f.val, by omega⟩ * a ⟨s.val * 256 + f.val, by omega⟩ * Ideal.logistic (a ⟨1024 + (s.val * 256 + f.val), by omega⟩)
        * (1 - Ideal.logistic (a ⟨1024 + (s.val * 256 + f.val), by omega⟩)) * w ⟨1024 + (s.val * 256 + f.val), by omega⟩ := by
  refine (Fin.sum_univ_add (a := 1024) (b := 1024) (fun c => gate du a c * w c)).trans (congrArg₂ (· + ·) ?_ ?_)
  · rw [Fin.sum_univ_tiles 4 256 rfl]
    refine Finset.sum_congr rfl fun s _ => Finset.sum_congr rfl fun f _ => ?_
    rw [gate_lo du a ⟨s.val * 256 + f.val, by omega⟩ _ rfl]
    rfl
  · rw [Fin.sum_univ_tiles 4 256 rfl]
    refine Finset.sum_congr rfl fun s _ => Finset.sum_congr rfl fun f _ => ?_
    rw [gate_hi du a ⟨s.val * 256 + f.val, by omega⟩ _ rfl]
    rfl

/-- Two sums of four terms, term by term in turn. -/
theorem four_four (a b : Fin 4 → EReal) : ∑ s, a s + ∑ s, b s = a 0 + b 0 + a 1 + b 1 + a 2 + b 2 + a 3 + b 3 := by
  rw [Fin.sum_univ_four, Fin.sum_univ_four]
  ac_rfl

variable (dxo du x : Fin 8192 → Fin 1024 → EReal) (gp : Fin 1024 → EReal) (W : Fin 1024 → Fin 2048 → EReal) (B : Fin 2048 → EReal)

/-- The normalised input, times its gain. -/
def h (r : Fin 8192) (k : Fin 1024) : EReal := x r k * scale (x r) * gp k
/-- The gate's input: values in the first 1024 columns, gates in the last. -/
def pre (r : Fin 8192) (c : Fin 2048) : EReal := ∑ k, h x gp r k * W k c + B c
/-- The gradient at the gate's input. -/
def da (r : Fin 8192) (c : Fin 2048) : EReal := gate (du r) (pre x gp W B r) c
/-- The gradient at the normalised input. -/
def dh (r : Fin 8192) (k : Fin 1024) : EReal := ∑ c, da du x gp W B r c * W k c
/-- The gradient at the layer's input, the residual branch included. -/
def dx (r : Fin 8192) (j : Fin 1024) : EReal := dxo r j + grad (x r) (fun k => dh du x gp W B r k * gp k) j
/-- The gain's gradient as the first row of one array, zeros below. -/
def sums (a : Fin 8) (k : Fin 1024) : EReal := if a.val = 0 then ∑ r, dh du x gp W B r k * (x r k * scale (x r)) else 0
/-- The gradient of the offsets. -/
def db (c : Fin 2048) : EReal := ∑ r, da du x gp W B r c

end Cert.ConvMath

end
-- ==== Proof.ConvBlock.lean ====
/- What one grid point of the gated entrance's gradient kernel computes: every stored entry as a formula over the point's
   input blocks. -/
module

public import proofs.«01_k».proof.Proof.Gen.Kernel8Ideal.Skeleton
public import proofs.«01_k».proof.Proof.ConvMath
public import Idealize.ShloMosaic.Lib.Pipeline.ValueKit

@[expose] public section

set_option maxRecDepth 16384

noncomputable section

open Idealize.ShloMosaic Idealize.ShloMosaic.TcCoe Idealize.SL.Sem

namespace Cert.Kernel8Ideal.Block

open Cert.Kernel8Ideal Cert.Kernel8Ideal.Gen Cert.RowNorm

variable (x0 x1 x3 : FVec Ideal S512x1024 .f32) (x2 : FVec Ideal S512x2048 .f32) (x4 : FVec Ideal S1x1024 .f32)
  (x5 : FVec Ideal S8x1024x256 .bf16)

/-- The normalised input row, times the gain. -/
theorem h_at (i : Fin 512) (k : Fin 1024) : k0_pay5 (F := Ideal) x3 x4 (ix2 i k)
    = x3 (ix2 i k) * scale (fun k => x3 (ix2 i k)) * x4 (ix2 0 k) := by
  pointwise [k0_pay5, scale, meanSq]

/-- The gradient at the normalised input from the first three slices of either half, over the point's input blocks. -/
def threeSlices : FVec Ideal S512x1024 .f32 :=
  k0_pay30 (F := Ideal) (k0_pay22 (k0_pay14 k0_pay6 (k0_pay9 (View.ld (Val := Elt Ideal) (S := S512x2048) (e' := .f32) x2 (Rect.unit (s := S512x2048) ![0, 0] ![512, 256] inb_S512x2048_S512x256_0_0)) (View.ld (Val := Elt Ideal) (S := S512x2048) (e' := .f32) x2 (Rect.unit (s := S512x2048) ![0, 1024] ![512, 256] inb_S512x2048_S512x256_0_1024)) (View.ld (Val := Elt Ideal) (S := S512x1024) (e' := .f32) x1 (Rect.unit (s := S512x1024) ![0, 0] ![512, 256] inb_S512x1024_S512x256_0_0))) (k0_pay10 (View.ld (Val := Elt Ideal) (S := S512x2048) (e' := .f32) x2 (Rect.unit (s := S512x2048) ![0, 1024] ![512, 256] inb_S512x2048_S512x256_0_1024)) (View.ld (Val := Elt Ideal) (S := S512x1024) (e' := .f32) x1 (Rect.unit (s := S512x1024) ![0, 0] ![512, 256] inb_S512x1024_S512x256_0_0))) (View.ld (Val := Elt Ideal) (S := S8x1024x256) (e' := .bf16) x5 (Rect.unit (s := S8x1024x256) ![0, 0, 0] ![1, 1024, 256] inb_S8x1024x256_S1x1024x256_0_0_0)) (View.ld (Val := Elt Ideal) (S := S8x1024x256) (e' := .bf16) x5 (Rect.unit (s := S8x1024x256) ![4, 0, 0] ![1, 1024, 256] inb_S8x1024x256_S1x1024x256_4_0_0)))
      (k0_pay17 (View.ld (Val := Elt Ideal) (S := S512x2048) (e' := .f32) x2 (Rect.unit (s := S512x2048) ![0, 256] ![512, 256] inb_S512x2048_S512x256_0_256)) (View.ld (Val := Elt Ideal) (S := S512x2048) (e' := .f32) x2 (Rect.unit (s := S512x2048) ![0, 1280] ![512, 256] inb_S512x2048_S512x256_0_1280)) (View.ld (Val := Elt Ideal) (S := S512x1024) (e' := .f32) x1 (Rect.unit (s := S512x1024) ![0, 256] ![512, 256] inb_S512x1024_S512x256_0_256))) (k0_pay18 (View.ld (Val := Elt Ideal) (S := S512x2048) (e' := .f32) x2 (Rect.unit (s := S512x2048) ![0, 1280] ![512, 256] inb_S512x2048_S512x256_0_1280)) (View.ld (Val := Elt Ideal) (S := S512x1024) (e' := .f32) x1 (Rect.unit (s := S512x1024) ![0, 256] ![512, 256] inb_S512x1024_S512x256_0_256))) (View.ld (Val := Elt Ideal) (S := S8x1024x256) (e' := .bf16) x5 (Rect.unit (s := S8x1024x256) ![1, 0, 0] ![1, 1024, 256] inb_S8x1024x256_S1x1024x256_1_0_0)) (View.ld (Val := Elt Ideal) (S := S8x1024x256) (e' := .bf16) x5 (Rect.unit (s := S8x1024x256) ![5, 0, 0] ![1, 1024, 256] inb_S8x1024x256_S1x1024x256_5_0_0)))
      (k0_pay25 (View.ld (Val := Elt Ideal) (S := S512x2048) (e' := .f32) x2 (Rect.unit (s := S512x2048) ![0, 512] ![512, 256] inb_S512x2048_S512x256_0_512)) (View.ld (Val := Elt Ideal) (S := S512x2048) (e' := .f32) x2 (Rect.unit (s := S512x2048) ![0, 1536] ![512, 256] inb_S512x2048_S512x256_0_1536)) (View.ld (Val := Elt Ideal) (S := S512x1024) (e' := .f32) x1 (Rect.unit (s := S512x1024) ![0, 512] ![512, 256] inb_S512x1024_S512x256_0_512))) (k0_pay26 (View.ld (Val := Elt Ideal) (S := S512x2048) (e' := .f32) x2 (Rect.unit (s := S512x2048) ![0, 1536] ![512, 256] inb_S512x2048_S512x256_0_1536)) (View.ld (Val := Elt Ideal) (S := S512x1024) (e' := .f32) x1 (Rect.unit (s := S512x1024) ![0, 512] ![512, 256] inb_S512x1024_S512x256_0_512))) (View.ld (Val := Elt Ideal) (S := S8x1024x256) (e' := .bf16) x5 (Rect.unit (s := S8x1024x256) ![2, 0, 0] ![1, 1024, 256] inb_S8x1024x256_S1x1024x256_2_0_0)) (View.ld (Val := Elt Ideal) (S := S8x1024x256) (e' := .bf16) x5 (Rect.unit (s := S8x1024x256) ![6, 0, 0] ![1, 1024, 256] inb_S8x1024x256_S1x1024x256_6_0_0))

/-- … and the whole sum over the four slices. -/
abbrev hidden : FVec Ideal S512x1024 .f32 :=
  k0_pay38 (F := Ideal) (threeSlices x1 x2 x5) (k0_pay33 (View.ld (Val := Elt Ideal) (S := S512x2048) (e' := .f32) x2 (Rect.unit (s := S512x2048) ![0, 768] ![512, 256] inb_S512x2048_S512x256_0_768)) (View.ld (Val := Elt Ideal) (S := S512x2048) (e' := .f32) x2 (Rect.unit (s := S512x2048) ![0, 1792] ![512, 256] inb_S512x2048_S512x256_0_1792)) (View.ld (Val := Elt Ideal) (S := S512x1024) (e' := .f32) x1 (Rect.unit (s := S512x1024) ![0, 768] ![512, 256] inb_S512x1024_S512x256_0_768))) (k0_pay34 (View.ld (Val := Elt Ideal) (S := S512x2048) (e' := .f32) x2 (Rect.unit (s := S512x2048) ![0, 1792] ![512, 256] inb_S512x2048_S512x256_0_1792)) (View.ld (Val := Elt Ideal) (S := S512x1024) (e' := .f32) x1 (Rect.unit (s := S512x1024) ![0, 768] ![512, 256] inb_S512x1024_S512x256_0_768))) (View.ld (Val := Elt Ideal) (S := S8x1024x256) (e' := .bf16) x5 (Rect.unit (s := S8x1024x256) ![3, 0, 0] ![1, 1024, 256] inb_S8x1024x256_S1x1024x256_3_0_0)) (View.ld (Val := Elt Ideal) (S := S8x1024x256) (e' := .bf16) x5 (Rect.unit (s := S8x1024x256) ![7, 0, 0] ![1, 1024, 256] inb_S8x1024x256_S1x1024x256_7_0_0))

/-- The gradient below the projection: the sum over the four slices of 256 columns of either half. -/
theorem hidden_at (i : Fin 512) (j : Fin 1024) : hidden x1 x2 x5 (ix2 i j)
    = ∑ s : Fin 4, ∑ f : Fin 256, x1 (ix2 i ⟨s.val * 256 + f.val, by omega⟩) * Ideal.logistic (x2 (ix2 i ⟨1024 + (s.val * 256 + f.val), by omega⟩))
        * x5 (ix3 ⟨s.val, by omega⟩ j f)
    + ∑ s : Fin 4, ∑ f : Fin 256, x1 (ix2 i ⟨s.val * 256 + f.val, by omega⟩) * x2 (ix2 i ⟨s.val * 256 + f.val, by omega⟩) * Ideal.logistic (x2 (ix2 i ⟨1024 + (s.val * 256 + f.val), by omega⟩))
        * (1 - Ideal.logistic (x2 (ix2 i ⟨1024 + (s.val * 256 + f.val), by omega⟩))) * x5 (ix3 ⟨4 + s.val, by omega⟩ j f) := by
  rw [ConvMath.four_four]
  pointwise [hidden, threeSlices, k0_pay6, k0_pay7, k0_pay8, k0_pay9, k0_pay10, k0_pay12, k0_pay14, k0_pay15, k0_pay16, k0_pay17, k0_pay18, k0_pay20, k0_pay22, k0_pay23, k0_pay24, k0_pay25, k0_pay26, k0_pay28, k0_pay30, k0_pay31, k0_pay32, k0_pay33, k0_pay34, k0_pay36, k0_pay38, zero_sub, Ideal.logistic]
  simp only [← Nat.add_assoc, Nat.reduceAdd]

/-- The gradient of the layer's input, entry `(i, j)` of the block. -/
theorem dxi_at (i : Fin 512) (j : Fin 1024) :
    k0_pay44 (F := Ideal) (k0_pay39 x3) (k0_pay42 (threeSlices x1 x2 x5) (k0_pay33 (View.ld (Val := Elt Ideal) (S := S512x2048) (e' := .f32) x2 (Rect.unit (s := S512x2048) ![0, 768] ![512, 256] inb_S512x2048_S512x256_0_768)) (View.ld (Val := Elt Ideal) (S := S512x2048) (e' := .f32) x2 (Rect.unit (s := S512x2048) ![0, 1792] ![512, 256] inb_S512x2048_S512x256_0_1792)) (View.ld (Val := Elt Ideal) (S := S512x1024) (e' := .f32) x1 (Rect.unit (s := S512x1024) ![0, 768] ![512, 256] inb_S512x1024_S512x256_0_768))) (k0_pay34 (View.ld (Val := Elt Ideal) (S := S512x2048) (e' := .f32) x2 (Rect.unit (s := S512x2048) ![0, 1792] ![512, 256] inb_S512x2048_S512x256_0_1792)) (View.ld (Val := Elt Ideal) (S := S512x1024) (e' := .f32) x1 (Rect.unit (s := S512x1024) ![0, 768] ![512, 256] inb_S512x1024_S512x256_0_768))) (View.ld (Val := Elt Ideal) (S := S8x1024x256) (e' := .bf16) x5 (Rect.unit (s := S8x1024x256) ![3, 0, 0] ![1, 1024, 256] inb_S8x1024x256_S1x1024x256_3_0_0)) (View.ld (Val := Elt Ideal) (S := S8x1024x256) (e' := .bf16) x5 (Rect.unit (s := S8x1024x256) ![7, 0, 0] ![1, 1024, 256] inb_S8x1024x256_S1x1024x256_7_0_0)) x4)
      (k0_pay43 x3 (threeSlices x1 x2 x5) (k0_pay33 (View.ld (Val := Elt Ideal) (S := S512x2048) (e' := .f32) x2 (Rect.unit (s := S512x2048) ![0, 768] ![512, 256] inb_S512x2048_S512x256_0_768)) (View.ld (Val := Elt Ideal) (S := S512x2048) (e' := .f32) x2 (Rect.unit (s := S512x2048) ![0, 1792] ![512, 256] inb_S512x2048_S512x256_0_1792)) (View.ld (Val := Elt Ideal) (S := S512x1024) (e' := .f32) x1 (Rect.unit (s := S512x1024) ![0, 768] ![512, 256] inb_S512x1024_S512x256_0_768))) (k0_pay34 (View.ld (Val := Elt Ideal) (S := S512x2048) (e' := .f32) x2 (Rect.unit (s := S512x2048) ![0, 1792] ![512, 256] inb_S512x2048_S512x256_0_1792)) (View.ld (Val := Elt Ideal) (S := S512x1024) (e' := .f32) x1 (Rect.unit (s := S512x1024) ![0, 768] ![512, 256] inb_S512x1024_S512x256_0_768))) (View.ld (Val := Elt Ideal) (S := S8x1024x256) (e' := .bf16) x5 (Rect.unit (s := S8x1024x256) ![3, 0, 0] ![1, 1024, 256] inb_S8x1024x256_S1x1024x256_3_0_0)) (View.ld (Val := Elt Ideal) (S := S8x1024x256) (e' := .bf16) x5 (Rect.unit (s := S8x1024x256) ![7, 0, 0] ![1, 1024, 256] inb_S8x1024x256_S1x1024x256_7_0_0)) x4) x0 (ix2 i j)
    = x0 (ix2 i j) + grad (fun k => x3 (ix2 i k)) (fun k => hidden x1 x2 x5 (ix2 i k) * x4 (ix2 0 k)) j := by
  pointwise [k0_pay39, k0_pay40, k0_pay42, k0_pay43, k0_pay44, grad, scale, meanSq]

/-- The column sums of the gain's gradient over the block's rows. -/
theorem dgpre_at (k : Fin 1024) :
    k0_pay41 (F := Ideal) x3 (threeSlices x1 x2 x5) (k0_pay33 (View.ld (Val := Elt Ideal) (S := S512x2048) (e' := .f32) x2 (Rect.unit (s := S512x2048) ![0, 768] ![512, 256] inb_S512x2048_S512x256_0_768)) (View.ld (Val := Elt Ideal) (S := S512x2048) (e' := .f32) x2 (Rect.unit (s := S512x2048) ![0, 1792] ![512, 256] inb_S512x2048_S512x256_0_1792)) (View.ld (Val := Elt Ideal) (S := S512x1024) (e' := .f32) x1 (Rect.unit (s := S512x1024) ![0, 768] ![512, 256] inb_S512x1024_S512x256_0_768))) (k0_pay34 (View.ld (Val := Elt Ideal) (S := S512x2048) (e' := .f32) x2 (Rect.unit (s := S512x2048) ![0, 1792] ![512, 256] inb_S512x2048_S512x256_0_1792)) (View.ld (Val := Elt Ideal) (S := S512x1024) (e' := .f32) x1 (Rect.unit (s := S512x1024) ![0, 768] ![512, 256] inb_S512x1024_S512x256_0_768))) (View.ld (Val := Elt Ideal) (S := S8x1024x256) (e' := .bf16) x5 (Rect.unit (s := S8x1024x256) ![3, 0, 0] ![1, 1024, 256] inb_S8x1024x256_S1x1024x256_3_0_0)) (View.ld (Val := Elt Ideal) (S := S8x1024x256) (e' := .bf16) x5 (Rect.unit (s := S8x1024x256) ![7, 0, 0] ![1, 1024, 256] inb_S8x1024x256_S1x1024x256_7_0_0)) (ix2 0 k)
    = ∑ i : Fin 512, hidden x1 x2 x5 (ix2 i k) * (x3 (ix2 i k) * scale (fun k => x3 (ix2 i k))) := by
  pointwise [k0_pay39, k0_pay40, k0_pay41, scale, meanSq]

end Cert.Kernel8Ideal.Block

end
-- ==== Proof.ConvArrays.lean ====
/- What the result arrays of the gated entrance's gradient kernel hold after the run: the formulas of `ConvMath` over the
   argument arrays. -/
module

public import proofs.«01_k».proof.Proof.Gen.Kernel8Ideal.Value
public import proofs.«01_k».proof.Proof.ConvBlock
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Arrays

open Cert.Kernel8Ideal Cert.Kernel8Ideal.Gen Cert.RowNorm Cert.ConvMath

variable (m : (ℓ : Loc nD τ sig) → Buf (Elt Ideal) ℓ) (c : Dev nD)

/-- The argument arrays, as functions of row and column. -/
abbrev DXO (r : Fin 8192) (k : Fin 1024) : EReal := m ((c : Thread nD τ).loc main_arg0) (ix2 r k)
abbrev DU (r : Fin 8192) (k : Fin 1024) : EReal := m ((c : Thread nD τ).loc main_arg1) (ix2 r k)
abbrev X (r : Fin 8192) (k : Fin 1024) : EReal := m ((c : Thread nD τ).loc main_arg2) (ix2 r k)
abbrev GP (k : Fin 1024) : EReal := m ((c : Thread nD τ).loc main_arg3) (ix2 0 k)
abbrev W (k : Fin 1024) (j : Fin 2048) : EReal := m ((c : Thread nD τ).loc main_arg4) (ix2 k j)
abbrev B (j : Fin 2048) : EReal := m ((c : Thread nD τ).loc main_arg5) (ix2 0 j)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

/-- The array row that row `i` of grid point `t`'s block is. -/
def row (t : Fin cfg0.N) (i : Fin 512) : Fin 8192 := ⟨t.val * 512 + i.val, by have := lt_of_lt_of_eq t.isLt N_0; omega⟩

/-- The gate's input that the host code hands the kernel. -/
theorem pre_at (r : Fin 8192) (j : Fin 2048) :
    (V m c main_v14 : FVec Ideal S8192x2048 .f32) (ix2 r j) = pre (X m c) (GP m c) (W m c) (B m c) r j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise [pre, h, scale, meanSq]

/-- The projection by slices. -/
theorem slices_at (s : Fin 8) (k : Fin 1024) (f : Fin 256) :
    (V m c main_v17 : FVec Ideal S8x1024x256 .bf16) (ix3 s k f) = W m c k ⟨s.val * 256 + f.val, by omega⟩ := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

/-! ## The input blocks of a grid point, at coordinates -/

theorem blk0 (t : Fin cfg0.N) (i : Fin 512) (k : Fin 1024) : (iblk m c 0 t : FVec Ideal S512x1024 .f32) (ix2 i k) = DXO m c (row t i) k := by
  blk_ext [iblk, V_main_arg0, idx t, row]

theorem blk1 (t : Fin cfg0.N) (i : Fin 512) (k : Fin 1024) : (iblk m c 1 t : FVec Ideal S512x1024 .f32) (ix2 i k) = DU m c (row t i) k := by
  blk_ext [iblk, V_main_arg1, idx t, row]

theorem blk2 (t : Fin cfg0.N) (i : Fin 512) (j : Fin 2048) :
    (iblk m c 2 t : FVec Ideal S512x2048 .f32) (ix2 i j) = pre (X m c) (GP m c) (W m c) (B m c) (row t i) j := by
  rw [← pre_at]
  blk_ext [iblk, idx t, row]

theorem blk3 (t : Fin cfg0.N) (i : Fin 512) (k : Fin 1024) : (iblk m c 3 t : FVec Ideal S512x1024 .f32) (ix2 i k) = X m c (row t i) k := by
  blk_ext [iblk, V_main_arg2, idx t, row]

theorem blk4 (t : Fin cfg0.N) (k : Fin 1024) : (iblk m c 4 t : FVec Ideal S1x1024 .f32) (ix2 0 k) = GP m c k := by
  blk_ext [iblk, V_main_arg3, idx t]

theorem blk5 (t : Fin cfg0.N) (s : Fin 8) (k : Fin 1024) (f : Fin 256) :
    (iblk m c 5 t : FVec Ideal S8x1024x256 .bf16) (ix3 s k f) = W m c k ⟨s.val * 256 + f.val, by omega⟩ := by
  rw [← slices_at]
  blk_ext [iblk, idx t]

/-! ## What a grid point computes, at the rows of its block -/

/-- The gradient at the normalised input. -/
theorem dh_row (t : Fin cfg0.N) (i : Fin 512) (k : Fin 1024) :
    Block.hidden (iblk m c 1 t) (iblk m c 2 t) (iblk m c 5 t) (ix2 i k) = dh (DU m c) (X m c) (GP m c) (W m c) (B m c) (row t i) k := by
  refine (Block.hidden_at _ _ _ i k).trans ?_
  simp only [blk1, blk2, blk5]
  refine Eq.trans ?_ (sum_gate (DU m c (row t i)) (pre (X m c) (GP m c) (W m c) (B m c) (row t i)) (W m c k)).symm
  refine congrArg₂ (· + ·) rfl ?_
  refine Finset.sum_congr rfl fun s _ => Finset.sum_congr rfl fun f _ => congrArg _ (congrArg (W m c k) (Fin.ext ?_))
  show (4 + s.val) * 256 + f.val = 1024 + (s.val * 256 + f.val)
  omega

/-- The gradient at the gate's input, in a slice of the values' half, by the point's blocks. -/
theorem da_lo (t : Fin cfg0.N) (o p : ℕ) (i : Fin 512) (f : Fin 256) (j : Fin 2048) (ho : o + 256 ≤ 1024) (hp : p = 1024 + o) (hj : j.val = o + f.val) :
    da (DU m c) (X m c) (GP m c) (W m c) (B m c) (row t i) j
    = (show FVec Ideal S512x1024 .f32 from iblk m c 1 t) (ix2 i ⟨o + f.val, by omega⟩)
      * Ideal.logistic ((show FVec Ideal S512x2048 .f32 from iblk m c 2 t) (ix2 i ⟨p + f.val, by omega⟩)) := by
  subst hp
  refine (gate_lo _ _ ⟨o + f.val, by omega⟩ j hj).trans ?_
  simp only [blk1, blk2, Nat.add_assoc]

/-- The gradient at the gate's input, in a slice of the gates' half, by the point's blocks. -/
theorem da_hi (t : Fin cfg0.N) (o p : ℕ) (i : Fin 512) (f : Fin 256) (j : Fin 2048) (ho : o + 256 ≤ 1024) (hp : p = 1024 + o) (hj : j.val = p + f.val) :
    da (DU m c) (X m c) (GP m c) (W m c) (B m c) (row t i) j
    = (show FVec Ideal S512x1024 .f32 from iblk m c 1 t) (ix2 i ⟨o + f.val, by omega⟩)
      * (show FVec Ideal S512x2048 .f32 from iblk m c 2 t) (ix2 i ⟨o + f.val, by omega⟩)
      * Ideal.logistic ((show FVec Ideal S512x2048 .f32 from iblk m c 2 t) (ix2 i ⟨p + f.val, by omega⟩))
      * (1 - Ideal.logistic ((show FVec Ideal S512x2048 .f32 from iblk m c 2 t) (ix2 i ⟨p + f.val, by omega⟩))) := by
  subst hp
  refine (gate_hi _ _ ⟨o + f.val, by omega⟩ j (by show j.val = 1024 + (o + f.val); omega)).trans ?_
  simp only [blk1, blk2, Nat.add_assoc]

/-- The gradient at the layer's input. -/
theorem point6 (t : Fin cfg0.N) (y : S512x1024.Idx) : (outsAt0 m c t.val t.isLt).1 y = dx (DXO m c) (DU m c) (X m c) (GP m c) (W m c) (B m c) (row t (y 0)) (y 1) := by
  idx_vars y
  have key := Block.dxi_at (iblk m c 0 t) (iblk m c 1 t) (iblk m c 3 t) (iblk m c 2 t) (iblk m c 4 t) (iblk m c 5 t) y0 y1
  simp only [dh_row, blk0, blk3, blk4] at key
  by_cases h : t.val % 16 = 0
  · rw [outsAt0_A m c t h]; frame_out
    exact key
  · rw [outsAt0_B m c t h]; frame_out
    exact key

/-- The normalised input. -/
theorem point7 (t : Fin cfg0.N) (y : S512x1024.Idx) : (outsAt0 m c t.val t.isLt).2.1 y = h (X m c) (GP m c) (row t (y 0)) (y 1) := by
  idx_vars y
  have key := Block.h_at (iblk m c 3 t) (iblk m c 4 t) y0 y1
  simp only [blk3, blk4] at key
  by_cases h : t.val % 16 = 0
  · rw [outsAt0_A m c t h]; frame_out
    exact key
  · rw [outsAt0_B m c t h]; frame_out
    exact key

/-- The gradient at the gate's input: eight stored column tiles. -/
theorem point8 (t : Fin cfg0.N) (y : S512x2048.Idx) : (outsAt0 m c t.val t.isLt).2.2.1 y = da (DU m c) (X m c) (GP m c) (W m c) (B m c) (row t (y 0)) (y 1) := by
  by_cases h : t.val % 16 = 0
  · rw [outsAt0_A m c t h]; frame_out
    canon_tiles x h
    all_goals
      idx_vars x
      idx_vars y
      obtain rfl : y0 = x0 := Fin.ext h0
      first
      | refine Eq.trans ?_ (da_lo m c t 0 1024 y0 x1 y1 (by norm_num) rfl (h1.trans (Nat.zero_add _).symm)).symm
      | refine Eq.trans ?_ (da_hi m c t 0 1024 y0 x1 y1 (by norm_num) rfl h1).symm
      | refine Eq.trans ?_ (da_lo m c t 256 1280 y0 x1 y1 (by norm_num) rfl h1).symm
      | refine Eq.trans ?_ (da_hi m c t 256 1280 y0 x1 y1 (by norm_num) rfl h1).symm
      | refine Eq.trans ?_ (da_lo m c t 512 1536 y0 x1 y1 (by norm_num) rfl h1).symm
      | refine Eq.trans ?_ (da_hi m c t 512 1536 y0 x1 y1 (by norm_num) rfl h1).symm
      | refine Eq.trans ?_ (da_lo m c t 768 1792 y0 x1 y1 (by norm_num) rfl h1).symm
      | refine Eq.trans ?_ (da_hi m c t 768 1792 y0 x1 y1 (by norm_num) rfl h1).symm
      pointwise [k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic]
  · rw [outsAt0_B m c t h]; frame_out
    canon_tiles x h
    all_goals
      idx_vars x
      idx_vars y
      obtain rfl : y0 = x0 := Fin.ext h0
      first
      | refine Eq.trans ?_ (da_lo m c t 0 1024 y0 x1 y1 (by norm_num) rfl (h1.trans (Nat.zero_add _).symm)).symm
      | refine Eq.trans ?_ (da_hi m c t 0 1024 y0 x1 y1 (by norm_num) rfl h1).symm
      | refine Eq.trans ?_ (da_lo m c t 256 1280 y0 x1 y1 (by norm_num) rfl h1).symm
      | refine Eq.trans ?_ (da_hi m c t 256 1280 y0 x1 y1 (by norm_num) rfl h1).symm
      | refine Eq.trans ?_ (da_lo m c t 512 1536 y0 x1 y1 (by norm_num) rfl h1).symm
      | refine Eq.trans ?_ (da_hi m c t 512 1536 y0 x1 y1 (by norm_num) rfl h1).symm
      | refine Eq.trans ?_ (da_lo m c t 768 1792 y0 x1 y1 (by norm_num) rfl h1).symm
      | refine Eq.trans ?_ (da_hi m c t 768 1792 y0 x1 y1 (by norm_num) rfl h1).symm
      pointwise [k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic]

/-- The gradient at the layer's input. -/
theorem final6 : (dats m 0 c).arrAt 6 cfg0.N = fun i => dx (DXO m c) (DU m c) (X m c) (GP m c) (W m c) (B m c) (i 0) (i 1) := by
  refine (dats m 0 c).arrAt_eq_of_covers 6 _ (by decide +kernel) fun t hf y => ?_
  blk_simp
  rw [after0_6]
  refine (point6 m c t y).trans (congrArg₂ (dx (DXO m c) (DU m c) (X m c) (GP m c) (W m c) (B m c)) (Fin.ext ?_) (Fin.ext ?_)) <;> blk_simp [idx t, row]

/-- The normalised input. -/
theorem final7 : (dats m 0 c).arrAt 7 cfg0.N = fun i => h (X m c) (GP m c) (i 0) (i 1) := by
  refine (dats m 0 c).arrAt_eq_of_covers 7 _ (by decide +kernel) fun t hf y => ?_
  blk_simp
  rw [after0_7]
  refine (point7 m c t y).trans (congrArg₂ (h (X m c) (GP m c)) (Fin.ext ?_) (Fin.ext ?_)) <;> blk_simp [idx t, row]

/-- The gradient at the gate's input. -/
theorem final8 : (dats m 0 c).arrAt 8 cfg0.N = fun i => da (DU m c) (X m c) (GP m c) (W m c) (B m c) (i 0) (i 1) := by
  refine (dats m 0 c).arrAt_eq_of_covers 8 _ (by decide +kernel) fun t hf y => ?_
  blk_simp
  rw [after0_8]
  refine (point8 m c t y).trans (congrArg₂ (da (DU m c) (X m c) (GP m c) (W m c) (B m c)) (Fin.ext ?_) (Fin.ext ?_)) <;> blk_simp [idx t, row]

end Cert.Kernel8Ideal.Arrays

end
-- ==== Proof.ConvSums.lean ====
/- The gated entrance's arrays of summed gradients: the grid points add their rows' sums into one block each, the first
   point after clearing it, and either block is written back once. -/
module

public import proofs.«01_k».proof.Proof.ConvArrays
public import Idealize.ShloMosaic.Lib.Pipeline.ReadBack
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Arrays

open Cert.Kernel8Ideal Cert.Kernel8Ideal.Gen Cert.RowNorm Cert.ConvMath

variable (m : (ℓ : Loc nD τ sig) → Buf (Elt Ideal) ℓ) (c : Dev nD)

/-- What one grid point adds to row `a` of the gain's block. -/
def part (t : Fin cfg0.N) (a : Fin 8) (k : Fin 1024) : EReal :=
  if a.val = 0 then ∑ i : Fin 512, dh (DU m c) (X m c) (GP m c) (W m c) (B m c) (row t i) k * (X m c (row t i) k * scale (X m c (row t i))) else 0

/-- What one grid point adds to column `j` of the offsets' block. -/
def colPart (t : Fin cfg0.N) (j : Fin 2048) : EReal := ∑ i : Fin 512, da (DU m c) (X m c) (GP m c) (W m c) (B m c) (row t i) j

theorem pre_part (t : Fin cfg0.N) (k : Fin 1024) :
    k0_pay41 (F := Ideal) (iblk m c 3 t) (Block.threeSlices (iblk m c 1 t) (iblk m c 2 t) (iblk m c 5 t)) (k0_pay33 (View.ld (Val := Elt Ideal) (S := S512x2048) (e' := .f32) (iblk m c 2 t) (Rect.unit (s := S512x2048) ![0, 768] ![512, 256] inb_S512x2048_S512x256_0_768)) (View.ld (Val := Elt Ideal) (S := S512x2048) (e' := .f32) (iblk m c 2 t) (Rect.unit (s := S512x2048) ![0, 1792] ![512, 256] inb_S512x2048_S512x256_0_1792)) (View.ld (Val := Elt Ideal) (S := S512x1024) (e' := .f32) (iblk m c 1 t) (Rect.unit (s := S512x1024) ![0, 768] ![512, 256] inb_S512x1024_S512x256_0_768))) (k0_pay34 (View.ld (Val := Elt Ideal) (S := S512x2048) (e' := .f32) (iblk m c 2 t) (Rect.unit (s := S512x2048) ![0, 1792] ![512, 256] inb_S512x2048_S512x256_0_1792)) (View.ld (Val := Elt Ideal) (S := S512x1024) (e' := .f32) (iblk m c 1 t) (Rect.unit (s := S512x1024) ![0, 768] ![512, 256] inb_S512x1024_S512x256_0_768))) (View.ld (Val := Elt Ideal) (S := S8x1024x256) (e' := .bf16) (iblk m c 5 t) (Rect.unit (s := S8x1024x256) ![3, 0, 0] ![1, 1024, 256] inb_S8x1024x256_S1x1024x256_3_0_0)) (View.ld (Val := Elt Ideal) (S := S8x1024x256) (e' := .bf16) (iblk m c 5 t) (Rect.unit (s := S8x1024x256) ![7, 0, 0] ![1, 1024, 256] inb_S8x1024x256_S1x1024x256_7_0_0)) (ix2 0 k)
    = part m c t 0 k := by
  refine (Block.dgpre_at _ _ _ _ k).trans ?_
  simp only [dh_row, blk3]
  rfl

theorem add_pre_of (p q : FVec Ideal S1x1024 .f32) (k : Fin 1024) {a : EReal} (b : EReal) (hp : p (ix2 0 k) = b) (hq : q (ix2 0 k) = a) :
    k0_pay47 (F := Ideal) p q (ix2 0 k) = a + b := by
  subst hp hq
  pointwise [k0_pay47]

section Rows

variable {κ : Kind} {sp : Space} (v : View sig κ sp S8x1024 .f32) (f : v.ty.Contents (Elt Ideal)) (w : FVec Ideal S1x1024 .f32)
  (z : FVec Ideal S8x1024 .f32) (L : List (View.Piece (Elt Ideal) S8x1024 .f32)) (a : Fin 8) (k : Fin 1024)

/-- Row zero, just written. -/
theorem row0_hit : v.read (Elt Ideal) (v.writes (Elt Ideal) f (⟨Rect.unit (s := S8x1024) ![0, 0] ![1, 1024] inb_S8x1024_S1x1024_0_0, w⟩ :: L)) (ix2 0 k) = w (ix2 0 k) :=
  View.read_writes_cons_rows_of_mem (o := 0) v f _ w L _ (ix2 0 k) rfl rfl rfl

/-- Another row, after a write of row zero. -/
theorem row0_miss (h : a.val ≠ 0) : v.read (Elt Ideal) (v.writes (Elt Ideal) f (⟨Rect.unit (s := S8x1024) ![0, 0] ![1, 1024] inb_S8x1024_S1x1024_0_0, w⟩ :: L)) (ix2 a k)
    = v.read (Elt Ideal) (v.writes (Elt Ideal) f L) (ix2 a k) :=
  View.read_writes_cons_rows_of_not_mem (o := 0) (W := 1) v f _ w L _ rfl rfl (by show a.val < 0 ∨ 1 ≤ a.val; omega)

/-- Any row, after a write of the whole block. -/
theorem whole_hit : v.read (Elt Ideal) (v.writes (Elt Ideal) f (⟨Rect.unit (s := S8x1024) ![0, 0] ![8, 1024] inb_S8x1024_S8x1024_0_0, z⟩ :: L)) (ix2 a k) = z (ix2 a k) :=
  View.read_writes_cons_rows_of_mem (o := 0) v f _ z L _ (ix2 a k) rfl (Nat.zero_add _).symm rfl

end Rows

/-- A column of the offsets' block after the write of one tile of 256 columns: the tile's entry, or the earlier entry. -/
theorem tile_cases {κ : Kind} {sp : Space} (v : View sig κ sp S1x2048 .f32) (f : v.ty.Contents (Elt Ideal)) {o : ℕ}
    (inb : ∀ a : Fin 2, (![0, o] : Fin 2 → ℕ) a + (![1, 256] : Fin 2 → ℕ) a ≤ S1x2048.size a) (w : FVec Ideal S1x256 .f32)
    (L : List (View.Piece (Elt Ideal) S1x2048 .f32)) (j : Fin 2048) (G : EReal)
    (hit : ∀ q : Fin 256, j.val = o + q.val → w (ix2 0 q) = G)
    (miss : ¬ (o ≤ j.val ∧ j.val < o + 256) → v.read (Elt Ideal) (v.writes (Elt Ideal) f L) (ix2 0 j) = G) :
    v.read (Elt Ideal) (v.writes (Elt Ideal) f (⟨Rect.unit (s := S1x2048) ![0, o] ![1, 256] inb, w⟩ :: L)) (ix2 0 j) = G := by
  by_cases h : o ≤ j.val ∧ j.val < o + 256
  · refine (View.read_writes_cons_unit_of_mem v f inb w L _ (ix2 0 (⟨j.val - o, by omega⟩ : Fin 256)) rfl ?_).trans (hit _ (by show j.val = o + (j.val - o); omega))
    exact Fin.forall_fin_two.mpr ⟨rfl, by show j.val = o + (j.val - o); omega⟩
  · refine (View.read_writes_cons_unit_of_not_mem v f inb w L _ rfl (1 : Fin 2) ?_).trans (miss h)
    show j.val < o ∨ o + 256 ≤ j.val
    omega

/-- The first grid point clears the gain's block and adds its part. -/
theorem sums_first (t : Fin cfg0.N) (h : t.val % 16 = 0) (a : Fin 8) (k : Fin 1024) :
    (outsAt0 m c t.val t.isLt).2.2.2.1 (ix2 a k) = 0 + part m c t a k := by
  rw [outsAt0_A m c t h]
  frame_open
  simp (disch := decide) only [↓ View.readCov_skip, ↓ View.readCov_cons_toLoadRect, ↓ View.readCov_fill]
  frame_out
  rw [← View.read_writes_junk_apply_eq_canon (ms0_9 t).view]
  by_cases h0 : a.val = 0
  · obtain rfl : a = 0 := Fin.ext h0
    refine (row0_hit _ _ _ _ k).trans (add_pre_of _ _ k _ (pre_part m c t k) ?_)
    pointwise [k0_pay45]
  refine (row0_miss _ _ _ _ a k h0).trans ?_
  refine (whole_hit _ _ _ _ a k).trans ?_
  pointwise [k0_pay45, part]
  simp only [h0, if_false, add_zero]

/-- Every later grid point adds its part. -/
theorem sums_next (t : Fin cfg0.N) (h : ¬ t.val % 16 = 0) (a : Fin 8) (k : Fin 1024) :
    (outsAt0 m c t.val t.isLt).2.2.2.1 (ix2 a k)
    = (outsAt0 m c (t.val - 1) (Nat.lt_of_le_of_lt (Nat.sub_le _ _) t.isLt)).2.2.2.1 (ix2 a k) + part m c t a k := by
  rw [outsAt0_B m c t h]
  frame_out
  by_cases h0 : a.val = 0
  · obtain rfl : a = 0 := Fin.ext h0
    refine (row0_hit _ _ _ _ k).trans (add_pre_of _ _ k _ (pre_part m c t k) ?_)
    pointwise
  refine (row0_miss _ _ _ _ a k h0).trans ?_
  rw [View.writes_nil, Memref.IsWhole.read_unread, part, if_neg h0, add_zero]

/-- A sum over the array's rows is a sum over grid points and the rows of a block. -/
theorem sum_rows (f : Fin 8192 → EReal) : ∑ t : Fin cfg0.N, ∑ i : Fin 512, f (row t i) = ∑ r, f r := by
  rw [Fin.sum_univ_tiles 16 512 rfl]
  rfl

/-- The gain's block after the last grid point. -/
theorem sums_last (t : Fin cfg0.N) (h : t.val % 16 = 15) (a : Fin 8) (k : Fin 1024) :
    (outsAt0 m c t.val t.isLt).2.2.2.1 (ix2 a k) = sums (DU m c) (X m c) (GP m c) (W m c) (B m c) a k := by
  have ht := lt_of_lt_of_eq t.isLt N_0
  have key := Pipeline.eq_sum_fin_of_reset_step_apply_last (N := cfg0.N) (fun n h (i : Fin 8 × Fin 1024) => (outsAt0 m c n h).2.2.2.1 (ix2 i.1 i.2)) 16 (fun _ => (0 : EReal))
    (fun t i => part m c t i.1 i.2) (fun t h i => sums_first m c t h i.1 i.2) (fun t h i => sums_next m c t h i.1 i.2) N_0.le
    t (by show t.val + 1 = grid0.N; rw [N_0]; omega) (a, k)
  refine key.trans ?_
  rw [zero_add]
  unfold part sums
  split_ifs
  · exact sum_rows fun r => dh (DU m c) (X m c) (GP m c) (W m c) (B m c) r k * (X m c r k * scale (X m c r))
  · exact Finset.sum_const_zero

/-- The gain's gradient. -/
theorem final9 : (dats m 0 c).arrAt 9 cfg0.N = fun i => sums (DU m c) (X m c) (GP m c) (W m c) (B m c) (i 0) (i 1) := by
  refine (dats m 0 c).arrAt_eq_of_covers 9 _ (by decide +kernel) fun t hf y => ?_
  blk_simp
  rw [after0_9]
  have hy : y = ix2 (y 0) (y 1) := eq_ix2 y
  rw [hy]
  refine (sums_last m c t ((flush0_9 t).mp hf) (y 0) (y 1)).trans (congrArg₂ (sums (DU m c) (X m c) (GP m c) (W m c) (B m c)) (Fin.ext ?_) (Fin.ext ?_)) <;> blk_simp [idx t]

/-- The first grid point clears the offsets' block and adds its part. -/
theorem cols_first (t : Fin cfg0.N) (h : t.val % 16 = 0) (j : Fin 2048) :
    (outsAt0 m c t.val t.isLt).2.2.2.2 (ix2 0 j) = 0 + colPart m c t j := by
  rw [outsAt0_A m c t h]
  frame_open
  simp (disch := decide) only [↓ View.readCov_skip, ↓ View.readCov_cons_toLoadRect, ↓ View.readCov_fill]
  frame_out
  rw [← View.read_writes_junk_apply_eq_canon (ms0_10 t).view]
  refine tile_cases _ _ _ _ _ j _ (fun q hq => ?_) fun h7 => ?_
  · obtain ⟨j, hj⟩ := j
    obtain rfl : j = 1792 + q.val := hq
    simp only [colPart, da_hi m c t 768 1792 _ q ⟨1792 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic, k0_pay46]
  refine tile_cases _ _ _ _ _ j _ (fun q hq => ?_) fun h6 => ?_
  · obtain ⟨j, hj⟩ := j
    obtain rfl : j = 1536 + q.val := hq
    simp only [colPart, da_hi m c t 512 1536 _ q ⟨1536 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic, k0_pay46]
  refine tile_cases _ _ _ _ _ j _ (fun q hq => ?_) fun h5 => ?_
  · obtain ⟨j, hj⟩ := j
    obtain rfl : j = 1280 + q.val := hq
    simp only [colPart, da_hi m c t 256 1280 _ q ⟨1280 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic, k0_pay46]
  refine tile_cases _ _ _ _ _ j _ (fun q hq => ?_) fun h4 => ?_
  · obtain ⟨j, hj⟩ := j
    obtain rfl : j = 1024 + q.val := hq
    simp only [colPart, da_hi m c t 0 1024 _ q ⟨1024 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic, k0_pay46]
  refine tile_cases _ _ _ _ _ j _ (fun q hq => ?_) fun h3 => ?_
  · obtain ⟨j, hj⟩ := j
    obtain rfl : j = 768 + q.val := hq
    simp only [colPart, da_lo m c t 768 1792 _ q ⟨768 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic, k0_pay46]
  refine tile_cases _ _ _ _ _ j _ (fun q hq => ?_) fun h2 => ?_
  · obtain ⟨j, hj⟩ := j
    obtain rfl : j = 512 + q.val := hq
    simp only [colPart, da_lo m c t 512 1536 _ q ⟨512 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic, k0_pay46]
  refine tile_cases _ _ _ _ _ j _ (fun q hq => ?_) fun h1 => ?_
  · obtain ⟨j, hj⟩ := j
    obtain rfl : j = 256 + q.val := hq
    simp only [colPart, da_lo m c t 256 1280 _ q ⟨256 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic, k0_pay46]
  refine tile_cases _ _ _ _ _ j _ (fun q hq => ?_) fun h0 => ?_
  · obtain ⟨j, hj⟩ := j
    obtain rfl : j = 0 + q.val := hq
    simp only [colPart, da_lo m c t 0 1024 _ q ⟨0 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic, k0_pay46]
  exact absurd j.isLt (by omega)

/-- Every later grid point adds its part. -/
theorem cols_next (t : Fin cfg0.N) (h : ¬ t.val % 16 = 0) (j : Fin 2048) :
    (outsAt0 m c t.val t.isLt).2.2.2.2 (ix2 0 j)
    = (outsAt0 m c (t.val - 1) (Nat.lt_of_le_of_lt (Nat.sub_le _ _) t.isLt)).2.2.2.2 (ix2 0 j) + colPart m c t j := by
  rw [outsAt0_B m c t h]
  frame_out
  rw [← View.read_writes_junk_apply_eq_canon (ms0_10 t).view]
  refine tile_cases _ _ _ _ _ j _ (fun q hq => ?_) fun h7 => ?_
  · obtain ⟨j, hj⟩ := j
    obtain rfl : j = 1792 + q.val := hq
    simp only [colPart, da_hi m c t 768 1792 _ q ⟨1792 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic]
  refine tile_cases _ _ _ _ _ j _ (fun q hq => ?_) fun h6 => ?_
  · obtain ⟨j, hj⟩ := j
    obtain rfl : j = 1536 + q.val := hq
    simp only [colPart, da_hi m c t 512 1536 _ q ⟨1536 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic]
  refine tile_cases _ _ _ _ _ j _ (fun q hq => ?_) fun h5 => ?_
  · obtain ⟨j, hj⟩ := j
    obtain rfl : j = 1280 + q.val := hq
    simp only [colPart, da_hi m c t 256 1280 _ q ⟨1280 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic]
  refine tile_cases _ _ _ _ _ j _ (fun q hq => ?_) fun h4 => ?_
  · obtain ⟨j, hj⟩ := j
    obtain rfl : j = 1024 + q.val := hq
    simp only [colPart, da_hi m c t 0 1024 _ q ⟨1024 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic]
  refine tile_cases _ _ _ _ _ j _ (fun q hq => ?_) fun h3 => ?_
  · obtain ⟨j, hj⟩ := j
    obtain rfl : j = 768 + q.val := hq
    simp only [colPart, da_lo m c t 768 1792 _ q ⟨768 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic]
  refine tile_cases _ _ _ _ _ j _ (fun q hq => ?_) fun h2 => ?_
  · obtain ⟨j, hj⟩ := j
    obtain rfl : j = 512 + q.val := hq
    simp only [colPart, da_lo m c t 512 1536 _ q ⟨512 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic]
  refine tile_cases _ _ _ _ _ j _ (fun q hq => ?_) fun h1 => ?_
  · obtain ⟨j, hj⟩ := j
    obtain rfl : j = 256 + q.val := hq
    simp only [colPart, da_lo m c t 256 1280 _ q ⟨256 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic]
  refine tile_cases _ _ _ _ _ j _ (fun q hq => ?_) fun h0 => ?_
  · obtain ⟨j, hj⟩ := j
    obtain rfl : j = 0 + q.val := hq
    simp only [colPart, da_lo m c t 0 1024 _ q ⟨0 + q.val, hj⟩ (by norm_num) rfl rfl]
    pointwise [k0_pay1, k0_pay2, k0_pay3, k0_pay4, k0_pay48, k0_pay49, k0_pay50, k0_pay51, k0_pay11, k0_pay13, k0_pay19, k0_pay21, k0_pay27, k0_pay29, k0_pay35, k0_pay37, k0_pay7, k0_pay8, k0_pay9, k0_pay10, k0_pay12, k0_pay15, k0_pay16, k0_pay17, k0_pay18, k0_pay20, k0_pay23, k0_pay24, k0_pay25, k0_pay26, k0_pay28, k0_pay31, k0_pay32, k0_pay33, k0_pay34, k0_pay36, zero_sub, Ideal.logistic]
  exact absurd j.isLt (by omega)

/-- The offsets' block after the last grid point. -/
theorem cols_last (t : Fin cfg0.N) (h : t.val % 16 = 15) (j : Fin 2048) :
    (outsAt0 m c t.val t.isLt).2.2.2.2 (ix2 0 j) = db (DU m c) (X m c) (GP m c) (W m c) (B m c) j := by
  have ht := lt_of_lt_of_eq t.isLt N_0
  have key := Pipeline.eq_sum_fin_of_reset_step_apply_last (N := cfg0.N) (fun n h (j : Fin 2048) => (outsAt0 m c n h).2.2.2.2 (ix2 0 j)) 16 (fun _ => (0 : EReal))
    (fun t j => colPart m c t j) (fun t h j => cols_first m c t h j) (fun t h j => cols_next m c t h j) N_0.le
    t (by show t.val + 1 = grid0.N; rw [N_0]; omega) j
  refine key.trans ?_
  rw [zero_add]
  exact sum_rows fun r => da (DU m c) (X m c) (GP m c) (W m c) (B m c) r j

/-- The offsets' gradient. -/
theorem final10 : (dats m 0 c).arrAt 10 cfg0.N = fun i => db (DU m c) (X m c) (GP m c) (W m c) (B m c) (i 1) := by
  refine (dats m 0 c).arrAt_eq_of_covers 10 _ (by decide +kernel) fun t hf y => ?_
  blk_simp
  rw [after0_10]
  have hy : y = ix2 0 (y 1) := (eq_ix2 y).trans (congrArg (fun i => ix2 i (y 1)) (Subsingleton.elim (α := Fin 1) _ _))
  rw [hy]
  refine (cols_last m c t ((flush0_10 t).mp hf) (y 1)).trans (congrArg (db (DU m c) (X m c) (GP m c) (W m c) (B m c)) (Fin.ext ?_))
  blk_simp [idx t]

end Cert.Kernel8Ideal.Arrays

end
-- ==== Proof.ConvReference.lean ====
/- What the terms of the gated entrance's reference gradient are, entry by entry: the formulas of `ConvMath` over the
   argument arrays. Each operation group is named once and read at an index once. -/
module

public import proofs.«01_k».proof.Proof.Gen.Reference8Ideal.Run
public import proofs.«01_k».proof.Proof.ConvMath
public import Idealize.ShloMosaic.Lib.Claim

@[expose] public section

set_option maxRecDepth 16384

noncomputable section

open Idealize.ShloMosaic Idealize.ShloMosaic.TcCoe Idealize.SL.Sem

namespace Cert.Reference8Ideal.Stages

open Cert.Reference8Ideal Cert.Reference8Ideal.Gen Cert.RowNorm

/-! ## The groups of operations -/

/-- The mean square of every row plus the small constant, as a column. -/
def meanCol (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- Every row divided by the root of its mean square. -/
def normal (x : FVec Ideal S8192x1024 .f32) : FVec Ideal S8192x1024 .f32 :=
  mulf x (broadcastInDim S8192x1024 ![0, 1] bcast_S8192x1_S8192x1024_0_1 (Host.rsqrt (meanCol x)))

/-- A gain row, repeated over all rows. -/
def gain (g : FVec Ideal S1x1024 .f32) : FVec Ideal S8192x1024 .f32 :=
  broadcastInDim S8192x1024 ![0, 1] bcast_S1x1024_S8192x1024_0_1 g

/-- The gradient through the normalisation, `dn` the gradient at the normalised rows. -/
def gradRows (x dn : FVec Ideal S8192x1024 .f32) : FVec Ideal S8192x1024 .f32 :=
  addf (mulf dn (broadcastInDim S8192x1024 ![0, 1] bcast_S8192x1_S8192x1024_0_1 (Host.rsqrt (meanCol x))))
    (mulf (broadcastInDim S8192x1024 ![0] bcast_S8192_S8192x1024_0 (Host.reduceAdd (Host.divf (mulf (shapeCast S8192x1 (Host.reduceAdd (mulf x dn) (constant S_ .f32 0x00000000#32) reducesTo_S8192x1024_S8192_d1 h_S_) shapeCasts_S8192_S8192x1)
        (mulf (broadcastInDim S8192x1 ![] bcast_S_S8192x1 (constant S_ .f32 0xBF000000#32)) (Host.divf (Host.rsqrt (meanCol x)) (meanCol x)))) (broadcastInDim S8192x1 ![] bcast_S_S8192x1 (constant S_ .f32 0x44800000#32))) (constant S_ .f32 0x00000000#32) reducesTo_S8192x1_S8192_d1 h_S_))
      (mulf (broadcastInDim S8192x1024 ![] bcast_S_S8192x1024 (constant S_ .f32 0x40000000#32)) x))

/-- The gradient of the gain: the column sums of the normalised rows times the gradient above. -/
def gradGain (x dy : FVec Ideal S8192x1024 .f32) : FVec Ideal S1x1024 .f32 :=
  shapeCast S1x1024 (Host.reduceAdd (mulf (normal x) dy) (constant S_ .f32 0x00000000#32) reducesTo_S8192x1024_S1024_d0 h_S_) shapeCasts_S1024_S1x1024

/-- The gate's input. -/
def pre (h : FVec Ideal S8192x1024 .f32) (W : FVec Ideal S1024x2048 .f32) (b : FVec Ideal S1x2048 .f32) : FVec Ideal S8192x2048 .f32 :=
  addf (Host.dotGeneral (φ₁ := .f32) (φ₂ := .f32) dot_S8192x1024_S1024x2048_S8192x2048_1_0_0_1_n_n none h W : FVec Ideal S8192x2048 .f32)
    (broadcastInDim S8192x2048 ![0, 1] bcast_S1x2048_S8192x2048_0_1 b)

/-- An array of ones. -/
def ones : FVec Ideal S8192x1024 .f32 := broadcastInDim S8192x1024 ![] bcast_S_S8192x1024 (constant S_ .f32 0x3F800000#32)

/-- The logistic of the gate's half of the columns. -/
def gates (a : FVec Ideal S8192x2048 .f32) : FVec Ideal S8192x1024 .f32 :=
  Host.divf ones (addf ones (Host.exp (Host.negf (extractStridedSlice S8192x1024 ![0, 1024] a slices_S8192x2048_S8192x1024_0_1024))))

/-- The gradient at the gate's input, both halves. -/
def gradGate (du : FVec Ideal S8192x1024 .f32) (a : FVec Ideal S8192x2048 .f32) : FVec Ideal S8192x2048 .f32 :=
  concatenate S8192x2048 1 [⟨S8192x1024, (mulf du (gates a))⟩, ⟨S8192x1024, (mulf (mulf (extractStridedSlice S8192x1024 ![0, 0] a slices_S8192x2048_S8192x1024_0_0) du) (mulf (gates a) (subf ones (gates a))))⟩] concatenates_S8192x1024_S8192x1024_S8192x2048_d1

/-- The gradient through the projection. -/
def gradProj (da : FVec Ideal S8192x2048 .f32) (W : FVec Ideal S1024x2048 .f32) : FVec Ideal S8192x1024 .f32 :=
  Host.dotGeneral (φ₁ := .f32) (φ₂ := .f32) dot_S8192x2048_S1024x2048_S8192x1024_1_1_0_0_n_n none da W

/-! ## The groups at an index -/

variable (x dn dy h du : FVec Ideal S8192x1024 .f32) (g : FVec Ideal S1x1024 .f32) (a da : FVec Ideal S8192x2048 .f32)
  (W : FVec Ideal S1024x2048 .f32) (b : FVec Ideal S1x2048 .f32) (r : Fin 8192) (k : Fin 1024) (j : Fin 2048)

theorem meanCol_at : meanCol x (ix2 r 0) = meanSq (fun k => x (ix2 r k)) := by
  pointwise [meanCol, meanSq]

theorem normal_at : normal x (ix2 r k) = x (ix2 r k) * scale (fun k => x (ix2 r k)) := by
  pointwise [normal, scale, meanCol_at]

theorem gain_at : gain g (ix2 r k) = g (ix2 0 k) := by
  pointwise [gain]

theorem gradRows_at : gradRows x dn (ix2 r k) = grad (fun k => x (ix2 r k)) (fun k => dn (ix2 r k)) k := by
  rw [← gradRsqrt_eq]
  pointwise [gradRows, gradRsqrt, scale, meanCol_at]
  rw [Fin.sum_univ_one, meanCol_at]

theorem gradGain_at : gradGain x dy (ix2 0 k) = ∑ r : Fin 8192, dy (ix2 r k) * (x (ix2 r k) * scale (fun k => x (ix2 r k))) := by
  pointwise [gradGain, normal_at]
  exact Finset.sum_congr rfl fun r _ => mul_comm _ _

theorem pre_at : pre h W b (ix2 r j) = ∑ k : Fin 1024, h (ix2 r k) * W (ix2 k j) + b (ix2 0 j) := by
  pointwise [pre]

theorem ones_at : ones (ix2 r k) = 1 := by
  pointwise [ones]

theorem gates_at : gates a (ix2 r k) = Ideal.logistic (a (ix2 r ⟨1024 + k.val, by omega⟩)) := by
  pointwise [gates, ones_at, Ideal.logistic]

theorem gradGate_at : gradGate du a (ix2 r j) = ConvMath.gate (fun k => du (ix2 r k)) (fun j => a (ix2 r j)) j := by
  by_cases h : j.val < 1024
  · rw [ConvMath.gate_lo _ _ ⟨j.val, h⟩ j rfl]
    pointwise [gradGate, gates_at]
    rw [dif_pos h]
  · rw [ConvMath.gate_hi _ _ ⟨j.val - 1024, by omega⟩ j (by show j.val = 1024 + (j.val - 1024); omega)]
    pointwise [gradGate, gates_at, ones_at]
    rw [dif_neg h, mul_comm (a _), mul_assoc _ (Ideal.logistic _)]

theorem gradProj_at : gradProj da W (ix2 r k) = ∑ j : Fin 2048, da (ix2 r j) * W (ix2 k j) := by
  pointwise [gradProj]

/-! ## The results -/

section Results

variable (m : (ℓ : Loc nD τ sig) → Buf (Elt Ideal) ℓ) (c : Dev nD)

abbrev DXO (r : Fin 8192) (k : Fin 1024) : EReal := m ((c.tc : Thread nD τ).loc main_arg0) (ix2 r k)
abbrev DU (r : Fin 8192) (k : Fin 1024) : EReal := m ((c.tc : Thread nD τ).loc main_arg1) (ix2 r k)
abbrev X (r : Fin 8192) (k : Fin 1024) : EReal := m ((c.tc : Thread nD τ).loc main_arg2) (ix2 r k)
abbrev GP (k : Fin 1024) : EReal := m ((c.tc : Thread nD τ).loc main_arg3) (ix2 0 k)
abbrev PW (k : Fin 1024) (j : Fin 2048) : EReal := m ((c.tc : Thread nD τ).loc main_arg4) (ix2 k j)
abbrev PB (j : Fin 2048) : EReal := m ((c.tc : Thread nD τ).loc main_arg5) (ix2 0 j)

def hV : FVec Ideal S8192x1024 .f32 := mulf (normal (m ((c.tc : Thread nD τ).loc main_arg2))) (gain (m ((c.tc : Thread nD τ).loc main_arg3)))
def preV : FVec Ideal S8192x2048 .f32 := pre (hV m c) (m ((c.tc : Thread nD τ).loc main_arg4)) (m ((c.tc : Thread nD τ).loc main_arg5))
def daV : FVec Ideal S8192x2048 .f32 := gradGate (m ((c.tc : Thread nD τ).loc main_arg1)) (preV m c)
def dhV : FVec Ideal S8192x1024 .f32 := gradProj (daV m c) (m ((c.tc : Thread nD τ).loc main_arg4))
def dxV : FVec Ideal S8192x1024 .f32 :=
  addf (m ((c.tc : Thread nD τ).loc main_arg0)) (gradRows (m ((c.tc : Thread nD τ).loc main_arg2)) (mulf (dhV m c) (gain (m ((c.tc : Thread nD τ).loc main_arg3)))))
def sumsV : FVec Ideal S8x1024 .f32 :=
  concatenate S8x1024 0 [⟨S1x1024, gradGain (m ((c.tc : Thread nD τ).loc main_arg2)) (dhV m c)⟩,
    ⟨S7x1024, broadcastInDim S7x1024 ![] bcast_S_S7x1024 (constant S_ .f32 0x00000000#32)⟩] concatenates_S1x1024_S7x1024_S8x1024_d0
def dbV : FVec Ideal S1x2048 .f32 :=
  shapeCast S1x2048 (Host.reduceAdd (daV m c) (constant S_ .f32 0x00000000#32) reducesTo_S8192x2048_S2048_d0 h_S_) shapeCasts_S2048_S1x2048

theorem hV_at (r : Fin 8192) (k : Fin 1024) : hV m c (ix2 r k) = ConvMath.h (X m c) (GP m c) r k := by
  pointwise [hV, normal_at, gain_at, ConvMath.h]

theorem preV_at (r : Fin 8192) (j : Fin 2048) : preV m c (ix2 r j) = ConvMath.pre (X m c) (GP m c) (PW m c) (PB m c) r j := by
  simp only [preV, pre_at, hV_at]; rfl

theorem daV_at (r : Fin 8192) (j : Fin 2048) : daV m c (ix2 r j) = ConvMath.da (DU m c) (X m c) (GP m c) (PW m c) (PB m c) r j := by
  simp only [daV, gradGate_at, preV_at]; rfl

theorem dhV_at (r : Fin 8192) (k : Fin 1024) : dhV m c (ix2 r k) = ConvMath.dh (DU m c) (X m c) (GP m c) (PW m c) (PB m c) r k := by
  simp only [dhV, gradProj_at, daV_at]; rfl

theorem dxV_at (r : Fin 8192) (k : Fin 1024) : dxV m c (ix2 r k) = ConvMath.dx (DXO m c) (DU m c) (X m c) (GP m c) (PW m c) (PB m c) r k := by
  pointwise [dxV, gradRows_at, gain_at, dhV_at, ConvMath.dx]

theorem sumsV_at (a : Fin 8) (k : Fin 1024) : sumsV m c (ix2 a k) = ConvMath.sums (DU m c) (X m c) (GP m c) (PW m c) (PB m c) a k := by
  fin_cases a <;> pointwise [sumsV, gradGain_at, dhV_at, ConvMath.sums]

theorem dbV_at (j : Fin 2048) : dbV m c (ix2 0 j) = ConvMath.db (DU m c) (X m c) (GP m c) (PW m c) (PB m c) j := by
  pointwise [dbV, daV_at, ConvMath.db]

theorem res0_eq : Value.res_out0 m c = dxV m c := by
  unfold Value.res_out0 Value.res_main_v58; rfl

theorem res2_eq : Value.res_out2 m c = truncf .bf16 (daV m c) bitsLt_bf16_f32 := by
  unfold Value.res_out2 Value.res_main_v60; rfl

theorem res3_eq : Value.res_out3 m c = sumsV m c := by
  unfold Value.res_out3 Value.res_main_v57; rfl

theorem res4_eq : Value.res_out4 m c = dbV m c := by
  unfold Value.res_out4 Value.res_main_v37; rfl

end Results

end Cert.Reference8Ideal.Stages

end
-- ==== Proof.ConvGrad.lean ====
/- The gated entrance's gradient kernel's results are the reference's: both are the formulas of `ConvMath` over equal arguments. -/
module

public import proofs.«01_k».proof.Proof.ConvSums
public import proofs.«01_k».proof.Proof.ConvReference

@[expose] public section

noncomputable section

open Idealize.ShloMosaic Idealize.ShloMosaic.TcCoe Idealize.SL.Sem

namespace Cert.ConvGrad

open Cert Cert.Kernel8Ideal.Gen Cert.Reference8Ideal.Gen

variable (m : (ℓ : Loc Kernel8Ideal.nD Kernel8Ideal.τ Kernel8Ideal.sig) → Buf (Elt Ideal) ℓ)
  (m' : (ℓ : Loc Reference8Ideal.nD Reference8Ideal.τ Reference8Ideal.sig) → Buf (Elt Ideal) ℓ) (c : Dev Kernel8Ideal.nD)
  (h0 : m' ((c.tc : Thread Reference8Ideal.nD Reference8Ideal.τ).loc Reference8Ideal.main_arg0) = m ((c.tc : Thread Kernel8Ideal.nD Kernel8Ideal.τ).loc Kernel8Ideal.main_arg0))
  (h1 : m' ((c.tc : Thread Reference8Ideal.nD Reference8Ideal.τ).loc Reference8Ideal.main_arg1) = m ((c.tc : Thread Kernel8Ideal.nD Kernel8Ideal.τ).loc Kernel8Ideal.main_arg1))
  (h2 : m' ((c.tc : Thread Reference8Ideal.nD Reference8Ideal.τ).loc Reference8Ideal.main_arg2) = m ((c.tc : Thread Kernel8Ideal.nD Kernel8Ideal.τ).loc Kernel8Ideal.main_arg2))
  (h3 : m' ((c.tc : Thread Reference8Ideal.nD Reference8Ideal.τ).loc Reference8Ideal.main_arg3) = m ((c.tc : Thread Kernel8Ideal.nD Kernel8Ideal.τ).loc Kernel8Ideal.main_arg3))
  (h4 : m' ((c.tc : Thread Reference8Ideal.nD Reference8Ideal.τ).loc Reference8Ideal.main_arg4) = m ((c.tc : Thread Kernel8Ideal.nD Kernel8Ideal.τ).loc Kernel8Ideal.main_arg4))
  (h5 : m' ((c.tc : Thread Reference8Ideal.nD Reference8Ideal.τ).loc Reference8Ideal.main_arg5) = m ((c.tc : Thread Kernel8Ideal.nD Kernel8Ideal.τ).loc Kernel8Ideal.main_arg5))
include h0 h1 h2 h3 h4 h5

/-- The two argument arrays read the same. -/
theorem args_eq :
    Reference8Ideal.Stages.DXO m' c = Kernel8Ideal.Arrays.DXO m c
    ∧ Reference8Ideal.Stages.DU m' c = Kernel8Ideal.Arrays.DU m c
    ∧ Reference8Ideal.Stages.X m' c = Kernel8Ideal.Arrays.X m c
    ∧ Reference8Ideal.Stages.GP m' c = Kernel8Ideal.Arrays.GP m c
    ∧ Reference8Ideal.Stages.PW m' c = Kernel8Ideal.Arrays.W m c
    ∧ Reference8Ideal.Stages.PB m' c = Kernel8Ideal.Arrays.B m c :=
  ⟨by funext r k; exact congrFun h0 _, by funext r k; exact congrFun h1 _, by funext r k; exact congrFun h2 _,
    by funext k; exact congrFun h3 _, by funext k j; exact congrFun h4 _, by funext j; exact congrFun h5 _⟩

/-- The gradient at the layer's input. -/
theorem result0 : Reference8Ideal.Value.res_out0 m' c = (Kernel8Ideal.Gen.dats m 0 c).arrAt 6 Kernel8Ideal.cfg0.N := by
  obtain ⟨e0, e1, e2, e3, e4, e5⟩ := args_eq m m' c h0 h1 h2 h3 h4 h5
  rw [Reference8Ideal.Stages.res0_eq, Kernel8Ideal.Arrays.final6]
  funext y
  idx_vars y
  refine (Reference8Ideal.Stages.dxV_at m' c y0 y1).trans ?_
  rw [e0, e1, e2, e3, e4, e5]

/-- The normalised input. -/
theorem result1 : truncf .bf16 (Reference8Ideal.Stages.hV m' c) (by decide) = (Kernel8Ideal.Gen.dats m 0 c).arrAt 7 Kernel8Ideal.cfg0.N := by
  obtain ⟨e0, e1, e2, e3, e4, e5⟩ := args_eq m m' c h0 h1 h2 h3 h4 h5
  rw [Kernel8Ideal.Arrays.final7]
  funext y
  idx_vars y
  refine (Reference8Ideal.Stages.hV_at m' c y0 y1).trans ?_
  rw [e2, e3]

/-- The gradient at the gate's input. -/
theorem result2 : Reference8Ideal.Value.res_out2 m' c = (Kernel8Ideal.Gen.dats m 0 c).arrAt 8 Kernel8Ideal.cfg0.N := by
  obtain ⟨e0, e1, e2, e3, e4, e5⟩ := args_eq m m' c h0 h1 h2 h3 h4 h5
  rw [Reference8Ideal.Stages.res2_eq, Kernel8Ideal.Arrays.final8]
  funext y
  idx_vars y
  refine (Reference8Ideal.Stages.daV_at m' c y0 y1).trans ?_
  rw [e1, e2, e3, e4, e5]

/-- The gain's gradient. -/
theorem result3 : Reference8Ideal.Value.res_out3 m' c = (Kernel8Ideal.Gen.dats m 0 c).arrAt 9 Kernel8Ideal.cfg0.N := by
  obtain ⟨e0, e1, e2, e3, e4, e5⟩ := args_eq m m' c h0 h1 h2 h3 h4 h5
  rw [Reference8Ideal.Stages.res3_eq, Kernel8Ideal.Arrays.final9]
  funext y
  idx_vars y
  refine (Reference8Ideal.Stages.sumsV_at m' c y0 y1).trans ?_
  rw [e1, e2, e3, e4, e5]

/-- The offsets' gradient. -/
theorem result4 : Reference8Ideal.Value.res_out4 m' c = (Kernel8Ideal.Gen.dats m 0 c).arrAt 10 Kernel8Ideal.cfg0.N := by
  obtain ⟨e0, e1, e2, e3, e4, e5⟩ := args_eq m m' c h0 h1 h2 h3 h4 h5
  rw [Reference8Ideal.Stages.res4_eq, Kernel8Ideal.Arrays.final10]
  funext y
  idx_vars y
  obtain rfl : y0 = 0 := Subsingleton.elim (α := Fin 1) _ _
  refine (Reference8Ideal.Stages.dbV_at m' c y1).trans ?_
  rw [e1, e2, e3, e4, e5]

end Cert.ConvGrad

end
-- ==== Proof.ConvEntry.lean ====
/- The convolution's entrance: the normalised input times the entrance weight, and the gated half of it. -/
module

public import proofs.«01_k».proof.Proof.Gen.Kernel9Ideal.Value
public import proofs.«01_k».proof.Proof.Gen.Reference9Ideal.Run
public import proofs.«01_k».proof.Proof.RowNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel9Ideal.Arrays

open Cert.Kernel9Ideal Cert.Kernel9Ideal.Gen Cert.RowNorm

variable (m : (ℓ : Loc nD τ sig) → Buf (Elt Ideal) ℓ) (c : Dev nD)

/-- The layer's input, the gain, the entrance weight and its bias. -/
abbrev X (r : Fin 8192) (k : Fin 1024) : EReal := m ((c : Thread nD τ).loc main_arg0) (ix2 r k)
abbrev GP (k : Fin 1024) : EReal := m ((c : Thread nD τ).loc main_arg1) (ix2 0 k)
abbrev W (k : Fin 1024) (j : Fin 2048) : EReal := m ((c : Thread nD τ).loc main_arg2) (ix2 k j)
abbrev B (j : Fin 2048) : EReal := m ((c : Thread nD τ).loc main_arg3) (ix2 0 j)

/-- The entrance. -/
def entry (r : Fin 8192) (j : Fin 2048) : EReal := (∑ k, X m c r k * scale (X m c r) * GP m c k * W m c k j) + B m c j

/-- The first half, gated by the second. -/
def gated (r : Fin 8192) (j : Fin 1024) : EReal :=
  entry m c r ⟨j.val, by omega⟩ * Ideal.logistic (entry m c r ⟨1024 + j.val, by omega⟩)

theorem idx : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] :=
  (by decide +kernel : ∀ t : Fin grid0.N, _)

/-- The array row of a block's row. -/
def row (t : Fin cfg0.N) (i : Fin 512) : Fin 8192 := ⟨t.val * 512 + i.val, by have := lt_of_lt_of_eq t.isLt N_0; omega⟩

/-- The weight by slices. -/
theorem weight_at (s : Fin 8) (k : Fin 1024) (f : Fin 256) :
    (V m c main_v2 : FVec Ideal S8x1024x256 .bf16) (ix3 s k f) = W m c k ⟨s.val * 256 + f.val, by omega⟩ := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (i : Fin 512) (k : Fin 1024) :
    (iblk m c 0 t : FVec Ideal S512x1024 .f32) (ix2 i k) = X m c (row t i) k := by
  blk_ext [iblk, V_main_arg0, idx t, row]

theorem blk1 (t : Fin cfg0.N) (k : Fin 1024) : (iblk m c 1 t : FVec Ideal S1x1024 .f32) (ix2 0 k) = GP m c k := by
  blk_ext [iblk, V_main_arg1, idx t]

theorem blk2 (t : Fin cfg0.N) (s : Fin 8) (k : Fin 1024) (f : Fin 256) :
    (iblk m c 2 t : FVec Ideal S8x1024x256 .bf16) (ix3 s k f) = W m c k ⟨s.val * 256 + f.val, by omega⟩ := by
  rw [← weight_at]
  blk_ext [iblk, idx t]

theorem blk3 (t : Fin cfg0.N) (j : Fin 2048) : (iblk m c 3 t : FVec Ideal S1x2048 .f32) (ix2 0 j) = B m c j := by
  blk_ext [iblk, V_main_arg3, idx t]

/-- An entry of slice `s`, which starts at column `o`, as the kernel forms it. -/
theorem entry_row (t : Fin cfg0.N) (s : Fin 8) (o : ℕ) (i : Fin 512) (f : Fin 256) (j : Fin 2048) (ho : s.val * 256 = o) (hj : j.val = o + f.val) :
    entry m c (row t i) j
    = (∑ k : Fin 1024, ((show FVec Ideal S512x1024 .f32 from iblk m c 0 t) (ix2 i k)
          * scale (fun k => (show FVec Ideal S512x1024 .f32 from iblk m c 0 t) (ix2 i k)) * (show FVec Ideal S1x1024 .f32 from iblk m c 1 t) (ix2 0 k))
        * (show FVec Ideal S8x1024x256 .bf16 from iblk m c 2 t) (ix3 s k f))
      + (show FVec Ideal S1x2048 .f32 from iblk m c 3 t) (ix2 0 ⟨o + f.val, by omega⟩) := by
  subst ho
  obtain ⟨j, hj'⟩ := j
  obtain rfl : j = s.val * 256 + f.val := hj
  simp only [blk0, blk1, blk2, blk3]
  rfl

theorem out4 (t : Fin cfg0.N) (y : S512x2048.Idx) :
    out0_4 (iblk m c 0 t) (iblk m c 1 t) (iblk m c 2 t) (iblk m c 3 t) y = entry m c (row t (y 0)) (y 1) := by
  unfold_out out0_4
  frame_out
  canon_tiles x h
  all_goals
    idx_vars x
    idx_vars y
    obtain rfl : y0 = x0 := Fin.ext h0
    first
    | refine Eq.trans ?_ (entry_row m c t 0 0 y0 x1 y1 rfl (h1.trans (Nat.zero_add _).symm)).symm
    | refine Eq.trans ?_ (entry_row m c t 1 256 y0 x1 y1 rfl h1).symm
    | refine Eq.trans ?_ (entry_row m c t 2 512 y0 x1 y1 rfl h1).symm
    | refine Eq.trans ?_ (entry_row m c t 3 768 y0 x1 y1 rfl h1).symm
    | refine Eq.trans ?_ (entry_row m c t 4 1024 y0 x1 y1 rfl h1).symm
    | refine Eq.trans ?_ (entry_row m c t 5 1280 y0 x1 y1 rfl h1).symm
    | refine Eq.trans ?_ (entry_row m c t 6 1536 y0 x1 y1 rfl h1).symm
    | refine Eq.trans ?_ (entry_row m c t 7 1792 y0 x1 y1 rfl h1).symm
    pointwise [k0_pay3, k0_pay4, k0_pay5, k0_pay6, k0_pay7, k0_pay8, k0_pay9, k0_pay10, k0_pay11, k0_pay12, scale, meanSq]

/-- A gated entry of slice `s`. -/
theorem gated_row (t : Fin cfg0.N) (s s' : Fin 8) (o o' : ℕ) (i : Fin 512) (f : Fin 256) (j : Fin 1024) (ho : s.val * 256 = o) (ho' : s'.val * 256 = o')
    (hs : o' = 1024 + o) (hj : j.val = o + f.val) :
    gated m c (row t i) j
    = ((∑ k : Fin 1024, ((show FVec Ideal S512x1024 .f32 from iblk m c 0 t) (ix2 i k)
          * scale (fun k => (show FVec Ideal S512x1024 .f32 from iblk m c 0 t) (ix2 i k)) * (show FVec Ideal S1x1024 .f32 from iblk m c 1 t) (ix2 0 k))
        * (show FVec Ideal S8x1024x256 .bf16 from iblk m c 2 t) (ix3 s k f))
      + (show FVec Ideal S1x2048 .f32 from iblk m c 3 t) (ix2 0 ⟨o + f.val, by omega⟩))
      * Ideal.logistic ((∑ k : Fin 1024, ((show FVec Ideal S512x1024 .f32 from iblk m c 0 t) (ix2 i k)
          * scale (fun k => (show FVec Ideal S512x1024 .f32 from iblk m c 0 t) (ix2 i k)) * (show FVec Ideal S1x1024 .f32 from iblk m c 1 t) (ix2 0 k))
        * (show FVec Ideal S8x1024x256 .bf16 from iblk m c 2 t) (ix3 s' k f))
      + (show FVec Ideal S1x2048 .f32 from iblk m c 3 t) (ix2 0 ⟨o' + f.val, by omega⟩)) := by
  rw [gated, entry_row m c t s o i f ⟨j.val, by omega⟩ ho hj, entry_row m c t s' o' i f ⟨1024 + j.val, by omega⟩ ho' (by show 1024 + j.val = _; omega)]

theorem out5 (t : Fin cfg0.N) (y : S512x1024.Idx) :
    out0_5 (iblk m c 0 t) (iblk m c 1 t) (iblk m c 2 t) (iblk m c 3 t) y = gated m c (row t (y 0)) (y 1) := by
  unfold_out out0_5
  frame_out
  canon_tiles x h
  all_goals
    idx_vars x
    idx_vars y
    obtain rfl : y0 = x0 := Fin.ext h0
    first
    | refine Eq.trans ?_ (gated_row m c t 0 4 0 1024 y0 x1 y1 rfl rfl rfl (h1.trans (Nat.zero_add _).symm)).symm
    | refine Eq.trans ?_ (gated_row m c t 1 5 256 1280 y0 x1 y1 rfl rfl rfl h1).symm
    | refine Eq.trans ?_ (gated_row m c t 2 6 512 1536 y0 x1 y1 rfl rfl rfl h1).symm
    | refine Eq.trans ?_ (gated_row m c t 3 7 768 1792 y0 x1 y1 rfl rfl rfl h1).symm
    pointwise [k0_pay1, k0_pay2, k0_pay13, k0_pay14, k0_pay3, k0_pay4, k0_pay5, k0_pay6, k0_pay7, k0_pay8, k0_pay9, k0_pay10, k0_pay11, k0_pay12, scale, meanSq, Ideal.logistic, zero_sub]

theorem final4 : (dats m 0 c).arrAt 4 cfg0.N = fun i => entry m c (i 0) (i 1) := by
  refine (dats m 0 c).arrAt_eq_of_covers 4 _ (by decide +kernel) fun t hf y => ?_
  blk_simp
  rw [after0_4]
  refine (out4 m c t y).trans (congrArg₂ (entry m c) (Fin.ext ?_) (Fin.ext ?_)) <;> blk_simp [idx t, row]

theorem final5 : (dats m 0 c).arrAt 5 cfg0.N = fun i => gated m c (i 0) (i 1) := by
  refine (dats m 0 c).arrAt_eq_of_covers 5 _ (by decide +kernel) fun t hf y => ?_
  blk_simp
  rw [after0_5]
  refine (out5 m c t y).trans (congrArg₂ (gated m c) (Fin.ext ?_) (Fin.ext ?_)) <;> blk_simp [idx t, row]

end Cert.Kernel9Ideal.Arrays

namespace Cert.ConvEntry

open Cert Cert.Reference9Ideal Cert.Reference9Ideal.Gen Idealize.ShloMosaic.StableHlo

variable (m : (ℓ : Loc Kernel9Ideal.nD Kernel9Ideal.τ Kernel9Ideal.sig) → Buf (Elt Ideal) ℓ)
  (m' : (ℓ : Loc nD τ sig) → Buf (Elt Ideal) ℓ) (c : Dev nD)
  (h0 : m' ((c.tc : Thread nD τ).loc main_arg0) = m ((c.tc : Thread Kernel9Ideal.nD Kernel9Ideal.τ).loc Kernel9Ideal.main_arg0))
  (h1 : m' ((c.tc : Thread nD τ).loc main_arg1) = m ((c.tc : Thread Kernel9Ideal.nD Kernel9Ideal.τ).loc Kernel9Ideal.main_arg1))
  (h2 : m' ((c.tc : Thread nD τ).loc main_arg2) = m ((c.tc : Thread Kernel9Ideal.nD Kernel9Ideal.τ).loc Kernel9Ideal.main_arg2))
  (h3 : m' ((c.tc : Thread nD τ).loc main_arg3) = m ((c.tc : Thread Kernel9Ideal.nD Kernel9Ideal.τ).loc Kernel9Ideal.main_arg3))
include h0 h1 h2 h3

/-- The entrances are equal. -/
theorem result0 : addf (Host.dotGeneral dot_S8192x1024_S1024x2048_S8192x2048_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2))) (broadcastInDim S8192x2048 ![0, 1] bcast_S1x2048_S8192x2048_0_1 (m' ((c.tc : Thread nD τ).loc main_arg3)))
    = (Kernel9Ideal.Gen.dats m 0 c).arrAt 4 Kernel9Ideal.cfg0.N := by
  simp only [Kernel9Ideal.Arrays.final4, h0, h1, h2, h3]
  funext y
  idx_vars y
  pointwise [Kernel9Ideal.Arrays.entry, RowNorm.scale, RowNorm.meanSq]

/-- The gated halves are equal. -/
theorem result1 : mulf (extractStridedSlice S8192x1024 ![0, 0] (addf (Host.dotGeneral dot_S8192x1024_S1024x2048_S8192x2048_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2))) (broadcastInDim S8192x2048 ![0, 1] bcast_S1x2048_S8192x2048_0_1 (m' ((c.tc : Thread nD τ).loc main_arg3)))) slices_S8192x2048_S8192x1024_0_0) (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf (extractStridedSlice S8192x1024 ![0, 1024] (addf (Host.dotGeneral dot_S8192x1024_S1024x2048_S8192x2048_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2))) (broadcastInDim S8192x2048 ![0, 1] bcast_S1x2048_S8192x2048_0_1 (m' ((c.tc : Thread nD τ).loc main_arg3)))) slices_S8192x2048_S8192x1024_0_1024)))))
    = (Kernel9Ideal.Gen.dats m 0 c).arrAt 5 Kernel9Ideal.cfg0.N := by
  simp only [Kernel9Ideal.Arrays.final5, h0, h1, h2, h3]
  funext y
  idx_vars y
  pointwise [Kernel9Ideal.Arrays.gated, Kernel9Ideal.Arrays.entry, RowNorm.scale, RowNorm.meanSq]
  rfl

end Cert.ConvEntry

end
-- ==== Proof.AttentionExit.lean ====
/- The attention's exit: the product with the exit weight, and the residual with the normalised product. -/
module

public import proofs.«01_k».proof.Proof.Gen.Kernel10Ideal.Value
public import proofs.«01_k».proof.Proof.Gen.Reference10Ideal.Run
public import proofs.«01_k».proof.Proof.RowNorm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Kernel10Ideal.Arrays

open Cert.Kernel10Ideal Cert.Kernel10Ideal.Gen Cert.RowNorm

variable (m : (ℓ : Loc nD τ sig) → Buf (Elt Ideal) ℓ) (c : Dev nD)

/-- The attention's output, the layer's input, the exit weight and the gain. -/
abbrev O (r : Fin 8192) (k : Fin 1024) : EReal := m ((c : Thread nD τ).loc main_arg0) (ix2 r k)
abbrev X (r : Fin 8192) (k : Fin 1024) : EReal := m ((c : Thread nD τ).loc main_arg1) (ix2 r k)
abbrev W (k j : Fin 1024) : EReal := m ((c : Thread nD τ).loc main_arg2) (ix2 k j)
abbrev GQ (k : Fin 1024) : EReal := m ((c : Thread nD τ).loc main_arg3) (ix2 0 k)

/-- The product. -/
def mid (r : Fin 8192) (j : Fin 1024) : EReal := ∑ k, O m c r k * W m c k j

/-- The layer's output. -/
def out (r : Fin 8192) (j : Fin 1024) : EReal := X m c r j + mid m c r j * scale (mid m c r) * GQ m c j

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- The array row of a block's row. -/
def row (t : Fin cfg0.N) (i : Fin 512) : Fin 8192 := ⟨t.val * 512 + i.val, by have := lt_of_lt_of_eq t.isLt N_0; omega⟩

theorem left_at (r : Fin 8192) (k : Fin 1024) : (V m c main_v0 : FVec Ideal S8192x1024 .bf16) (ix2 r k) = O m c r k := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem right_at (k j : Fin 1024) : (V m c main_v1 : FVec Ideal S1024x1024 .bf16) (ix2 k j) = W m c k j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (i : Fin 512) (k : Fin 1024) :
    (iblk m c 0 t : FVec Ideal S512x1024 .bf16) (ix2 i k) = O m c (row t i) k := by
  rw [← left_at]
  blk_ext [iblk, idx t, row]

theorem blk1 (t : Fin cfg0.N) (i : Fin 512) (k : Fin 1024) :
    (iblk m c 1 t : FVec Ideal S512x1024 .f32) (ix2 i k) = X m c (row t i) k := by
  blk_ext [iblk, V_main_arg1, idx t, row]

theorem blk2 (t : Fin cfg0.N) (k j : Fin 1024) :
    (iblk m c 2 t : FVec Ideal S1024x1024 .bf16) (ix2 k j) = W m c k j := by
  rw [← right_at]
  blk_ext [iblk, idx t]

theorem blk3 (t : Fin cfg0.N) (k : Fin 1024) : (iblk m c 3 t : FVec Ideal S1x1024 .f32) (ix2 0 k) = GQ m c k := by
  blk_ext [iblk, V_main_arg3, idx t]

theorem out4 (t : Fin cfg0.N) (i : Fin 512) (j : Fin 1024) :
    out0_4 (iblk m c 0 t) (iblk m c 1 t) (iblk m c 2 t) (iblk m c 3 t) (ix2 i j) = mid m c (row t i) j := by
  unfold out0_4
  frame_out
  pointwise [k0_pay1, blk0, blk2, mid]

theorem out5 (t : Fin cfg0.N) (i : Fin 512) (j : Fin 1024) :
    out0_5 (iblk m c 0 t) (iblk m c 1 t) (iblk m c 2 t) (iblk m c 3 t) (ix2 i j) = out m c (row t i) j := by
  unfold out0_5
  frame_out
  pointwise [k0_pay2, k0_pay1, blk0, blk1, blk2, blk3, out, mid, scale, meanSq]

theorem final4 : (dats m 0 c).arrAt 4 cfg0.N = fun i => mid m c (i 0) (i 1) := by
  refine (dats m 0 c).arrAt_eq_of_covers 4 _ (by decide +kernel) fun t hf y => ?_
  blk_simp
  rw [after0_4]
  idx_vars y
  refine (out4 m c t y0 y1).trans (congrArg₂ (mid m c) (Fin.ext ?_) (Fin.ext ?_)) <;> blk_simp [idx t, row]

theorem final5 : (dats m 0 c).arrAt 5 cfg0.N = fun i => out m c (i 0) (i 1) := by
  refine (dats m 0 c).arrAt_eq_of_covers 5 _ (by decide +kernel) fun t hf y => ?_
  blk_simp
  rw [after0_5]
  idx_vars y
  refine (out5 m c t y0 y1).trans (congrArg₂ (out m c) (Fin.ext ?_) (Fin.ext ?_)) <;> blk_simp [idx t, row]

end Cert.Kernel10Ideal.Arrays

namespace Cert.AttentionExit

open Cert Cert.Reference10Ideal Cert.Reference10Ideal.Gen Idealize.ShloMosaic.StableHlo

variable (m : (ℓ : Loc Kernel10Ideal.nD Kernel10Ideal.τ Kernel10Ideal.sig) → Buf (Elt Ideal) ℓ)
  (m' : (ℓ : Loc nD τ sig) → Buf (Elt Ideal) ℓ) (c : Dev nD)
  (h0 : m' ((c.tc : Thread nD τ).loc main_arg0) = m ((c.tc : Thread Kernel10Ideal.nD Kernel10Ideal.τ).loc Kernel10Ideal.main_arg0))
  (h1 : m' ((c.tc : Thread nD τ).loc main_arg1) = m ((c.tc : Thread Kernel10Ideal.nD Kernel10Ideal.τ).loc Kernel10Ideal.main_arg1))
  (h2 : m' ((c.tc : Thread nD τ).loc main_arg2) = m ((c.tc : Thread Kernel10Ideal.nD Kernel10Ideal.τ).loc Kernel10Ideal.main_arg2))
  (h3 : m' ((c.tc : Thread nD τ).loc main_arg3) = m ((c.tc : Thread Kernel10Ideal.nD Kernel10Ideal.τ).loc Kernel10Ideal.main_arg3))
include h0 h1 h2 h3

/-- The products are equal. -/
theorem result0 : (Host.dotGeneral dot_S8192x1024_S1024x1024_S8192x1024_1_0_0_1_n_n none (φ₁ := .f32) (φ₂ := .f32) (m' ((c.tc : Thread nD τ).loc main_arg0)) (m' ((c.tc : Thread nD τ).loc main_arg2)) : FVec Ideal S8192x1024 .f32)
    = (Kernel10Ideal.Gen.dats m 0 c).arrAt 4 Kernel10Ideal.cfg0.N := by
  simp only [Kernel10Ideal.Arrays.final4, h0, h1, h2, h3]
  funext y
  idx_vars y
  pointwise [Kernel10Ideal.Arrays.mid]

/-- The outputs are equal. -/
theorem result1 : addf (m' ((c.tc : Thread nD τ).loc main_arg1)) (mulf (mulf (Host.dotGeneral dot_S8192x1024_S1024x1024_S8192x1024_1_0_0_1_n_n none (φ₁ := .f32) (φ₂ := .f32) (m' ((c.tc : Thread nD τ).loc main_arg0)) (m' ((c.tc : Thread nD τ).loc main_arg2))) (broadcastInDim S8192x1024 ![0, 1] bcast_S8192x1_S8192x1024_0_1 (Host.rsqrt (addf (Host.divf (broadcastInDim S8192x1 ![0] bcast_S8192_S8192x1_0 (Host.reduceAdd (mulf (Host.dotGeneral dot_S8192x1024_S1024x1024_S8192x1024_1_0_0_1_n_n none (φ₁ := .f32) (φ₂ := .f32) (m' ((c.tc : Thread nD τ).loc main_arg0)) (m' ((c.tc : Thread nD τ).loc main_arg2))) (Host.dotGeneral dot_S8192x1024_S1024x1024_S8192x1024_1_0_0_1_n_n none (φ₁ := .f32) (φ₂ := .f32) (m' ((c.tc : Thread nD τ).loc main_arg0)) (m' ((c.tc : Thread nD τ).loc main_arg2)))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg3))))
    = (Kernel10Ideal.Gen.dats m 0 c).arrAt 5 Kernel10Ideal.cfg0.N := by
  simp only [Kernel10Ideal.Arrays.final5, h0, h1, h2, h3]
  funext y
  idx_vars y
  pointwise [Kernel10Ideal.Arrays.out, Kernel10Ideal.Arrays.mid, RowNorm.scale, RowNorm.meanSq]

end Cert.AttentionExit

end
-- ==== Proof.AdamStep.lean ====
/- The optimiser's step on one entry: the gradient is the sum over the devices of their parts, the two running means move towards
   the gradient and its square, and the change of the weight is the corrected quotient of the two plus the weight's decay. -/
module

public import Idealize.ShloMosaic.Lib.Pipeline.ValueKit
public import Idealize.ShloMosaic.Lib.Claim

@[expose] public section

noncomputable section

open Idealize.ShloMosaic

namespace Cert.AdamStep

/-- The sum over the eight devices. -/
def total (r : Fin 8 → EReal) : EReal := ∑ d, r d

/-- The running mean of the gradient. -/
def mean (g m : EReal) : EReal := Ideal.ofBits .f32 0x3F666666#32 * m + Ideal.ofBits .f32 0x3DCCCCCD#32 * g

/-- The running mean of the gradient's square. -/
def square (g v : EReal) : EReal := Ideal.ofBits .f32 0x3F7FBE77#32 * v + Ideal.ofBits .f32 0x3A83126F#32 * (g * g)

/-- The change of the weight. -/
def delta (g w m v : EReal) : EReal :=
  Ideal.ofBits .f32 0xBA83126F#32
    * (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

/-- The kernel adds the parts one after another. -/
theorem total_eq (r : Fin 8 → EReal) : r 0 + r 1 + r 2 + r 3 + r 4 + r 5 + r 6 + r 7 = total r := by
  unfold total
  rw [Fin.sum_univ_eight]

end Cert.AdamStep

end
-- ==== Proof.SmallStep.lean ====
/- The optimiser's step on the small parameters, packed as sixteen rows. -/
module

public import proofs.«01_k».proof.Proof.Gen.Kernel11Ideal.Value
public import proofs.«01_k».proof.Proof.Gen.Reference11Ideal.Run
public import proofs.«01_k».proof.Proof.AdamStep

@[expose] public section

set_option maxRecDepth 16384

noncomputable section

open Idealize.ShloMosaic Idealize.ShloMosaic.TcCoe Idealize.SL.Sem

namespace Cert.Kernel11Ideal.Arrays

open Cert.Kernel11Ideal Cert.Kernel11Ideal.Gen

variable (m : (ℓ : Loc nD τ sig) → Buf (Elt Ideal) ℓ) (c : Dev nD)

/-- The parts of the gradient, the weight and the two running means. -/
abbrev R (d : Fin 8) (i : Fin 16) (j : Fin 1024) : EReal := m ((c : Thread nD τ).loc main_arg0) (ix3 d i j)
abbrev W (i : Fin 16) (j : Fin 1024) : EReal := m ((c : Thread nD τ).loc main_arg1) (ix3 0 i j)
abbrev M (i : Fin 16) (j : Fin 1024) : EReal := m ((c : Thread nD τ).loc main_arg2) (ix3 0 i j)
abbrev Q (i : Fin 16) (j : Fin 1024) : EReal := m ((c : Thread nD τ).loc main_arg3) (ix3 0 i j)

/-- The gradient. -/
def g (i : Fin 16) (j : Fin 1024) : EReal := AdamStep.total fun d => R m c d i j

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The array row of a block's row. -/
def row (t : Fin cfg0.N) (i : Fin 16) : Fin 16 := ⟨t.val * 16 + i.val, by have := lt_of_lt_of_eq t.isLt N_0; omega⟩

theorem blk0 (t : Fin cfg0.N) (d : Fin 8) (i : Fin 16) (j : Fin 1024) :
    (iblk m c 0 t : FVec Ideal S8x16x1024 .f32) (ix3 d i j) = R m c d (row t i) j := by
  blk_ext [iblk, V_main_arg0, idx t, row]

theorem blk1 (t : Fin cfg0.N) (i : Fin 16) (j : Fin 1024) :
    (iblk m c 1 t : FVec Ideal S1x16x1024 .f32) (ix3 0 i j) = W m c (row t i) j := by
  blk_ext [iblk, V_main_arg1, idx t, row]

theorem blk2 (t : Fin cfg0.N) (i : Fin 16) (j : Fin 1024) :
    (iblk m c 2 t : FVec Ideal S1x16x1024 .f32) (ix3 0 i j) = M m c (row t i) j := by
  blk_ext [iblk, V_main_arg2, idx t, row]

theorem blk3 (t : Fin cfg0.N) (i : Fin 16) (j : Fin 1024) :
    (iblk m c 3 t : FVec Ideal S1x16x1024 .f32) (ix3 0 i j) = Q m c (row t i) j := by
  blk_ext [iblk, V_main_arg3, idx t, row]

/-- The sum as the kernel forms it. -/
theorem g_eq (i : Fin 16) (j : Fin 1024) : g m c i j = R m c 0 i j + R m c 1 i j + R m c 2 i j + R m c 3 i j
    + R m c 4 i j + R m c 5 i j + R m c 6 i j + R m c 7 i j :=
  (AdamStep.total_eq fun d => R m c d i j).symm

theorem out4 (t : Fin cfg0.N) (i : Fin 16) (j : Fin 1024) :
    out0_4 (iblk m c 0 t) (iblk m c 1 t) (iblk m c 2 t) (iblk m c 3 t) (ix3 0 i j)
    = g m c (row t i) j := by
  simp only [AdamStep.delta, AdamStep.mean, AdamStep.square, g_eq]
  unfold_out out0_4
  frame_out
  pointwise [k0_pay1, k0_pay2, k0_pay3, k0_pay4, k0_pay5, k0_pay6, k0_pay7, k0_pay8, k0_pay9, blk0, blk1, blk2, blk3]

theorem out5 (t : Fin cfg0.N) (i : Fin 16) (j : Fin 1024) :
    out0_5 (iblk m c 0 t) (iblk m c 1 t) (iblk m c 2 t) (iblk m c 3 t) (ix3 0 i j)
    = AdamStep.delta (g m c (row t i) j) (W m c (row t i) j) (M m c (row t i) j) (Q m c (row t i) j) := by
  simp only [AdamStep.delta, AdamStep.mean, AdamStep.square, g_eq]
  unfold_out out0_5
  frame_out
  pointwise [k0_pay1, k0_pay2, k0_pay3, k0_pay4, k0_pay5, k0_pay6, k0_pay7, k0_pay8, k0_pay9, blk0, blk1, blk2, blk3]

theorem out6 (t : Fin cfg0.N) (i : Fin 16) (j : Fin 1024) :
    out0_6 (iblk m c 0 t) (iblk m c 1 t) (iblk m c 2 t) (iblk m c 3 t) (ix3 0 i j)
    = AdamStep.mean (g m c (row t i) j) (M m c (row t i) j) := by
  simp only [AdamStep.delta, AdamStep.mean, AdamStep.square, g_eq]
  unfold_out out0_6
  frame_out
  pointwise [k0_pay1, k0_pay2, k0_pay3, k0_pay4, k0_pay5, k0_pay6, k0_pay7, k0_pay8, k0_pay9, blk0, blk1, blk2, blk3]

theorem out7 (t : Fin cfg0.N) (i : Fin 16) (j : Fin 1024) :
    out0_7 (iblk m c 0 t) (iblk m c 1 t) (iblk m c 2 t) (iblk m c 3 t) (ix3 0 i j)
    = AdamStep.square (g m c (row t i) j) (Q m c (row t i) j) := by
  simp only [AdamStep.delta, AdamStep.mean, AdamStep.square, g_eq]
  unfold_out out0_7
  frame_out
  pointwise [k0_pay1, k0_pay2, k0_pay3, k0_pay4, k0_pay5, k0_pay6, k0_pay7, k0_pay8, k0_pay9, blk0, blk1, blk2, blk3]

theorem final4 : (dats m 0 c).arrAt 4 cfg0.N = fun i => g m c (i 1) (i 2) := by
  refine (dats m 0 c).arrAt_eq_of_covers 4 _ (by decide +kernel) fun t hf y => ?_
  blk_simp
  rw [after0_4]
  idx_vars y
  obtain rfl : y0 = 0 := Subsingleton.elim _ _
  refine (out4 m c t y1 y2).trans (congrArg₂ (fun a b => g m c a b) (Fin.ext ?_) (Fin.ext ?_)) <;> blk_simp [idx t, row] <;> try rfl

theorem final5 : (dats m 0 c).arrAt 5 cfg0.N = fun i => AdamStep.delta (g m c (i 1) (i 2)) (W m c (i 1) (i 2)) (M m c (i 1) (i 2)) (Q m c (i 1) (i 2)) := by
  refine (dats m 0 c).arrAt_eq_of_covers 5 _ (by decide +kernel) fun t hf y => ?_
  blk_simp
  rw [after0_5]
  idx_vars y
  obtain rfl : y0 = 0 := Subsingleton.elim _ _
  refine (out5 m c t y1 y2).trans (congrArg₂ (fun a b => AdamStep.delta (g m c a b) (W m c a b) (M m c a b) (Q m c a b)) (Fin.ext ?_) (Fin.ext ?_)) <;> blk_simp [idx t, row] <;> try rfl

theorem final6 : (dats m 0 c).arrAt 6 cfg0.N = fun i => AdamStep.mean (g m c (i 1) (i 2)) (M m c (i 1) (i 2)) := by
  refine (dats m 0 c).arrAt_eq_of_covers 6 _ (by decide +kernel) fun t hf y => ?_
  blk_simp
  rw [after0_6]
  idx_vars y
  obtain rfl : y0 = 0 := Subsingleton.elim _ _
  refine (out6 m c t y1 y2).trans (congrArg₂ (fun a b => AdamStep.mean (g m c a b) (M m c a b)) (Fin.ext ?_) (Fin.ext ?_)) <;> blk_simp [idx t, row] <;> try rfl

theorem final7 : (dats m 0 c).arrAt 7 cfg0.N = fun i => AdamStep.square (g m c (i 1) (i 2)) (Q m c (i 1) (i 2)) := by
  refine (dats m 0 c).arrAt_eq_of_covers 7 _ (by decide +kernel) fun t hf y => ?_
  blk_simp
  rw [after0_7]
  idx_vars y
  obtain rfl : y0 = 0 := Subsingleton.elim _ _
  refine (out7 m c t y1 y2).trans (congrArg₂ (fun a b => AdamStep.square (g m c a b) (Q m c a b)) (Fin.ext ?_) (Fin.ext ?_)) <;> blk_simp [idx t, row] <;> try rfl

end Cert.Kernel11Ideal.Arrays

namespace Cert.SmallStep

open Cert Cert.Reference11Ideal Cert.Reference11Ideal.Gen Idealize.ShloMosaic.StableHlo

variable (m : (ℓ : Loc Kernel11Ideal.nD Kernel11Ideal.τ Kernel11Ideal.sig) → Buf (Elt Ideal) ℓ)
  (m' : (ℓ : Loc nD τ sig) → Buf (Elt Ideal) ℓ) (c : Dev nD)
  (h0 : m' ((c.tc : Thread nD τ).loc main_arg0) = m ((c.tc : Thread Kernel11Ideal.nD Kernel11Ideal.τ).loc Kernel11Ideal.main_arg0))
  (h1 : m' ((c.tc : Thread nD τ).loc main_arg1) = m ((c.tc : Thread Kernel11Ideal.nD Kernel11Ideal.τ).loc Kernel11Ideal.main_arg1))
  (h2 : m' ((c.tc : Thread nD τ).loc main_arg2) = m ((c.tc : Thread Kernel11Ideal.nD Kernel11Ideal.τ).loc Kernel11Ideal.main_arg2))
  (h3 : m' ((c.tc : Thread nD τ).loc main_arg3) = m ((c.tc : Thread Kernel11Ideal.nD Kernel11Ideal.τ).loc Kernel11Ideal.main_arg3))
include h0 h1 h2 h3

/-- The gradients are equal. -/
theorem result0 : broadcastInDim S1x16x1024 ![1, 2] bcast_S16x1024_S1x16x1024_1_2 (Host.reduceAdd (m' ((c.tc : Thread nD τ).loc main_arg0)) (constant (F := Ideal) S_ .f32 0x00000000#32) reducesTo_S8x16x1024_S16x1024_d0 h_S_)
    = (Kernel11Ideal.Gen.dats m 0 c).arrAt 4 Kernel11Ideal.cfg0.N := by
  simp only [Kernel11Ideal.Arrays.final4, h0, h1, h2, h3]
  funext y
  idx_vars y
  pointwise [Kernel11Ideal.Arrays.g, AdamStep.total]

/-- The changes of the weight are equal. -/
theorem result1 : mulf (broadcastInDim S1x16x1024 ![] bcast_S_S1x16x1024 (constant (F := Ideal) S_ .f32 0xBA83126F#32)) (addf (Host.divf (Host.divf (addf (mulf (broadcastInDim S1x16x1024 ![] bcast_S_S1x16x1024 (constant (F := Ideal) S_ .f32 0x3F666666#32)) (m' ((c.tc : Thread nD τ).loc main_arg2))) (mulf (broadcastInDim S1x16x1024 ![] bcast_S_S1x16x1024 (constant (F := Ideal) S_ .f32 0x3DCCCCCD#32)) (broadcastInDim S1x16x1024 ![1, 2] bcast_S16x1024_S1x16x1024_1_2 (Host.reduceAdd (m' ((c.tc : Thread nD τ).loc main_arg0)) (constant (F := Ideal) S_ .f32 0x00000000#32) reducesTo_S8x16x1024_S16x1024_d0 h_S_)))) (broadcastInDim S1x16x1024 ![] bcast_S_S1x16x1024 (constant (F := Ideal) S_ .f32 0x3F26BD02#32))) (addf (Host.sqrt (Host.divf (addf (mulf (broadcastInDim S1x16x1024 ![] bcast_S_S1x16x1024 (constant (F := Ideal) S_ .f32 0x3F7FBE77#32)) (m' ((c.tc : Thread nD τ).loc main_arg3))) (mulf (broadcastInDim S1x16x1024 ![] bcast_S_S1x16x1024 (constant (F := Ideal) S_ .f32 0x3A83126F#32)) (mulf (broadcastInDim S1x16x1024 ![1, 2] bcast_S16x1024_S1x16x1024_1_2 (Host.reduceAdd (m' ((c.tc : Thread nD τ).loc main_arg0)) (constant (F := Ideal) S_ .f32 0x00000000#32) reducesTo_S8x16x1024_S16x1024_d0 h_S_)) (broadcastInDim S1x16x1024 ![1, 2] bcast_S16x1024_S1x16x1024_1_2 (Host.reduceAdd (m' ((c.tc : Thread nD τ).loc main_arg0)) (constant (F := Ideal) S_ .f32 0x00000000#32) reducesTo_S8x16x1024_S16x1024_d0 h_S_))))) (broadcastInDim S1x16x1024 ![] bcast_S_S1x16x1024 (constant (F := Ideal) S_ .f32 0x3C231ACC#32)))) (broadcastInDim S1x16x1024 ![] bcast_S_S1x16x1024 (constant (F := Ideal) S_ .f32 0x322BCC77#32)))) (mulf (broadcastInDim S1x16x1024 ![] bcast_S_S1x16x1024 (constant (F := Ideal) S_ .f32 0x3C23D70A#32)) (m' ((c.tc : Thread nD τ).loc main_arg1))))
    = (Kernel11Ideal.Gen.dats m 0 c).arrAt 5 Kernel11Ideal.cfg0.N := by
  simp only [Kernel11Ideal.Arrays.final5, h0, h1, h2, h3]
  funext y
  idx_vars y
  obtain rfl : y0 = 0 := Subsingleton.elim _ _
  pointwise [Kernel11Ideal.Arrays.g, AdamStep.total, AdamStep.delta, AdamStep.mean, AdamStep.square]

/-- The running means of the gradient are equal. -/
theorem result2 : addf (mulf (broadcastInDim S1x16x1024 ![] bcast_S_S1x16x1024 (constant (F := Ideal) S_ .f32 0x3F666666#32)) (m' ((c.tc : Thread nD τ).loc main_arg2))) (mulf (broadcastInDim S1x16x1024 ![] bcast_S_S1x16x1024 (constant (F := Ideal) S_ .f32 0x3DCCCCCD#32)) (broadcastInDim S1x16x1024 ![1, 2] bcast_S16x1024_S1x16x1024_1_2 (Host.reduceAdd (m' ((c.tc : Thread nD τ).loc main_arg0)) (constant (F := Ideal) S_ .f32 0x00000000#32) reducesTo_S8x16x1024_S16x1024_d0 h_S_)))
    = (Kernel11Ideal.Gen.dats m 0 c).arrAt 6 Kernel11Ideal.cfg0.N := by
  simp only [Kernel11Ideal.Arrays.final6, h0, h1, h2, h3]
  funext y
  idx_vars y
  obtain rfl : y0 = 0 := Subsingleton.elim _ _
  pointwise [Kernel11Ideal.Arrays.g, AdamStep.total, AdamStep.delta, AdamStep.mean, AdamStep.square]

/-- The running means of the gradient's square are equal. -/
theorem result3 : addf (mulf (broadcastInDim S1x16x1024 ![] bcast_S_S1x16x1024 (constant (F := Ideal) S_ .f32 0x3F7FBE77#32)) (m' ((c.tc : Thread nD τ).loc main_arg3))) (mulf (broadcastInDim S1x16x1024 ![] bcast_S_S1x16x1024 (constant (F := Ideal) S_ .f32 0x3A83126F#32)) (mulf (broadcastInDim S1x16x1024 ![1, 2] bcast_S16x1024_S1x16x1024_1_2 (Host.reduceAdd (m' ((c.tc : Thread nD τ).loc main_arg0)) (constant (F := Ideal) S_ .f32 0x00000000#32) reducesTo_S8x16x1024_S16x1024_d0 h_S_)) (broadcastInDim S1x16x1024 ![1, 2] bcast_S16x1024_S1x16x1024_1_2 (Host.reduceAdd (m' ((c.tc : Thread nD τ).loc main_arg0)) (constant (F := Ideal) S_ .f32 0x00000000#32) reducesTo_S8x16x1024_S16x1024_d0 h_S_))))
    = (Kernel11Ideal.Gen.dats m 0 c).arrAt 7 Kernel11Ideal.cfg0.N := by
  simp only [Kernel11Ideal.Arrays.final7, h0, h1, h2, h3]
  funext y
  idx_vars y
  obtain rfl : y0 = 0 := Subsingleton.elim _ _
  pointwise [Kernel11Ideal.Arrays.g, AdamStep.total, AdamStep.delta, AdamStep.mean, AdamStep.square]

end Cert.SmallStep

end
-- ==== Proof.UpStep.lean ====
/- The optimiser's step on the up projection's weight, both layers in one call. -/
module

public import proofs.«01_k».proof.Proof.Gen.Kernel12Ideal.Value
public import proofs.«01_k».proof.Proof.Gen.Reference12Ideal.Run
public import proofs.«01_k».proof.Proof.AdamStep

@[expose] public section

set_option maxRecDepth 16384

noncomputable section

open Idealize.ShloMosaic Idealize.ShloMosaic.TcCoe Idealize.SL.Sem

namespace Cert.Kernel12Ideal.Arrays

open Cert.Kernel12Ideal Cert.Kernel12Ideal.Gen

variable (m : (ℓ : Loc nD τ sig) → Buf (Elt Ideal) ℓ) (c : Dev nD)

/-- The parts of the two layers' gradients, the weight and the two running means. -/
abbrev R0 (d : Fin 8) (i : Fin 1024) (j : Fin 512) : EReal := m ((c : Thread nD τ).loc main_arg0) (ix3 d i j)
abbrev R1 (d : Fin 8) (i : Fin 1024) (j : Fin 512) : EReal := m ((c : Thread nD τ).loc main_arg1) (ix3 d i j)
abbrev W (l : Fin 2) (i : Fin 1024) (j : Fin 512) : EReal := m ((c : Thread nD τ).loc main_arg2) (ix3 l i j)
abbrev M (l : Fin 2) (i : Fin 1024) (j : Fin 512) : EReal := m ((c : Thread nD τ).loc main_arg3) (ix3 l i j)
abbrev Q (l : Fin 2) (i : Fin 1024) (j : Fin 512) : EReal := m ((c : Thread nD τ).loc main_arg4) (ix3 l i j)

/-- The gradient, by layers. -/
def g (l : Fin 2) (i : Fin 1024) (j : Fin 512) : EReal :=
  if l.val = 0 then AdamStep.total fun d => R0 m c d i j else AdamStep.total fun d => R1 m c d i j

theorem idx : ∀ t : Fin cfg0.N, win0_0.index t = ![0, if t.val / 2 = 0 then t.val % 2 else 0, 0]
    ∧ win0_1.index t = ![0, if t.val / 2 = 0 then 0 else t.val % 2, 0] ∧ win0_2.index t = ![t.val / 2, t.val % 2, 0]
    ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] :=
  (by decide +kernel : ∀ t : Fin grid0.N, _)

theorem coord : ∀ t : Fin cfg0.N, (grid0.coords t 0).val = t.val / 2 := (by decide +kernel : ∀ t : Fin grid0.N, _)

/-- The layer of a grid point and the array row of its block's row. -/
def layer (t : Fin cfg0.N) : Fin 2 := ⟨t.val / 2, by have := lt_of_lt_of_eq t.isLt N_0; omega⟩
def row (t : Fin cfg0.N) (i : Fin 512) : Fin 1024 := ⟨t.val % 2 * 512 + i.val, by omega⟩

theorem parts0_at (d : Fin 8) (i : Fin 1024) (j : Fin 512) : (V m c main_v0 : FVec Ideal S8x1024x512 .bf16) (ix3 d i j) = R0 m c d i j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (h : t.val / 2 = 0) (d : Fin 8) (i : Fin 512) (j : Fin 512) :
    (iblk m c 0 t : FVec Ideal S8x512x512 .bf16) (ix3 d i j) = R0 m c d (row t i) j := by
  have hi := (idx t).1
  rw [if_pos h] at hi
  rw [← parts0_at]
  blk_ext [iblk, hi, row]

theorem parts1_at (d : Fin 8) (i : Fin 1024) (j : Fin 512) : (V m c main_v1 : FVec Ideal S8x1024x512 .bf16) (ix3 d i j) = R1 m c d i j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk1 (t : Fin cfg0.N) (h : ¬ t.val / 2 = 0) (d : Fin 8) (i : Fin 512) (j : Fin 512) :
    (iblk m c 1 t : FVec Ideal S8x512x512 .bf16) (ix3 d i j) = R1 m c d (row t i) j := by
  have hi := (idx t).2.1
  rw [if_neg h] at hi
  rw [← parts1_at]
  blk_ext [iblk, hi, row]

theorem blk2 (t : Fin cfg0.N) (i : Fin 512) (j : Fin 512) :
    (iblk m c 2 t : FVec Ideal S1x512x512 .f32) (ix3 0 i j) = W m c (layer t) (row t i) j := by
  blk_ext [iblk, V_main_arg2, idx t, row, layer]

theorem blk3 (t : Fin cfg0.N) (i : Fin 512) (j : Fin 512) :
    (iblk m c 3 t : FVec Ideal S1x512x512 .f32) (ix3 0 i j) = M m c (layer t) (row t i) j := by
  blk_ext [iblk, V_main_arg3, idx t, row, layer]

theorem blk4 (t : Fin cfg0.N) (i : Fin 512) (j : Fin 512) :
    (iblk m c 4 t : FVec Ideal S1x512x512 .f32) (ix3 0 i j) = Q m c (layer t) (row t i) j := by
  blk_ext [iblk, V_main_arg4, idx t, row, layer]

/-- The kernel forms both layers' sums and takes the one of its layer. -/
theorem sum_at (t : Fin cfg0.N) (i : Fin 512) (j : Fin 512) :
    k0_pay10 (grid0.coords t) (iblk m c 0 t) (iblk m c 1 t) (iblk m c 2 t) (iblk m c 3 t) (iblk m c 4 t) (ix2 i j)
    = g m c (layer t) (row t i) j := by
  have hl := (layer t).isLt
  have hv : (layer t).val = t.val / 2 := rfl
  unfold k0_pay10
  rw [coord t]
  by_cases h : t.val / 2 = 0
  · rw [h, g, if_pos (hv.trans h), ← AdamStep.total_eq]
    unfold k0_pay4
    rw [show Scalar.cmpi .eq (BitVec.ofNat 32 0) 1#32 = 0#1 from rfl]
    pointwise [k0_pay3, blk0 m c t h]
  · rw [g, if_neg fun e => h (hv.symm.trans e), ← AdamStep.total_eq, show t.val / 2 = 1 by omega]
    unfold k0_pay4
    rw [show Scalar.cmpi .eq (BitVec.ofNat 32 1) 1#32 = 1#1 from rfl]
    pointwise [blk1 m c t h]

theorem out5 (t : Fin cfg0.N) (i : Fin 512) (j : Fin 512) :
    out0_5 (grid0.coords t) (iblk m c 0 t) (iblk m c 1 t) (iblk m c 2 t) (iblk m c 3 t) (iblk m c 4 t) (ix3 0 i j)
    = g m c (layer t) (row t i) j := by
  unfold out0_5
  frame_out
  pointwise [k0_pay1, k0_pay2, k0_pay3, k0_pay5, k0_pay6, k0_pay7, k0_pay8, k0_pay9, k0_pay11, sum_at, blk2, blk3, blk4, AdamStep.delta, AdamStep.mean, AdamStep.square]

theorem out6 (t : Fin cfg0.N) (i : Fin 512) (j : Fin 512) :
    out0_6 (grid0.coords t) (iblk m c 0 t) (iblk m c 1 t) (iblk m c 2 t) (iblk m c 3 t) (iblk m c 4 t) (ix3 0 i j)
    = AdamStep.delta (g m c (layer t) (row t i) j) (W m c (layer t) (row t i) j) (M m c (layer t) (row t i) j) (Q m c (layer t) (row t i) j) := by
  unfold out0_6
  frame_out
  pointwise [k0_pay1, k0_pay2, k0_pay3, k0_pay5, k0_pay6, k0_pay7, k0_pay8, k0_pay9, k0_pay11, sum_at, blk2, blk3, blk4, AdamStep.delta, AdamStep.mean, AdamStep.square]

theorem out7 (t : Fin cfg0.N) (i : Fin 512) (j : Fin 512) :
    out0_7 (grid0.coords t) (iblk m c 0 t) (iblk m c 1 t) (iblk m c 2 t) (iblk m c 3 t) (iblk m c 4 t) (ix3 0 i j)
    = AdamStep.mean (g m c (layer t) (row t i) j) (M m c (layer t) (row t i) j) := by
  unfold out0_7
  frame_out
  pointwise [k0_pay1, k0_pay2, k0_pay3, k0_pay5, k0_pay6, k0_pay7, k0_pay8, k0_pay9, k0_pay11, sum_at, blk2, blk3, blk4, AdamStep.delta, AdamStep.mean, AdamStep.square]

theorem out8 (t : Fin cfg0.N) (i : Fin 512) (j : Fin 512) :
    out0_8 (grid0.coords t) (iblk m c 0 t) (iblk m c 1 t) (iblk m c 2 t) (iblk m c 3 t) (iblk m c 4 t) (ix3 0 i j)
    = AdamStep.square (g m c (layer t) (row t i) j) (Q m c (layer t) (row t i) j) := by
  unfold out0_8
  frame_out
  pointwise [k0_pay1, k0_pay2, k0_pay3, k0_pay5, k0_pay6, k0_pay7, k0_pay8, k0_pay9, k0_pay11, sum_at, blk2, blk3, blk4, AdamStep.delta, AdamStep.mean, AdamStep.square]

theorem final5 : (dats m 0 c).arrAt 5 cfg0.N = fun i => g m c (i 0) (i 1) (i 2) := by
  refine (dats m 0 c).arrAt_eq_of_covers 5 _ (by decide +kernel) fun t hf y => ?_
  blk_simp
  rw [after0_5]
  idx_vars y
  obtain rfl : y0 = 0 := Subsingleton.elim _ _
  have e (l l' : Fin 2) (a a' : Fin 1024) (b b' : Fin 512) (hl : l = l') (ha : a = a') (hb : b = b') :
      g m c l a b = g m c l' a' b' := by rw [hl, ha, hb]
  refine (out5 m c t y1 y2).trans (e _ _ _ _ _ _ (Fin.ext ?_) (Fin.ext ?_) (Fin.ext ?_)) <;> blk_simp [idx t, row, layer] <;> try rfl

theorem final6 : (dats m 0 c).arrAt 6 cfg0.N = fun i => AdamStep.delta (g m c (i 0) (i 1) (i 2)) (W m c (i 0) (i 1) (i 2)) (M m c (i 0) (i 1) (i 2)) (Q m c (i 0) (i 1) (i 2)) := by
  refine (dats m 0 c).arrAt_eq_of_covers 6 _ (by decide +kernel) fun t hf y => ?_
  blk_simp
  rw [after0_6]
  idx_vars y
  obtain rfl : y0 = 0 := Subsingleton.elim _ _
  have e (l l' : Fin 2) (a a' : Fin 1024) (b b' : Fin 512) (hl : l = l') (ha : a = a') (hb : b = b') :
      AdamStep.delta (g m c l a b) (W m c l a b) (M m c l a b) (Q m c l a b) = AdamStep.delta (g m c l' a' b') (W m c l' a' b') (M m c l' a' b') (Q m c l' a' b') := by rw [hl, ha, hb]
  refine (out6 m c t y1 y2).trans (e _ _ _ _ _ _ (Fin.ext ?_) (Fin.ext ?_) (Fin.ext ?_)) <;> blk_simp [idx t, row, layer] <;> try rfl

theorem final7 : (dats m 0 c).arrAt 7 cfg0.N = fun i => AdamStep.mean (g m c (i 0) (i 1) (i 2)) (M m c (i 0) (i 1) (i 2)) := by
  refine (dats m 0 c).arrAt_eq_of_covers 7 _ (by decide +kernel) fun t hf y => ?_
  blk_simp
  rw [after0_7]
  idx_vars y
  obtain rfl : y0 = 0 := Subsingleton.elim _ _
  have e (l l' : Fin 2) (a a' : Fin 1024) (b b' : Fin 512) (hl : l = l') (ha : a = a') (hb : b = b') :
      AdamStep.mean (g m c l a b) (M m c l a b) = AdamStep.mean (g m c l' a' b') (M m c l' a' b') := by rw [hl, ha, hb]
  refine (out7 m c t y1 y2).trans (e _ _ _ _ _ _ (Fin.ext ?_) (Fin.ext ?_) (Fin.ext ?_)) <;> blk_simp [idx t, row, layer] <;> try rfl

theorem final8 : (dats m 0 c).arrAt 8 cfg0.N = fun i => AdamStep.square (g m c (i 0) (i 1) (i 2)) (Q m c (i 0) (i 1) (i 2)) := by
  refine (dats m 0 c).arrAt_eq_of_covers 8 _ (by decide +kernel) fun t hf y => ?_
  blk_simp
  rw [after0_8]
  idx_vars y
  obtain rfl : y0 = 0 := Subsingleton.elim _ _
  have e (l l' : Fin 2) (a a' : Fin 1024) (b b' : Fin 512) (hl : l = l') (ha : a = a') (hb : b = b') :
      AdamStep.square (g m c l a b) (Q m c l a b) = AdamStep.square (g m c l' a' b') (Q m c l' a' b') := by rw [hl, ha, hb]
  refine (out8 m c t y1 y2).trans (e _ _ _ _ _ _ (Fin.ext ?_) (Fin.ext ?_) (Fin.ext ?_)) <;> blk_simp [idx t, row, layer] <;> try rfl

end Cert.Kernel12Ideal.Arrays

namespace Cert.UpStep

open Cert Cert.Reference12Ideal Cert.Reference12Ideal.Gen Idealize.ShloMosaic.StableHlo

variable (m : (ℓ : Loc Kernel12Ideal.nD Kernel12Ideal.τ Kernel12Ideal.sig) → Buf (Elt Ideal) ℓ)
  (m' : (ℓ : Loc nD τ sig) → Buf (Elt Ideal) ℓ) (c : Dev nD)
  (h0 : m' ((c.tc : Thread nD τ).loc main_arg0) = m ((c.tc : Thread Kernel12Ideal.nD Kernel12Ideal.τ).loc Kernel12Ideal.main_arg0))
  (h1 : m' ((c.tc : Thread nD τ).loc main_arg1) = m ((c.tc : Thread Kernel12Ideal.nD Kernel12Ideal.τ).loc Kernel12Ideal.main_arg1))
  (h2 : m' ((c.tc : Thread nD τ).loc main_arg2) = m ((c.tc : Thread Kernel12Ideal.nD Kernel12Ideal.τ).loc Kernel12Ideal.main_arg2))
  (h3 : m' ((c.tc : Thread nD τ).loc main_arg3) = m ((c.tc : Thread Kernel12Ideal.nD Kernel12Ideal.τ).loc Kernel12Ideal.main_arg3))
  (h4 : m' ((c.tc : Thread nD τ).loc main_arg4) = m ((c.tc : Thread Kernel12Ideal.nD Kernel12Ideal.τ).loc Kernel12Ideal.main_arg4))
include h0 h1 h2 h3 h4

/-- The gradients are equal. -/
theorem result0 : concatenate S2x1024x512 0 [⟨S1x1024x512, (broadcastInDim S1x1024x512 ![1, 2] bcast_S1024x512_S1x1024x512_1_2 (Host.reduceAdd (m' ((c.tc : Thread nD τ).loc main_arg0)) (constant (F := Ideal) S_ .f32 0x00000000#32) reducesTo_S8x1024x512_S1024x512_d0 h_S_))⟩, ⟨S1x1024x512, (broadcastInDim S1x1024x512 ![1, 2] bcast_S1024x512_S1x1024x512_1_2 (Host.reduceAdd (m' ((c.tc : Thread nD τ).loc main_arg1)) (constant (F := Ideal) S_ .f32 0x00000000#32) reducesTo_S8x1024x512_S1024x512_d0 h_S_))⟩] concatenates_S1x1024x512_S1x1024x512_S2x1024x512_d0
    = (Kernel12Ideal.Gen.dats m 0 c).arrAt 5 Kernel12Ideal.cfg0.N := by
  simp only [Kernel12Ideal.Arrays.final5, h0, h1, h2, h3, h4]
  funext y
  idx_vars y
  match y0 with
  | 0 => pointwise [Kernel12Ideal.Arrays.g, AdamStep.total]; rw [h0]
  | 1 => pointwise [Kernel12Ideal.Arrays.g, AdamStep.total]; rw [h1]

/-- The changes of the weight are equal. -/
theorem result1 : mulf (broadcastInDim S2x1024x512 ![] bcast_S_S2x1024x512 (constant (F := Ideal) S_ .f32 0xBA83126F#32)) (addf (Host.divf (Host.divf (addf (mulf (broadcastInDim S2x1024x512 ![] bcast_S_S2x1024x512 (constant (F := Ideal) S_ .f32 0x3F666666#32)) (m' ((c.tc : Thread nD τ).loc main_arg3))) (mulf (broadcastInDim S2x1024x512 ![] bcast_S_S2x1024x512 (constant (F := Ideal) S_ .f32 0x3DCCCCCD#32)) (concatenate S2x1024x512 0 [⟨S1x1024x512, (broadcastInDim S1x1024x512 ![1, 2] bcast_S1024x512_S1x1024x512_1_2 (Host.reduceAdd (m' ((c.tc : Thread nD τ).loc main_arg0)) (constant (F := Ideal) S_ .f32 0x00000000#32) reducesTo_S8x1024x512_S1024x512_d0 h_S_))⟩, ⟨S1x1024x512, (broadcastInDim S1x1024x512 ![1, 2] bcast_S1024x512_S1x1024x512_1_2 (Host.reduceAdd (m' ((c.tc : Thread nD τ).loc main_arg1)) (constant (F := Ideal) S_ .f32 0x00000000#32) reducesTo_S8x1024x512_S1024x512_d0 h_S_))⟩] concatenates_S1x1024x512_S1x1024x512_S2x1024x512_d0))) (broadcastInDim S2x1024x512 ![] bcast_S_S2x1024x512 (constant (F := Ideal) S_ .f32 0x3F26BD02#32))) (addf (Host.sqrt (Host.divf (addf (mulf (broadcastInDim S2x1024x512 ![] bcast_S_S2x1024x512 (constant (F := Ideal) S_ .f32 0x3F7FBE77#32)) (m' ((c.tc : Thread nD τ).loc main_arg4))) (mulf (broadcastInDim S2x1024x512 ![] bcast_S_S2x1024x512 (constant (F := Ideal) S_ .f32 0x3A83126F#32)) (mulf (concatenate S2x1024x512 0 [⟨S1x1024x512, (broadcastInDim S1x1024x512 ![1, 2] bcast_S1024x512_S1x1024x512_1_2 (Host.reduceAdd (m' ((c.tc : Thread nD τ).loc main_arg0)) (constant (F := Ideal) S_ .f32 0x00000000#32) reducesTo_S8x1024x512_S1024x512_d0 h_S_))⟩, ⟨S1x1024x512, (broadcastInDim S1x1024x512 ![1, 2] bcast_S1024x512_S1x1024x512_1_2 (Host.reduceAdd (m' ((c.tc : Thread nD τ).loc main_arg1)) (constant (F := Ideal) S_ .f32 0x00000000#32) reducesTo_S8x1024x512_S1024x512_d0 h_S_))⟩] concatenates_S1x1024x512_S1x1024x512_S2x1024x512_d0) (concatenate S2x1024x512 0 [⟨S1x1024x512, (broadcastInDim S1x1024x512 ![1, 2] bcast_S1024x512_S1x1024x512_1_2 (Host.reduceAdd (m' ((c.tc : Thread nD τ).loc main_arg0)) (constant (F := Ideal) S_ .f32 0x00000000#32) reducesTo_S8x1024x512_S1024x512_d0 h_S_))⟩, ⟨S1x1024x512, (broadcastInDim S1x1024x512 ![1, 2] bcast_S1024x512_S1x1024x512_1_2 (Host.reduceAdd (m' ((c.tc : Thread nD τ).loc main_arg1)) (constant (F := Ideal) S_ .f32 0x00000000#32) reducesTo_S8x1024x512_S1024x512_d0 h_S_))⟩] concatenates_S1x1024x512_S1x1024x512_S2x1024x512_d0)))) (broadcastInDim S2x1024x512 ![] bcast_S_S2x1024x512 (constant (F := Ideal) S_ .f32 0x3C231ACC#32)))) (broadcastInDim S2x1024x512 ![] bcast_S_S2x1024x512 (constant (F := Ideal) S_ .f32 0x322BCC77#32)))) (mulf (broadcastInDim S2x1024x512 ![] bcast_S_S2x1024x512 (constant (F := Ideal) S_ .f32 0x3C23D70A#32)) (m' ((c.tc : Thread nD τ).loc main_arg2))))
    = (Kernel12Ideal.Gen.dats m 0 c).arrAt 6 Kernel12Ideal.cfg0.N := by
  simp only [Kernel12Ideal.Arrays.final6, h0, h1, h2, h3, h4]
  funext y
  idx_vars y
  match y0 with
  | 0 => pointwise [Kernel12Ideal.Arrays.g, AdamStep.total, AdamStep.delta, AdamStep.mean, AdamStep.square]; rw [h0]
  | 1 => pointwise [Kernel12Ideal.Arrays.g, AdamStep.total, AdamStep.delta, AdamStep.mean, AdamStep.square]; rw [h1]

/-- The running means of the gradient are equal. -/
theorem result2 : addf (mulf (broadcastInDim S2x1024x512 ![] bcast_S_S2x1024x512 (constant (F := Ideal) S_ .f32 0x3F666666#32)) (m' ((c.tc : Thread nD τ).loc main_arg3))) (mulf (broadcastInDim S2x1024x512 ![] bcast_S_S2x1024x512 (constant (F := Ideal) S_ .f32 0x3DCCCCCD#32)) (concatenate S2x1024x512 0 [⟨S1x1024x512, (broadcastInDim S1x1024x512 ![1, 2] bcast_S1024x512_S1x1024x512_1_2 (Host.reduceAdd (m' ((c.tc : Thread nD τ).loc main_arg0)) (constant (F := Ideal) S_ .f32 0x00000000#32) reducesTo_S8x1024x512_S1024x512_d0 h_S_))⟩, ⟨S1x1024x512, (broadcastInDim S1x1024x512 ![1, 2] bcast_S1024x512_S1x1024x512_1_2 (Host.reduceAdd (m' ((c.tc : Thread nD τ).loc main_arg1)) (constant (F := Ideal) S_ .f32 0x00000000#32) reducesTo_S8x1024x512_S1024x512_d0 h_S_))⟩] concatenates_S1x1024x512_S1x1024x512_S2x1024x512_d0))
    = (Kernel12Ideal.Gen.dats m 0 c).arrAt 7 Kernel12Ideal.cfg0.N := by
  simp only [Kernel12Ideal.Arrays.final7, h0, h1, h2, h3, h4]
  funext y
  idx_vars y
  match y0 with
  | 0 => pointwise [Kernel12Ideal.Arrays.g, AdamStep.total, AdamStep.delta, AdamStep.mean, AdamStep.square]; rw [h0]
  | 1 => pointwise [Kernel12Ideal.Arrays.g, AdamStep.total, AdamStep.delta, AdamStep.mean, AdamStep.square]; rw [h1]

/-- The running means of the gradient's square are equal. -/
theorem result3 : addf (mulf (broadcastInDim S2x1024x512 ![] bcast_S_S2x1024x512 (constant (F := Ideal) S_ .f32 0x3F7FBE77#32)) (m' ((c.tc : Thread nD τ).loc main_arg4))) (mulf (broadcastInDim S2x1024x512 ![] bcast_S_S2x1024x512 (constant (F := Ideal) S_ .f32 0x3A83126F#32)) (mulf (concatenate S2x1024x512 0 [⟨S1x1024x512, (broadcastInDim S1x1024x512 ![1, 2] bcast_S1024x512_S1x1024x512_1_2 (Host.reduceAdd (m' ((c.tc : Thread nD τ).loc main_arg0)) (constant (F := Ideal) S_ .f32 0x00000000#32) reducesTo_S8x1024x512_S1024x512_d0 h_S_))⟩, ⟨S1x1024x512, (broadcastInDim S1x1024x512 ![1, 2] bcast_S1024x512_S1x1024x512_1_2 (Host.reduceAdd (m' ((c.tc : Thread nD τ).loc main_arg1)) (constant (F := Ideal) S_ .f32 0x00000000#32) reducesTo_S8x1024x512_S1024x512_d0 h_S_))⟩] concatenates_S1x1024x512_S1x1024x512_S2x1024x512_d0) (concatenate S2x1024x512 0 [⟨S1x1024x512, (broadcastInDim S1x1024x512 ![1, 2] bcast_S1024x512_S1x1024x512_1_2 (Host.reduceAdd (m' ((c.tc : Thread nD τ).loc main_arg0)) (constant (F := Ideal) S_ .f32 0x00000000#32) reducesTo_S8x1024x512_S1024x512_d0 h_S_))⟩, ⟨S1x1024x512, (broadcastInDim S1x1024x512 ![1, 2] bcast_S1024x512_S1x1024x512_1_2 (Host.reduceAdd (m' ((c.tc : Thread nD τ).loc main_arg1)) (constant (F := Ideal) S_ .f32 0x00000000#32) reducesTo_S8x1024x512_S1024x512_d0 h_S_))⟩] concatenates_S1x1024x512_S1x1024x512_S2x1024x512_d0)))
    = (Kernel12Ideal.Gen.dats m 0 c).arrAt 8 Kernel12Ideal.cfg0.N := by
  simp only [Kernel12Ideal.Arrays.final8, h0, h1, h2, h3, h4]
  funext y
  idx_vars y
  match y0 with
  | 0 => pointwise [Kernel12Ideal.Arrays.g, AdamStep.total, AdamStep.delta, AdamStep.mean, AdamStep.square]; rw [h0]
  | 1 => pointwise [Kernel12Ideal.Arrays.g, AdamStep.total, AdamStep.delta, AdamStep.mean, AdamStep.square]; rw [h1]

end Cert.UpStep

end
-- ==== Proof.DownStep.lean ====
/- The optimiser's step on the down projection's weight, both layers in one call. -/
module

public import proofs.«01_k».proof.Proof.Gen.Kernel13Ideal.Value
public import proofs.«01_k».proof.Proof.Gen.Reference13Ideal.Run
public import proofs.«01_k».proof.Proof.AdamStep

@[expose] public section

set_option maxRecDepth 16384

noncomputable section

open Idealize.ShloMosaic Idealize.ShloMosaic.TcCoe Idealize.SL.Sem

namespace Cert.Kernel13Ideal.Arrays

open Cert.Kernel13Ideal Cert.Kernel13Ideal.Gen

variable (m : (ℓ : Loc nD τ sig) → Buf (Elt Ideal) ℓ) (c : Dev nD)

/-- The parts of the two layers' gradients, the weight and the two running means. -/
abbrev R0 (d : Fin 8) (i : Fin 512) (j : Fin 1024) : EReal := m ((c : Thread nD τ).loc main_arg0) (ix3 d i j)
abbrev R1 (d : Fin 8) (i : Fin 512) (j : Fin 1024) : EReal := m ((c : Thread nD τ).loc main_arg1) (ix3 d i j)
abbrev W (l : Fin 2) (i : Fin 512) (j : Fin 1024) : EReal := m ((c : Thread nD τ).loc main_arg2) (ix3 l i j)
abbrev M (l : Fin 2) (i : Fin 512) (j : Fin 1024) : EReal := m ((c : Thread nD τ).loc main_arg3) (ix3 l i j)
abbrev Q (l : Fin 2) (i : Fin 512) (j : Fin 1024) : EReal := m ((c : Thread nD τ).loc main_arg4) (ix3 l i j)

/-- The gradient, by layers. -/
def g (l : Fin 2) (i : Fin 512) (j : Fin 1024) : EReal :=
  if l.val = 0 then AdamStep.total fun d => R0 m c d i j else AdamStep.total fun d => R1 m c d i j

theorem idx : ∀ t : Fin cfg0.N, win0_0.index t = ![0, if t.val / 2 = 0 then t.val % 2 else 0, 0]
    ∧ win0_1.index t = ![0, if t.val / 2 = 0 then 0 else t.val % 2, 0] ∧ win0_2.index t = ![t.val / 2, t.val % 2, 0]
    ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] :=
  (by decide +kernel : ∀ t : Fin grid0.N, _)

theorem coord : ∀ t : Fin cfg0.N, (grid0.coords t 0).val = t.val / 2 := (by decide +kernel : ∀ t : Fin grid0.N, _)

/-- The layer of a grid point and the array row of its block's row. -/
def layer (t : Fin cfg0.N) : Fin 2 := ⟨t.val / 2, by have := lt_of_lt_of_eq t.isLt N_0; omega⟩
def row (t : Fin cfg0.N) (i : Fin 256) : Fin 512 := ⟨t.val % 2 * 256 + i.val, by omega⟩

theorem parts0_at (d : Fin 8) (i : Fin 512) (j : Fin 1024) : (V m c main_v0 : FVec Ideal S8x512x1024 .bf16) (ix3 d i j) = R0 m c d i j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (h : t.val / 2 = 0) (d : Fin 8) (i : Fin 256) (j : Fin 1024) :
    (iblk m c 0 t : FVec Ideal S8x256x1024 .bf16) (ix3 d i j) = R0 m c d (row t i) j := by
  have hi := (idx t).1
  rw [if_pos h] at hi
  rw [← parts0_at]
  blk_ext [iblk, hi, row]

theorem parts1_at (d : Fin 8) (i : Fin 512) (j : Fin 1024) : (V m c main_v1 : FVec Ideal S8x512x1024 .bf16) (ix3 d i j) = R1 m c d i j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk1 (t : Fin cfg0.N) (h : ¬ t.val / 2 = 0) (d : Fin 8) (i : Fin 256) (j : Fin 1024) :
    (iblk m c 1 t : FVec Ideal S8x256x1024 .bf16) (ix3 d i j) = R1 m c d (row t i) j := by
  have hi := (idx t).2.1
  rw [if_neg h] at hi
  rw [← parts1_at]
  blk_ext [iblk, hi, row]

theorem blk2 (t : Fin cfg0.N) (i : Fin 256) (j : Fin 1024) :
    (iblk m c 2 t : FVec Ideal S1x256x1024 .f32) (ix3 0 i j) = W m c (layer t) (row t i) j := by
  blk_ext [iblk, V_main_arg2, idx t, row, layer]

theorem blk3 (t : Fin cfg0.N) (i : Fin 256) (j : Fin 1024) :
    (iblk m c 3 t : FVec Ideal S1x256x1024 .f32) (ix3 0 i j) = M m c (layer t) (row t i) j := by
  blk_ext [iblk, V_main_arg3, idx t, row, layer]

theorem blk4 (t : Fin cfg0.N) (i : Fin 256) (j : Fin 1024) :
    (iblk m c 4 t : FVec Ideal S1x256x1024 .f32) (ix3 0 i j) = Q m c (layer t) (row t i) j := by
  blk_ext [iblk, V_main_arg4, idx t, row, layer]

/-- The kernel forms both layers' sums and takes the one of its layer. -/
theorem sum_at (t : Fin cfg0.N) (i : Fin 256) (j : Fin 1024) :
    k0_pay10 (grid0.coords t) (iblk m c 0 t) (iblk m c 1 t) (iblk m c 2 t) (iblk m c 3 t) (iblk m c 4 t) (ix2 i j)
    = g m c (layer t) (row t i) j := by
  have hl := (layer t).isLt
  have hv : (layer t).val = t.val / 2 := rfl
  unfold k0_pay10
  rw [coord t]
  by_cases h : t.val / 2 = 0
  · rw [h, g, if_pos (hv.trans h), ← AdamStep.total_eq]
    unfold k0_pay4
    rw [show Scalar.cmpi .eq (BitVec.ofNat 32 0) 1#32 = 0#1 from rfl]
    pointwise [k0_pay3, blk0 m c t h]
  · rw [g, if_neg fun e => h (hv.symm.trans e), ← AdamStep.total_eq, show t.val / 2 = 1 by omega]
    unfold k0_pay4
    rw [show Scalar.cmpi .eq (BitVec.ofNat 32 1) 1#32 = 1#1 from rfl]
    pointwise [blk1 m c t h]

theorem out5 (t : Fin cfg0.N) (i : Fin 256) (j : Fin 1024) :
    out0_5 (grid0.coords t) (iblk m c 0 t) (iblk m c 1 t) (iblk m c 2 t) (iblk m c 3 t) (iblk m c 4 t) (ix3 0 i j)
    = g m c (layer t) (row t i) j := by
  unfold out0_5
  frame_out
  pointwise [k0_pay1, k0_pay2, k0_pay3, k0_pay5, k0_pay6, k0_pay7, k0_pay8, k0_pay9, k0_pay11, sum_at, blk2, blk3, blk4, AdamStep.delta, AdamStep.mean, AdamStep.square]

theorem out6 (t : Fin cfg0.N) (i : Fin 256) (j : Fin 1024) :
    out0_6 (grid0.coords t) (iblk m c 0 t) (iblk m c 1 t) (iblk m c 2 t) (iblk m c 3 t) (iblk m c 4 t) (ix3 0 i j)
    = AdamStep.delta (g m c (layer t) (row t i) j) (W m c (layer t) (row t i) j) (M m c (layer t) (row t i) j) (Q m c (layer t) (row t i) j) := by
  unfold out0_6
  frame_out
  pointwise [k0_pay1, k0_pay2, k0_pay3, k0_pay5, k0_pay6, k0_pay7, k0_pay8, k0_pay9, k0_pay11, sum_at, blk2, blk3, blk4, AdamStep.delta, AdamStep.mean, AdamStep.square]

theorem out7 (t : Fin cfg0.N) (i : Fin 256) (j : Fin 1024) :
    out0_7 (grid0.coords t) (iblk m c 0 t) (iblk m c 1 t) (iblk m c 2 t) (iblk m c 3 t) (iblk m c 4 t) (ix3 0 i j)
    = AdamStep.mean (g m c (layer t) (row t i) j) (M m c (layer t) (row t i) j) := by
  unfold out0_7
  frame_out
  pointwise [k0_pay1, k0_pay2, k0_pay3, k0_pay5, k0_pay6, k0_pay7, k0_pay8, k0_pay9, k0_pay11, sum_at, blk2, blk3, blk4, AdamStep.delta, AdamStep.mean, AdamStep.square]

theorem out8 (t : Fin cfg0.N) (i : Fin 256) (j : Fin 1024) :
    out0_8 (grid0.coords t) (iblk m c 0 t) (iblk m c 1 t) (iblk m c 2 t) (iblk m c 3 t) (iblk m c 4 t) (ix3 0 i j)
    = AdamStep.square (g m c (layer t) (row t i) j) (Q m c (layer t) (row t i) j) := by
  unfold out0_8
  frame_out
  pointwise [k0_pay1, k0_pay2, k0_pay3, k0_pay5, k0_pay6, k0_pay7, k0_pay8, k0_pay9, k0_pay11, sum_at, blk2, blk3, blk4, AdamStep.delta, AdamStep.mean, AdamStep.square]

theorem final5 : (dats m 0 c).arrAt 5 cfg0.N = fun i => g m c (i 0) (i 1) (i 2) := by
  refine (dats m 0 c).arrAt_eq_of_covers 5 _ (by decide +kernel) fun t hf y => ?_
  blk_simp
  rw [after0_5]
  idx_vars y
  obtain rfl : y0 = 0 := Subsingleton.elim _ _
  have e (l l' : Fin 2) (a a' : Fin 512) (b b' : Fin 1024) (hl : l = l') (ha : a = a') (hb : b = b') :
      g m c l a b = g m c l' a' b' := by rw [hl, ha, hb]
  refine (out5 m c t y1 y2).trans (e _ _ _ _ _ _ (Fin.ext ?_) (Fin.ext ?_) (Fin.ext ?_)) <;> blk_simp [idx t, row, layer] <;> try rfl

theorem final6 : (dats m 0 c).arrAt 6 cfg0.N = fun i => AdamStep.delta (g m c (i 0) (i 1) (i 2)) (W m c (i 0) (i 1) (i 2)) (M m c (i 0) (i 1) (i 2)) (Q m c (i 0) (i 1) (i 2)) := by
  refine (dats m 0 c).arrAt_eq_of_covers 6 _ (by decide +kernel) fun t hf y => ?_
  blk_simp
  rw [after0_6]
  idx_vars y
  obtain rfl : y0 = 0 := Subsingleton.elim _ _
  have e (l l' : Fin 2) (a a' : Fin 512) (b b' : Fin 1024) (hl : l = l') (ha : a = a') (hb : b = b') :
      AdamStep.delta (g m c l a b) (W m c l a b) (M m c l a b) (Q m c l a b) = AdamStep.delta (g m c l' a' b') (W m c l' a' b') (M m c l' a' b') (Q m c l' a' b') := by rw [hl, ha, hb]
  refine (out6 m c t y1 y2).trans (e _ _ _ _ _ _ (Fin.ext ?_) (Fin.ext ?_) (Fin.ext ?_)) <;> blk_simp [idx t, row, layer] <;> try rfl

theorem final7 : (dats m 0 c).arrAt 7 cfg0.N = fun i => AdamStep.mean (g m c (i 0) (i 1) (i 2)) (M m c (i 0) (i 1) (i 2)) := by
  refine (dats m 0 c).arrAt_eq_of_covers 7 _ (by decide +kernel) fun t hf y => ?_
  blk_simp
  rw [after0_7]
  idx_vars y
  obtain rfl : y0 = 0 := Subsingleton.elim _ _
  have e (l l' : Fin 2) (a a' : Fin 512) (b b' : Fin 1024) (hl : l = l') (ha : a = a') (hb : b = b') :
      AdamStep.mean (g m c l a b) (M m c l a b) = AdamStep.mean (g m c l' a' b') (M m c l' a' b') := by rw [hl, ha, hb]
  refine (out7 m c t y1 y2).trans (e _ _ _ _ _ _ (Fin.ext ?_) (Fin.ext ?_) (Fin.ext ?_)) <;> blk_simp [idx t, row, layer] <;> try rfl

theorem final8 : (dats m 0 c).arrAt 8 cfg0.N = fun i => AdamStep.square (g m c (i 0) (i 1) (i 2)) (Q m c (i 0) (i 1) (i 2)) := by
  refine (dats m 0 c).arrAt_eq_of_covers 8 _ (by decide +kernel) fun t hf y => ?_
  blk_simp
  rw [after0_8]
  idx_vars y
  obtain rfl : y0 = 0 := Subsingleton.elim _ _
  have e (l l' : Fin 2) (a a' : Fin 512) (b b' : Fin 1024) (hl : l = l') (ha : a = a') (hb : b = b') :
      AdamStep.square (g m c l a b) (Q m c l a b) = AdamStep.square (g m c l' a' b') (Q m c l' a' b') := by rw [hl, ha, hb]
  refine (out8 m c t y1 y2).trans (e _ _ _ _ _ _ (Fin.ext ?_) (Fin.ext ?_) (Fin.ext ?_)) <;> blk_simp [idx t, row, layer] <;> try rfl

end Cert.Kernel13Ideal.Arrays

namespace Cert.DownStep

open Cert Cert.Reference13Ideal Cert.Reference13Ideal.Gen Idealize.ShloMosaic.StableHlo

variable (m : (ℓ : Loc Kernel13Ideal.nD Kernel13Ideal.τ Kernel13Ideal.sig) → Buf (Elt Ideal) ℓ)
  (m' : (ℓ : Loc nD τ sig) → Buf (Elt Ideal) ℓ) (c : Dev nD)
  (h0 : m' ((c.tc : Thread nD τ).loc main_arg0) = m ((c.tc : Thread Kernel13Ideal.nD Kernel13Ideal.τ).loc Kernel13Ideal.main_arg0))
  (h1 : m' ((c.tc : Thread nD τ).loc main_arg1) = m ((c.tc : Thread Kernel13Ideal.nD Kernel13Ideal.τ).loc Kernel13Ideal.main_arg1))
  (h2 : m' ((c.tc : Thread nD τ).loc main_arg2) = m ((c.tc : Thread Kernel13Ideal.nD Kernel13Ideal.τ).loc Kernel13Ideal.main_arg2))
  (h3 : m' ((c.tc : Thread nD τ).loc main_arg3) = m ((c.tc : Thread Kernel13Ideal.nD Kernel13Ideal.τ).loc Kernel13Ideal.main_arg3))
  (h4 : m' ((c.tc : Thread nD τ).loc main_arg4) = m ((c.tc : Thread Kernel13Ideal.nD Kernel13Ideal.τ).loc Kernel13Ideal.main_arg4))
include h0 h1 h2 h3 h4

/-- The gradients are equal. -/
theorem result0 : concatenate S2x512x1024 0 [⟨S1x512x1024, (broadcastInDim S1x512x1024 ![1, 2] bcast_S512x1024_S1x512x1024_1_2 (Host.reduceAdd (m' ((c.tc : Thread nD τ).loc main_arg0)) (constant (F := Ideal) S_ .f32 0x00000000#32) reducesTo_S8x512x1024_S512x1024_d0 h_S_))⟩, ⟨S1x512x1024, (broadcastInDim S1x512x1024 ![1, 2] bcast_S512x1024_S1x512x1024_1_2 (Host.reduceAdd (m' ((c.tc : Thread nD τ).loc main_arg1)) (constant (F := Ideal) S_ .f32 0x00000000#32) reducesTo_S8x512x1024_S512x1024_d0 h_S_))⟩] concatenates_S1x512x1024_S1x512x1024_S2x512x1024_d0
    = (Kernel13Ideal.Gen.dats m 0 c).arrAt 5 Kernel13Ideal.cfg0.N := by
  simp only [Kernel13Ideal.Arrays.final5, h0, h1, h2, h3, h4]
  funext y
  idx_vars y
  match y0 with
  | 0 => pointwise [Kernel13Ideal.Arrays.g, AdamStep.total]; rw [h0]
  | 1 => pointwise [Kernel13Ideal.Arrays.g, AdamStep.total]; rw [h1]

/-- The changes of the weight are equal. -/
theorem result1 : mulf (broadcastInDim S2x512x1024 ![] bcast_S_S2x512x1024 (constant (F := Ideal) S_ .f32 0xBA83126F#32)) (addf (Host.divf (Host.divf (addf (mulf (broadcastInDim S2x512x1024 ![] bcast_S_S2x512x1024 (constant (F := Ideal) S_ .f32 0x3F666666#32)) (m' ((c.tc : Thread nD τ).loc main_arg3))) (mulf (broadcastInDim S2x512x1024 ![] bcast_S_S2x512x1024 (constant (F := Ideal) S_ .f32 0x3DCCCCCD#32)) (concatenate S2x512x1024 0 [⟨S1x512x1024, (broadcastInDim S1x512x1024 ![1, 2] bcast_S512x1024_S1x512x1024_1_2 (Host.reduceAdd (m' ((c.tc : Thread nD τ).loc main_arg0)) (constant (F := Ideal) S_ .f32 0x00000000#32) reducesTo_S8x512x1024_S512x1024_d0 h_S_))⟩, ⟨S1x512x1024, (broadcastInDim S1x512x1024 ![1, 2] bcast_S512x1024_S1x512x1024_1_2 (Host.reduceAdd (m' ((c.tc : Thread nD τ).loc main_arg1)) (constant (F := Ideal) S_ .f32 0x00000000#32) reducesTo_S8x512x1024_S512x1024_d0 h_S_))⟩] concatenates_S1x512x1024_S1x512x1024_S2x512x1024_d0))) (broadcastInDim S2x512x1024 ![] bcast_S_S2x512x1024 (constant (F := Ideal) S_ .f32 0x3F26BD02#32))) (addf (Host.sqrt (Host.divf (addf (mulf (broadcastInDim S2x512x1024 ![] bcast_S_S2x512x1024 (constant (F := Ideal) S_ .f32 0x3F7FBE77#32)) (m' ((c.tc : Thread nD τ).loc main_arg4))) (mulf (broadcastInDim S2x512x1024 ![] bcast_S_S2x512x1024 (constant (F := Ideal) S_ .f32 0x3A83126F#32)) (mulf (concatenate S2x512x1024 0 [⟨S1x512x1024, (broadcastInDim S1x512x1024 ![1, 2] bcast_S512x1024_S1x512x1024_1_2 (Host.reduceAdd (m' ((c.tc : Thread nD τ).loc main_arg0)) (constant (F := Ideal) S_ .f32 0x00000000#32) reducesTo_S8x512x1024_S512x1024_d0 h_S_))⟩, ⟨S1x512x1024, (broadcastInDim S1x512x1024 ![1, 2] bcast_S512x1024_S1x512x1024_1_2 (Host.reduceAdd (m' ((c.tc : Thread nD τ).loc main_arg1)) (constant (F := Ideal) S_ .f32 0x00000000#32) reducesTo_S8x512x1024_S512x1024_d0 h_S_))⟩] concatenates_S1x512x1024_S1x512x1024_S2x512x1024_d0) (concatenate S2x512x1024 0 [⟨S1x512x1024, (broadcastInDim S1x512x1024 ![1, 2] bcast_S512x1024_S1x512x1024_1_2 (Host.reduceAdd (m' ((c.tc : Thread nD τ).loc main_arg0)) (constant (F := Ideal) S_ .f32 0x00000000#32) reducesTo_S8x512x1024_S512x1024_d0 h_S_))⟩, ⟨S1x512x1024, (broadcastInDim S1x512x1024 ![1, 2] bcast_S512x1024_S1x512x1024_1_2 (Host.reduceAdd (m' ((c.tc : Thread nD τ).loc main_arg1)) (constant (F := Ideal) S_ .f32 0x00000000#32) reducesTo_S8x512x1024_S512x1024_d0 h_S_))⟩] concatenates_S1x512x1024_S1x512x1024_S2x512x1024_d0)))) (broadcastInDim S2x512x1024 ![] bcast_S_S2x512x1024 (constant (F := Ideal) S_ .f32 0x3C231ACC#32)))) (broadcastInDim S2x512x1024 ![] bcast_S_S2x512x1024 (constant (F := Ideal) S_ .f32 0x322BCC77#32)))) (mulf (broadcastInDim S2x512x1024 ![] bcast_S_S2x512x1024 (constant (F := Ideal) S_ .f32 0x3C23D70A#32)) (m' ((c.tc : Thread nD τ).loc main_arg2))))
    = (Kernel13Ideal.Gen.dats m 0 c).arrAt 6 Kernel13Ideal.cfg0.N := by
  simp only [Kernel13Ideal.Arrays.final6, h0, h1, h2, h3, h4]
  funext y
  idx_vars y
  match y0 with
  | 0 => pointwise [Kernel13Ideal.Arrays.g, AdamStep.total, AdamStep.delta, AdamStep.mean, AdamStep.square]; rw [h0]
  | 1 => pointwise [Kernel13Ideal.Arrays.g, AdamStep.total, AdamStep.delta, AdamStep.mean, AdamStep.square]; rw [h1]

/-- The running means of the gradient are equal. -/
theorem result2 : addf (mulf (broadcastInDim S2x512x1024 ![] bcast_S_S2x512x1024 (constant (F := Ideal) S_ .f32 0x3F666666#32)) (m' ((c.tc : Thread nD τ).loc main_arg3))) (mulf (broadcastInDim S2x512x1024 ![] bcast_S_S2x512x1024 (constant (F := Ideal) S_ .f32 0x3DCCCCCD#32)) (concatenate S2x512x1024 0 [⟨S1x512x1024, (broadcastInDim S1x512x1024 ![1, 2] bcast_S512x1024_S1x512x1024_1_2 (Host.reduceAdd (m' ((c.tc : Thread nD τ).loc main_arg0)) (constant (F := Ideal) S_ .f32 0x00000000#32) reducesTo_S8x512x1024_S512x1024_d0 h_S_))⟩, ⟨S1x512x1024, (broadcastInDim S1x512x1024 ![1, 2] bcast_S512x1024_S1x512x1024_1_2 (Host.reduceAdd (m' ((c.tc : Thread nD τ).loc main_arg1)) (constant (F := Ideal) S_ .f32 0x00000000#32) reducesTo_S8x512x1024_S512x1024_d0 h_S_))⟩] concatenates_S1x512x1024_S1x512x1024_S2x512x1024_d0))
    = (Kernel13Ideal.Gen.dats m 0 c).arrAt 7 Kernel13Ideal.cfg0.N := by
  simp only [Kernel13Ideal.Arrays.final7, h0, h1, h2, h3, h4]
  funext y
  idx_vars y
  match y0 with
  | 0 => pointwise [Kernel13Ideal.Arrays.g, AdamStep.total, AdamStep.delta, AdamStep.mean, AdamStep.square]; rw [h0]
  | 1 => pointwise [Kernel13Ideal.Arrays.g, AdamStep.total, AdamStep.delta, AdamStep.mean, AdamStep.square]; rw [h1]

/-- The running means of the gradient's square are equal. -/
theorem result3 : addf (mulf (broadcastInDim S2x512x1024 ![] bcast_S_S2x512x1024 (constant (F := Ideal) S_ .f32 0x3F7FBE77#32)) (m' ((c.tc : Thread nD τ).loc main_arg4))) (mulf (broadcastInDim S2x512x1024 ![] bcast_S_S2x512x1024 (constant (F := Ideal) S_ .f32 0x3A83126F#32)) (mulf (concatenate S2x512x1024 0 [⟨S1x512x1024, (broadcastInDim S1x512x1024 ![1, 2] bcast_S512x1024_S1x512x1024_1_2 (Host.reduceAdd (m' ((c.tc : Thread nD τ).loc main_arg0)) (constant (F := Ideal) S_ .f32 0x00000000#32) reducesTo_S8x512x1024_S512x1024_d0 h_S_))⟩, ⟨S1x512x1024, (broadcastInDim S1x512x1024 ![1, 2] bcast_S512x1024_S1x512x1024_1_2 (Host.reduceAdd (m' ((c.tc : Thread nD τ).loc main_arg1)) (constant (F := Ideal) S_ .f32 0x00000000#32) reducesTo_S8x512x1024_S512x1024_d0 h_S_))⟩] concatenates_S1x512x1024_S1x512x1024_S2x512x1024_d0) (concatenate S2x512x1024 0 [⟨S1x512x1024, (broadcastInDim S1x512x1024 ![1, 2] bcast_S512x1024_S1x512x1024_1_2 (Host.reduceAdd (m' ((c.tc : Thread nD τ).loc main_arg0)) (constant (F := Ideal) S_ .f32 0x00000000#32) reducesTo_S8x512x1024_S512x1024_d0 h_S_))⟩, ⟨S1x512x1024, (broadcastInDim S1x512x1024 ![1, 2] bcast_S512x1024_S1x512x1024_1_2 (Host.reduceAdd (m' ((c.tc : Thread nD τ).loc main_arg1)) (constant (F := Ideal) S_ .f32 0x00000000#32) reducesTo_S8x512x1024_S512x1024_d0 h_S_))⟩] concatenates_S1x512x1024_S1x512x1024_S2x512x1024_d0)))
    = (Kernel13Ideal.Gen.dats m 0 c).arrAt 8 Kernel13Ideal.cfg0.N := by
  simp only [Kernel13Ideal.Arrays.final8, h0, h1, h2, h3, h4]
  funext y
  idx_vars y
  match y0 with
  | 0 => pointwise [Kernel13Ideal.Arrays.g, AdamStep.total, AdamStep.delta, AdamStep.mean, AdamStep.square]; rw [h0]
  | 1 => pointwise [Kernel13Ideal.Arrays.g, AdamStep.total, AdamStep.delta, AdamStep.mean, AdamStep.square]; rw [h1]

end Cert.DownStep

end
-- ==== Proof.EntryStep.lean ====
/- The optimiser's step on the attention entrance weight. -/
module

public import proofs.«01_k».proof.Proof.Gen.Kernel14Ideal.Value
public import proofs.«01_k».proof.Proof.Gen.Reference14Ideal.Run
public import proofs.«01_k».proof.Proof.AdamStep

@[expose] public section

set_option maxRecDepth 16384

noncomputable section

open Idealize.ShloMosaic Idealize.ShloMosaic.TcCoe Idealize.SL.Sem

namespace Cert.Kernel14Ideal.Arrays

open Cert.Kernel14Ideal Cert.Kernel14Ideal.Gen

variable (m : (ℓ : Loc nD τ sig) → Buf (Elt Ideal) ℓ) (c : Dev nD)

/-- The parts of the gradient, the weight and the two running means. -/
abbrev R (d : Fin 8) (i : Fin 1024) (j : Fin 512) : EReal := m ((c : Thread nD τ).loc main_arg0) (ix3 d i j)
abbrev W (i : Fin 1024) (j : Fin 386) : EReal := m ((c : Thread nD τ).loc main_arg1) (ix3 0 i j)
abbrev M (i : Fin 1024) (j : Fin 386) : EReal := m ((c : Thread nD τ).loc main_arg2) (ix3 0 i j)
abbrev Q (i : Fin 1024) (j : Fin 386) : EReal := m ((c : Thread nD τ).loc main_arg3) (ix3 0 i j)

/-- The gradient. -/
def g (i : Fin 1024) (j : Fin 386) : EReal := AdamStep.total fun d => R m c d i ⟨j.val, by omega⟩

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The array row of a block's row. -/
def row (t : Fin cfg0.N) (i : Fin 512) : Fin 1024 := ⟨t.val * 512 + i.val, by have := lt_of_lt_of_eq t.isLt N_0; omega⟩

theorem parts_at (d : Fin 8) (i : Fin 1024) (j : Fin 512) : (V m c main_v0 : FVec Ideal S8x1024x512 .bf16) (ix3 d i j) = R m c d i j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (d : Fin 8) (i : Fin 512) (j : Fin 512) :
    (iblk m c 0 t : FVec Ideal S8x512x512 .bf16) (ix3 d i j) = R m c d (row t i) j := by
  rw [← parts_at]
  blk_ext [iblk, idx t, row]

theorem blk1 (t : Fin cfg0.N) (i : Fin 512) (j : Fin 386) :
    (iblk m c 1 t : FVec Ideal S1x512x386 .f32) (ix3 0 i j) = W m c (row t i) j := by
  blk_ext [iblk, V_main_arg1, idx t, row]

theorem blk2 (t : Fin cfg0.N) (i : Fin 512) (j : Fin 386) :
    (iblk m c 2 t : FVec Ideal S1x512x386 .f32) (ix3 0 i j) = M m c (row t i) j := by
  blk_ext [iblk, V_main_arg2, idx t, row]

theorem blk3 (t : Fin cfg0.N) (i : Fin 512) (j : Fin 386) :
    (iblk m c 3 t : FVec Ideal S1x512x386 .f32) (ix3 0 i j) = Q m c (row t i) j := by
  blk_ext [iblk, V_main_arg3, idx t, row]

/-- The sum as the kernel forms it. -/
theorem g_eq (i : Fin 1024) (j : Fin 386) : g m c i j = R m c 0 i ⟨j.val, by omega⟩ + R m c 1 i ⟨j.val, by omega⟩ + R m c 2 i ⟨j.val, by omega⟩ + R m c 3 i ⟨j.val, by omega⟩
    + R m c 4 i ⟨j.val, by omega⟩ + R m c 5 i ⟨j.val, by omega⟩ + R m c 6 i ⟨j.val, by omega⟩ + R m c 7 i ⟨j.val, by omega⟩ :=
  (AdamStep.total_eq fun d => R m c d i ⟨j.val, by omega⟩).symm

theorem out4 (t : Fin cfg0.N) (i : Fin 512) (j : Fin 386) :
    out0_4 (iblk m c 0 t) (iblk m c 1 t) (iblk m c 2 t) (iblk m c 3 t) (ix3 0 i j)
    = g m c (row t i) j := by
  simp only [AdamStep.delta, AdamStep.mean, AdamStep.square, g_eq]
  unfold_out out0_4
  frame_out
  pointwise [k0_pay1, k0_pay2, k0_pay3, k0_pay4, k0_pay5, k0_pay6, k0_pay7, blk0, blk1, blk2, blk3]

theorem out5 (t : Fin cfg0.N) (i : Fin 512) (j : Fin 386) :
    out0_5 (iblk m c 0 t) (iblk m c 1 t) (iblk m c 2 t) (iblk m c 3 t) (ix3 0 i j)
    = AdamStep.delta (g m c (row t i) j) (W m c (row t i) j) (M m c (row t i) j) (Q m c (row t i) j) := by
  simp only [AdamStep.delta, AdamStep.mean, AdamStep.square, g_eq]
  unfold_out out0_5
  frame_out
  pointwise [k0_pay1, k0_pay2, k0_pay3, k0_pay4, k0_pay5, k0_pay6, k0_pay7, blk0, blk1, blk2, blk3]

theorem out6 (t : Fin cfg0.N) (i : Fin 512) (j : Fin 386) :
    out0_6 (iblk m c 0 t) (iblk m c 1 t) (iblk m c 2 t) (iblk m c 3 t) (ix3 0 i j)
    = AdamStep.mean (g m c (row t i) j) (M m c (row t i) j) := by
  simp only [AdamStep.delta, AdamStep.mean, AdamStep.square, g_eq]
  unfold_out out0_6
  frame_out
  pointwise [k0_pay1, k0_pay2, k0_pay3, k0_pay4, k0_pay5, k0_pay6, k0_pay7, blk0, blk1, blk2, blk3]

theorem out7 (t : Fin cfg0.N) (i : Fin 512) (j : Fin 386) :
    out0_7 (iblk m c 0 t) (iblk m c 1 t) (iblk m c 2 t) (iblk m c 3 t) (ix3 0 i j)
    = AdamStep.square (g m c (row t i) j) (Q m c (row t i) j) := by
  simp only [AdamStep.delta, AdamStep.mean, AdamStep.square, g_eq]
  unfold_out out0_7
  frame_out
  pointwise [k0_pay1, k0_pay2, k0_pay3, k0_pay4, k0_pay5, k0_pay6, k0_pay7, blk0, blk1, blk2, blk3]

theorem final4 : (dats m 0 c).arrAt 4 cfg0.N = fun i => g m c (i 1) (i 2) := by
  refine (dats m 0 c).arrAt_eq_of_covers 4 _ (by decide +kernel) fun t hf y => ?_
  blk_simp
  rw [after0_4]
  idx_vars y
  obtain rfl : y0 = 0 := Subsingleton.elim _ _
  refine (out4 m c t y1 y2).trans (congrArg₂ (fun a b => g m c a b) (Fin.ext ?_) (Fin.ext ?_)) <;> blk_simp [idx t, row] <;> try rfl

theorem final5 : (dats m 0 c).arrAt 5 cfg0.N = fun i => AdamStep.delta (g m c (i 1) (i 2)) (W m c (i 1) (i 2)) (M m c (i 1) (i 2)) (Q m c (i 1) (i 2)) := by
  refine (dats m 0 c).arrAt_eq_of_covers 5 _ (by decide +kernel) fun t hf y => ?_
  blk_simp
  rw [after0_5]
  idx_vars y
  obtain rfl : y0 = 0 := Subsingleton.elim _ _
  refine (out5 m c t y1 y2).trans (congrArg₂ (fun a b => AdamStep.delta (g m c a b) (W m c a b) (M m c a b) (Q m c a b)) (Fin.ext ?_) (Fin.ext ?_)) <;> blk_simp [idx t, row] <;> try rfl

theorem final6 : (dats m 0 c).arrAt 6 cfg0.N = fun i => AdamStep.mean (g m c (i 1) (i 2)) (M m c (i 1) (i 2)) := by
  refine (dats m 0 c).arrAt_eq_of_covers 6 _ (by decide +kernel) fun t hf y => ?_
  blk_simp
  rw [after0_6]
  idx_vars y
  obtain rfl : y0 = 0 := Subsingleton.elim _ _
  refine (out6 m c t y1 y2).trans (congrArg₂ (fun a b => AdamStep.mean (g m c a b) (M m c a b)) (Fin.ext ?_) (Fin.ext ?_)) <;> blk_simp [idx t, row] <;> try rfl

theorem final7 : (dats m 0 c).arrAt 7 cfg0.N = fun i => AdamStep.square (g m c (i 1) (i 2)) (Q m c (i 1) (i 2)) := by
  refine (dats m 0 c).arrAt_eq_of_covers 7 _ (by decide +kernel) fun t hf y => ?_
  blk_simp
  rw [after0_7]
  idx_vars y
  obtain rfl : y0 = 0 := Subsingleton.elim _ _
  refine (out7 m c t y1 y2).trans (congrArg₂ (fun a b => AdamStep.square (g m c a b) (Q m c a b)) (Fin.ext ?_) (Fin.ext ?_)) <;> blk_simp [idx t, row] <;> try rfl

end Cert.Kernel14Ideal.Arrays

namespace Cert.EntryStep

open Cert Cert.Reference14Ideal Cert.Reference14Ideal.Gen Idealize.ShloMosaic.StableHlo

variable (m : (ℓ : Loc Kernel14Ideal.nD Kernel14Ideal.τ Kernel14Ideal.sig) → Buf (Elt Ideal) ℓ)
  (m' : (ℓ : Loc nD τ sig) → Buf (Elt Ideal) ℓ) (c : Dev nD)
  (h0 : m' ((c.tc : Thread nD τ).loc main_arg0) = m ((c.tc : Thread Kernel14Ideal.nD Kernel14Ideal.τ).loc Kernel14Ideal.main_arg0))
  (h1 : m' ((c.tc : Thread nD τ).loc main_arg1) = m ((c.tc : Thread Kernel14Ideal.nD Kernel14Ideal.τ).loc Kernel14Ideal.main_arg1))
  (h2 : m' ((c.tc : Thread nD τ).loc main_arg2) = m ((c.tc : Thread Kernel14Ideal.nD Kernel14Ideal.τ).loc Kernel14Ideal.main_arg2))
  (h3 : m' ((c.tc : Thread nD τ).loc main_arg3) = m ((c.tc : Thread Kernel14Ideal.nD Kernel14Ideal.τ).loc Kernel14Ideal.main_arg3))
include h0 h1 h2 h3

/-- The gradients are equal. -/
theorem result0 : broadcastInDim S1x1024x386 ![1, 2] bcast_S1024x386_S1x1024x386_1_2 (Host.reduceAdd (extractStridedSlice S8x1024x386 ![0, 0, 0] (m' ((c.tc : Thread nD τ).loc main_arg0)) slices_S8x1024x512_S8x1024x386_0_0_0) (constant (F := Ideal) S_ .f32 0x00000000#32) reducesTo_S8x1024x386_S1024x386_d0 h_S_)
    = (Kernel14Ideal.Gen.dats m 0 c).arrAt 4 Kernel14Ideal.cfg0.N := by
  simp only [Kernel14Ideal.Arrays.final4, h0, h1, h2, h3]
  funext y
  idx_vars y
  pointwise [Kernel14Ideal.Arrays.g, AdamStep.total]

/-- The changes of the weight are equal. -/
theorem result1 : mulf (broadcastInDim S1x1024x386 ![] bcast_S_S1x1024x386 (constant (F := Ideal) S_ .f32 0xBA83126F#32)) (addf (Host.divf (Host.divf (addf (mulf (broadcastInDim S1x1024x386 ![] bcast_S_S1x1024x386 (constant (F := Ideal) S_ .f32 0x3F666666#32)) (m' ((c.tc : Thread nD τ).loc main_arg2))) (mulf (broadcastInDim S1x1024x386 ![] bcast_S_S1x1024x386 (constant (F := Ideal) S_ .f32 0x3DCCCCCD#32)) (broadcastInDim S1x1024x386 ![1, 2] bcast_S1024x386_S1x1024x386_1_2 (Host.reduceAdd (extractStridedSlice S8x1024x386 ![0, 0, 0] (m' ((c.tc : Thread nD τ).loc main_arg0)) slices_S8x1024x512_S8x1024x386_0_0_0) (constant (F := Ideal) S_ .f32 0x00000000#32) reducesTo_S8x1024x386_S1024x386_d0 h_S_)))) (broadcastInDim S1x1024x386 ![] bcast_S_S1x1024x386 (constant (F := Ideal) S_ .f32 0x3F26BD02#32))) (addf (Host.sqrt (Host.divf (addf (mulf (broadcastInDim S1x1024x386 ![] bcast_S_S1x1024x386 (constant (F := Ideal) S_ .f32 0x3F7FBE77#32)) (m' ((c.tc : Thread nD τ).loc main_arg3))) (mulf (broadcastInDim S1x1024x386 ![] bcast_S_S1x1024x386 (constant (F := Ideal) S_ .f32 0x3A83126F#32)) (mulf (broadcastInDim S1x1024x386 ![1, 2] bcast_S1024x386_S1x1024x386_1_2 (Host.reduceAdd (extractStridedSlice S8x1024x386 ![0, 0, 0] (m' ((c.tc : Thread nD τ).loc main_arg0)) slices_S8x1024x512_S8x1024x386_0_0_0) (constant (F := Ideal) S_ .f32 0x00000000#32) reducesTo_S8x1024x386_S1024x386_d0 h_S_)) (broadcastInDim S1x1024x386 ![1, 2] bcast_S1024x386_S1x1024x386_1_2 (Host.reduceAdd (extractStridedSlice S8x1024x386 ![0, 0, 0] (m' ((c.tc : Thread nD τ).loc main_arg0)) slices_S8x1024x512_S8x1024x386_0_0_0) (constant (F := Ideal) S_ .f32 0x00000000#32) reducesTo_S8x1024x386_S1024x386_d0 h_S_))))) (broadcastInDim S1x1024x386 ![] bcast_S_S1x1024x386 (constant (F := Ideal) S_ .f32 0x3C231ACC#32)))) (broadcastInDim S1x1024x386 ![] bcast_S_S1x1024x386 (constant (F := Ideal) S_ .f32 0x322BCC77#32)))) (mulf (broadcastInDim S1x1024x386 ![] bcast_S_S1x1024x386 (constant (F := Ideal) S_ .f32 0x3C23D70A#32)) (m' ((c.tc : Thread nD τ).loc main_arg1))))
    = (Kernel14Ideal.Gen.dats m 0 c).arrAt 5 Kernel14Ideal.cfg0.N := by
  simp only [Kernel14Ideal.Arrays.final5, h0, h1, h2, h3]
  funext y
  idx_vars y
  obtain rfl : y0 = 0 := Subsingleton.elim _ _
  pointwise [Kernel14Ideal.Arrays.g, AdamStep.total, AdamStep.delta, AdamStep.mean, AdamStep.square]

/-- The running means of the gradient are equal. -/
theorem result2 : addf (mulf (broadcastInDim S1x1024x386 ![] bcast_S_S1x1024x386 (constant (F := Ideal) S_ .f32 0x3F666666#32)) (m' ((c.tc : Thread nD τ).loc main_arg2))) (mulf (broadcastInDim S1x1024x386 ![] bcast_S_S1x1024x386 (constant (F := Ideal) S_ .f32 0x3DCCCCCD#32)) (broadcastInDim S1x1024x386 ![1, 2] bcast_S1024x386_S1x1024x386_1_2 (Host.reduceAdd (extractStridedSlice S8x1024x386 ![0, 0, 0] (m' ((c.tc : Thread nD τ).loc main_arg0)) slices_S8x1024x512_S8x1024x386_0_0_0) (constant (F := Ideal) S_ .f32 0x00000000#32) reducesTo_S8x1024x386_S1024x386_d0 h_S_)))
    = (Kernel14Ideal.Gen.dats m 0 c).arrAt 6 Kernel14Ideal.cfg0.N := by
  simp only [Kernel14Ideal.Arrays.final6, h0, h1, h2, h3]
  funext y
  idx_vars y
  obtain rfl : y0 = 0 := Subsingleton.elim _ _
  pointwise [Kernel14Ideal.Arrays.g, AdamStep.total, AdamStep.delta, AdamStep.mean, AdamStep.square]

/-- The running means of the gradient's square are equal. -/
theorem result3 : addf (mulf (broadcastInDim S1x1024x386 ![] bcast_S_S1x1024x386 (constant (F := Ideal) S_ .f32 0x3F7FBE77#32)) (m' ((c.tc : Thread nD τ).loc main_arg3))) (mulf (broadcastInDim S1x1024x386 ![] bcast_S_S1x1024x386 (constant (F := Ideal) S_ .f32 0x3A83126F#32)) (mulf (broadcastInDim S1x1024x386 ![1, 2] bcast_S1024x386_S1x1024x386_1_2 (Host.reduceAdd (extractStridedSlice S8x1024x386 ![0, 0, 0] (m' ((c.tc : Thread nD τ).loc main_arg0)) slices_S8x1024x512_S8x1024x386_0_0_0) (constant (F := Ideal) S_ .f32 0x00000000#32) reducesTo_S8x1024x386_S1024x386_d0 h_S_)) (broadcastInDim S1x1024x386 ![1, 2] bcast_S1024x386_S1x1024x386_1_2 (Host.reduceAdd (extractStridedSlice S8x1024x386 ![0, 0, 0] (m' ((c.tc : Thread nD τ).loc main_arg0)) slices_S8x1024x512_S8x1024x386_0_0_0) (constant (F := Ideal) S_ .f32 0x00000000#32) reducesTo_S8x1024x386_S1024x386_d0 h_S_))))
    = (Kernel14Ideal.Gen.dats m 0 c).arrAt 7 Kernel14Ideal.cfg0.N := by
  simp only [Kernel14Ideal.Arrays.final7, h0, h1, h2, h3]
  funext y
  idx_vars y
  obtain rfl : y0 = 0 := Subsingleton.elim _ _
  pointwise [Kernel14Ideal.Arrays.g, AdamStep.total, AdamStep.delta, AdamStep.mean, AdamStep.square]

end Cert.EntryStep

end
-- ==== Proof.ExitStep.lean ====
/- The optimiser's step on an attention exit weight. -/
module

public import proofs.«01_k».proof.Proof.Gen.Kernel15Ideal.Value
public import proofs.«01_k».proof.Proof.Gen.Reference15Ideal.Run
public import proofs.«01_k».proof.Proof.AdamStep

@[expose] public section

set_option maxRecDepth 16384

noncomputable section

open Idealize.ShloMosaic Idealize.ShloMosaic.TcCoe Idealize.SL.Sem

namespace Cert.Kernel15Ideal.Arrays

open Cert.Kernel15Ideal Cert.Kernel15Ideal.Gen

variable (m : (ℓ : Loc nD τ sig) → Buf (Elt Ideal) ℓ) (c : Dev nD)

/-- The parts of the gradient, the weight and the two running means. -/
abbrev R (d : Fin 8) (i : Fin 128) (j : Fin 1024) : EReal := m ((c : Thread nD τ).loc main_arg0) (ix3 d i j)
abbrev W (i : Fin 128) (j : Fin 1024) : EReal := m ((c : Thread nD τ).loc main_arg1) (ix3 0 i j)
abbrev M (i : Fin 128) (j : Fin 1024) : EReal := m ((c : Thread nD τ).loc main_arg2) (ix3 0 i j)
abbrev Q (i : Fin 128) (j : Fin 1024) : EReal := m ((c : Thread nD τ).loc main_arg3) (ix3 0 i j)

/-- The gradient. -/
def g (i : Fin 128) (j : Fin 1024) : EReal := AdamStep.total fun d => R m c d i j

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] :=
  (by decide +kernel : ∀ t : Fin grid0.N, _)

theorem parts_at (d : Fin 8) (i : Fin 128) (j : Fin 1024) : (V m c main_v0 : FVec Ideal S8x128x1024 .bf16) (ix3 d i j) = R m c d i j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (d : Fin 8) (i : Fin 128) (j : Fin 1024) :
    (iblk m c 0 t : FVec Ideal S8x128x1024 .bf16) (ix3 d i j) = R m c d i j := by
  rw [← parts_at]
  blk_ext [iblk, idx t]

theorem blk1 (t : Fin cfg0.N) (i : Fin 128) (j : Fin 1024) :
    (iblk m c 1 t : FVec Ideal S1x128x1024 .f32) (ix3 0 i j) = W m c i j := by
  blk_ext [iblk, V_main_arg1, idx t]

theorem blk2 (t : Fin cfg0.N) (i : Fin 128) (j : Fin 1024) :
    (iblk m c 2 t : FVec Ideal S1x128x1024 .f32) (ix3 0 i j) = M m c i j := by
  blk_ext [iblk, V_main_arg2, idx t]

theorem blk3 (t : Fin cfg0.N) (i : Fin 128) (j : Fin 1024) :
    (iblk m c 3 t : FVec Ideal S1x128x1024 .f32) (ix3 0 i j) = Q m c i j := by
  blk_ext [iblk, V_main_arg3, idx t]

/-- The sum the kernel forms. -/
theorem sum_at (t : Fin cfg0.N) (i : Fin 128) (j : Fin 1024) :
    k0_pay8 (iblk m c 0 t) (iblk m c 1 t) (iblk m c 2 t) (iblk m c 3 t) (ix2 i j) = g m c i j := by
  unfold g
  rw [← AdamStep.total_eq]
  unfold k0_pay8
  pointwise [k0_pay3, blk0]

theorem out4 (t : Fin cfg0.N) (i : Fin 128) (j : Fin 1024) :
    out0_4 (iblk m c 0 t) (iblk m c 1 t) (iblk m c 2 t) (iblk m c 3 t) (ix3 0 i j) = g m c i j := by
  unfold out0_4
  frame_out
  pointwise [k0_pay6, sum_at]

theorem out5 (t : Fin cfg0.N) (i : Fin 128) (j : Fin 1024) :
    out0_5 (iblk m c 0 t) (iblk m c 1 t) (iblk m c 2 t) (iblk m c 3 t) (ix3 0 i j)
    = AdamStep.delta (g m c i j) (W m c i j) (M m c i j) (Q m c i j) := by
  unfold out0_5
  frame_out
  pointwise [k0_pay7, k0_pay4, k0_pay5, sum_at, blk1, blk2, blk3, AdamStep.delta, AdamStep.mean, AdamStep.square]

theorem out6 (t : Fin cfg0.N) (i : Fin 128) (j : Fin 1024) :
    out0_6 (iblk m c 0 t) (iblk m c 1 t) (iblk m c 2 t) (iblk m c 3 t) (ix3 0 i j) = AdamStep.mean (g m c i j) (M m c i j) := by
  unfold out0_6
  frame_out
  pointwise [k0_pay1, k0_pay4, sum_at, blk2, AdamStep.mean]

theorem out7 (t : Fin cfg0.N) (i : Fin 128) (j : Fin 1024) :
    out0_7 (iblk m c 0 t) (iblk m c 1 t) (iblk m c 2 t) (iblk m c 3 t) (ix3 0 i j) = AdamStep.square (g m c i j) (Q m c i j) := by
  unfold out0_7
  frame_out
  pointwise [k0_pay2, k0_pay5, sum_at, blk3, AdamStep.square]

theorem final4 : (dats m 0 c).arrAt 4 cfg0.N = fun i => g m c (i 1) (i 2) := by
  refine (dats m 0 c).arrAt_eq_of_covers 4 _ (by decide +kernel) fun t hf y => ?_
  blk_simp
  rw [after0_4]
  idx_vars y
  obtain rfl : y0 = 0 := Subsingleton.elim _ _
  refine (out4 m c t y1 y2).trans (congrArg₂ (g m c) (Fin.ext ?_) (Fin.ext ?_)) <;> blk_simp [idx t] <;> try rfl

theorem final5 : (dats m 0 c).arrAt 5 cfg0.N = fun i => AdamStep.delta (g m c (i 1) (i 2)) (W m c (i 1) (i 2)) (M m c (i 1) (i 2)) (Q m c (i 1) (i 2)) := by
  refine (dats m 0 c).arrAt_eq_of_covers 5 _ (by decide +kernel) fun t hf y => ?_
  blk_simp
  rw [after0_5]
  idx_vars y
  obtain rfl : y0 = 0 := Subsingleton.elim _ _
  refine (out5 m c t y1 y2).trans (congrArg₂ (fun a b => AdamStep.delta (g m c a b) (W m c a b) (M m c a b) (Q m c a b)) (Fin.ext ?_) (Fin.ext ?_)) <;> blk_simp [idx t] <;> try rfl

theorem final6 : (dats m 0 c).arrAt 6 cfg0.N = fun i => AdamStep.mean (g m c (i 1) (i 2)) (M m c (i 1) (i 2)) := by
  refine (dats m 0 c).arrAt_eq_of_covers 6 _ (by decide +kernel) fun t hf y => ?_
  blk_simp
  rw [after0_6]
  idx_vars y
  obtain rfl : y0 = 0 := Subsingleton.elim _ _
  refine (out6 m c t y1 y2).trans (congrArg₂ (fun a b => AdamStep.mean (g m c a b) (M m c a b)) (Fin.ext ?_) (Fin.ext ?_)) <;> blk_simp [idx t] <;> try rfl

theorem final7 : (dats m 0 c).arrAt 7 cfg0.N = fun i => AdamStep.square (g m c (i 1) (i 2)) (Q m c (i 1) (i 2)) := by
  refine (dats m 0 c).arrAt_eq_of_covers 7 _ (by decide +kernel) fun t hf y => ?_
  blk_simp
  rw [after0_7]
  idx_vars y
  obtain rfl : y0 = 0 := Subsingleton.elim _ _
  refine (out7 m c t y1 y2).trans (congrArg₂ (fun a b => AdamStep.square (g m c a b) (Q m c a b)) (Fin.ext ?_) (Fin.ext ?_)) <;> blk_simp [idx t] <;> try rfl

end Cert.Kernel15Ideal.Arrays

namespace Cert.ExitStep

open Cert Cert.Reference15Ideal Cert.Reference15Ideal.Gen Idealize.ShloMosaic.StableHlo

variable (m : (ℓ : Loc Kernel15Ideal.nD Kernel15Ideal.τ Kernel15Ideal.sig) → Buf (Elt Ideal) ℓ)
  (m' : (ℓ : Loc nD τ sig) → Buf (Elt Ideal) ℓ) (c : Dev nD)
  (h0 : m' ((c.tc : Thread nD τ).loc main_arg0) = m ((c.tc : Thread Kernel15Ideal.nD Kernel15Ideal.τ).loc Kernel15Ideal.main_arg0))
  (h1 : m' ((c.tc : Thread nD τ).loc main_arg1) = m ((c.tc : Thread Kernel15Ideal.nD Kernel15Ideal.τ).loc Kernel15Ideal.main_arg1))
  (h2 : m' ((c.tc : Thread nD τ).loc main_arg2) = m ((c.tc : Thread Kernel15Ideal.nD Kernel15Ideal.τ).loc Kernel15Ideal.main_arg2))
  (h3 : m' ((c.tc : Thread nD τ).loc main_arg3) = m ((c.tc : Thread Kernel15Ideal.nD Kernel15Ideal.τ).loc Kernel15Ideal.main_arg3))
include h0 h1 h2 h3

/-- The gradients are equal. -/
theorem result0 : broadcastInDim S1x128x1024 ![1, 2] bcast_S128x1024_S1x128x1024_1_2 (Host.reduceAdd (m' ((c.tc : Thread nD τ).loc main_arg0)) (constant (F := Ideal) S_ .f32 0x00000000#32) reducesTo_S8x128x1024_S128x1024_d0 h_S_)
    = (Kernel15Ideal.Gen.dats m 0 c).arrAt 4 Kernel15Ideal.cfg0.N := by
  simp only [Kernel15Ideal.Arrays.final4, h0, h1, h2, h3]
  funext y
  idx_vars y
  pointwise [Kernel15Ideal.Arrays.g, AdamStep.total]

/-- The changes of the weight are equal. -/
theorem result1 : mulf (broadcastInDim S1x128x1024 ![] bcast_S_S1x128x1024 (constant (F := Ideal) S_ .f32 0xBA83126F#32)) (addf (Host.divf (Host.divf (addf (mulf (broadcastInDim S1x128x1024 ![] bcast_S_S1x128x1024 (constant (F := Ideal) S_ .f32 0x3F666666#32)) (m' ((c.tc : Thread nD τ).loc main_arg2))) (mulf (broadcastInDim S1x128x1024 ![] bcast_S_S1x128x1024 (constant (F := Ideal) S_ .f32 0x3DCCCCCD#32)) (broadcastInDim S1x128x1024 ![1, 2] bcast_S128x1024_S1x128x1024_1_2 (Host.reduceAdd (m' ((c.tc : Thread nD τ).loc main_arg0)) (constant (F := Ideal) S_ .f32 0x00000000#32) reducesTo_S8x128x1024_S128x1024_d0 h_S_)))) (broadcastInDim S1x128x1024 ![] bcast_S_S1x128x1024 (constant (F := Ideal) S_ .f32 0x3F26BD02#32))) (addf (Host.sqrt (Host.divf (addf (mulf (broadcastInDim S1x128x1024 ![] bcast_S_S1x128x1024 (constant (F := Ideal) S_ .f32 0x3F7FBE77#32)) (m' ((c.tc : Thread nD τ).loc main_arg3))) (mulf (broadcastInDim S1x128x1024 ![] bcast_S_S1x128x1024 (constant (F := Ideal) S_ .f32 0x3A83126F#32)) (mulf (broadcastInDim S1x128x1024 ![1, 2] bcast_S128x1024_S1x128x1024_1_2 (Host.reduceAdd (m' ((c.tc : Thread nD τ).loc main_arg0)) (constant (F := Ideal) S_ .f32 0x00000000#32) reducesTo_S8x128x1024_S128x1024_d0 h_S_)) (broadcastInDim S1x128x1024 ![1, 2] bcast_S128x1024_S1x128x1024_1_2 (Host.reduceAdd (m' ((c.tc : Thread nD τ).loc main_arg0)) (constant (F := Ideal) S_ .f32 0x00000000#32) reducesTo_S8x128x1024_S128x1024_d0 h_S_))))) (broadcastInDim S1x128x1024 ![] bcast_S_S1x128x1024 (constant (F := Ideal) S_ .f32 0x3C231ACC#32)))) (broadcastInDim S1x128x1024 ![] bcast_S_S1x128x1024 (constant (F := Ideal) S_ .f32 0x322BCC77#32)))) (mulf (broadcastInDim S1x128x1024 ![] bcast_S_S1x128x1024 (constant (F := Ideal) S_ .f32 0x3C23D70A#32)) (m' ((c.tc : Thread nD τ).loc main_arg1))))
    = (Kernel15Ideal.Gen.dats m 0 c).arrAt 5 Kernel15Ideal.cfg0.N := by
  simp only [Kernel15Ideal.Arrays.final5, h0, h1, h2, h3]
  funext y
  idx_vars y
  obtain rfl : y0 = 0 := Subsingleton.elim _ _
  pointwise [Kernel15Ideal.Arrays.g, AdamStep.total, AdamStep.delta, AdamStep.mean, AdamStep.square]

/-- The running means of the gradient are equal. -/
theorem result2 : addf (mulf (broadcastInDim S1x128x1024 ![] bcast_S_S1x128x1024 (constant (F := Ideal) S_ .f32 0x3F666666#32)) (m' ((c.tc : Thread nD τ).loc main_arg2))) (mulf (broadcastInDim S1x128x1024 ![] bcast_S_S1x128x1024 (constant (F := Ideal) S_ .f32 0x3DCCCCCD#32)) (broadcastInDim S1x128x1024 ![1, 2] bcast_S128x1024_S1x128x1024_1_2 (Host.reduceAdd (m' ((c.tc : Thread nD τ).loc main_arg0)) (constant (F := Ideal) S_ .f32 0x00000000#32) reducesTo_S8x128x1024_S128x1024_d0 h_S_)))
    = (Kernel15Ideal.Gen.dats m 0 c).arrAt 6 Kernel15Ideal.cfg0.N := by
  simp only [Kernel15Ideal.Arrays.final6, h0, h1, h2, h3]
  funext y
  idx_vars y
  obtain rfl : y0 = 0 := Subsingleton.elim _ _
  pointwise [Kernel15Ideal.Arrays.g, AdamStep.total, AdamStep.delta, AdamStep.mean, AdamStep.square]

/-- The running means of the gradient's square are equal. -/
theorem result3 : addf (mulf (broadcastInDim S1x128x1024 ![] bcast_S_S1x128x1024 (constant (F := Ideal) S_ .f32 0x3F7FBE77#32)) (m' ((c.tc : Thread nD τ).loc main_arg3))) (mulf (broadcastInDim S1x128x1024 ![] bcast_S_S1x128x1024 (constant (F := Ideal) S_ .f32 0x3A83126F#32)) (mulf (broadcastInDim S1x128x1024 ![1, 2] bcast_S128x1024_S1x128x1024_1_2 (Host.reduceAdd (m' ((c.tc : Thread nD τ).loc main_arg0)) (constant (F := Ideal) S_ .f32 0x00000000#32) reducesTo_S8x128x1024_S128x1024_d0 h_S_)) (broadcastInDim S1x128x1024 ![1, 2] bcast_S128x1024_S1x128x1024_1_2 (Host.reduceAdd (m' ((c.tc : Thread nD τ).loc main_arg0)) (constant (F := Ideal) S_ .f32 0x00000000#32) reducesTo_S8x128x1024_S128x1024_d0 h_S_))))
    = (Kernel15Ideal.Gen.dats m 0 c).arrAt 7 Kernel15Ideal.cfg0.N := by
  simp only [Kernel15Ideal.Arrays.final7, h0, h1, h2, h3]
  funext y
  idx_vars y
  obtain rfl : y0 = 0 := Subsingleton.elim _ _
  pointwise [Kernel15Ideal.Arrays.g, AdamStep.total, AdamStep.delta, AdamStep.mean, AdamStep.square]

end Cert.ExitStep

end
-- ==== Proof.GateStep.lean ====
/- The optimiser's step on the convolution entrance weight. -/
module

public import proofs.«01_k».proof.Proof.Gen.Kernel16Ideal.Value
public import proofs.«01_k».proof.Proof.Gen.Reference16Ideal.Run
public import proofs.«01_k».proof.Proof.AdamStep

@[expose] public section

set_option maxRecDepth 16384

noncomputable section

open Idealize.ShloMosaic Idealize.ShloMosaic.TcCoe Idealize.SL.Sem

namespace Cert.Kernel16Ideal.Arrays

open Cert.Kernel16Ideal Cert.Kernel16Ideal.Gen

variable (m : (ℓ : Loc nD τ sig) → Buf (Elt Ideal) ℓ) (c : Dev nD)

/-- The parts of the gradient, the weight and the two running means. -/
abbrev R (d : Fin 8) (i : Fin 1024) (j : Fin 256) : EReal := m ((c : Thread nD τ).loc main_arg0) (ix3 d i j)
abbrev W (i : Fin 1024) (j : Fin 256) : EReal := m ((c : Thread nD τ).loc main_arg1) (ix3 0 i j)
abbrev M (i : Fin 1024) (j : Fin 256) : EReal := m ((c : Thread nD τ).loc main_arg2) (ix3 0 i j)
abbrev Q (i : Fin 1024) (j : Fin 256) : EReal := m ((c : Thread nD τ).loc main_arg3) (ix3 0 i j)

/-- The gradient. -/
def g (i : Fin 1024) (j : Fin 256) : EReal := AdamStep.total fun d => R m c d i j

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The array row of a block's row. -/
def row (t : Fin cfg0.N) (i : Fin 1024) : Fin 1024 := ⟨t.val * 1024 + i.val, by have := lt_of_lt_of_eq t.isLt N_0; omega⟩

theorem parts_at (d : Fin 8) (i : Fin 1024) (j : Fin 256) : (V m c main_v0 : FVec Ideal S8x1024x256 .bf16) (ix3 d i j) = R m c d i j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (d : Fin 8) (i : Fin 1024) (j : Fin 256) :
    (iblk m c 0 t : FVec Ideal S8x1024x256 .bf16) (ix3 d i j) = R m c d (row t i) j := by
  rw [← parts_at]
  blk_ext [iblk, idx t, row]

theorem blk1 (t : Fin cfg0.N) (i : Fin 1024) (j : Fin 256) :
    (iblk m c 1 t : FVec Ideal S1x1024x256 .f32) (ix3 0 i j) = W m c (row t i) j := by
  blk_ext [iblk, V_main_arg1, idx t, row]

theorem blk2 (t : Fin cfg0.N) (i : Fin 1024) (j : Fin 256) :
    (iblk m c 2 t : FVec Ideal S1x1024x256 .f32) (ix3 0 i j) = M m c (row t i) j := by
  blk_ext [iblk, V_main_arg2, idx t, row]

theorem blk3 (t : Fin cfg0.N) (i : Fin 1024) (j : Fin 256) :
    (iblk m c 3 t : FVec Ideal S1x1024x256 .f32) (ix3 0 i j) = Q m c (row t i) j := by
  blk_ext [iblk, V_main_arg3, idx t, row]

/-- The sum as the kernel forms it. -/
theorem g_eq (i : Fin 1024) (j : Fin 256) : g m c i j = R m c 0 i j + R m c 1 i j + R m c 2 i j + R m c 3 i j
    + R m c 4 i j + R m c 5 i j + R m c 6 i j + R m c 7 i j :=
  (AdamStep.total_eq fun d => R m c d i j).symm

theorem out4 (t : Fin cfg0.N) (i : Fin 1024) (j : Fin 256) :
    out0_4 (iblk m c 0 t) (iblk m c 1 t) (iblk m c 2 t) (iblk m c 3 t) (ix3 0 i j)
    = g m c (row t i) j := by
  simp only [AdamStep.delta, AdamStep.mean, AdamStep.square, g_eq]
  unfold_out out0_4
  frame_out
  pointwise [k0_pay1, k0_pay2, k0_pay3, k0_pay4, k0_pay5, k0_pay6, k0_pay7, blk0, blk1, blk2, blk3]

theorem out5 (t : Fin cfg0.N) (i : Fin 1024) (j : Fin 256) :
    out0_5 (iblk m c 0 t) (iblk m c 1 t) (iblk m c 2 t) (iblk m c 3 t) (ix3 0 i j)
    = AdamStep.delta (g m c (row t i) j) (W m c (row t i) j) (M m c (row t i) j) (Q m c (row t i) j) := by
  simp only [AdamStep.delta, AdamStep.mean, AdamStep.square, g_eq]
  unfold_out out0_5
  frame_out
  pointwise [k0_pay1, k0_pay2, k0_pay3, k0_pay4, k0_pay5, k0_pay6, k0_pay7, blk0, blk1, blk2, blk3]

theorem out6 (t : Fin cfg0.N) (i : Fin 1024) (j : Fin 256) :
    out0_6 (iblk m c 0 t) (iblk m c 1 t) (iblk m c 2 t) (iblk m c 3 t) (ix3 0 i j)
    = AdamStep.mean (g m c (row t i) j) (M m c (row t i) j) := by
  simp only [AdamStep.delta, AdamStep.mean, AdamStep.square, g_eq]
  unfold_out out0_6
  frame_out
  pointwise [k0_pay1, k0_pay2, k0_pay3, k0_pay4, k0_pay5, k0_pay6, k0_pay7, blk0, blk1, blk2, blk3]

theorem out7 (t : Fin cfg0.N) (i : Fin 1024) (j : Fin 256) :
    out0_7 (iblk m c 0 t) (iblk m c 1 t) (iblk m c 2 t) (iblk m c 3 t) (ix3 0 i j)
    = AdamStep.square (g m c (row t i) j) (Q m c (row t i) j) := by
  simp only [AdamStep.delta, AdamStep.mean, AdamStep.square, g_eq]
  unfold_out out0_7
  frame_out
  pointwise [k0_pay1, k0_pay2, k0_pay3, k0_pay4, k0_pay5, k0_pay6, k0_pay7, blk0, blk1, blk2, blk3]

theorem final4 : (dats m 0 c).arrAt 4 cfg0.N = fun i => g m c (i 1) (i 2) := by
  refine (dats m 0 c).arrAt_eq_of_covers 4 _ (by decide +kernel) fun t hf y => ?_
  blk_simp
  rw [after0_4]
  idx_vars y
  obtain rfl : y0 = 0 := Subsingleton.elim _ _
  refine (out4 m c t y1 y2).trans (congrArg₂ (fun a b => g m c a b) (Fin.ext ?_) (Fin.ext ?_)) <;> blk_simp [idx t, row] <;> try rfl

theorem final5 : (dats m 0 c).arrAt 5 cfg0.N = fun i => AdamStep.delta (g m c (i 1) (i 2)) (W m c (i 1) (i 2)) (M m c (i 1) (i 2)) (Q m c (i 1) (i 2)) := by
  refine (dats m 0 c).arrAt_eq_of_covers 5 _ (by decide +kernel) fun t hf y => ?_
  blk_simp
  rw [after0_5]
  idx_vars y
  obtain rfl : y0 = 0 := Subsingleton.elim _ _
  refine (out5 m c t y1 y2).trans (congrArg₂ (fun a b => AdamStep.delta (g m c a b) (W m c a b) (M m c a b) (Q m c a b)) (Fin.ext ?_) (Fin.ext ?_)) <;> blk_simp [idx t, row] <;> try rfl

theorem final6 : (dats m 0 c).arrAt 6 cfg0.N = fun i => AdamStep.mean (g m c (i 1) (i 2)) (M m c (i 1) (i 2)) := by
  refine (dats m 0 c).arrAt_eq_of_covers 6 _ (by decide +kernel) fun t hf y => ?_
  blk_simp
  rw [after0_6]
  idx_vars y
  obtain rfl : y0 = 0 := Subsingleton.elim _ _
  refine (out6 m c t y1 y2).trans (congrArg₂ (fun a b => AdamStep.mean (g m c a b) (M m c a b)) (Fin.ext ?_) (Fin.ext ?_)) <;> blk_simp [idx t, row] <;> try rfl

theorem final7 : (dats m 0 c).arrAt 7 cfg0.N = fun i => AdamStep.square (g m c (i 1) (i 2)) (Q m c (i 1) (i 2)) := by
  refine (dats m 0 c).arrAt_eq_of_covers 7 _ (by decide +kernel) fun t hf y => ?_
  blk_simp
  rw [after0_7]
  idx_vars y
  obtain rfl : y0 = 0 := Subsingleton.elim _ _
  refine (out7 m c t y1 y2).trans (congrArg₂ (fun a b => AdamStep.square (g m c a b) (Q m c a b)) (Fin.ext ?_) (Fin.ext ?_)) <;> blk_simp [idx t, row] <;> try rfl

end Cert.Kernel16Ideal.Arrays

namespace Cert.GateStep

open Cert Cert.Reference16Ideal Cert.Reference16Ideal.Gen Idealize.ShloMosaic.StableHlo

variable (m : (ℓ : Loc Kernel16Ideal.nD Kernel16Ideal.τ Kernel16Ideal.sig) → Buf (Elt Ideal) ℓ)
  (m' : (ℓ : Loc nD τ sig) → Buf (Elt Ideal) ℓ) (c : Dev nD)
  (h0 : m' ((c.tc : Thread nD τ).loc main_arg0) = m ((c.tc : Thread Kernel16Ideal.nD Kernel16Ideal.τ).loc Kernel16Ideal.main_arg0))
  (h1 : m' ((c.tc : Thread nD τ).loc main_arg1) = m ((c.tc : Thread Kernel16Ideal.nD Kernel16Ideal.τ).loc Kernel16Ideal.main_arg1))
  (h2 : m' ((c.tc : Thread nD τ).loc main_arg2) = m ((c.tc : Thread Kernel16Ideal.nD Kernel16Ideal.τ).loc Kernel16Ideal.main_arg2))
  (h3 : m' ((c.tc : Thread nD τ).loc main_arg3) = m ((c.tc : Thread Kernel16Ideal.nD Kernel16Ideal.τ).loc Kernel16Ideal.main_arg3))
include h0 h1 h2 h3

/-- The gradients are equal. -/
theorem result0 : broadcastInDim S1x1024x256 ![1, 2] bcast_S1024x256_S1x1024x256_1_2 (Host.reduceAdd (m' ((c.tc : Thread nD τ).loc main_arg0)) (constant (F := Ideal) S_ .f32 0x00000000#32) reducesTo_S8x1024x256_S1024x256_d0 h_S_)
    = (Kernel16Ideal.Gen.dats m 0 c).arrAt 4 Kernel16Ideal.cfg0.N := by
  simp only [Kernel16Ideal.Arrays.final4, h0, h1, h2, h3]
  funext y
  idx_vars y
  pointwise [Kernel16Ideal.Arrays.g, AdamStep.total]

/-- The changes of the weight are equal. -/
theorem result1 : mulf (broadcastInDim S1x1024x256 ![] bcast_S_S1x1024x256 (constant (F := Ideal) S_ .f32 0xBA83126F#32)) (addf (Host.divf (Host.divf (addf (mulf (broadcastInDim S1x1024x256 ![] bcast_S_S1x1024x256 (constant (F := Ideal) S_ .f32 0x3F666666#32)) (m' ((c.tc : Thread nD τ).loc main_arg2))) (mulf (broadcastInDim S1x1024x256 ![] bcast_S_S1x1024x256 (constant (F := Ideal) S_ .f32 0x3DCCCCCD#32)) (broadcastInDim S1x1024x256 ![1, 2] bcast_S1024x256_S1x1024x256_1_2 (Host.reduceAdd (m' ((c.tc : Thread nD τ).loc main_arg0)) (constant (F := Ideal) S_ .f32 0x00000000#32) reducesTo_S8x1024x256_S1024x256_d0 h_S_)))) (broadcastInDim S1x1024x256 ![] bcast_S_S1x1024x256 (constant (F := Ideal) S_ .f32 0x3F26BD02#32))) (addf (Host.sqrt (Host.divf (addf (mulf (broadcastInDim S1x1024x256 ![] bcast_S_S1x1024x256 (constant (F := Ideal) S_ .f32 0x3F7FBE77#32)) (m' ((c.tc : Thread nD τ).loc main_arg3))) (mulf (broadcastInDim S1x1024x256 ![] bcast_S_S1x1024x256 (constant (F := Ideal) S_ .f32 0x3A83126F#32)) (mulf (broadcastInDim S1x1024x256 ![1, 2] bcast_S1024x256_S1x1024x256_1_2 (Host.reduceAdd (m' ((c.tc : Thread nD τ).loc main_arg0)) (constant (F := Ideal) S_ .f32 0x00000000#32) reducesTo_S8x1024x256_S1024x256_d0 h_S_)) (broadcastInDim S1x1024x256 ![1, 2] bcast_S1024x256_S1x1024x256_1_2 (Host.reduceAdd (m' ((c.tc : Thread nD τ).loc main_arg0)) (constant (F := Ideal) S_ .f32 0x00000000#32) reducesTo_S8x1024x256_S1024x256_d0 h_S_))))) (broadcastInDim S1x1024x256 ![] bcast_S_S1x1024x256 (constant (F := Ideal) S_ .f32 0x3C231ACC#32)))) (broadcastInDim S1x1024x256 ![] bcast_S_S1x1024x256 (constant (F := Ideal) S_ .f32 0x322BCC77#32)))) (mulf (broadcastInDim S1x1024x256 ![] bcast_S_S1x1024x256 (constant (F := Ideal) S_ .f32 0x3C23D70A#32)) (m' ((c.tc : Thread nD τ).loc main_arg1))))
    = (Kernel16Ideal.Gen.dats m 0 c).arrAt 5 Kernel16Ideal.cfg0.N := by
  simp only [Kernel16Ideal.Arrays.final5, h0, h1, h2, h3]
  funext y
  idx_vars y
  obtain rfl : y0 = 0 := Subsingleton.elim _ _
  pointwise [Kernel16Ideal.Arrays.g, AdamStep.total, AdamStep.delta, AdamStep.mean, AdamStep.square]

/-- The running means of the gradient are equal. -/
theorem result2 : addf (mulf (broadcastInDim S1x1024x256 ![] bcast_S_S1x1024x256 (constant (F := Ideal) S_ .f32 0x3F666666#32)) (m' ((c.tc : Thread nD τ).loc main_arg2))) (mulf (broadcastInDim S1x1024x256 ![] bcast_S_S1x1024x256 (constant (F := Ideal) S_ .f32 0x3DCCCCCD#32)) (broadcastInDim S1x1024x256 ![1, 2] bcast_S1024x256_S1x1024x256_1_2 (Host.reduceAdd (m' ((c.tc : Thread nD τ).loc main_arg0)) (constant (F := Ideal) S_ .f32 0x00000000#32) reducesTo_S8x1024x256_S1024x256_d0 h_S_)))
    = (Kernel16Ideal.Gen.dats m 0 c).arrAt 6 Kernel16Ideal.cfg0.N := by
  simp only [Kernel16Ideal.Arrays.final6, h0, h1, h2, h3]
  funext y
  idx_vars y
  obtain rfl : y0 = 0 := Subsingleton.elim _ _
  pointwise [Kernel16Ideal.Arrays.g, AdamStep.total, AdamStep.delta, AdamStep.mean, AdamStep.square]

/-- The running means of the gradient's square are equal. -/
theorem result3 : addf (mulf (broadcastInDim S1x1024x256 ![] bcast_S_S1x1024x256 (constant (F := Ideal) S_ .f32 0x3F7FBE77#32)) (m' ((c.tc : Thread nD τ).loc main_arg3))) (mulf (broadcastInDim S1x1024x256 ![] bcast_S_S1x1024x256 (constant (F := Ideal) S_ .f32 0x3A83126F#32)) (mulf (broadcastInDim S1x1024x256 ![1, 2] bcast_S1024x256_S1x1024x256_1_2 (Host.reduceAdd (m' ((c.tc : Thread nD τ).loc main_arg0)) (constant (F := Ideal) S_ .f32 0x00000000#32) reducesTo_S8x1024x256_S1024x256_d0 h_S_)) (broadcastInDim S1x1024x256 ![1, 2] bcast_S1024x256_S1x1024x256_1_2 (Host.reduceAdd (m' ((c.tc : Thread nD τ).loc main_arg0)) (constant (F := Ideal) S_ .f32 0x00000000#32) reducesTo_S8x1024x256_S1024x256_d0 h_S_))))
    = (Kernel16Ideal.Gen.dats m 0 c).arrAt 7 Kernel16Ideal.cfg0.N := by
  simp only [Kernel16Ideal.Arrays.final7, h0, h1, h2, h3]
  funext y
  idx_vars y
  obtain rfl : y0 = 0 := Subsingleton.elim _ _
  pointwise [Kernel16Ideal.Arrays.g, AdamStep.total, AdamStep.delta, AdamStep.mean, AdamStep.square]

end Cert.GateStep

end
-- ==== Proof.TapStep.lean ====
/- The optimiser's step on the convolution taps. -/
module

public import proofs.«01_k».proof.Proof.Gen.Kernel17Ideal.Value
public import proofs.«01_k».proof.Proof.Gen.Reference17Ideal.Run
public import proofs.«01_k».proof.Proof.AdamStep

@[expose] public section

set_option maxRecDepth 16384

noncomputable section

open Idealize.ShloMosaic Idealize.ShloMosaic.TcCoe Idealize.SL.Sem

namespace Cert.Kernel17Ideal.Arrays

open Cert.Kernel17Ideal Cert.Kernel17Ideal.Gen

variable (m : (ℓ : Loc nD τ sig) → Buf (Elt Ideal) ℓ) (c : Dev nD)

/-- The parts of the gradient, the weight and the two running means. -/
abbrev R (d : Fin 8) (i : Fin 31) (j : Fin 128) : EReal := m ((c : Thread nD τ).loc main_arg0) (ix3 d i j)
abbrev W (i : Fin 31) (j : Fin 128) : EReal := m ((c : Thread nD τ).loc main_arg1) (ix3 0 i j)
abbrev M (i : Fin 31) (j : Fin 128) : EReal := m ((c : Thread nD τ).loc main_arg2) (ix3 0 i j)
abbrev Q (i : Fin 31) (j : Fin 128) : EReal := m ((c : Thread nD τ).loc main_arg3) (ix3 0 i j)

/-- The gradient. -/
def g (i : Fin 31) (j : Fin 128) : EReal := AdamStep.total fun d => R m c d i j

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The array row of a block's row. -/
def row (t : Fin cfg0.N) (i : Fin 31) : Fin 31 := ⟨t.val * 31 + i.val, by have := lt_of_lt_of_eq t.isLt N_0; omega⟩

theorem blk0 (t : Fin cfg0.N) (d : Fin 8) (i : Fin 31) (j : Fin 128) :
    (iblk m c 0 t : FVec Ideal S8x31x128 .f32) (ix3 d i j) = R m c d (row t i) j := by
  blk_ext [iblk, V_main_arg0, idx t, row]

theorem blk1 (t : Fin cfg0.N) (i : Fin 31) (j : Fin 128) :
    (iblk m c 1 t : FVec Ideal S1x31x128 .f32) (ix3 0 i j) = W m c (row t i) j := by
  blk_ext [iblk, V_main_arg1, idx t, row]

theorem blk2 (t : Fin cfg0.N) (i : Fin 31) (j : Fin 128) :
    (iblk m c 2 t : FVec Ideal S1x31x128 .f32) (ix3 0 i j) = M m c (row t i) j := by
  blk_ext [iblk, V_main_arg2, idx t, row]

theorem blk3 (t : Fin cfg0.N) (i : Fin 31) (j : Fin 128) :
    (iblk m c 3 t : FVec Ideal S1x31x128 .f32) (ix3 0 i j) = Q m c (row t i) j := by
  blk_ext [iblk, V_main_arg3, idx t, row]

/-- The sum as the kernel forms it. -/
theorem g_eq (i : Fin 31) (j : Fin 128) : g m c i j = R m c 0 i j + R m c 1 i j + R m c 2 i j + R m c 3 i j
    + R m c 4 i j + R m c 5 i j + R m c 6 i j + R m c 7 i j :=
  (AdamStep.total_eq fun d => R m c d i j).symm

theorem out4 (t : Fin cfg0.N) (i : Fin 31) (j : Fin 128) :
    out0_4 (iblk m c 0 t) (iblk m c 1 t) (iblk m c 2 t) (iblk m c 3 t) (ix3 0 i j)
    = g m c (row t i) j := by
  simp only [AdamStep.delta, AdamStep.mean, AdamStep.square, g_eq]
  unfold_out out0_4
  frame_out
  pointwise [k0_pay1, k0_pay2, k0_pay3, k0_pay4, k0_pay5, k0_pay6, k0_pay7, k0_pay8, k0_pay9, blk0, blk1, blk2, blk3]

theorem out5 (t : Fin cfg0.N) (i : Fin 31) (j : Fin 128) :
    out0_5 (iblk m c 0 t) (iblk m c 1 t) (iblk m c 2 t) (iblk m c 3 t) (ix3 0 i j)
    = AdamStep.delta (g m c (row t i) j) (W m c (row t i) j) (M m c (row t i) j) (Q m c (row t i) j) := by
  simp only [AdamStep.delta, AdamStep.mean, AdamStep.square, g_eq]
  unfold_out out0_5
  frame_out
  pointwise [k0_pay1, k0_pay2, k0_pay3, k0_pay4, k0_pay5, k0_pay6, k0_pay7, k0_pay8, k0_pay9, blk0, blk1, blk2, blk3]

theorem out6 (t : Fin cfg0.N) (i : Fin 31) (j : Fin 128) :
    out0_6 (iblk m c 0 t) (iblk m c 1 t) (iblk m c 2 t) (iblk m c 3 t) (ix3 0 i j)
    = AdamStep.mean (g m c (row t i) j) (M m c (row t i) j) := by
  simp only [AdamStep.delta, AdamStep.mean, AdamStep.square, g_eq]
  unfold_out out0_6
  frame_out
  pointwise [k0_pay1, k0_pay2, k0_pay3, k0_pay4, k0_pay5, k0_pay6, k0_pay7, k0_pay8, k0_pay9, blk0, blk1, blk2, blk3]

theorem out7 (t : Fin cfg0.N) (i : Fin 31) (j : Fin 128) :
    out0_7 (iblk m c 0 t) (iblk m c 1 t) (iblk m c 2 t) (iblk m c 3 t) (ix3 0 i j)
    = AdamStep.square (g m c (row t i) j) (Q m c (row t i) j) := by
  simp only [AdamStep.delta, AdamStep.mean, AdamStep.square, g_eq]
  unfold_out out0_7
  frame_out
  pointwise [k0_pay1, k0_pay2, k0_pay3, k0_pay4, k0_pay5, k0_pay6, k0_pay7, k0_pay8, k0_pay9, blk0, blk1, blk2, blk3]

theorem final4 : (dats m 0 c).arrAt 4 cfg0.N = fun i => g m c (i 1) (i 2) := by
  refine (dats m 0 c).arrAt_eq_of_covers 4 _ (by decide +kernel) fun t hf y => ?_
  blk_simp
  rw [after0_4]
  idx_vars y
  obtain rfl : y0 = 0 := Subsingleton.elim _ _
  refine (out4 m c t y1 y2).trans (congrArg₂ (fun a b => g m c a b) (Fin.ext ?_) (Fin.ext ?_)) <;> blk_simp [idx t, row] <;> try rfl

theorem final5 : (dats m 0 c).arrAt 5 cfg0.N = fun i => AdamStep.delta (g m c (i 1) (i 2)) (W m c (i 1) (i 2)) (M m c (i 1) (i 2)) (Q m c (i 1) (i 2)) := by
  refine (dats m 0 c).arrAt_eq_of_covers 5 _ (by decide +kernel) fun t hf y => ?_
  blk_simp
  rw [after0_5]
  idx_vars y
  obtain rfl : y0 = 0 := Subsingleton.elim _ _
  refine (out5 m c t y1 y2).trans (congrArg₂ (fun a b => AdamStep.delta (g m c a b) (W m c a b) (M m c a b) (Q m c a b)) (Fin.ext ?_) (Fin.ext ?_)) <;> blk_simp [idx t, row] <;> try rfl

theorem final6 : (dats m 0 c).arrAt 6 cfg0.N = fun i => AdamStep.mean (g m c (i 1) (i 2)) (M m c (i 1) (i 2)) := by
  refine (dats m 0 c).arrAt_eq_of_covers 6 _ (by decide +kernel) fun t hf y => ?_
  blk_simp
  rw [after0_6]
  idx_vars y
  obtain rfl : y0 = 0 := Subsingleton.elim _ _
  refine (out6 m c t y1 y2).trans (congrArg₂ (fun a b => AdamStep.mean (g m c a b) (M m c a b)) (Fin.ext ?_) (Fin.ext ?_)) <;> blk_simp [idx t, row] <;> try rfl

theorem final7 : (dats m 0 c).arrAt 7 cfg0.N = fun i => AdamStep.square (g m c (i 1) (i 2)) (Q m c (i 1) (i 2)) := by
  refine (dats m 0 c).arrAt_eq_of_covers 7 _ (by decide +kernel) fun t hf y => ?_
  blk_simp
  rw [after0_7]
  idx_vars y
  obtain rfl : y0 = 0 := Subsingleton.elim _ _
  refine (out7 m c t y1 y2).trans (congrArg₂ (fun a b => AdamStep.square (g m c a b) (Q m c a b)) (Fin.ext ?_) (Fin.ext ?_)) <;> blk_simp [idx t, row] <;> try rfl

end Cert.Kernel17Ideal.Arrays

namespace Cert.TapStep

open Cert Cert.Reference17Ideal Cert.Reference17Ideal.Gen Idealize.ShloMosaic.StableHlo

variable (m : (ℓ : Loc Kernel17Ideal.nD Kernel17Ideal.τ Kernel17Ideal.sig) → Buf (Elt Ideal) ℓ)
  (m' : (ℓ : Loc nD τ sig) → Buf (Elt Ideal) ℓ) (c : Dev nD)
  (h0 : m' ((c.tc : Thread nD τ).loc main_arg0) = m ((c.tc : Thread Kernel17Ideal.nD Kernel17Ideal.τ).loc Kernel17Ideal.main_arg0))
  (h1 : m' ((c.tc : Thread nD τ).loc main_arg1) = m ((c.tc : Thread Kernel17Ideal.nD Kernel17Ideal.τ).loc Kernel17Ideal.main_arg1))
  (h2 : m' ((c.tc : Thread nD τ).loc main_arg2) = m ((c.tc : Thread Kernel17Ideal.nD Kernel17Ideal.τ).loc Kernel17Ideal.main_arg2))
  (h3 : m' ((c.tc : Thread nD τ).loc main_arg3) = m ((c.tc : Thread Kernel17Ideal.nD Kernel17Ideal.τ).loc Kernel17Ideal.main_arg3))
include h0 h1 h2 h3

/-- The gradients are equal. -/
theorem result0 : broadcastInDim S1x31x128 ![1, 2] bcast_S31x128_S1x31x128_1_2 (Host.reduceAdd (m' ((c.tc : Thread nD τ).loc main_arg0)) (constant (F := Ideal) S_ .f32 0x00000000#32) reducesTo_S8x31x128_S31x128_d0 h_S_)
    = (Kernel17Ideal.Gen.dats m 0 c).arrAt 4 Kernel17Ideal.cfg0.N := by
  simp only [Kernel17Ideal.Arrays.final4, h0, h1, h2, h3]
  funext y
  idx_vars y
  pointwise [Kernel17Ideal.Arrays.g, AdamStep.total]

/-- The changes of the weight are equal. -/
theorem result1 : mulf (broadcastInDim S1x31x128 ![] bcast_S_S1x31x128 (constant (F := Ideal) S_ .f32 0xBA83126F#32)) (addf (Host.divf (Host.divf (addf (mulf (broadcastInDim S1x31x128 ![] bcast_S_S1x31x128 (constant (F := Ideal) S_ .f32 0x3F666666#32)) (m' ((c.tc : Thread nD τ).loc main_arg2))) (mulf (broadcastInDim S1x31x128 ![] bcast_S_S1x31x128 (constant (F := Ideal) S_ .f32 0x3DCCCCCD#32)) (broadcastInDim S1x31x128 ![1, 2] bcast_S31x128_S1x31x128_1_2 (Host.reduceAdd (m' ((c.tc : Thread nD τ).loc main_arg0)) (constant (F := Ideal) S_ .f32 0x00000000#32) reducesTo_S8x31x128_S31x128_d0 h_S_)))) (broadcastInDim S1x31x128 ![] bcast_S_S1x31x128 (constant (F := Ideal) S_ .f32 0x3F26BD02#32))) (addf (Host.sqrt (Host.divf (addf (mulf (broadcastInDim S1x31x128 ![] bcast_S_S1x31x128 (constant (F := Ideal) S_ .f32 0x3F7FBE77#32)) (m' ((c.tc : Thread nD τ).loc main_arg3))) (mulf (broadcastInDim S1x31x128 ![] bcast_S_S1x31x128 (constant (F := Ideal) S_ .f32 0x3A83126F#32)) (mulf (broadcastInDim S1x31x128 ![1, 2] bcast_S31x128_S1x31x128_1_2 (Host.reduceAdd (m' ((c.tc : Thread nD τ).loc main_arg0)) (constant (F := Ideal) S_ .f32 0x00000000#32) reducesTo_S8x31x128_S31x128_d0 h_S_)) (broadcastInDim S1x31x128 ![1, 2] bcast_S31x128_S1x31x128_1_2 (Host.reduceAdd (m' ((c.tc : Thread nD τ).loc main_arg0)) (constant (F := Ideal) S_ .f32 0x00000000#32) reducesTo_S8x31x128_S31x128_d0 h_S_))))) (broadcastInDim S1x31x128 ![] bcast_S_S1x31x128 (constant (F := Ideal) S_ .f32 0x3C231ACC#32)))) (broadcastInDim S1x31x128 ![] bcast_S_S1x31x128 (constant (F := Ideal) S_ .f32 0x322BCC77#32)))) (mulf (broadcastInDim S1x31x128 ![] bcast_S_S1x31x128 (constant (F := Ideal) S_ .f32 0x3C23D70A#32)) (m' ((c.tc : Thread nD τ).loc main_arg1))))
    = (Kernel17Ideal.Gen.dats m 0 c).arrAt 5 Kernel17Ideal.cfg0.N := by
  simp only [Kernel17Ideal.Arrays.final5, h0, h1, h2, h3]
  funext y
  idx_vars y
  obtain rfl : y0 = 0 := Subsingleton.elim _ _
  pointwise [Kernel17Ideal.Arrays.g, AdamStep.total, AdamStep.delta, AdamStep.mean, AdamStep.square]

/-- The running means of the gradient are equal. -/
theorem result2 : addf (mulf (broadcastInDim S1x31x128 ![] bcast_S_S1x31x128 (constant (F := Ideal) S_ .f32 0x3F666666#32)) (m' ((c.tc : Thread nD τ).loc main_arg2))) (mulf (broadcastInDim S1x31x128 ![] bcast_S_S1x31x128 (constant (F := Ideal) S_ .f32 0x3DCCCCCD#32)) (broadcastInDim S1x31x128 ![1, 2] bcast_S31x128_S1x31x128_1_2 (Host.reduceAdd (m' ((c.tc : Thread nD τ).loc main_arg0)) (constant (F := Ideal) S_ .f32 0x00000000#32) reducesTo_S8x31x128_S31x128_d0 h_S_)))
    = (Kernel17Ideal.Gen.dats m 0 c).arrAt 6 Kernel17Ideal.cfg0.N := by
  simp only [Kernel17Ideal.Arrays.final6, h0, h1, h2, h3]
  funext y
  idx_vars y
  obtain rfl : y0 = 0 := Subsingleton.elim _ _
  pointwise [Kernel17Ideal.Arrays.g, AdamStep.total, AdamStep.delta, AdamStep.mean, AdamStep.square]

/-- The running means of the gradient's square are equal. -/
theorem result3 : addf (mulf (broadcastInDim S1x31x128 ![] bcast_S_S1x31x128 (constant (F := Ideal) S_ .f32 0x3F7FBE77#32)) (m' ((c.tc : Thread nD τ).loc main_arg3))) (mulf (broadcastInDim S1x31x128 ![] bcast_S_S1x31x128 (constant (F := Ideal) S_ .f32 0x3A83126F#32)) (mulf (broadcastInDim S1x31x128 ![1, 2] bcast_S31x128_S1x31x128_1_2 (Host.reduceAdd (m' ((c.tc : Thread nD τ).loc main_arg0)) (constant (F := Ideal) S_ .f32 0x00000000#32) reducesTo_S8x31x128_S31x128_d0 h_S_)) (broadcastInDim S1x31x128 ![1, 2] bcast_S31x128_S1x31x128_1_2 (Host.reduceAdd (m' ((c.tc : Thread nD τ).loc main_arg0)) (constant (F := Ideal) S_ .f32 0x00000000#32) reducesTo_S8x31x128_S31x128_d0 h_S_))))
    = (Kernel17Ideal.Gen.dats m 0 c).arrAt 7 Kernel17Ideal.cfg0.N := by
  simp only [Kernel17Ideal.Arrays.final7, h0, h1, h2, h3]
  funext y
  idx_vars y
  obtain rfl : y0 = 0 := Subsingleton.elim _ _
  pointwise [Kernel17Ideal.Arrays.g, AdamStep.total, AdamStep.delta, AdamStep.mean, AdamStep.square]

end Cert.TapStep

end
-- ==== Proof.ConvExit.lean ====
/- The convolution's exit: the layer norm with its activation, the product with the exit weight, and the residual with the
   normalised product. -/
module

public import proofs.«01_k».proof.Proof.Gen.Kernel18Ideal.Value
public import proofs.«01_k».proof.Proof.Gen.Reference18Ideal.Run
public import proofs.«01_k».proof.Proof.RowNorm
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem

namespace Cert.Kernel18Ideal.Arrays

open Cert.Kernel18Ideal Cert.Kernel18Ideal.Gen Cert.RowNorm

variable (m : (ℓ : Loc nD τ sig) → Buf (Elt Ideal) ℓ) (c : Dev nD)

/-- The depthwise convolution's output, the layer's input, the layer norm's gain and shift, the exit weight and its shift,
    and the gain after it. -/
abbrev Y (r : Fin 8192) (k : Fin 1024) : EReal := m ((c : Thread nD τ).loc main_arg0) (ix2 r k)
abbrev X (r : Fin 8192) (k : Fin 1024) : EReal := m ((c : Thread nD τ).loc main_arg1) (ix2 r k)
abbrev LG (k : Fin 1024) : EReal := m ((c : Thread nD τ).loc main_arg2) (ix2 0 k)
abbrev LB (k : Fin 1024) : EReal := m ((c : Thread nD τ).loc main_arg3) (ix2 0 k)
abbrev W (k j : Fin 1024) : EReal := m ((c : Thread nD τ).loc main_arg4) (ix2 k j)
abbrev B (k : Fin 1024) : EReal := m ((c : Thread nD τ).loc main_arg5) (ix2 0 k)
abbrev GQ (k : Fin 1024) : EReal := m ((c : Thread nD τ).loc main_arg6) (ix2 0 k)

/-- The row less its mean. -/
def centred (r : Fin 8192) (k : Fin 1024) : EReal := Y m c r k - Ideal.div (∑ q, Y m c r q) len

/-- The layer norm. -/
def normed (r : Fin 8192) (k : Fin 1024) : EReal :=
  centred m c r k * Ideal.rsqrt (Ideal.div (∑ q, centred m c r q * centred m c r q) len + Ideal.ofBits .f32 0x3727C5AC#32) * LG m c k + LB m c k

/-- The activation. -/
def act (r : Fin 8192) (k : Fin 1024) : EReal := normed m c r k * Ideal.logistic (normed m c r k)

/-- The product, shifted. -/
def mid (r : Fin 8192) (j : Fin 1024) : EReal := (∑ k, act m c r k * W m c k j) + B m c j

/-- The layer's output. -/
def out (r : Fin 8192) (j : Fin 1024) : EReal := X m c r j + mid m c r j * scale (mid m c r) * GQ m c j

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

/-- The array row of a block's row. -/
def row (t : Fin cfg0.N) (i : Fin 512) : Fin 8192 := ⟨t.val * 512 + i.val, by have := lt_of_lt_of_eq t.isLt N_0; omega⟩

theorem right_at (k j : Fin 1024) : (V m c main_v0 : FVec Ideal S1024x1024 .bf16) (ix2 k j) = W m c k j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (i : Fin 512) (k : Fin 1024) :
    (iblk m c 0 t : FVec Ideal S512x1024 .f32) (ix2 i k) = Y m c (row t i) k := by
  blk_ext [iblk, V_main_arg0, idx t, row]

theorem blk1 (t : Fin cfg0.N) (i : Fin 512) (k : Fin 1024) :
    (iblk m c 1 t : FVec Ideal S512x1024 .f32) (ix2 i k) = X m c (row t i) k := by
  blk_ext [iblk, V_main_arg1, idx t, row]

theorem blk2 (t : Fin cfg0.N) (k : Fin 1024) : (iblk m c 2 t : FVec Ideal S1x1024 .f32) (ix2 0 k) = LG m c k := by
  blk_ext [iblk, V_main_arg2, idx t]

theorem blk3 (t : Fin cfg0.N) (k : Fin 1024) : (iblk m c 3 t : FVec Ideal S1x1024 .f32) (ix2 0 k) = LB m c k := by
  blk_ext [iblk, V_main_arg3, idx t]

theorem blk4 (t : Fin cfg0.N) (k j : Fin 1024) :
    (iblk m c 4 t : FVec Ideal S1024x1024 .bf16) (ix2 k j) = W m c k j := by
  rw [← right_at]
  blk_ext [iblk, idx t]

theorem blk5 (t : Fin cfg0.N) (k : Fin 1024) : (iblk m c 5 t : FVec Ideal S1x1024 .f32) (ix2 0 k) = B m c k := by
  blk_ext [iblk, V_main_arg5, idx t]

theorem blk6 (t : Fin cfg0.N) (k : Fin 1024) : (iblk m c 6 t : FVec Ideal S1x1024 .f32) (ix2 0 k) = GQ m c k := by
  blk_ext [iblk, V_main_arg6, idx t]

theorem mid_at (t : Fin cfg0.N) (i : Fin 512) (j : Fin 1024) :
    k0_pay3 (iblk m c 0 t) (iblk m c 1 t) (iblk m c 2 t) (iblk m c 3 t) (iblk m c 4 t) (iblk m c 5 t) (iblk m c 6 t) (ix2 i j) = mid m c (row t i) j := by
  pointwise [k0_pay3, k0_pay2, blk0, blk2, blk3, blk4, blk5, mid, act, normed, centred, zero_sub, Ideal.logistic]

theorem out7 (t : Fin cfg0.N) (i : Fin 512) (j : Fin 1024) :
    out0_7 (iblk m c 0 t) (iblk m c 1 t) (iblk m c 2 t) (iblk m c 3 t) (iblk m c 4 t) (iblk m c 5 t) (iblk m c 6 t) (ix2 i j) = mid m c (row t i) j := by
  unfold out0_7
  frame_out
  exact mid_at m c t i j

theorem out8 (t : Fin cfg0.N) (i : Fin 512) (j : Fin 1024) :
    out0_8 (iblk m c 0 t) (iblk m c 1 t) (iblk m c 2 t) (iblk m c 3 t) (iblk m c 4 t) (iblk m c 5 t) (iblk m c 6 t) (ix2 i j) = out m c (row t i) j := by
  unfold out0_8
  frame_out
  pointwise [k0_pay1, mid_at, blk1, blk6, out, scale, meanSq]

theorem final7 : (dats m 0 c).arrAt 7 cfg0.N = fun i => mid m c (i 0) (i 1) := by
  refine (dats m 0 c).arrAt_eq_of_covers 7 _ (by decide +kernel) fun t hf y => ?_
  blk_simp
  rw [after0_7]
  idx_vars y
  refine (out7 m c t y0 y1).trans (congrArg₂ (mid m c) (Fin.ext ?_) (Fin.ext ?_)) <;> blk_simp [idx t, row]

theorem final8 : (dats m 0 c).arrAt 8 cfg0.N = fun i => out m c (i 0) (i 1) := by
  refine (dats m 0 c).arrAt_eq_of_covers 8 _ (by decide +kernel) fun t hf y => ?_
  blk_simp
  rw [after0_8]
  idx_vars y
  refine (out8 m c t y0 y1).trans (congrArg₂ (out m c) (Fin.ext ?_) (Fin.ext ?_)) <;> blk_simp [idx t, row]

end Cert.Kernel18Ideal.Arrays

namespace Cert.ConvExit

open Cert Cert.Reference18Ideal Cert.Reference18Ideal.Gen Idealize.ShloMosaic.StableHlo

/-- The reference's residual with the normalised product. -/
def residual (m' : (ℓ : Loc nD τ sig) → Buf (Elt Ideal) ℓ) (c : Dev nD) (M : FVec Ideal S8192x1024 .f32) : FVec Ideal S8192x1024 .f32 :=
  addf (m' ((c.tc : Thread nD τ).loc main_arg1)) (mulf (mulf M (broadcastInDim S8192x1024 ![0, 1] bcast_S8192x1_S8192x1024_0_1 (Host.rsqrt (addf (Host.divf (broadcastInDim S8192x1 ![0] bcast_S8192_S8192x1_0 (Host.reduceAdd (mulf M M) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg6))))

variable (m : (ℓ : Loc Kernel18Ideal.nD Kernel18Ideal.τ Kernel18Ideal.sig) → Buf (Elt Ideal) ℓ)
  (m' : (ℓ : Loc nD τ sig) → Buf (Elt Ideal) ℓ) (c : Dev nD)
  (h0 : m' ((c.tc : Thread nD τ).loc main_arg0) = m ((c.tc : Thread Kernel18Ideal.nD Kernel18Ideal.τ).loc Kernel18Ideal.main_arg0))
  (h1 : m' ((c.tc : Thread nD τ).loc main_arg1) = m ((c.tc : Thread Kernel18Ideal.nD Kernel18Ideal.τ).loc Kernel18Ideal.main_arg1))
  (h2 : m' ((c.tc : Thread nD τ).loc main_arg2) = m ((c.tc : Thread Kernel18Ideal.nD Kernel18Ideal.τ).loc Kernel18Ideal.main_arg2))
  (h3 : m' ((c.tc : Thread nD τ).loc main_arg3) = m ((c.tc : Thread Kernel18Ideal.nD Kernel18Ideal.τ).loc Kernel18Ideal.main_arg3))
  (h4 : m' ((c.tc : Thread nD τ).loc main_arg4) = m ((c.tc : Thread Kernel18Ideal.nD Kernel18Ideal.τ).loc Kernel18Ideal.main_arg4))
  (h5 : m' ((c.tc : Thread nD τ).loc main_arg5) = m ((c.tc : Thread Kernel18Ideal.nD Kernel18Ideal.τ).loc Kernel18Ideal.main_arg5))
  (h6 : m' ((c.tc : Thread nD τ).loc main_arg6) = m ((c.tc : Thread Kernel18Ideal.nD Kernel18Ideal.τ).loc Kernel18Ideal.main_arg6))
include h0 h1 h2 h3 h4 h5 h6

/-- The reference's product, entry by entry. -/
theorem product (r : Fin 8192) (j : Fin 1024) : (addf (Host.dotGeneral dot_S8192x1024_S1024x1024_S8192x1024_1_0_0_1_n_n none (φ₁ := .f32) (φ₂ := .f32) (mulf (addf (mulf (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32)))))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x3727C5AC#32)))))) (broadcastInDim S8192x1024 ![0, 1] bcast_S1x1024_S8192x1024_0_1 (m' ((c.tc : Thread nD τ).loc main_arg2)))) (broadcastInDim S8192x1024 ![0, 1] bcast_S1x1024_S8192x1024_0_1 (m' ((c.tc : Thread nD τ).loc main_arg3)))) (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf (addf (mulf (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32)))))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x3727C5AC#32)))))) (broadcastInDim S8192x1024 ![0, 1] bcast_S1x1024_S8192x1024_0_1 (m' ((c.tc : Thread nD τ).loc main_arg2)))) (broadcastInDim S8192x1024 ![0, 1] bcast_S1x1024_S8192x1024_0_1 (m' ((c.tc : Thread nD τ).loc main_arg3))))))))) (m' ((c.tc : Thread nD τ).loc main_arg4))) (broadcastInDim S8192x1024 ![0, 1] bcast_S1x1024_S8192x1024_0_1 (m' ((c.tc : Thread nD τ).loc main_arg5))) : FVec Ideal S8192x1024 .f32) (ix2 r j)
    = Kernel18Ideal.Arrays.mid m c r j := by
  simp only [h0, h1, h2, h3, h4, h5, h6]
  pointwise [Kernel18Ideal.Arrays.mid, Kernel18Ideal.Arrays.act, Kernel18Ideal.Arrays.normed, Kernel18Ideal.Arrays.centred, Ideal.logistic]

/-- The products are equal. -/
theorem result0 : (addf (Host.dotGeneral dot_S8192x1024_S1024x1024_S8192x1024_1_0_0_1_n_n none (φ₁ := .f32) (φ₂ := .f32) (mulf (addf (mulf (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32)))))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x3727C5AC#32)))))) (broadcastInDim S8192x1024 ![0, 1] bcast_S1x1024_S8192x1024_0_1 (m' ((c.tc : Thread nD τ).loc main_arg2)))) (broadcastInDim S8192x1024 ![0, 1] bcast_S1x1024_S8192x1024_0_1 (m' ((c.tc : Thread nD τ).loc main_arg3)))) (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf (addf (mulf (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32)))))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x3727C5AC#32)))))) (broadcastInDim S8192x1024 ![0, 1] bcast_S1x1024_S8192x1024_0_1 (m' ((c.tc : Thread nD τ).loc main_arg2)))) (broadcastInDim S8192x1024 ![0, 1] bcast_S1x1024_S8192x1024_0_1 (m' ((c.tc : Thread nD τ).loc main_arg3))))))))) (m' ((c.tc : Thread nD τ).loc main_arg4))) (broadcastInDim S8192x1024 ![0, 1] bcast_S1x1024_S8192x1024_0_1 (m' ((c.tc : Thread nD τ).loc main_arg5))) : FVec Ideal S8192x1024 .f32)
    = (Kernel18Ideal.Gen.dats m 0 c).arrAt 7 Kernel18Ideal.cfg0.N := by
  rw [Kernel18Ideal.Arrays.final7]
  funext y
  idx_vars y
  exact product m m' c h0 h1 h2 h3 h4 h5 h6 y0 y1

/-- The outputs are equal. -/
theorem result1 : Cert.Reference18Ideal.Value.res_out1 (F := Ideal) m' c
    = (Kernel18Ideal.Gen.dats m 0 c).arrAt 8 Kernel18Ideal.cfg0.N := by
  rw [Kernel18Ideal.Arrays.final8]
  funext y
  idx_vars y
  have p := product m m' c h0 h1 h2 h3 h4 h5 h6
  have q : Cert.Reference18Ideal.Value.res_out1 (F := Ideal) m' c = residual m' c (addf (Host.dotGeneral dot_S8192x1024_S1024x1024_S8192x1024_1_0_0_1_n_n none (φ₁ := .f32) (φ₂ := .f32) (mulf (addf (mulf (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32)))))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x3727C5AC#32)))))) (broadcastInDim S8192x1024 ![0, 1] bcast_S1x1024_S8192x1024_0_1 (m' ((c.tc : Thread nD τ).loc main_arg2)))) (broadcastInDim S8192x1024 ![0, 1] bcast_S1x1024_S8192x1024_0_1 (m' ((c.tc : Thread nD τ).loc main_arg3)))) (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf (addf (mulf (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32)))))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x3727C5AC#32)))))) (broadcastInDim S8192x1024 ![0, 1] bcast_S1x1024_S8192x1024_0_1 (m' ((c.tc : Thread nD τ).loc main_arg2)))) (broadcastInDim S8192x1024 ![0, 1] bcast_S1x1024_S8192x1024_0_1 (m' ((c.tc : Thread nD τ).loc main_arg3))))))))) (m' ((c.tc : Thread nD τ).loc main_arg4))) (broadcastInDim S8192x1024 ![0, 1] bcast_S1x1024_S8192x1024_0_1 (m' ((c.tc : Thread nD τ).loc main_arg5)))) := by
    unfold Cert.Reference18Ideal.Value.res_out1 Cert.Reference18Ideal.Value.res_main_v38 residual
    rfl
  rw [q]
  generalize (addf (Host.dotGeneral dot_S8192x1024_S1024x1024_S8192x1024_1_0_0_1_n_n none (φ₁ := .f32) (φ₂ := .f32) (mulf (addf (mulf (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32)))))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x3727C5AC#32)))))) (broadcastInDim S8192x1024 ![0, 1] bcast_S1x1024_S8192x1024_0_1 (m' ((c.tc : Thread nD τ).loc main_arg2)))) (broadcastInDim S8192x1024 ![0, 1] bcast_S1x1024_S8192x1024_0_1 (m' ((c.tc : Thread nD τ).loc main_arg3)))) (Host.divf (broadcastInDim S8192x1024 ![] bcast_S_S8192x1024 (constant (F := Ideal) S_ .f32 0x3F800000#32)) (addf (broadcastInDim S8192x1024 ![] bcast_S_S8192x1024 (constant (F := Ideal) S_ .f32 0x3F800000#32)) (Host.exp (Host.negf (addf (mulf (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32))))) (subf (m' ((c.tc : Thread nD τ).loc main_arg0)) (broadcastInDim S8192x1024 ![0, 1] bcast_S8192x1_S8192x1024_0_1 (Host.divf (broadcastInDim S8192x1 ![0] bcast_S8192_S8192x1_0 (Host.reduceAdd (m' ((c.tc : Thread nD τ).loc main_arg0)) (constant (F := Ideal) S_ .f32 0x00000000#32) reducesTo_S8192x1024_S8192_d1 h_S_)) (broadcastInDim S8192x1 ![] bcast_S_S8192x1 (constant (F := Ideal) S_ .f32 0x44800000#32)))))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x3727C5AC#32)))))) (broadcastInDim S8192x1024 ![0, 1] bcast_S1x1024_S8192x1024_0_1 (m' ((c.tc : Thread nD τ).loc main_arg2)))) (broadcastInDim S8192x1024 ![0, 1] bcast_S1x1024_S8192x1024_0_1 (m' ((c.tc : Thread nD τ).loc main_arg3))))))))) (m' ((c.tc : Thread nD τ).loc main_arg4))) (broadcastInDim S8192x1024 ![0, 1] bcast_S1x1024_S8192x1024_0_1 (m' ((c.tc : Thread nD τ).loc main_arg5))) : FVec Ideal S8192x1024 .f32) = M at p ⊢
  unfold residual
  simp only [h1, h6]
  pointwise [p, Kernel18Ideal.Arrays.out, RowNorm.scale, RowNorm.meanSq]

end Cert.ConvExit

end
-- ==== Proof.GateWeights.lean ====
/- The gradient of the forget gate's weight: the kernel adds the products of the two halves of the rows in a carried block,
   and its result array is the whole sum over rows; so is the reference's. -/
module

public import proofs.«01_k».proof.Proof.Gen.Kernel19Ideal.Value
public import proofs.«01_k».proof.Proof.Gen.Reference19Ideal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel19Ideal.Arrays

open Cert.Kernel19Ideal Cert.Kernel19Ideal.Gen

variable (m : (ℓ : Loc nD τ sig) → Buf (Elt Ideal) ℓ) (c : Dev nD)

/-- The normalised input and the gradient at the gate. -/
abbrev H (r : Fin 8192) (k : Fin 1024) : EReal := m ((c : Thread nD τ).loc main_arg0) (ix2 r k)
abbrev DQ (r : Fin 8192) (f : Fin 128) : EReal := m ((c : Thread nD τ).loc main_arg1) (ix2 r f)

theorem idx : ∀ t : Fin cfg0.N, win0_0.index t = ![t.val, 0] ∧ win0_1.index t = ![t.val, 0] ∧ win0_2.index t = ![0, 0, 0] :=
  (by decide +kernel : ∀ t : Fin grid0.N, _)

/-- The array row of a grid point's blocks. -/
def row (t : Fin cfg0.N) (i : Fin 4096) : Fin 8192 := ⟨t.val * 4096 + i.val, by have := lt_of_lt_of_eq t.isLt N_0; omega⟩

theorem left_at (r : Fin 8192) (k : Fin 1024) : (V m c main_v0 : FVec Ideal S8192x1024 .bf16) (ix2 r k) = H m c r k := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem right_at (r : Fin 8192) (f : Fin 128) : (V m c main_v1 : FVec Ideal S8192x128 .bf16) (ix2 r f) = DQ m c r f := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk0 (t : Fin cfg0.N) (i : Fin 4096) (k : Fin 1024) :
    (iblk m c 0 t : FVec Ideal S4096x1024 .bf16) (ix2 i k) = H m c (row t i) k := by
  rw [← left_at]
  blk_ext [iblk, idx t, row]

theorem blk1 (t : Fin cfg0.N) (i : Fin 4096) (f : Fin 128) :
    (iblk m c 1 t : FVec Ideal S4096x128 .bf16) (ix2 i f) = DQ m c (row t i) f := by
  rw [← right_at]
  blk_ext [iblk, idx t, row]

/-- The product over one half of the rows. -/
def part (t : Fin cfg0.N) (k : Fin 1024) (f : Fin 128) : EReal := ∑ i : Fin 4096, H m c (row t i) k * DQ m c (row t i) f

/-- The first half is stored. -/
theorem first (t : Fin cfg0.N) (h : t.val = 0) (k : Fin 1024) (f : Fin 128) :
    (outsAt0 m c t.val t.isLt).2 (ix2 k f) = part m c t k f := by
  rw [outsAt0_A m c t (by omega) (by omega) (by omega)]
  frame_out
  pointwise [k0_pay2, k0_pay1, blk0, blk1]
  rfl

/-- The second half is added, and the sum goes out. -/
theorem last (t : Fin cfg0.N) (h : t.val = 1) (k : Fin 1024) (f : Fin 128) :
    (outsAt0 m c t.val t.isLt).1 (ix3 0 k f)
    = (outsAt0 m c (t.val - 1) (Nat.lt_of_le_of_lt (Nat.sub_le _ _) t.isLt)).2 (ix2 k f) + part m c t k f := by
  rw [outsAt0_B m c t (by omega) (by omega) (by omega)]
  frame_open
  simp (disch := decide) only [↓ View.readCov_skip, ↓ View.readCov_cons_toLoadRect, ↓ View.readCov_fill]
  frame_out
  pointwise [k0_pay4, k0_pay3, k0_pay2, k0_pay1, blk0, blk1]
  rw [read_unread_whole]
  rfl

/-- What goes out of the last point. -/
theorem out (t : Fin cfg0.N) (h : t.val = 1) (k : Fin 1024) (f : Fin 128) :
    (outsAt0 m c t.val t.isLt).1 (ix3 0 k f) = ∑ r, H m c r k * DQ m c r f := by
  obtain ⟨n, hn⟩ := t
  obtain rfl : n = 1 := h
  rw [Fin.sum_univ_tiles 2 4096 rfl, Fin.sum_univ_two]
  refine (last m c ⟨1, hn⟩ rfl k f).trans (congrArg₂ (· + ·) ?_ rfl)
  exact first m c ⟨0, by omega⟩ rfl k f

/-- The weight's gradient. -/
def grad (k : Fin 1024) (f : Fin 128) : EReal := ∑ r, H m c r k * DQ m c r f

theorem final2 : (dats m 0 c).arrAt 2 cfg0.N = fun i => grad m c (i 1) (i 2) := by
  refine (dats m 0 c).arrAt_eq_of_covers 2 _ (by decide +kernel) fun t hf y => ?_
  blk_simp
  rw [after0_2]
  have ht := (flush0_2 t).mp hf
  have := lt_of_lt_of_eq t.isLt N_0
  idx_vars y
  obtain rfl : y0 = 0 := Subsingleton.elim _ _
  refine (out m c t (by omega) y1 y2).trans ?_
  unfold grad
  refine Finset.sum_congr rfl fun r _ => congrArg₂ (fun a b => H m c r a * DQ m c r b) (Fin.ext ?_) (Fin.ext ?_) <;> blk_simp [idx t] <;> try rfl

end Cert.Kernel19Ideal.Arrays

namespace Cert.GateWeights

open Cert Cert.Reference19Ideal Cert.Reference19Ideal.Gen Idealize.ShloMosaic.StableHlo

variable (m : (ℓ : Loc Kernel19Ideal.nD Kernel19Ideal.τ Kernel19Ideal.sig) → Buf (Elt Ideal) ℓ)
  (m' : (ℓ : Loc nD τ sig) → Buf (Elt Ideal) ℓ) (c : Dev nD)
  (h0 : m' ((c.tc : Thread nD τ).loc main_arg0) = m ((c.tc : Thread Kernel19Ideal.nD Kernel19Ideal.τ).loc Kernel19Ideal.main_arg0))
  (h1 : m' ((c.tc : Thread nD τ).loc main_arg1) = m ((c.tc : Thread Kernel19Ideal.nD Kernel19Ideal.τ).loc Kernel19Ideal.main_arg1))
include h0 h1

/-- The two programs' weight gradients are equal. -/
theorem result0 : truncf (F := Ideal) .bf16 (broadcastInDim S1x1024x128 ![1, 2] bcast_S1024x128_S1x1024x128_1_2 (transpose S1024x128 [1, 0] (Host.dotGeneral dot_S8192x128_S8192x1024_S128x1024_0_0_1_1_n_n none (φ₁ := .f32) (φ₂ := .f32) (m' ((c.tc : Thread nD τ).loc main_arg1)) (m' ((c.tc : Thread nD τ).loc main_arg0))) transposes_S128x1024_S1024x128_1_0)) bitsLt_bf16_f32
    = (Kernel19Ideal.Gen.dats m 0 c).arrAt 2 Kernel19Ideal.cfg0.N := by
  rw [Kernel19Ideal.Arrays.final2, h0, h1]
  funext y
  idx_vars y
  pointwise [Kernel19Ideal.Arrays.grad]
  exact Finset.sum_congr rfl fun r _ => mul_comm _ _

end Cert.GateWeights

end
-- ==== Proof.LogGate.lean ====
/- The logarithm of the logistic function over the extended reals, in the form with a minimum and in the form with a maximum
   of the negated argument. -/
module

public import Idealize.ShloMosaic.Lib.Pointwise

@[expose] public section

noncomputable section

namespace Cert.LogGate

open Idealize.ShloMosaic

/-- The logarithm of the logistic function, as the kernel computes it. -/
def logGate (f : EReal) : EReal := min f 0 - Ideal.log (1 + Ideal.exp (-(max f (-f))))

/-- The same, as the reference computes it. -/
def softplus (f : EReal) : EReal := -(max (-f) 0 + Ideal.log (1 + Ideal.exp (-(max (-f) (-(-f))))))

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

theorem log_one : Ideal.log (1 + Ideal.exp ⊥) = ((0 : ℝ) : EReal) := by
  show Ideal.log (1 + 0) = _
  rw [add_zero, ← EReal.coe_one]
  show (if _ then _ else _) = _
  rw [if_neg (by norm_num), Real.log_one]

/-- The logarithm in either form is a real number. -/
theorem log_real (f : EReal) : ∃ r : ℝ, Ideal.log (1 + Ideal.exp (-(max f (-f)))) = (r : EReal) := by
  induction f with
  | bot => exact ⟨0, by rw [EReal.neg_bot, max_eq_right bot_le, EReal.neg_top, log_one]⟩
  | top => exact ⟨0, by rw [EReal.neg_top, max_eq_left bot_le, EReal.neg_top, log_one]⟩
  | coe x =>
    rw [← EReal.coe_neg, ← coe_max, ← EReal.coe_neg]
    show ∃ r : ℝ, Ideal.log (1 + ((Real.exp _ : ℝ) : EReal)) = _
    rw [← EReal.coe_one, ← EReal.coe_add]
    refine ⟨Real.log (1 + Real.exp (-(max x (-x)))), ?_⟩
    show (if _ then _ else _) = _
    rw [if_neg (by have := Real.exp_pos (-(max x (-x))); linarith)]

theorem softplus_eq (f : EReal) : softplus f = logGate f := by
  unfold softplus logGate
  rw [neg_neg, max_comm (-f) f]
  obtain ⟨r, hr⟩ := log_real f
  rw [hr, EReal.neg_add (Or.inr (EReal.coe_ne_top r)) (Or.inr (EReal.coe_ne_bot r))]
  congr 1
  induction f with
  | bot => simp
  | top => simp
  | coe x =>
    rw [← EReal.coe_zero, ← EReal.coe_neg, ← coe_max, ← coe_min, ← EReal.coe_neg]
    congr 1
    rcases le_total x 0 with h | h
    · rw [max_eq_left (by linarith), min_eq_left h, neg_neg]
    · rw [max_eq_right (by linarith), min_eq_right h, neg_zero]

end Cert.LogGate

end
-- ==== Proof.AttentionEntry.lean ====
/- The attention's entrance: the normalised input's products with the weights of queries, keys and values, and the logarithm
   of the forget gate. -/
module

public import proofs.«01_k».proof.Proof.Gen.Kernel20Ideal.Value
public import proofs.«01_k».proof.Proof.Gen.Reference20Ideal.Run
public import proofs.«01_k».proof.Proof.RowNorm
public import proofs.«01_k».proof.Proof.LogGate
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem

namespace Cert.Kernel20Ideal.Arrays

open Cert.Kernel20Ideal Cert.Kernel20Ideal.Gen Cert.RowNorm Cert.LogGate

variable (m : (ℓ : Loc nD τ sig) → Buf (Elt Ideal) ℓ) (c : Dev nD)

/-- The layer's input, the gain, the entrance weight and the gate's offset. -/
abbrev X (r : Fin 8192) (k : Fin 1024) : EReal := m ((c : Thread nD τ).loc main_arg0) (ix2 r k)
abbrev GP (k : Fin 1024) : EReal := m ((c : Thread nD τ).loc main_arg1) (ix2 0 k)
abbrev W (k : Fin 1024) (j : Fin 3088) : EReal := m ((c : Thread nD τ).loc main_arg2) (ix2 k j)
abbrev BF (l : Fin 16) : EReal := m ((c : Thread nD τ).loc main_arg3) (ix2 0 l)

/-- The normalised input. -/
def normed (r : Fin 8192) (k : Fin 1024) : EReal := X m c r k * scale (X m c r) * GP m c k

/-- Its product with the entrance weight. -/
def proj (r : Fin 8192) (j : Fin 3088) : EReal := ∑ k, normed m c r k * W m c k j

/-- Queries, keys and values. -/
def query (r : Fin 8192) (j : Fin 1024) : EReal := proj m c r ⟨j.val, by omega⟩ * Ideal.ofBits .f32 0x3E000000#32
def key (r : Fin 8192) (j : Fin 1024) : EReal := proj m c r ⟨1024 + j.val, by omega⟩
def value (r : Fin 8192) (j : Fin 1024) : EReal := proj m c r ⟨2048 + j.val, by omega⟩

/-- The gate's logarithm, a lane for each head and zero in the lanes left over. -/
def gate (r : Fin 8192) (l : Fin 128) : EReal :=
  if h : l.val < 16 then logGate (proj m c r ⟨3072 + l.val, by omega⟩ + BF m c ⟨l.val, h⟩) else 0

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] :=
  (by decide +kernel : ∀ t : Fin grid0.N, _)

/-- The array row of a block's row. -/
def row (t : Fin cfg0.N) (i : Fin 512) : Fin 8192 := ⟨t.val * 512 + i.val, by have := lt_of_lt_of_eq t.isLt N_0; omega⟩

theorem weight_at (k : Fin 1024) (j : Fin 3072) : (V m c main_v1 : FVec Ideal S1024x3072 .bf16) (ix2 k j) = W m c k ⟨j.val, by omega⟩ := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem gateWeight_at (k : Fin 1024) (l : Fin 128) (h : l.val < 16) : (V m c main_v5 : FVec Ideal S1024x128 .bf16) (ix2 k l) = W m c k ⟨3072 + l.val, by omega⟩ := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise [h]

theorem offset_at (l : Fin 128) (h : l.val < 16) : (V m c main_v7 : FVec Ideal S1x128 .f32) (ix2 0 l) = BF m c ⟨l.val, h⟩ := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise [h]

theorem blk0 (t : Fin cfg0.N) (i : Fin 512) (k : Fin 1024) :
    (iblk m c 0 t : FVec Ideal S512x1024 .f32) (ix2 i k) = X m c (row t i) k := by
  blk_ext [iblk, V_main_arg0, idx t, row]

theorem blk1 (t : Fin cfg0.N) (k : Fin 1024) : (iblk m c 1 t : FVec Ideal S1x1024 .f32) (ix2 0 k) = GP m c k := by
  blk_ext [iblk, V_main_arg1, idx t]

theorem blk2 (t : Fin cfg0.N) (k : Fin 1024) (j : Fin 3072) :
    (iblk m c 2 t : FVec Ideal S1024x3072 .bf16) (ix2 k j) = W m c k ⟨j.val, by omega⟩ := by
  rw [← weight_at]
  blk_ext [iblk, idx t]

theorem blk3 (t : Fin cfg0.N) (k : Fin 1024) (l : Fin 128) (h : l.val < 16) :
    (iblk m c 3 t : FVec Ideal S1024x128 .bf16) (ix2 k l) = W m c k ⟨3072 + l.val, by omega⟩ := by
  rw [← gateWeight_at m c k l h]
  blk_ext [iblk, idx t]

theorem blk4 (t : Fin cfg0.N) (l : Fin 128) (h : l.val < 16) :
    (iblk m c 4 t : FVec Ideal S1x128 .f32) (ix2 0 l) = BF m c ⟨l.val, h⟩ := by
  rw [← offset_at m c l h]
  blk_ext [iblk, idx t]

theorem normed_at (t : Fin cfg0.N) (i : Fin 512) (k : Fin 1024) :
    k0_pay2 (F := Ideal) (iblk m c 0 t) (iblk m c 1 t) (ix2 i k) = normed m c (row t i) k := by
  pointwise [k0_pay2, blk0, blk1, normed, scale, meanSq]

theorem out5 (t : Fin cfg0.N) (i : Fin 512) (j : Fin 1024) :
    out0_5 (iblk m c 0 t) (iblk m c 1 t) (iblk m c 2 t) (iblk m c 3 t) (iblk m c 4 t) (ix2 i j) = query m c (row t i) j := by
  unfold out0_5
  frame_out
  pointwise [k0_pay3, normed_at, blk2, query, proj]

theorem out6 (t : Fin cfg0.N) (i : Fin 512) (j : Fin 1024) :
    out0_6 (iblk m c 0 t) (iblk m c 1 t) (iblk m c 2 t) (iblk m c 3 t) (iblk m c 4 t) (ix2 i j) = key m c (row t i) j := by
  unfold out0_6
  frame_out
  pointwise [k0_pay4, normed_at, blk2, key, proj]

theorem out7 (t : Fin cfg0.N) (i : Fin 512) (j : Fin 1024) :
    out0_7 (iblk m c 0 t) (iblk m c 1 t) (iblk m c 2 t) (iblk m c 3 t) (iblk m c 4 t) (ix2 i j) = value m c (row t i) j := by
  unfold out0_7
  frame_out
  pointwise [k0_pay5, normed_at, blk2, value, proj]

/-- The comparison of a lane's number with sixteen. -/
theorem lane : ∀ l : Fin 128, IntOp.cmpi CmpIPredicate.slt (BitVec.ofNat 32 l.val) 16#32 = BitVec.ofBool (decide (l.val < 16)) := by decide +kernel

theorem out8 (t : Fin cfg0.N) (i : Fin 512) (l : Fin 128) :
    out0_8 (iblk m c 0 t) (iblk m c 1 t) (iblk m c 2 t) (iblk m c 3 t) (iblk m c 4 t) (ix2 i l) = gate m c (row t i) l := by
  unfold out0_8
  frame_out
  by_cases h : l.val < 16
  · pointwise [k0_pay1, normed_at, blk3 m c t _ l h, blk4 m c t l h, gate, logGate, proj, h, zero_sub]
    rw [lane, decide_eq_true h]
    rfl
  · pointwise [k0_pay1, gate, h]
    rw [lane, decide_eq_false h]
    rfl

theorem final5 : (dats m 0 c).arrAt 5 cfg0.N = fun i => query m c (i 0) (i 1) := by
  refine (dats m 0 c).arrAt_eq_of_covers 5 _ (by decide +kernel) fun t hf y => ?_
  blk_simp
  rw [after0_5]
  idx_vars y
  refine (out5 m c t y0 y1).trans (congrArg₂ (query m c) (Fin.ext ?_) (Fin.ext ?_)) <;> blk_simp [idx t, row]

theorem final6 : (dats m 0 c).arrAt 6 cfg0.N = fun i => key m c (i 0) (i 1) := by
  refine (dats m 0 c).arrAt_eq_of_covers 6 _ (by decide +kernel) fun t hf y => ?_
  blk_simp
  rw [after0_6]
  idx_vars y
  refine (out6 m c t y0 y1).trans (congrArg₂ (key m c) (Fin.ext ?_) (Fin.ext ?_)) <;> blk_simp [idx t, row]

theorem final7 : (dats m 0 c).arrAt 7 cfg0.N = fun i => value m c (i 0) (i 1) := by
  refine (dats m 0 c).arrAt_eq_of_covers 7 _ (by decide +kernel) fun t hf y => ?_
  blk_simp
  rw [after0_7]
  idx_vars y
  refine (out7 m c t y0 y1).trans (congrArg₂ (value m c) (Fin.ext ?_) (Fin.ext ?_)) <;> blk_simp [idx t, row]

theorem final8 : (dats m 0 c).arrAt 8 cfg0.N = fun i => gate m c (i 0) (i 1) := by
  refine (dats m 0 c).arrAt_eq_of_covers 8 _ (by decide +kernel) fun t hf y => ?_
  blk_simp
  rw [after0_8]
  idx_vars y
  refine (out8 m c t y0 y1).trans (congrArg₂ (gate m c) (Fin.ext ?_) (Fin.ext ?_)) <;> blk_simp [idx t, row]

end Cert.Kernel20Ideal.Arrays

namespace Cert.AttentionEntry

open Cert Cert.Reference20Ideal Cert.Reference20Ideal.Gen Idealize.ShloMosaic.StableHlo

/-- The reference's gate before its logarithm, of the product. -/
def gateIn (m' : (ℓ : Loc nD τ sig) → Buf (Elt Ideal) ℓ) (c : Dev nD) (P : FVec Ideal S8192x3088 .f32) : FVec Ideal S8192x16 .f32 :=
  addf (extractStridedSlice S8192x16 ![0, 3072] P slices_S8192x3088_S8192x16_0_3072) (broadcastInDim S8192x16 ![0, 1] bcast_S1x16_S8192x16_0_1 (m' ((c.tc : Thread nD τ).loc main_arg3)))

/-- The reference's logarithm of the gate, padded with zero lanes. -/
def gateOut (Z : FVec Ideal S8192x16 .f32) : FVec Ideal S8192x128 .f32 :=
  concatenate S8192x128 1 [⟨S8192x16, (Host.negf (select (cmpf .une (subf (Host.negf Z) (broadcastInDim S8192x16 ![] bcast_S_S8192x16 (constant (F := Ideal) S_ .f32 0x00000000#32))) (subf (Host.negf Z) (broadcastInDim S8192x16 ![] bcast_S_S8192x16 (constant (F := Ideal) S_ .f32 0x00000000#32)))) (addf (Host.negf Z) (broadcastInDim S8192x16 ![] bcast_S_S8192x16 (constant (F := Ideal) S_ .f32 0x00000000#32))) (addf (maximumf (Host.negf Z) (broadcastInDim S8192x16 ![] bcast_S_S8192x16 (constant (F := Ideal) S_ .f32 0x00000000#32))) (Host.log1p (Host.exp (Host.negf (Host.absf (subf (Host.negf Z) (broadcastInDim S8192x16 ![] bcast_S_S8192x16 (constant (F := Ideal) S_ .f32 0x00000000#32))))))))))⟩, ⟨S8192x112, (broadcastInDim S8192x112 ![] bcast_S_S8192x112 (constant (F := Ideal) S_ .f32 0x00000000#32))⟩] concatenates_S8192x16_S8192x112_S8192x128_d1

theorem gateOut_at (Z : FVec Ideal S8192x16 .f32) (r : Fin 8192) (l : Fin 128) :
    gateOut Z (ix2 r l) = if h : l.val < 16 then LogGate.logGate (Z (ix2 r ⟨l.val, h⟩)) else 0 := by
  by_cases h : l.val < 16
  · rw [dif_pos h, ← LogGate.softplus_eq]
    pointwise [gateOut, h, LogGate.softplus, Ideal.log1p]
    rw [if_neg (not_not_intro rfl)]
    rfl
  · rw [dif_neg h]
    pointwise [gateOut, h]

variable (m : (ℓ : Loc Kernel20Ideal.nD Kernel20Ideal.τ Kernel20Ideal.sig) → Buf (Elt Ideal) ℓ)
  (m' : (ℓ : Loc nD τ sig) → Buf (Elt Ideal) ℓ) (c : Dev nD)
  (h0 : m' ((c.tc : Thread nD τ).loc main_arg0) = m ((c.tc : Thread Kernel20Ideal.nD Kernel20Ideal.τ).loc Kernel20Ideal.main_arg0))
  (h1 : m' ((c.tc : Thread nD τ).loc main_arg1) = m ((c.tc : Thread Kernel20Ideal.nD Kernel20Ideal.τ).loc Kernel20Ideal.main_arg1))
  (h2 : m' ((c.tc : Thread nD τ).loc main_arg2) = m ((c.tc : Thread Kernel20Ideal.nD Kernel20Ideal.τ).loc Kernel20Ideal.main_arg2))
  (h3 : m' ((c.tc : Thread nD τ).loc main_arg3) = m ((c.tc : Thread Kernel20Ideal.nD Kernel20Ideal.τ).loc Kernel20Ideal.main_arg3))
include h0 h1 h2 h3

/-- The reference's product, entry by entry. -/
theorem product (r : Fin 8192) (j : Fin 3088) : (Host.dotGeneral dot_S8192x1024_S1024x3088_S8192x3088_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2)) : FVec Ideal S8192x3088 .f32) (ix2 r j)
    = Kernel20Ideal.Arrays.proj m c r j := by
  simp only [h0, h1, h2, h3]
  pointwise [Kernel20Ideal.Arrays.proj, Kernel20Ideal.Arrays.normed, RowNorm.scale, RowNorm.meanSq]

/-- The queries are equal. -/
theorem result0 : (truncf .bf16 (mulf (extractStridedSlice S8192x1024 ![0, 0] (Host.dotGeneral dot_S8192x1024_S1024x3088_S8192x3088_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2))) slices_S8192x3088_S8192x1024_0_0) (broadcastInDim S8192x1024 ![] bcast_S_S8192x1024 (constant (F := Ideal) S_ .f32 0x3E000000#32))) bitsLt_bf16_f32 : FVec Ideal S8192x1024 .bf16)
    = (Kernel20Ideal.Gen.dats m 0 c).arrAt 5 Kernel20Ideal.cfg0.N := by
  have p := product m m' c h0 h1 h2 h3
  rw [Kernel20Ideal.Arrays.final5]
  generalize (Host.dotGeneral dot_S8192x1024_S1024x3088_S8192x3088_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2)) : FVec Ideal S8192x3088 .f32) = P at p ⊢
  funext y
  idx_vars y
  pointwise [p, Kernel20Ideal.Arrays.query]

/-- The keys are equal. -/
theorem result1 : (truncf .bf16 (extractStridedSlice S8192x1024 ![0, 1024] (Host.dotGeneral dot_S8192x1024_S1024x3088_S8192x3088_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2))) slices_S8192x3088_S8192x1024_0_1024) bitsLt_bf16_f32 : FVec Ideal S8192x1024 .bf16)
    = (Kernel20Ideal.Gen.dats m 0 c).arrAt 6 Kernel20Ideal.cfg0.N := by
  have p := product m m' c h0 h1 h2 h3
  rw [Kernel20Ideal.Arrays.final6]
  generalize (Host.dotGeneral dot_S8192x1024_S1024x3088_S8192x3088_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2)) : FVec Ideal S8192x3088 .f32) = P at p ⊢
  funext y
  idx_vars y
  pointwise [p, Kernel20Ideal.Arrays.key]

/-- The values are equal. -/
theorem result2 : (truncf .bf16 (extractStridedSlice S8192x1024 ![0, 2048] (Host.dotGeneral dot_S8192x1024_S1024x3088_S8192x3088_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2))) slices_S8192x3088_S8192x1024_0_2048) bitsLt_bf16_f32 : FVec Ideal S8192x1024 .bf16)
    = (Kernel20Ideal.Gen.dats m 0 c).arrAt 7 Kernel20Ideal.cfg0.N := by
  have p := product m m' c h0 h1 h2 h3
  rw [Kernel20Ideal.Arrays.final7]
  generalize (Host.dotGeneral dot_S8192x1024_S1024x3088_S8192x3088_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2)) : FVec Ideal S8192x3088 .f32) = P at p ⊢
  funext y
  idx_vars y
  pointwise [p, Kernel20Ideal.Arrays.value]

/-- The gates' logarithms are equal. -/
theorem result3 : Cert.Reference20Ideal.Value.res_out3 (F := Ideal) m' c
    = (Kernel20Ideal.Gen.dats m 0 c).arrAt 8 Kernel20Ideal.cfg0.N := by
  have p := product m m' c h0 h1 h2 h3
  have q : Cert.Reference20Ideal.Value.res_out3 (F := Ideal) m' c = gateOut (gateIn m' c (Host.dotGeneral dot_S8192x1024_S1024x3088_S8192x3088_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2)))) := by
    unfold Cert.Reference20Ideal.Value.res_out3 Cert.Reference20Ideal.Value.res_main_v21 gateOut gateIn
    rfl
  rw [q, Kernel20Ideal.Arrays.final8]
  generalize (Host.dotGeneral dot_S8192x1024_S1024x3088_S8192x3088_1_0_0_1_n_n none (φ₁ := .f32) (φ₂ := .f32) (mulf (mulf (m' ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m' ((c.tc : Thread nD τ).loc main_arg0)) (m' ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m' ((c.tc : Thread nD τ).loc main_arg1)))) (m' ((c.tc : Thread nD τ).loc main_arg2)) : FVec Ideal S8192x3088 .f32) = P at p ⊢
  funext y
  idx_vars y
  rw [gateOut_at]
  unfold gateIn
  simp only [h3]
  pointwise [p, Kernel20Ideal.Arrays.gate]

end Cert.AttentionEntry

end
-- ==== Proof.AttentionExitSums.lean ====
/- The gradient of the attention's exit, kernel side: the gradients at the product and at the attention's output, for every
   head the sum of the latter times the output, and the gain's gradient summed over the grid points. -/
module

public import proofs.«01_k».proof.Proof.Gen.Kernel21Ideal.Value
public import proofs.«01_k».proof.Proof.Gen.Reference21Ideal.Run
public import proofs.«01_k».proof.Proof.RowNorm
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384
set_option maxHeartbeats 1000000

noncomputable section

open Idealize.ShloMosaic Idealize.ShloMosaic.TcCoe Idealize.SL.Sem

namespace Cert.Kernel21Ideal.Arrays

open Cert.Kernel21Ideal Cert.Kernel21Ideal.Gen Cert.RowNorm

variable (m : (ℓ : Loc nD τ sig) → Buf (Elt Ideal) ℓ) (c : Dev nD)

/-- The gradient at the layer's output, the attention's output, the exit weight and the gain. -/
abbrev DX (r : Fin 8192) (k : Fin 1024) : EReal := m ((c : Thread nD τ).loc main_arg0) (ix2 r k)
abbrev O (r : Fin 8192) (k : Fin 1024) : EReal := m ((c : Thread nD τ).loc main_arg1) (ix2 r k)
abbrev W (k j : Fin 1024) : EReal := m ((c : Thread nD τ).loc main_arg2) (ix2 k j)
abbrev GQ (k : Fin 1024) : EReal := m ((c : Thread nD τ).loc main_arg3) (ix2 0 k)

/-- The product of the forward pass. -/
def mid (r : Fin 8192) (j : Fin 1024) : EReal := ∑ k, O m c r k * W m c k j

/-- The gradient at the product. -/
def dm (r : Fin 8192) (j : Fin 1024) : EReal := grad (mid m c r) (fun k => DX m c r k * GQ m c k) j

/-- The gradient at the attention's output. -/
def dOut (r : Fin 8192) (k : Fin 1024) : EReal := ∑ j, dm m c r j * W m c k j

/-- For every head the sum of that gradient times the output, and zero in the lanes left over. -/
def delta (r : Fin 8192) (l : Fin 128) : EReal :=
  if h : l.val < 16 then ∑ p : Fin 64, dOut m c r ⟨l.val * 64 + p.val, by omega⟩ * O m c r ⟨l.val * 64 + p.val, by omega⟩ else 0

/-- The gain's gradient, in row zero. -/
def sums (a : Fin 8) (k : Fin 1024) : EReal :=
  if a.val = 0 then ∑ r, DX m c r k * (mid m c r k * scale (mid m c r)) else 0

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0]
    ∧ win0_8.index t = ![t.val, 0] ∧ win0_9.index t = ![0, 0] :=
  (by decide +kernel : ∀ t : Fin grid0.N, _)

/-- The array row of a block's row. -/
def row (t : Fin cfg0.N) (i : Fin 512) : Fin 8192 := ⟨t.val * 512 + i.val, by have := lt_of_lt_of_eq t.isLt N_0; omega⟩

theorem mid_at (r : Fin 8192) (j : Fin 1024) : (V m c main_v10 : FVec Ideal S8192x1024 .f32) (ix2 r j) = mid m c r j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise [mid]

theorem weight_at (k j : Fin 1024) : (V m c main_v11 : FVec Ideal S1024x1024 .bf16) (ix2 k j) = W m c k j := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

/-- One where a column belongs to the lane's head, zero elsewhere. -/
def ind (k : Fin 1024) (l : Fin 128) : EReal := if k.val / 64 = l.val then 1 else 0

theorem sameHead : ∀ (h : Fin 16) (l : Fin 128), IntOp.cmpi CmpIPredicate.eq (IntOp.addi (BitVec.ofNat 32 h.val) 0#32) (BitVec.ofNat 32 l.val) = BitVec.ofBool (decide (h.val = l.val)) := by decide +kernel

theorem ind_at (k : Fin 1024) (l : Fin 128) : (V m c main_v8 : FVec Ideal S1024x128 .f32) (ix2 k l) = ind k l := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise
  refine (congrArg (FloatOps.uitofp (F := Ideal) FTy.f32) (sameHead ⟨k.val / 64, by omega⟩ l)).trans ?_
  unfold ind
  by_cases h : k.val / 64 = l.val
  · rw [if_pos h, decide_eq_true h]
    show (((1 : Nat) : ℝ) : EReal) = 1
    simp
  · rw [if_neg h, decide_eq_false h]
    show (((0 : Nat) : ℝ) : EReal) = 0
    simp

theorem blk0 (t : Fin cfg0.N) (i : Fin 512) (k : Fin 1024) :
    (iblk m c 0 t : FVec Ideal S512x1024 .f32) (ix2 i k) = DX m c (row t i) k := by
  blk_ext [iblk, V_main_arg0, idx t, row]

theorem blk1 (t : Fin cfg0.N) (i : Fin 512) (k : Fin 1024) :
    (iblk m c 1 t : FVec Ideal S512x1024 .f32) (ix2 i k) = mid m c (row t i) k := by
  rw [← mid_at]
  blk_ext [iblk, idx t, row]

theorem blk2 (t : Fin cfg0.N) (i : Fin 512) (k : Fin 1024) :
    (iblk m c 2 t : FVec Ideal S512x1024 .f32) (ix2 i k) = O m c (row t i) k := by
  blk_ext [iblk, V_main_arg1, idx t, row]

theorem blk3 (t : Fin cfg0.N) (k j : Fin 1024) :
    (iblk m c 3 t : FVec Ideal S1024x1024 .bf16) (ix2 k j) = W m c k j := by
  rw [← weight_at]
  blk_ext [iblk, idx t]

theorem blk4 (t : Fin cfg0.N) (k : Fin 1024) : (iblk m c 4 t : FVec Ideal S1x1024 .f32) (ix2 0 k) = GQ m c k := by
  blk_ext [iblk, V_main_arg3, idx t]

theorem blk5 (t : Fin cfg0.N) (k : Fin 1024) (l : Fin 128) :
    (iblk m c 5 t : FVec Ideal S1024x128 .f32) (ix2 k l) = ind k l := by
  rw [← ind_at]
  blk_ext [iblk, idx t]

theorem dm_at (t : Fin cfg0.N) (i : Fin 512) (j : Fin 1024) :
    k0_pay8 (F := Ideal) (iblk m c 1 t) (iblk m c 4 t) (iblk m c 0 t) (ix2 i j) = dm m c (row t i) j := by
  pointwise [k0_pay4, k0_pay5, k0_pay6, k0_pay8, blk0, blk1, blk4, dm, grad, scale, meanSq]

theorem dOut_at (t : Fin cfg0.N) (i : Fin 512) (k : Fin 1024) :
    k0_pay9 (F := Ideal) (iblk m c 1 t) (iblk m c 4 t) (iblk m c 0 t) (iblk m c 3 t) (ix2 i k) = dOut m c (row t i) k := by
  pointwise [k0_pay9, dm_at, blk3, dOut]

/-- The product with the indicator of the heads sums over the head's columns. -/
theorem sum_ind (f : Fin 1024 → EReal) (l : Fin 128) :
    ∑ k, f k * ind k l = if h : l.val < 16 then ∑ p : Fin 64, f ⟨l.val * 64 + p.val, by omega⟩ else 0 := by
  rw [Fin.sum_univ_tiles 16 64 rfl]
  have e : ∀ (a : Fin 16) (p : Fin 64), ind ⟨a.val * 64 + p.val, by omega⟩ l = if a.val = l.val then 1 else 0 := fun a p => by
    unfold ind
    rw [show (a.val * 64 + p.val) / 64 = a.val by omega]
  by_cases h : l.val < 16
  · rw [dif_pos h]
    refine (Finset.sum_eq_single (⟨l.val, h⟩ : Fin 16) (fun a _ ha => ?_) fun hn => absurd (Finset.mem_univ _) hn).trans ?_
    · refine Finset.sum_eq_zero fun p _ => ?_
      refine (congrArg (f _ * ·) (e a p)).trans ?_
      rw [if_neg fun q => ha (Fin.ext q), mul_zero]
    · refine Finset.sum_congr rfl fun p _ => ?_
      refine (congrArg (f _ * ·) (e ⟨l.val, h⟩ p)).trans ?_
      rw [if_pos rfl, mul_one]
  · rw [dif_neg h]
    refine Finset.sum_eq_zero fun a _ => Finset.sum_eq_zero fun p _ => ?_
    refine (congrArg (f _ * ·) (e a p)).trans ?_
    rw [if_neg fun q : a.val = l.val => h (lt_of_eq_of_lt q.symm a.isLt), mul_zero]

theorem delta_at (t : Fin cfg0.N) (i : Fin 512) (l : Fin 128) :
    k0_pay1 (F := Ideal) (k0_pay10 (iblk m c 1 t) (iblk m c 4 t) (iblk m c 0 t) (iblk m c 3 t)) (iblk m c 2 t) (iblk m c 5 t) (ix2 i l) = delta m c (row t i) l := by
  pointwise [k0_pay1, k0_pay10, dOut_at, blk2, blk5]
  exact sum_ind (fun k => dOut m c (row t i) k * O m c (row t i) k) l

/-- What one grid point adds to row `a` of the gain's block. -/
def part (t : Fin cfg0.N) (a : Fin 8) (k : Fin 1024) : EReal :=
  if a.val = 0 then ∑ i : Fin 512, DX m c (row t i) k * (mid m c (row t i) k * scale (mid m c (row t i))) else 0

theorem part_at (t : Fin cfg0.N) (k : Fin 1024) :
    k0_pay7 (F := Ideal) (iblk m c 1 t) (iblk m c 0 t) (ix2 0 k) = part m c t 0 k := by
  pointwise [k0_pay4, k0_pay5, k0_pay6, k0_pay7, blk0, blk1, part, scale, meanSq]

theorem out6 (t : Fin cfg0.N) (i : Fin 512) (j : Fin 1024) : (outsAt0 m c t.val t.isLt).1 (ix2 i j) = dm m c (row t i) j := by
  by_cases h : t.val % 16 = 0
  · rw [outsAt0_A m c t h]; frame_out
    exact dm_at m c t i j
  · rw [outsAt0_B m c t h]; frame_out
    exact dm_at m c t i j

theorem out7 (t : Fin cfg0.N) (i : Fin 512) (j : Fin 1024) : (outsAt0 m c t.val t.isLt).2.1 (ix2 i j) = dOut m c (row t i) j := by
  by_cases h : t.val % 16 = 0
  · rw [outsAt0_A m c t h]; frame_out
    exact dOut_at m c t i j
  · rw [outsAt0_B m c t h]; frame_out
    exact dOut_at m c t i j

theorem out8 (t : Fin cfg0.N) (i : Fin 512) (l : Fin 128) : (outsAt0 m c t.val t.isLt).2.2.1 (ix2 i l) = delta m c (row t i) l := by
  by_cases h : t.val % 16 = 0
  · rw [outsAt0_A m c t h]; frame_out
    exact delta_at m c t i l
  · rw [outsAt0_B m c t h]; frame_out
    exact delta_at m c t i l

theorem add_part (p q : FVec Ideal S1x1024 .f32) (k : Fin 1024) {a : EReal} (b : EReal) (hp : p (ix2 0 k) = b) (hq : q (ix2 0 k) = a) :
    k0_pay3 (F := Ideal) p q (ix2 0 k) = a + b := by
  subst hp hq
  pointwise [k0_pay3]

section Rows

variable {κ : Kind} {sp : Space} (v : View sig κ sp S8x1024 .f32) (f : v.ty.Contents (Elt Ideal)) (w : FVec Ideal S1x1024 .f32)
  (z : FVec Ideal S8x1024 .f32) (L : List (View.Piece (Elt Ideal) S8x1024 .f32)) (a : Fin 8) (k : Fin 1024)

/-- Row zero, just written. -/
theorem row0_hit : v.read (Elt Ideal) (v.writes (Elt Ideal) f (⟨Rect.unit (s := S8x1024) ![0, 0] ![1, 1024] inb_S8x1024_S1x1024_0_0, w⟩ :: L)) (ix2 0 k) = w (ix2 0 k) :=
  View.read_writes_cons_rows_of_mem (o := 0) v f _ w L _ (ix2 0 k) rfl rfl rfl

/-- Another row, after a write of row zero. -/
theorem row0_miss (h : a.val ≠ 0) : v.read (Elt Ideal) (v.writes (Elt Ideal) f (⟨Rect.unit (s := S8x1024) ![0, 0] ![1, 1024] inb_S8x1024_S1x1024_0_0, w⟩ :: L)) (ix2 a k)
    = v.read (Elt Ideal) (v.writes (Elt Ideal) f L) (ix2 a k) :=
  View.read_writes_cons_rows_of_not_mem (o := 0) (W := 1) v f _ w L _ rfl rfl (by show a.val < 0 ∨ 1 ≤ a.val; omega)

/-- Any row, after a write of the whole block. -/
theorem whole_hit : v.read (Elt Ideal) (v.writes (Elt Ideal) f (⟨Rect.unit (s := S8x1024) ![0, 0] ![8, 1024] inb_S8x1024_S8x1024_0_0, z⟩ :: L)) (ix2 a k) = z (ix2 a k) :=
  View.read_writes_cons_rows_of_mem (o := 0) v f _ z L _ (ix2 a k) rfl (Nat.zero_add _).symm rfl

end Rows

/-- The first grid point clears the gain's block and adds its part. -/
theorem sums_first (t : Fin cfg0.N) (h : t.val % 16 = 0) (a : Fin 8) (k : Fin 1024) :
    (outsAt0 m c t.val t.isLt).2.2.2 (ix2 a k) = 0 + part m c t a k := by
  rw [outsAt0_A m c t h]
  frame_open
  simp (disch := decide) only [↓ View.readCov_skip, ↓ View.readCov_cons_toLoadRect, ↓ View.readCov_fill]
  frame_out
  rw [← View.read_writes_junk_apply_eq_canon (ms0_9 t).view]
  by_cases h0 : a.val = 0
  · obtain rfl : a = 0 := Fin.ext h0
    refine (row0_hit _ _ _ _ k).trans (add_part _ _ k _ (part_at m c t k) ?_)
    pointwise [k0_pay2]
  refine (row0_miss _ _ _ _ a k h0).trans ?_
  refine (whole_hit _ _ _ _ a k).trans ?_
  pointwise [k0_pay2, part]
  simp only [h0, if_false, add_zero]

/-- Every later grid point adds its part. -/
theorem sums_next (t : Fin cfg0.N) (h : ¬ t.val % 16 = 0) (a : Fin 8) (k : Fin 1024) :
    (outsAt0 m c t.val t.isLt).2.2.2 (ix2 a k)
    = (outsAt0 m c (t.val - 1) (Nat.lt_of_le_of_lt (Nat.sub_le _ _) t.isLt)).2.2.2 (ix2 a k) + part m c t a k := by
  rw [outsAt0_B m c t h]
  frame_out
  by_cases h0 : a.val = 0
  · obtain rfl : a = 0 := Fin.ext h0
    refine (row0_hit _ _ _ _ k).trans (add_part _ _ k _ (part_at m c t k) ?_)
    pointwise
  refine (row0_miss _ _ _ _ a k h0).trans ?_
  rw [View.writes_nil, Memref.IsWhole.read_unread, part, if_neg h0, add_zero]

/-- A sum over the array's rows is a sum over grid points and the rows of a block. -/
theorem sum_rows (f : Fin 8192 → EReal) : ∑ t : Fin cfg0.N, ∑ i : Fin 512, f (row t i) = ∑ r, f r := by
  rw [Fin.sum_univ_tiles 16 512 rfl]
  rfl

/-- The gain's block after the last grid point. -/
theorem sums_last (t : Fin cfg0.N) (h : t.val % 16 = 15) (a : Fin 8) (k : Fin 1024) :
    (outsAt0 m c t.val t.isLt).2.2.2 (ix2 a k) = sums m c a k := by
  have ht := lt_of_lt_of_eq t.isLt N_0
  have key := Pipeline.eq_sum_fin_of_reset_step_apply_last (N := cfg0.N) (fun n h (i : Fin 8 × Fin 1024) => (outsAt0 m c n h).2.2.2 (ix2 i.1 i.2)) 16 (fun _ => (0 : EReal))
    (fun t i => part m c t i.1 i.2) (fun t h i => sums_first m c t h i.1 i.2) (fun t h i => sums_next m c t h i.1 i.2) N_0.le
    t (by show t.val + 1 = grid0.N; rw [N_0]; omega) (a, k)
  refine key.trans ?_
  rw [zero_add]
  unfold part sums
  split_ifs
  · exact sum_rows fun r => DX m c r k * (mid m c r k * scale (mid m c r))
  · exact Finset.sum_const_zero

theorem final6 : (dats m 0 c).arrAt 6 cfg0.N = fun i => dm m c (i 0) (i 1) := by
  refine (dats m 0 c).arrAt_eq_of_covers 6 _ (by decide +kernel) fun t hf y => ?_
  blk_simp
  rw [after0_6]
  idx_vars y
  refine (out6 m c t y0 y1).trans (congrArg₂ (dm m c) (Fin.ext ?_) (Fin.ext ?_)) <;> blk_simp [idx t, row]

theorem final7 : (dats m 0 c).arrAt 7 cfg0.N = fun i => dOut m c (i 0) (i 1) := by
  refine (dats m 0 c).arrAt_eq_of_covers 7 _ (by decide +kernel) fun t hf y => ?_
  blk_simp
  rw [after0_7]
  idx_vars y
  refine (out7 m c t y0 y1).trans (congrArg₂ (dOut m c) (Fin.ext ?_) (Fin.ext ?_)) <;> blk_simp [idx t, row]

theorem final8 : (dats m 0 c).arrAt 8 cfg0.N = fun i => delta m c (i 0) (i 1) := by
  refine (dats m 0 c).arrAt_eq_of_covers 8 _ (by decide +kernel) fun t hf y => ?_
  blk_simp
  rw [after0_8]
  idx_vars y
  refine (out8 m c t y0 y1).trans (congrArg₂ (delta m c) (Fin.ext ?_) (Fin.ext ?_)) <;> blk_simp [idx t, row]

theorem final9 : (dats m 0 c).arrAt 9 cfg0.N = fun i => sums m c (i 0) (i 1) := by
  refine (dats m 0 c).arrAt_eq_of_covers 9 _ (by decide +kernel) fun t hf y => ?_
  blk_simp
  rw [after0_9]
  idx_vars y
  refine (sums_last m c t ((flush0_9 t).mp hf) y0 y1).trans (congrArg₂ (sums m c) (Fin.ext ?_) (Fin.ext ?_)) <;> blk_simp [idx t]

end Cert.Kernel21Ideal.Arrays

end
-- ==== Proof.AttentionExitGrad.lean ====
/- The gradient of the attention's exit: the reference's terms, entry by entry, and that they are the kernel's results. -/
module

public import proofs.«01_k».proof.Proof.Gen.Kernel21Ideal.Value
public import proofs.«01_k».proof.Proof.Gen.Reference21Ideal.Run
public import proofs.«01_k».proof.Proof.AttentionExitSums
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem

namespace Cert.AttentionExitGrad

open Cert Cert.Reference21Ideal Cert.Reference21Ideal.Gen Cert.RowNorm Idealize.ShloMosaic.StableHlo

/-! ## The groups of operations -/

/-- The mean square of every row plus the small constant, as a column. -/
def meanCol (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- Every row divided by the root of its mean square. -/
def normal (x : FVec Ideal S8192x1024 .f32) : FVec Ideal S8192x1024 .f32 :=
  mulf x (broadcastInDim S8192x1024 ![0, 1] bcast_S8192x1_S8192x1024_0_1 (Host.rsqrt (meanCol x)))

/-- A gain row, repeated over all rows. -/
def gain (g : FVec Ideal S1x1024 .f32) : FVec Ideal S8192x1024 .f32 :=
  broadcastInDim S8192x1024 ![0, 1] bcast_S1x1024_S8192x1024_0_1 g

/-- The gradient through the normalisation, `dn` the gradient at the normalised rows. -/
def gradRows (x dn : FVec Ideal S8192x1024 .f32) : FVec Ideal S8192x1024 .f32 :=
  addf (mulf dn (broadcastInDim S8192x1024 ![0, 1] bcast_S8192x1_S8192x1024_0_1 (Host.rsqrt (meanCol x))))
    (mulf (broadcastInDim S8192x1024 ![0] bcast_S8192_S8192x1024_0 (Host.reduceAdd (Host.divf (mulf (shapeCast S8192x1 (Host.reduceAdd (mulf x dn) (constant S_ .f32 0x00000000#32) reducesTo_S8192x1024_S8192_d1 h_S_) shapeCasts_S8192_S8192x1)
        (mulf (broadcastInDim S8192x1 ![] bcast_S_S8192x1 (constant S_ .f32 0xBF000000#32)) (Host.divf (Host.rsqrt (meanCol x)) (meanCol x)))) (broadcastInDim S8192x1 ![] bcast_S_S8192x1 (constant S_ .f32 0x44800000#32))) (constant S_ .f32 0x00000000#32) reducesTo_S8192x1_S8192_d1 h_S_))
      (mulf (broadcastInDim S8192x1024 ![] bcast_S_S8192x1024 (constant S_ .f32 0x40000000#32)) x))

/-- The gradient of the gain: the column sums of the normalised rows times the gradient above. -/
def gradGain (x dy : FVec Ideal S8192x1024 .f32) : FVec Ideal S1x1024 .f32 :=
  shapeCast S1x1024 (Host.reduceAdd (mulf (normal x) dy) (constant S_ .f32 0x00000000#32) reducesTo_S8192x1024_S1024_d0 h_S_) shapeCasts_S1024_S1x1024

section At

variable (x dn dy : FVec Ideal S8192x1024 .f32) (g : FVec Ideal S1x1024 .f32) (r : Fin 8192) (k : Fin 1024)

theorem meanCol_at : meanCol x (ix2 r 0) = meanSq (fun k => x (ix2 r k)) := by
  pointwise [meanCol, meanSq]

theorem normal_at : normal x (ix2 r k) = x (ix2 r k) * scale (fun k => x (ix2 r k)) := by
  pointwise [normal, scale, meanCol_at]

theorem gain_at : gain g (ix2 r k) = g (ix2 0 k) := by
  pointwise [gain]

theorem gradRows_at : gradRows x dn (ix2 r k) = grad (fun k => x (ix2 r k)) (fun k => dn (ix2 r k)) k := by
  rw [← gradRsqrt_eq]
  pointwise [gradRows, gradRsqrt, scale, meanCol_at]
  rw [Fin.sum_univ_one, meanCol_at]

theorem gradGain_at : gradGain x dy (ix2 0 k) = ∑ r : Fin 8192, dy (ix2 r k) * (x (ix2 r k) * scale (fun k => x (ix2 r k))) := by
  pointwise [gradGain, normal_at]
  exact Finset.sum_congr rfl fun r _ => mul_comm _ _

end At

section Stages

variable (m' : (ℓ : Loc nD τ sig) → Buf (Elt Ideal) ℓ) (c : Dev nD)

def midV : FVec Ideal S8192x1024 .f32 := Host.dotGeneral (φ₁ := .f32) (φ₂ := .f32) dot_S8192x1024_S1024x1024_S8192x1024_1_0_0_1_n_n none (m' ((c.tc : Thread nD τ).loc main_arg1)) (m' ((c.tc : Thread nD τ).loc main_arg2))
def dmV : FVec Ideal S8192x1024 .f32 := gradRows (midV m' c) (mulf (m' ((c.tc : Thread nD τ).loc main_arg0)) (gain (m' ((c.tc : Thread nD τ).loc main_arg3))))
def dOutV : FVec Ideal S8192x1024 .f32 := Host.dotGeneral (φ₁ := .f32) (φ₂ := .f32) dot_S8192x1024_S1024x1024_S8192x1024_1_1_0_0_n_n none (dmV m' c) (m' ((c.tc : Thread nD τ).loc main_arg2))
def deltaV : FVec Ideal S8192x128 .f32 :=
  concatenate S8192x128 1 [⟨S8192x16, Host.reduceAdd (shapeCast S8192x16x64 (mulf (dOutV m' c) (m' ((c.tc : Thread nD τ).loc main_arg1))) shapeCasts_S8192x1024_S8192x16x64) (constant S_ .f32 0x00000000#32) reducesTo_S8192x16x64_S8192x16_d2 h_S_⟩,
    ⟨S8192x112, broadcastInDim S8192x112 ![] bcast_S_S8192x112 (constant S_ .f32 0x00000000#32)⟩] concatenates_S8192x16_S8192x112_S8192x128_d1
def sumsV : FVec Ideal S8x1024 .f32 :=
  concatenate S8x1024 0 [⟨S1x1024, gradGain (midV m' c) (m' ((c.tc : Thread nD τ).loc main_arg0))⟩,
    ⟨S7x1024, broadcastInDim S7x1024 ![] bcast_S_S7x1024 (constant S_ .f32 0x00000000#32)⟩] concatenates_S1x1024_S7x1024_S8x1024_d0

end Stages

variable (m : (ℓ : Loc Kernel21Ideal.nD Kernel21Ideal.τ Kernel21Ideal.sig) → Buf (Elt Ideal) ℓ)
  (m' : (ℓ : Loc nD τ sig) → Buf (Elt Ideal) ℓ) (c : Dev nD)
  (h0 : m' ((c.tc : Thread nD τ).loc main_arg0) = m ((c.tc : Thread Kernel21Ideal.nD Kernel21Ideal.τ).loc Kernel21Ideal.main_arg0))
  (h1 : m' ((c.tc : Thread nD τ).loc main_arg1) = m ((c.tc : Thread Kernel21Ideal.nD Kernel21Ideal.τ).loc Kernel21Ideal.main_arg1))
  (h2 : m' ((c.tc : Thread nD τ).loc main_arg2) = m ((c.tc : Thread Kernel21Ideal.nD Kernel21Ideal.τ).loc Kernel21Ideal.main_arg2))
  (h3 : m' ((c.tc : Thread nD τ).loc main_arg3) = m ((c.tc : Thread Kernel21Ideal.nD Kernel21Ideal.τ).loc Kernel21Ideal.main_arg3))
include h0 h1 h2 h3

theorem midV_at (r : Fin 8192) (k : Fin 1024) : midV m' c (ix2 r k) = Kernel21Ideal.Arrays.mid m c r k := by
  unfold midV
  rw [h1, h2]
  pointwise [Kernel21Ideal.Arrays.mid]

theorem dmV_at (r : Fin 8192) (k : Fin 1024) : dmV m' c (ix2 r k) = Kernel21Ideal.Arrays.dm m c r k := by
  unfold dmV
  rw [gradRows_at]
  simp only [midV_at m m' c h0 h1 h2 h3, h0, h3]
  pointwise [Kernel21Ideal.Arrays.dm, gain_at]

theorem dOutV_at (r : Fin 8192) (k : Fin 1024) : dOutV m' c (ix2 r k) = Kernel21Ideal.Arrays.dOut m c r k := by
  have p := dmV_at m m' c h0 h1 h2 h3
  unfold dOutV
  rw [h2]
  pointwise [p, Kernel21Ideal.Arrays.dOut]

theorem deltaV_at (r : Fin 8192) (l : Fin 128) : deltaV m' c (ix2 r l) = Kernel21Ideal.Arrays.delta m c r l := by
  have p := dOutV_at m m' c h0 h1 h2 h3
  unfold deltaV
  rw [h1]
  by_cases h : l.val < 16 <;> pointwise [p, Kernel21Ideal.Arrays.delta, h]

theorem sumsV_at (a : Fin 8) (k : Fin 1024) : sumsV m' c (ix2 a k) = Kernel21Ideal.Arrays.sums m c a k := by
  have p := midV_at m m' c h0 h1 h2 h3
  unfold sumsV
  rw [h0]
  fin_cases a <;> pointwise [gradGain_at, p, Kernel21Ideal.Arrays.sums]

theorem dm16_at (r : Fin 8192) (k : Fin 1024) : truncf (F := Ideal) .bf16 (dmV m' c) bitsLt_bf16_f32 (ix2 r k) = Kernel21Ideal.Arrays.dm m c r k := by
  have p := dmV_at m m' c h0 h1 h2 h3
  pointwise [p]

theorem dOut16_at (r : Fin 8192) (k : Fin 1024) : truncf (F := Ideal) .bf16 (dOutV m' c) bitsLt_bf16_f32 (ix2 r k) = Kernel21Ideal.Arrays.dOut m c r k := by
  have p := dOutV_at m m' c h0 h1 h2 h3
  pointwise [p]

/-- The gradients at the product are equal. -/
theorem result0 : (truncf .bf16 (addf (mulf (mulf (m' ((c.tc : Thread nD τ).loc main_arg0)) (broadcastInDim S8192x1024 ![0, 1] bcast_S1x1024_S8192x1024_0_1 (m' ((c.tc : Thread nD τ).loc main_arg3)))) (broadcastInDim S8192x1024 ![0, 1] bcast_S8192x1_S8192x1024_0_1 (Host.rsqrt (addf (Host.divf (broadcastInDim S8192x1 ![0] bcast_S8192_S8192x1_0 (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (Host.dotGeneral dot_S8192x1024_S1024x1024_S8192x1024_1_0_0_1_n_n none (φ₁ := .f32) (φ₂ := .f32) (m' ((c.tc : Thread nD τ).loc main_arg1)) (m' ((c.tc : Thread nD τ).loc main_arg2)))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (mulf (broadcastInDim S8192x1024 ![0] bcast_S8192_S8192x1024_0 (Host.reduceAdd (Host.divf (mulf (shapeCast _ (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (mulf (m' ((c.tc : Thread nD τ).loc main_arg0)) (broadcastInDim S8192x1024 ![0, 1] bcast_S1x1024_S8192x1024_0_1 (m' ((c.tc : Thread nD τ).loc main_arg3))))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (Host.dotGeneral dot_S8192x1024_S1024x1024_S8192x1024_1_0_0_1_n_n none (φ₁ := .f32) (φ₂ := .f32) (m' ((c.tc : Thread nD τ).loc main_arg1)) (m' ((c.tc : Thread nD τ).loc main_arg2)))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (Host.dotGeneral dot_S8192x1024_S1024x1024_S8192x1024_1_0_0_1_n_n none (φ₁ := .f32) (φ₂ := .f32) (m' ((c.tc : Thread nD τ).loc main_arg1)) (m' ((c.tc : Thread nD τ).loc main_arg2)))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)) (mulf (broadcastInDim S8192x1024 ![] bcast_S_S8192x1024 (constant (F := Ideal) S_ .f32 0x40000000#32)) (Host.dotGeneral dot_S8192x1024_S1024x1024_S8192x1024_1_0_0_1_n_n none (φ₁ := .f32) (φ₂ := .f32) (m' ((c.tc : Thread nD τ).loc main_arg1)) (m' ((c.tc : Thread nD τ).loc main_arg2)))))) bitsLt_bf16_f32 : FVec Ideal S8192x1024 .bf16)
    = (Kernel21Ideal.Gen.dats m 0 c).arrAt 6 Kernel21Ideal.cfg0.N := by
  rw [Kernel21Ideal.Arrays.final6]
  refine (show _ = truncf (F := Ideal) .bf16 (dmV m' c) bitsLt_bf16_f32 from rfl).trans ?_
  funext y
  idx_vars y
  exact dm16_at m m' c h0 h1 h2 h3 y0 y1

/-- The gradients at the attention's output are equal. -/
theorem result1 : (truncf .bf16 (Host.dotGeneral dot_S8192x1024_S1024x1024_S8192x1024_1_1_0_0_n_n none (φ₁ := .f32) (φ₂ := .f32) (addf (mulf (mulf (m' ((c.tc : Thread nD τ).loc main_arg0)) (broadcastInDim S8192x1024 ![0, 1] bcast_S1x1024_S8192x1024_0_1 (m' ((c.tc : Thread nD τ).loc main_arg3)))) (broadcastInDim S8192x1024 ![0, 1] bcast_S8192x1_S8192x1024_0_1 (Host.rsqrt (addf (Host.divf (broadcastInDim S8192x1 ![0] bcast_S8192_S8192x1_0 (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (Host.dotGeneral dot_S8192x1024_S1024x1024_S8192x1024_1_0_0_1_n_n none (φ₁ := .f32) (φ₂ := .f32) (m' ((c.tc : Thread nD τ).loc main_arg1)) (m' ((c.tc : Thread nD τ).loc main_arg2)))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (mulf (broadcastInDim S8192x1024 ![0] bcast_S8192_S8192x1024_0 (Host.reduceAdd (Host.divf (mulf (shapeCast _ (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (mulf (m' ((c.tc : Thread nD τ).loc main_arg0)) (broadcastInDim S8192x1024 ![0, 1] bcast_S1x1024_S8192x1024_0_1 (m' ((c.tc : Thread nD τ).loc main_arg3))))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (Host.dotGeneral dot_S8192x1024_S1024x1024_S8192x1024_1_0_0_1_n_n none (φ₁ := .f32) (φ₂ := .f32) (m' ((c.tc : Thread nD τ).loc main_arg1)) (m' ((c.tc : Thread nD τ).loc main_arg2)))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (Host.dotGeneral dot_S8192x1024_S1024x1024_S8192x1024_1_0_0_1_n_n none (φ₁ := .f32) (φ₂ := .f32) (m' ((c.tc : Thread nD τ).loc main_arg1)) (m' ((c.tc : Thread nD τ).loc main_arg2)))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)) (mulf (broadcastInDim S8192x1024 ![] bcast_S_S8192x1024 (constant (F := Ideal) S_ .f32 0x40000000#32)) (Host.dotGeneral dot_S8192x1024_S1024x1024_S8192x1024_1_0_0_1_n_n none (φ₁ := .f32) (φ₂ := .f32) (m' ((c.tc : Thread nD τ).loc main_arg1)) (m' ((c.tc : Thread nD τ).loc main_arg2)))))) (m' ((c.tc : Thread nD τ).loc main_arg2))) bitsLt_bf16_f32 : FVec Ideal S8192x1024 .bf16)
    = (Kernel21Ideal.Gen.dats m 0 c).arrAt 7 Kernel21Ideal.cfg0.N := by
  rw [Kernel21Ideal.Arrays.final7]
  refine (show _ = truncf (F := Ideal) .bf16 (dOutV m' c) bitsLt_bf16_f32 from rfl).trans ?_
  funext y
  idx_vars y
  exact dOut16_at m m' c h0 h1 h2 h3 y0 y1

/-- The heads' sums are equal. -/
theorem result2 : (concatenate S8192x128 1 [⟨S8192x16, (Host.reduceAdd (shapeCast _ (mulf (Host.dotGeneral dot_S8192x1024_S1024x1024_S8192x1024_1_1_0_0_n_n none (φ₁ := .f32) (φ₂ := .f32) (addf (mulf (mulf (m' ((c.tc : Thread nD τ).loc main_arg0)) (broadcastInDim S8192x1024 ![0, 1] bcast_S1x1024_S8192x1024_0_1 (m' ((c.tc : Thread nD τ).loc main_arg3)))) (broadcastInDim S8192x1024 ![0, 1] bcast_S8192x1_S8192x1024_0_1 (Host.rsqrt (addf (Host.divf (broadcastInDim S8192x1 ![0] bcast_S8192_S8192x1_0 (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (Host.dotGeneral dot_S8192x1024_S1024x1024_S8192x1024_1_0_0_1_n_n none (φ₁ := .f32) (φ₂ := .f32) (m' ((c.tc : Thread nD τ).loc main_arg1)) (m' ((c.tc : Thread nD τ).loc main_arg2)))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (mulf (broadcastInDim S8192x1024 ![0] bcast_S8192_S8192x1024_0 (Host.reduceAdd (Host.divf (mulf (shapeCast _ (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (mulf (m' ((c.tc : Thread nD τ).loc main_arg0)) (broadcastInDim S8192x1024 ![0, 1] bcast_S1x1024_S8192x1024_0_1 (m' ((c.tc : Thread nD τ).loc main_arg3))))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (Host.rsqrt (addf (Host.divf (broadcastInDim S8192x1 ![0] bcast_S8192_S8192x1_0 (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (Host.dotGeneral dot_S8192x1024_S1024x1024_S8192x1024_1_0_0_1_n_n none (φ₁ := .f32) (φ₂ := .f32) (m' ((c.tc : Thread nD τ).loc main_arg1)) (m' ((c.tc : Thread nD τ).loc main_arg2)))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))) (addf (Host.divf (broadcastInDim S8192x1 ![0] bcast_S8192_S8192x1_0 (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (Host.dotGeneral dot_S8192x1024_S1024x1024_S8192x1024_1_0_0_1_n_n none (φ₁ := .f32) (φ₂ := .f32) (m' ((c.tc : Thread nD τ).loc main_arg1)) (m' ((c.tc : Thread nD τ).loc main_arg2)))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1 ![] bcast_S_S8192x1 (constant (F := Ideal) S_ .f32 0x44800000#32))) (constant (F := Ideal) S_ .f32 0x00000000#32) reducesTo_S8192x1_S8192_d1 h_S_)) (mulf (broadcastInDim S8192x1024 ![] bcast_S_S8192x1024 (constant (F := Ideal) S_ .f32 0x40000000#32)) (Host.dotGeneral dot_S8192x1024_S1024x1024_S8192x1024_1_0_0_1_n_n none (φ₁ := .f32) (φ₂ := .f32) (m' ((c.tc : Thread nD τ).loc main_arg1)) (m' ((c.tc : Thread nD τ).loc main_arg2)))))) (m' ((c.tc : Thread nD τ).loc main_arg2))) (m' ((c.tc : Thread nD τ).loc main_arg1))) shapeCasts_S8192x1024_S8192x16x64) (constant (F := Ideal) S_ .f32 0x00000000#32) reducesTo_S8192x16x64_S8192x16_d2 h_S_)⟩, ⟨S8192x112, (broadcastInDim S8192x112 ![] bcast_S_S8192x112 (constant (F := Ideal) S_ .f32 0x00000000#32))⟩] concatenates_S8192x16_S8192x112_S8192x128_d1 : FVec Ideal S8192x128 .f32)
    = (Kernel21Ideal.Gen.dats m 0 c).arrAt 8 Kernel21Ideal.cfg0.N := by
  rw [Kernel21Ideal.Arrays.final8]
  refine (show _ = deltaV m' c from rfl).trans ?_
  funext y
  idx_vars y
  exact deltaV_at m m' c h0 h1 h2 h3 y0 y1

/-- The gain's gradients are equal. -/
theorem result3 : (concatenate S8x1024 0 [⟨S1x1024, (shapeCast _ (Host.reduceAdd (mulf (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (broadcastInDim S8192x1024 ![0, 1] bcast_S8192x1_S8192x1024_0_1 (Host.rsqrt (addf (Host.divf (broadcastInDim S8192x1 ![0] bcast_S8192_S8192x1_0 (Host.reduceAdd (mulf (Host.dotGeneral dot_S8192x1024_S1024x1024_S8192x1024_1_0_0_1_n_n none (φ₁ := .f32) (φ₂ := .f32) (m' ((c.tc : Thread nD τ).loc main_arg1)) (m' ((c.tc : Thread nD τ).loc main_arg2))) (Host.dotGeneral dot_S8192x1024_S1024x1024_S8192x1024_1_0_0_1_n_n none (φ₁ := .f32) (φ₂ := .f32) (m' ((c.tc : Thread nD τ).loc main_arg1)) (m' ((c.tc : Thread nD τ).loc main_arg2)))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (m' ((c.tc : Thread nD τ).loc main_arg0))) (constant (F := Ideal) S_ .f32 0x00000000#32) reducesTo_S8192x1024_S1024_d0 h_S_) shapeCasts_S1024_S1x1024)⟩, ⟨S7x1024, (broadcastInDim S7x1024 ![] bcast_S_S7x1024 (constant (F := Ideal) S_ .f32 0x00000000#32))⟩] concatenates_S1x1024_S7x1024_S8x1024_d0 : FVec Ideal S8x1024 .f32)
    = (Kernel21Ideal.Gen.dats m 0 c).arrAt 9 Kernel21Ideal.cfg0.N := by
  rw [Kernel21Ideal.Arrays.final9]
  refine (show _ = sumsV m' c from rfl).trans ?_
  funext y
  idx_vars y
  exact sumsV_at m m' c h0 h1 h2 h3 y0 y1

end Cert.AttentionExitGrad

end
-- ==== Proof.AttentionEntryBlock.lean ====
/- The gradient of the attention's entrance, kernel side: what the host prepares and what one grid point computes. -/
module

public import proofs.«01_k».proof.Proof.Gen.Kernel22Ideal.Value
public import proofs.«01_k».proof.Proof.Gen.Reference22Ideal.Run
public import proofs.«01_k».proof.Proof.RowNorm
public import proofs.«01_k».proof.Proof.LogGate
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384
set_option maxHeartbeats 1000000

noncomputable section

open Idealize.ShloMosaic Idealize.ShloMosaic.TcCoe Idealize.SL.Sem

namespace Cert.Kernel22Ideal.Arrays

open Cert.Kernel22Ideal Cert.Kernel22Ideal.Gen Cert.RowNorm Cert.LogGate

variable (m : (ℓ : Loc nD τ sig) → Buf (Elt Ideal) ℓ) (c : Dev nD)

/-- The gradient at the layer's output, the layer's input, the gain, the entrance weight and the gate's offset. -/
abbrev DXO (r : Fin 8192) (k : Fin 1024) : EReal := m ((c : Thread nD τ).loc main_arg0) (ix2 r k)
abbrev X (r : Fin 8192) (k : Fin 1024) : EReal := m ((c : Thread nD τ).loc main_arg1) (ix2 r k)
abbrev GP (k : Fin 1024) : EReal := m ((c : Thread nD τ).loc main_arg2) (ix2 0 k)
abbrev W (k : Fin 1024) (j : Fin 3088) : EReal := m ((c : Thread nD τ).loc main_arg3) (ix2 k j)
abbrev BF (l : Fin 16) : EReal := m ((c : Thread nD τ).loc main_arg4) (ix2 0 l)

/-- The gradients at queries, keys, values and the gate's logarithm. -/
abbrev DQ (r : Fin 8192) (k : Fin 1024) : EReal := m ((c : Thread nD τ).loc main_arg5) (ix2 r k)
abbrev DK (r : Fin 8192) (k : Fin 1024) : EReal := m ((c : Thread nD τ).loc main_arg6) (ix2 r k)
abbrev DV (r : Fin 8192) (k : Fin 1024) : EReal := m ((c : Thread nD τ).loc main_arg7) (ix2 r k)
abbrev DL (r : Fin 8192) (l : Fin 128) : EReal := m ((c : Thread nD τ).loc main_arg8) (ix2 r l)

/-- The normalised input. -/
def normed (r : Fin 8192) (k : Fin 1024) : EReal := X m c r k * scale (X m c r) * GP m c k

/-- The forget gate before its logarithm. -/
def gateIn (r : Fin 8192) (l : Fin 16) : EReal := ∑ k, normed m c r k * W m c k ⟨3072 + l.val, by omega⟩ + BF m c l

/-- The gradient at the forget gate. -/
def df (r : Fin 8192) (l : Fin 16) : EReal := DL m c r ⟨l.val, by omega⟩ * (1 - Ideal.exp (logGate (gateIn m c r l)))

/-- The same with zero lanes. -/
def dfPad (r : Fin 8192) (l : Fin 128) : EReal := if h : l.val < 16 then df m c r ⟨l.val, h⟩ else 0

/-- The gradient at the normalised input. -/
def dh (r : Fin 8192) (k : Fin 1024) : EReal :=
  ∑ j : Fin 1024, DQ m c r j * W m c k ⟨j.val, by omega⟩ + ∑ j : Fin 1024, DK m c r j * W m c k ⟨1024 + j.val, by omega⟩
    + ∑ j : Fin 1024, DV m c r j * W m c k ⟨2048 + j.val, by omega⟩ + ∑ l : Fin 16, df m c r l * W m c k ⟨3072 + l.val, by omega⟩

/-- The gradient at the layer's input. -/
def dx (r : Fin 8192) (k : Fin 1024) : EReal := DXO m c r k + grad (X m c r) (fun k => dh m c r k * GP m c k) k

/-- The gain's gradient, in row zero. -/
def sums (a : Fin 8) (k : Fin 1024) : EReal := if a.val = 0 then ∑ r, dh m c r k * (X m c r k * scale (X m c r)) else 0

/-- The offset's gradient. -/
def db (l : Fin 128) : EReal := ∑ r, dfPad m c r l

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![0, 0] ∧ win0_9.index t = ![0, 0] ∧ win0_10.index t = ![t.val, 0] ∧ win0_11.index t = ![t.val, 0]
    ∧ win0_12.index t = ![t.val, 0] ∧ win0_13.index t = ![0, 0] ∧ win0_14.index t = ![0, 0] :=
  (by decide +kernel : ∀ t : Fin grid0.N, _)

/-- The array row of a block's row. -/
def row (t : Fin cfg0.N) (i : Fin 512) : Fin 8192 := ⟨t.val * 512 + i.val, by have := lt_of_lt_of_eq t.isLt N_0; omega⟩

theorem weight_at (k : Fin 1024) (j : Fin 3072) : (V m c main_v1 : FVec Ideal S1024x3072 .bf16) (ix2 k j) = W m c k ⟨j.val, by omega⟩ := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

/-- The gate's weight with zero lanes. -/
def gateWeight (k : Fin 1024) (l : Fin 128) : EReal := if h : l.val < 16 then W m c k ⟨3072 + l.val, by omega⟩ else 0

theorem gateWeight_at (k : Fin 1024) (l : Fin 128) : (V m c main_v5 : FVec Ideal S1024x128 .bf16) (ix2 k l) = gateWeight m c k l := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  by_cases h : l.val < 16 <;> pointwise [h, gateWeight]

theorem dq_at (r : Fin 8192) (k : Fin 1024) : (V m c main_v28 : FVec Ideal S8192x1024 .bf16) (ix2 r k) = DQ m c r k := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem dk_at (r : Fin 8192) (k : Fin 1024) : (V m c main_v29 : FVec Ideal S8192x1024 .bf16) (ix2 r k) = DK m c r k := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem dv_at (r : Fin 8192) (k : Fin 1024) : (V m c main_v30 : FVec Ideal S8192x1024 .bf16) (ix2 r k) = DV m c r k := by
  simp only [V, hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

/-- The gate's logarithm with zero lanes. -/
def lf (r : Fin 8192) (l : Fin 128) : EReal := if h : l.val < 16 then logGate (gateIn m c r ⟨l.val, h⟩) else 0

/-- The gate's logarithm, before it is padded. -/
theorem logs_at (r : Fin 8192) (l : Fin 16) : (V m c main_v25 : FVec Ideal S8192x16 .f32) (ix2 r l) = logGate (gateIn m c r l) := by
  simp only [V, hostOps0, hostOps0_1, hostOps0_2, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  entry_read
  rw [← softplus_eq]
  pointwise [gateIn, normed, scale, meanSq, softplus, Ideal.log1p]
  rw [if_neg (not_not_intro rfl)]
  rfl

theorem zeros_eq : (V m c main_v26 : FVec Ideal S8192x112 .f32) = broadcastInDim S8192x112 ![] bcast_S_S8192x112 (constant (F := Ideal) S_ .f32 0x00000000#32) := by
  simp only [V, hostOps0, hostOps0_1, hostOps0_2, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  entry_read
  rfl

theorem lf_eq : (V m c main_v27 : FVec Ideal S8192x128 .f32) = concatenate S8192x128 1 [⟨S8192x16, (V m c main_v25 : FVec Ideal S8192x16 .f32)⟩, ⟨S8192x112, (V m c main_v26 : FVec Ideal S8192x112 .f32)⟩] concatenates_S8192x16_S8192x112_S8192x128_d1 := rfl

theorem lf_at (r : Fin 8192) (l : Fin 128) : (V m c main_v27 : FVec Ideal S8192x128 .f32) (ix2 r l) = lf m c r l := by
  have p := logs_at m c r
  rw [lf_eq, zeros_eq]
  generalize (V m c main_v25 : FVec Ideal S8192x16 .f32) = v at p ⊢
  by_cases h : l.val < 16 <;> pointwise [h, lf, p]

theorem blk0 (t : Fin cfg0.N) (i : Fin 512) (k : Fin 1024) :
    (iblk m c 0 t : FVec Ideal S512x1024 .f32) (ix2 i k) = DXO m c (row t i) k := by
  blk_ext [iblk, V_main_arg0, idx t, row]

theorem blk1 (t : Fin cfg0.N) (i : Fin 512) (k : Fin 1024) :
    (iblk m c 1 t : FVec Ideal S512x1024 .f32) (ix2 i k) = X m c (row t i) k := by
  blk_ext [iblk, V_main_arg1, idx t, row]

theorem blk2 (t : Fin cfg0.N) (k : Fin 1024) : (iblk m c 2 t : FVec Ideal S1x1024 .f32) (ix2 0 k) = GP m c k := by
  blk_ext [iblk, V_main_arg2, idx t]

theorem blk3 (t : Fin cfg0.N) (i : Fin 512) (k : Fin 1024) :
    (iblk m c 3 t : FVec Ideal S512x1024 .bf16) (ix2 i k) = DQ m c (row t i) k := by
  rw [← dq_at]
  blk_ext [iblk, idx t, row]

theorem blk4 (t : Fin cfg0.N) (i : Fin 512) (k : Fin 1024) :
    (iblk m c 4 t : FVec Ideal S512x1024 .bf16) (ix2 i k) = DK m c (row t i) k := by
  rw [← dk_at]
  blk_ext [iblk, idx t, row]

theorem blk5 (t : Fin cfg0.N) (i : Fin 512) (k : Fin 1024) :
    (iblk m c 5 t : FVec Ideal S512x1024 .bf16) (ix2 i k) = DV m c (row t i) k := by
  rw [← dv_at]
  blk_ext [iblk, idx t, row]

theorem blk6 (t : Fin cfg0.N) (i : Fin 512) (k : Fin 128) :
    (iblk m c 6 t : FVec Ideal S512x128 .f32) (ix2 i k) = DL m c (row t i) k := by
  blk_ext [iblk, V_main_arg8, idx t, row]

theorem blk7 (t : Fin cfg0.N) (i : Fin 512) (k : Fin 128) :
    (iblk m c 7 t : FVec Ideal S512x128 .f32) (ix2 i k) = lf m c (row t i) k := by
  rw [← lf_at]
  blk_ext [iblk, idx t, row]

theorem blk8 (t : Fin cfg0.N) (k : Fin 1024) (j : Fin 3072) :
    (iblk m c 8 t : FVec Ideal S1024x3072 .bf16) (ix2 k j) = W m c k ⟨j.val, by omega⟩ := by
  rw [← weight_at]
  blk_ext [iblk, idx t]

theorem blk9 (t : Fin cfg0.N) (k : Fin 1024) (l : Fin 128) :
    (iblk m c 9 t : FVec Ideal S1024x128 .bf16) (ix2 k l) = gateWeight m c k l := by
  rw [← gateWeight_at]
  blk_ext [iblk, idx t]

/-- The comparison of a lane's number with sixteen. -/
theorem lane : ∀ l : Fin 128, IntOp.cmpi CmpIPredicate.slt (BitVec.ofNat 32 l.val) 16#32 = BitVec.ofBool (decide (l.val < 16)) := by decide +kernel

theorem df_at (t : Fin cfg0.N) (i : Fin 512) (l : Fin 128) :
    k0_pay7 (F := Ideal) (iblk m c 6 t) (iblk m c 7 t) (ix2 i l) = dfPad m c (row t i) l := by
  by_cases h : l.val < 16
  · pointwise [k0_pay7, blk6, blk7, dfPad, df, lf, h]
    rw [lane, decide_eq_true h]
    rfl
  · pointwise [k0_pay7, dfPad, h]
    rw [lane, decide_eq_false h]
    rfl

theorem df16_at (t : Fin cfg0.N) (i : Fin 512) (l : Fin 128) :
    k0_pay8 (F := Ideal) (iblk m c 6 t) (iblk m c 7 t) (ix2 i l) = dfPad m c (row t i) l := by
  pointwise [k0_pay8, df_at]

theorem normed_at (t : Fin cfg0.N) (i : Fin 512) (k : Fin 1024) :
    k0_pay6 (F := Ideal) (iblk m c 1 t) (iblk m c 2 t) (ix2 i k) = normed m c (row t i) k := by
  pointwise [k0_pay6, blk1, blk2, normed, scale, meanSq]

/-- The product of the gate's gradient with the padded weight runs over the sixteen columns. -/
theorem sixteen (r : Fin 8192) (k : Fin 1024) :
    ∑ l : Fin 128, dfPad m c r l * gateWeight m c k l = ∑ l : Fin 16, df m c r l * W m c k ⟨3072 + l.val, by omega⟩ := by
  show ∑ l : Fin (16 + 112), dfPad m c r l * gateWeight m c k l = _
  rw [Fin.sum_univ_add]
  refine (congrArg₂ (· + ·) (Finset.sum_congr rfl fun l _ => ?_) (Finset.sum_eq_zero fun l _ => ?_)).trans (add_zero _)
  · unfold dfPad gateWeight
    rw [dif_pos (show (Fin.castAdd 112 l).val < 16 from l.isLt), dif_pos (show (Fin.castAdd 112 l).val < 16 from l.isLt)]
    rfl
  · unfold dfPad
    rw [dif_neg (show ¬ (Fin.natAdd 16 l).val < 16 from by show ¬ 16 + l.val < 16; omega), zero_mul]

/-- The gradient at the normalised input, of one block. -/
abbrev hid (t : Fin cfg0.N) : FVec Ideal S512x1024 .f32 :=
  k0_pay10 (F := Ideal) (k0_pay8 (iblk m c 6 t) (iblk m c 7 t)) (k0_pay9 (iblk m c 3 t))
    (View.ld (Val := Elt Ideal) (S := S1024x3072) (e' := .bf16) (iblk m c 8 t) (Rect.unit (s := S1024x3072) ![0, 0] ![1024, 1024] inb_S1024x3072_S1024x1024_0_0))
    (iblk m c 4 t) (View.ld (Val := Elt Ideal) (S := S1024x3072) (e' := .bf16) (iblk m c 8 t) (Rect.unit (s := S1024x3072) ![0, 1024] ![1024, 1024] inb_S1024x3072_S1024x1024_0_1024))
    (iblk m c 5 t) (View.ld (Val := Elt Ideal) (S := S1024x3072) (e' := .bf16) (iblk m c 8 t) (Rect.unit (s := S1024x3072) ![0, 2048] ![1024, 1024] inb_S1024x3072_S1024x1024_0_2048))
    (iblk m c 9 t)

theorem hid_at (t : Fin cfg0.N) (i : Fin 512) (k : Fin 1024) : hid m c t (ix2 i k) = dh m c (row t i) k := by
  pointwise [hid, k0_pay9, k0_pay10, df16_at, blk3, blk4, blk5, blk8, blk9, dh, sixteen]

theorem dx_block (t : Fin cfg0.N) (i : Fin 512) (j : Fin 1024) :
    k0_pay1 (F := Ideal) (k0_pay11 (iblk m c 1 t)) (k0_pay12 (iblk m c 1 t)) (k0_pay14 (k0_pay8 (iblk m c 6 t) (iblk m c 7 t)) (k0_pay9 (iblk m c 3 t))
    (View.ld (Val := Elt Ideal) (S := S1024x3072) (e' := .bf16) (iblk m c 8 t) (Rect.unit (s := S1024x3072) ![0, 0] ![1024, 1024] inb_S1024x3072_S1024x1024_0_0))
    (iblk m c 4 t) (View.ld (Val := Elt Ideal) (S := S1024x3072) (e' := .bf16) (iblk m c 8 t) (Rect.unit (s := S1024x3072) ![0, 1024] ![1024, 1024] inb_S1024x3072_S1024x1024_0_1024))
    (iblk m c 5 t) (View.ld (Val := Elt Ideal) (S := S1024x3072) (e' := .bf16) (iblk m c 8 t) (Rect.unit (s := S1024x3072) ![0, 2048] ![1024, 1024] inb_S1024x3072_S1024x1024_0_2048))
    (iblk m c 9 t) (iblk m c 2 t))
      (k0_pay15 (iblk m c 1 t) (k0_pay8 (iblk m c 6 t) (iblk m c 7 t)) (k0_pay9 (iblk m c 3 t))
    (View.ld (Val := Elt Ideal) (S := S1024x3072) (e' := .bf16) (iblk m c 8 t) (Rect.unit (s := S1024x3072) ![0, 0] ![1024, 1024] inb_S1024x3072_S1024x1024_0_0))
    (iblk m c 4 t) (View.ld (Val := Elt Ideal) (S := S1024x3072) (e' := .bf16) (iblk m c 8 t) (Rect.unit (s := S1024x3072) ![0, 1024] ![1024, 1024] inb_S1024x3072_S1024x1024_0_1024))
    (iblk m c 5 t) (View.ld (Val := Elt Ideal) (S := S1024x3072) (e' := .bf16) (iblk m c 8 t) (Rect.unit (s := S1024x3072) ![0, 2048] ![1024, 1024] inb_S1024x3072_S1024x1024_0_2048))
    (iblk m c 9 t) (iblk m c 2 t)) k0_pay16 (iblk m c 0 t) (ix2 i j)
    = DXO m c (row t i) j + grad (X m c (row t i)) (fun k => hid m c t (ix2 i k) * GP m c k) j := by
  pointwise [k0_pay1, k0_pay11, k0_pay12, k0_pay14, k0_pay15, k0_pay16, blk0, blk1, blk2, grad, scale, meanSq]

theorem dx_at (t : Fin cfg0.N) (i : Fin 512) (j : Fin 1024) :
    k0_pay1 (F := Ideal) (k0_pay11 (iblk m c 1 t)) (k0_pay12 (iblk m c 1 t)) (k0_pay14 (k0_pay8 (iblk m c 6 t) (iblk m c 7 t)) (k0_pay9 (iblk m c 3 t))
    (View.ld (Val := Elt Ideal) (S := S1024x3072) (e' := .bf16) (iblk m c 8 t) (Rect.unit (s := S1024x3072) ![0, 0] ![1024, 1024] inb_S1024x3072_S1024x1024_0_0))
    (iblk m c 4 t) (View.ld (Val := Elt Ideal) (S := S1024x3072) (e' := .bf16) (iblk m c 8 t) (Rect.unit (s := S1024x3072) ![0, 1024] ![1024, 1024] inb_S1024x3072_S1024x1024_0_1024))
    (iblk m c 5 t) (View.ld (Val := Elt Ideal) (S := S1024x3072) (e' := .bf16) (iblk m c 8 t) (Rect.unit (s := S1024x3072) ![0, 2048] ![1024, 1024] inb_S1024x3072_S1024x1024_0_2048))
    (iblk m c 9 t) (iblk m c 2 t))
      (k0_pay15 (iblk m c 1 t) (k0_pay8 (iblk m c 6 t) (iblk m c 7 t)) (k0_pay9 (iblk m c 3 t))
    (View.ld (Val := Elt Ideal) (S := S1024x3072) (e' := .bf16) (iblk m c 8 t) (Rect.unit (s := S1024x3072) ![0, 0] ![1024, 1024] inb_S1024x3072_S1024x1024_0_0))
    (iblk m c 4 t) (View.ld (Val := Elt Ideal) (S := S1024x3072) (e' := .bf16) (iblk m c 8 t) (Rect.unit (s := S1024x3072) ![0, 1024] ![1024, 1024] inb_S1024x3072_S1024x1024_0_1024))
    (iblk m c 5 t) (View.ld (Val := Elt Ideal) (S := S1024x3072) (e' := .bf16) (iblk m c 8 t) (Rect.unit (s := S1024x3072) ![0, 2048] ![1024, 1024] inb_S1024x3072_S1024x1024_0_2048))
    (iblk m c 9 t) (iblk m c 2 t)) k0_pay16 (iblk m c 0 t) (ix2 i j)
    = dx m c (row t i) j :=
  (dx_block m c t i j).trans (congrArg (fun f => DXO m c (row t i) j + grad (X m c (row t i)) f j) (funext fun k => congrArg (· * GP m c k) (hid_at m c t i k)))

/-- What one grid point adds to row `a` of the gain's block. -/
def part (t : Fin cfg0.N) (a : Fin 8) (k : Fin 1024) : EReal :=
  if a.val = 0 then ∑ i : Fin 512, dh m c (row t i) k * (X m c (row t i) k * scale (X m c (row t i))) else 0

theorem part_block (t : Fin cfg0.N) (k : Fin 1024) :
    k0_pay13 (F := Ideal) (iblk m c 1 t) (k0_pay8 (iblk m c 6 t) (iblk m c 7 t)) (k0_pay9 (iblk m c 3 t))
    (View.ld (Val := Elt Ideal) (S := S1024x3072) (e' := .bf16) (iblk m c 8 t) (Rect.unit (s := S1024x3072) ![0, 0] ![1024, 1024] inb_S1024x3072_S1024x1024_0_0))
    (iblk m c 4 t) (View.ld (Val := Elt Ideal) (S := S1024x3072) (e' := .bf16) (iblk m c 8 t) (Rect.unit (s := S1024x3072) ![0, 1024] ![1024, 1024] inb_S1024x3072_S1024x1024_0_1024))
    (iblk m c 5 t) (View.ld (Val := Elt Ideal) (S := S1024x3072) (e' := .bf16) (iblk m c 8 t) (Rect.unit (s := S1024x3072) ![0, 2048] ![1024, 1024] inb_S1024x3072_S1024x1024_0_2048))
    (iblk m c 9 t) (ix2 0 k)
    = ∑ i : Fin 512, hid m c t (ix2 i k) * (X m c (row t i) k * scale (X m c (row t i))) := by
  pointwise [k0_pay11, k0_pay12, k0_pay13, blk1, scale, meanSq]

theorem part_at (t : Fin cfg0.N) (k : Fin 1024) :
    k0_pay13 (F := Ideal) (iblk m c 1 t) (k0_pay8 (iblk m c 6 t) (iblk m c 7 t)) (k0_pay9 (iblk m c 3 t))
    (View.ld (Val := Elt Ideal) (S := S1024x3072) (e' := .bf16) (iblk m c 8 t) (Rect.unit (s := S1024x3072) ![0, 0] ![1024, 1024] inb_S1024x3072_S1024x1024_0_0))
    (iblk m c 4 t) (View.ld (Val := Elt Ideal) (S := S1024x3072) (e' := .bf16) (iblk m c 8 t) (Rect.unit (s := S1024x3072) ![0, 1024] ![1024, 1024] inb_S1024x3072_S1024x1024_0_1024))
    (iblk m c 5 t) (View.ld (Val := Elt Ideal) (S := S1024x3072) (e' := .bf16) (iblk m c 8 t) (Rect.unit (s := S1024x3072) ![0, 2048] ![1024, 1024] inb_S1024x3072_S1024x1024_0_2048))
    (iblk m c 9 t) (ix2 0 k) = part m c t 0 k :=
  (part_block m c t k).trans (Finset.sum_congr rfl fun i _ => congrArg (· * (X m c (row t i) k * scale (X m c (row t i)))) (hid_at m c t i k))

/-- What one grid point adds to the offset's block. -/
theorem cols_at (t : Fin cfg0.N) (p : FVec Ideal S1x128 .f32) (l : Fin 128) :
    k0_pay5 (F := Ideal) (k0_pay7 (iblk m c 6 t) (iblk m c 7 t)) p (ix2 0 l) = p (ix2 0 l) + ∑ i : Fin 512, dfPad m c (row t i) l := by
  pointwise [k0_pay5, df_at]

end Cert.Kernel22Ideal.Arrays

end
-- ==== Proof.AttentionEntrySums.lean ====
/- The gradient of the attention's entrance, kernel side: the five arrays after the last grid point, the gain's and the
   offset's gradients summed over the grid points. -/
module

public import proofs.«01_k».proof.Proof.Gen.Kernel22Ideal.Value
public import proofs.«01_k».proof.Proof.Gen.Reference22Ideal.Run
public import proofs.«01_k».proof.Proof.AttentionEntryBlock
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384
set_option maxHeartbeats 1000000

noncomputable section

open Idealize.ShloMosaic Idealize.ShloMosaic.TcCoe Idealize.SL.Sem

namespace Cert.Kernel22Ideal.Arrays

open Cert.Kernel22Ideal Cert.Kernel22Ideal.Gen Cert.RowNorm Cert.LogGate

variable (m : (ℓ : Loc nD τ sig) → Buf (Elt Ideal) ℓ) (c : Dev nD)

theorem out10 (t : Fin cfg0.N) (i : Fin 512) (j : Fin 1024) : (outsAt0 m c t.val t.isLt).1 (ix2 i j) = dx m c (row t i) j := by
  by_cases h : t.val % 16 = 0
  · rw [outsAt0_A m c t h]; frame_out
    exact dx_at m c t i j
  · rw [outsAt0_B m c t h]; frame_out
    exact dx_at m c t i j

theorem out11 (t : Fin cfg0.N) (i : Fin 512) (j : Fin 1024) : (outsAt0 m c t.val t.isLt).2.1 (ix2 i j) = normed m c (row t i) j := by
  by_cases h : t.val % 16 = 0
  · rw [outsAt0_A m c t h]; frame_out
    exact normed_at m c t i j
  · rw [outsAt0_B m c t h]; frame_out
    exact normed_at m c t i j

theorem out12 (t : Fin cfg0.N) (i : Fin 512) (j : Fin 128) : (outsAt0 m c t.val t.isLt).2.2.1 (ix2 i j) = dfPad m c (row t i) j := by
  by_cases h : t.val % 16 = 0
  · rw [outsAt0_A m c t h]; frame_out
    exact df16_at m c t i j
  · rw [outsAt0_B m c t h]; frame_out
    exact df16_at m c t i j

theorem add_part (p q : FVec Ideal S1x1024 .f32) (k : Fin 1024) {a : EReal} (b : EReal) (hp : p (ix2 0 k) = b) (hq : q (ix2 0 k) = a) :
    k0_pay4 (F := Ideal) p q (ix2 0 k) = a + b := by
  subst hp hq
  pointwise [k0_pay4]

section Rows

variable {κ : Kind} {sp : Space} (v : View sig κ sp S8x1024 .f32) (f : v.ty.Contents (Elt Ideal)) (w : FVec Ideal S1x1024 .f32)
  (z : FVec Ideal S8x1024 .f32) (L : List (View.Piece (Elt Ideal) S8x1024 .f32)) (a : Fin 8) (k : Fin 1024)

/-- Row zero, just written. -/
theorem row0_hit : v.read (Elt Ideal) (v.writes (Elt Ideal) f (⟨Rect.unit (s := S8x1024) ![0, 0] ![1, 1024] inb_S8x1024_S1x1024_0_0, w⟩ :: L)) (ix2 0 k) = w (ix2 0 k) :=
  View.read_writes_cons_rows_of_mem (o := 0) v f _ w L _ (ix2 0 k) rfl rfl rfl

/-- Another row, after a write of row zero. -/
theorem row0_miss (h : a.val ≠ 0) : v.read (Elt Ideal) (v.writes (Elt Ideal) f (⟨Rect.unit (s := S8x1024) ![0, 0] ![1, 1024] inb_S8x1024_S1x1024_0_0, w⟩ :: L)) (ix2 a k)
    = v.read (Elt Ideal) (v.writes (Elt Ideal) f L) (ix2 a k) :=
  View.read_writes_cons_rows_of_not_mem (o := 0) (W := 1) v f _ w L _ rfl rfl (by show a.val < 0 ∨ 1 ≤ a.val; omega)

/-- Any row, after a write of the whole block. -/
theorem whole_hit : v.read (Elt Ideal) (v.writes (Elt Ideal) f (⟨Rect.unit (s := S8x1024) ![0, 0] ![8, 1024] inb_S8x1024_S8x1024_0_0, z⟩ :: L)) (ix2 a k) = z (ix2 a k) :=
  View.read_writes_cons_rows_of_mem (o := 0) v f _ z L _ (ix2 a k) rfl (Nat.zero_add _).symm rfl

end Rows

/-- The first grid point clears the gain's block and adds its part. -/
theorem sums_first (t : Fin cfg0.N) (h : t.val % 16 = 0) (a : Fin 8) (k : Fin 1024) :
    (outsAt0 m c t.val t.isLt).2.2.2.1 (ix2 a k) = 0 + part m c t a k := by
  rw [outsAt0_A m c t h]
  frame_open
  simp (disch := decide) only [↓ View.readCov_skip, ↓ View.readCov_cons_toLoadRect, ↓ View.readCov_fill]
  frame_out
  rw [← View.read_writes_junk_apply_eq_canon (ms0_13 t).view]
  by_cases h0 : a.val = 0
  · obtain rfl : a = 0 := Fin.ext h0
    refine (row0_hit _ _ _ _ k).trans (add_part _ _ k _ (part_at m c t k) ?_)
    pointwise [k0_pay2]
  refine (row0_miss _ _ _ _ a k h0).trans ?_
  refine (whole_hit _ _ _ _ a k).trans ?_
  pointwise [k0_pay2, part]
  simp only [h0, if_false, add_zero]

/-- Every later grid point adds its part. -/
theorem sums_next (t : Fin cfg0.N) (h : ¬ t.val % 16 = 0) (a : Fin 8) (k : Fin 1024) :
    (outsAt0 m c t.val t.isLt).2.2.2.1 (ix2 a k)
    = (outsAt0 m c (t.val - 1) (Nat.lt_of_le_of_lt (Nat.sub_le _ _) t.isLt)).2.2.2.1 (ix2 a k) + part m c t a k := by
  rw [outsAt0_B m c t h]
  frame_out
  by_cases h0 : a.val = 0
  · obtain rfl : a = 0 := Fin.ext h0
    refine (row0_hit _ _ _ _ k).trans (add_part _ _ k _ (part_at m c t k) ?_)
    pointwise
  refine (row0_miss _ _ _ _ a k h0).trans ?_
  rw [View.writes_nil, Memref.IsWhole.read_unread, part, if_neg h0, add_zero]

/-- A sum over the array's rows is a sum over grid points and the rows of a block. -/
theorem sum_rows (f : Fin 8192 → EReal) : ∑ t : Fin cfg0.N, ∑ i : Fin 512, f (row t i) = ∑ r, f r := by
  rw [Fin.sum_univ_tiles 16 512 rfl]
  rfl

/-- The gain's block after the last grid point. -/
theorem sums_last (t : Fin cfg0.N) (h : t.val % 16 = 15) (a : Fin 8) (k : Fin 1024) :
    (outsAt0 m c t.val t.isLt).2.2.2.1 (ix2 a k) = sums m c a k := by
  have ht := lt_of_lt_of_eq t.isLt N_0
  have key := Pipeline.eq_sum_fin_of_reset_step_apply_last (N := cfg0.N) (fun n h (i : Fin 8 × Fin 1024) => (outsAt0 m c n h).2.2.2.1 (ix2 i.1 i.2)) 16 (fun _ => (0 : EReal))
    (fun t i => part m c t i.1 i.2) (fun t h i => sums_first m c t h i.1 i.2) (fun t h i => sums_next m c t h i.1 i.2) N_0.le
    t (by show t.val + 1 = grid0.N; rw [N_0]; omega) (a, k)
  refine key.trans ?_
  rw [zero_add]
  unfold part sums
  split_ifs
  · exact sum_rows fun r => dh m c r k * (X m c r k * scale (X m c r))
  · exact Finset.sum_const_zero

/-- The first grid point clears the offset's block and adds its part. -/
theorem cols_first (t : Fin cfg0.N) (h : t.val % 16 = 0) (l : Fin 128) :
    (outsAt0 m c t.val t.isLt).2.2.2.2 (ix2 0 l) = 0 + ∑ i : Fin 512, dfPad m c (row t i) l := by
  rw [outsAt0_A m c t h]
  frame_open
  simp (disch := decide) only [↓ View.readCov_skip, ↓ View.readCov_cons_toLoadRect, ↓ View.readCov_fill]
  frame_out
  refine (cols_at m c t _ l).trans (congrArg (· + _) ?_)
  pointwise [k0_pay3]

/-- Every later grid point adds its part. -/
theorem cols_next (t : Fin cfg0.N) (h : ¬ t.val % 16 = 0) (l : Fin 128) :
    (outsAt0 m c t.val t.isLt).2.2.2.2 (ix2 0 l)
    = (outsAt0 m c (t.val - 1) (Nat.lt_of_le_of_lt (Nat.sub_le _ _) t.isLt)).2.2.2.2 (ix2 0 l) + ∑ i : Fin 512, dfPad m c (row t i) l := by
  rw [outsAt0_B m c t h]
  frame_out
  exact cols_at m c t _ l

/-- The offset's block after the last grid point. -/
theorem cols_last (t : Fin cfg0.N) (h : t.val % 16 = 15) (l : Fin 128) :
    (outsAt0 m c t.val t.isLt).2.2.2.2 (ix2 0 l) = db m c l := by
  have ht := lt_of_lt_of_eq t.isLt N_0
  have key := Pipeline.eq_sum_fin_of_reset_step_apply_last (N := cfg0.N) (fun n h (l : Fin 128) => (outsAt0 m c n h).2.2.2.2 (ix2 0 l)) 16 (fun _ => (0 : EReal))
    (fun t l => ∑ i : Fin 512, dfPad m c (row t i) l) (fun t h l => cols_first m c t h l) (fun t h l => cols_next m c t h l) N_0.le
    t (by show t.val + 1 = grid0.N; rw [N_0]; omega) l
  refine key.trans ?_
  rw [zero_add]
  exact sum_rows fun r => dfPad m c r l

theorem final10 : (dats m 0 c).arrAt 10 cfg0.N = fun i => dx m c (i 0) (i 1) := by
  refine (dats m 0 c).arrAt_eq_of_covers 10 _ (by decide +kernel) fun t hf y => ?_
  blk_simp
  rw [after0_10]
  idx_vars y
  refine (out10 m c t y0 y1).trans (congrArg₂ (dx m c) (Fin.ext ?_) (Fin.ext ?_)) <;> blk_simp [idx t, row]

theorem final11 : (dats m 0 c).arrAt 11 cfg0.N = fun i => normed m c (i 0) (i 1) := by
  refine (dats m 0 c).arrAt_eq_of_covers 11 _ (by decide +kernel) fun t hf y => ?_
  blk_simp
  rw [after0_11]
  idx_vars y
  refine (out11 m c t y0 y1).trans (congrArg₂ (normed m c) (Fin.ext ?_) (Fin.ext ?_)) <;> blk_simp [idx t, row]

theorem final12 : (dats m 0 c).arrAt 12 cfg0.N = fun i => dfPad m c (i 0) (i 1) := by
  refine (dats m 0 c).arrAt_eq_of_covers 12 _ (by decide +kernel) fun t hf y => ?_
  blk_simp
  rw [after0_12]
  idx_vars y
  refine (out12 m c t y0 y1).trans (congrArg₂ (dfPad m c) (Fin.ext ?_) (Fin.ext ?_)) <;> blk_simp [idx t, row]

theorem final13 : (dats m 0 c).arrAt 13 cfg0.N = fun i => sums m c (i 0) (i 1) := by
  refine (dats m 0 c).arrAt_eq_of_covers 13 _ (by decide +kernel) fun t hf y => ?_
  blk_simp
  rw [after0_13]
  idx_vars y
  refine (sums_last m c t ((flush0_13 t).mp hf) y0 y1).trans (congrArg₂ (sums m c) (Fin.ext ?_) (Fin.ext ?_)) <;> blk_simp [idx t]

theorem final14 : (dats m 0 c).arrAt 14 cfg0.N = fun i => db m c (i 1) := by
  refine (dats m 0 c).arrAt_eq_of_covers 14 _ (by decide +kernel) fun t hf y => ?_
  blk_simp
  rw [after0_14]
  have hy : y = ix2 0 (y 1) := (eq_ix2 y).trans (congrArg (fun i => ix2 i (y 1)) (Subsingleton.elim (α := Fin 1) _ _))
  rw [hy]
  refine (cols_last m c t ((flush0_14 t).mp hf) (y 1)).trans (congrArg (db m c) (Fin.ext ?_))
  blk_simp [idx t]

end Cert.Kernel22Ideal.Arrays

end
-- ==== Proof.GateGrad.lean ====
/- The derivative of the logistic function's logarithm over the extended reals: one minus the exponential of the logarithm, and
   the form that differentiates the softplus of the negated argument. -/
module

public import proofs.«01_k».proof.Proof.LogGate

@[expose] public section

noncomputable section

namespace Cert.LogGate

open Idealize.ShloMosaic

/-- A value with plus infinity replaced by zero. -/
def finite (a : EReal) : EReal := if a = ⊤ then 0 else a

theorem exp_coe (a : ℝ) : Ideal.exp (a : EReal) = ((Real.exp a : ℝ) : EReal) := rfl
theorem exp_zero : Ideal.exp 0 = 1 := by
  rw [← EReal.coe_zero, exp_coe, Real.exp_zero, EReal.coe_one]
theorem exp_bot : Ideal.exp ⊥ = 0 := rfl

/-- The logarithm at a real number. -/
theorem logGate_coe (x : ℝ) : logGate (x : EReal) = ((min x 0 - Real.log (1 + Real.exp (-(max x (-x)))) : ℝ) : EReal) := by
  unfold logGate
  rw [← EReal.coe_neg, ← coe_max, ← EReal.coe_neg, exp_coe, ← EReal.coe_one, ← EReal.coe_add, ← EReal.coe_zero, ← coe_min]
  have e : Ideal.log ((1 + Real.exp (-(max x (-x))) : ℝ) : EReal) = ((Real.log (1 + Real.exp (-(max x (-x)))) : ℝ) : EReal) := by
    show (if _ then _ else _) = _
    rw [if_neg (by have := Real.exp_pos (-(max x (-x))); linarith)]
  rw [e, ← EReal.coe_sub]

/-- The exponential of the logarithm at a real number. -/
theorem exp_logGate (x : ℝ) : Real.exp (min x 0 - Real.log (1 + Real.exp (-(max x (-x))))) = (1 + Real.exp (-x))⁻¹ := by
  have p : ∀ y : ℝ, 0 < 1 + Real.exp y := fun y => by have := Real.exp_pos y; linarith
  rw [Real.exp_sub, Real.exp_log (p _)]
  rcases le_total x 0 with h | h
  · rw [min_eq_left h, max_eq_right (by linarith), neg_neg, Real.exp_neg]
    have := Real.exp_pos x
    field_simp
    ring
  · rw [min_eq_right h, max_eq_left (by linarith), Real.exp_zero, one_div]

/-- The factor that differentiates the softplus of the negated argument. -/
theorem factor_eq (z : EReal) : Ideal.exp (finite (-z) - finite (-(logGate z))) = 1 - Ideal.exp (logGate z) := by
  induction z with
  | bot =>
    have e : logGate ⊥ = ⊥ := by
      obtain ⟨r, hr⟩ := log_real ⊥
      unfold logGate
      rw [hr, min_eq_left bot_le]
      exact EReal.bot_sub _
    rw [e, EReal.neg_bot, exp_bot]
    unfold finite
    rw [if_pos rfl, sub_zero, exp_zero, sub_zero]
  | top =>
    have e : logGate ⊤ = 0 := by
      unfold logGate
      rw [EReal.neg_top, max_eq_left bot_le, EReal.neg_top, log_one, min_eq_right le_top, EReal.coe_zero, sub_zero]
    rw [e, EReal.neg_top, neg_zero, exp_zero]
    unfold finite
    rw [if_neg bot_ne_top, if_neg EReal.zero_ne_top, sub_zero, exp_bot, ← EReal.coe_one, ← EReal.coe_sub, sub_self, EReal.coe_zero]
  | coe x =>
    rw [logGate_coe, ← EReal.coe_neg, ← EReal.coe_neg]
    unfold finite
    rw [if_neg (EReal.coe_ne_top _), if_neg (EReal.coe_ne_top _), ← EReal.coe_sub, exp_coe, exp_coe, ← EReal.coe_one, ← EReal.coe_sub]
    congr 1
    rw [sub_neg_eq_add, Real.exp_add, exp_logGate]
    have := Real.exp_pos (-x)
    have h : 1 + Real.exp (-x) ≠ 0 := by linarith
    field_simp
    ring

/-- The two gradients are equal. -/
theorem grad_eq (d z : EReal) : -(-d * Ideal.exp (finite (-z) - finite (-(logGate z)))) = d * (1 - Ideal.exp (logGate z)) := by
  rw [factor_eq, EReal.neg_mul, neg_neg]

end Cert.LogGate

end
-- ==== Proof.AttentionEntryGrad.lean ====
/- The gradient of the attention's entrance: the reference's terms, entry by entry, and that they are the kernel's results. -/
module

public import proofs.«01_k».proof.Proof.Gen.Kernel22Ideal.Value
public import proofs.«01_k».proof.Proof.Gen.Reference22Ideal.Run
public import proofs.«01_k».proof.Proof.AttentionEntrySums
public import proofs.«01_k».proof.Proof.GateGrad
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem

namespace Cert.AttentionEntryGrad

open Cert Cert.Reference22Ideal Cert.Reference22Ideal.Gen Cert.Reference22Ideal.Value Cert.RowNorm Cert.LogGate Idealize.ShloMosaic.StableHlo

/-! ## The groups of operations -/

/-- The mean square of every row plus the small constant, as a column. -/
def meanCol (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- Every row divided by the root of its mean square. -/
def normal (x : FVec Ideal S8192x1024 .f32) : FVec Ideal S8192x1024 .f32 :=
  mulf x (broadcastInDim S8192x1024 ![0, 1] bcast_S8192x1_S8192x1024_0_1 (Host.rsqrt (meanCol x)))

/-- A gain row, repeated over all rows. -/
def gain (g : FVec Ideal S1x1024 .f32) : FVec Ideal S8192x1024 .f32 :=
  broadcastInDim S8192x1024 ![0, 1] bcast_S1x1024_S8192x1024_0_1 g

/-- The gradient through the normalisation, `dn` the gradient at the normalised rows. -/
def gradRows (x dn : FVec Ideal S8192x1024 .f32) : FVec Ideal S8192x1024 .f32 :=
  addf (mulf dn (broadcastInDim S8192x1024 ![0, 1] bcast_S8192x1_S8192x1024_0_1 (Host.rsqrt (meanCol x))))
    (mulf (broadcastInDim S8192x1024 ![0] bcast_S8192_S8192x1024_0 (Host.reduceAdd (Host.divf (mulf (shapeCast S8192x1 (Host.reduceAdd (mulf x dn) (constant S_ .f32 0x00000000#32) reducesTo_S8192x1024_S8192_d1 h_S_) shapeCasts_S8192_S8192x1)
        (mulf (broadcastInDim S8192x1 ![] bcast_S_S8192x1 (constant S_ .f32 0xBF000000#32)) (Host.divf (Host.rsqrt (meanCol x)) (meanCol x)))) (broadcastInDim S8192x1 ![] bcast_S_S8192x1 (constant S_ .f32 0x44800000#32))) (constant S_ .f32 0x00000000#32) reducesTo_S8192x1_S8192_d1 h_S_))
      (mulf (broadcastInDim S8192x1024 ![] bcast_S_S8192x1024 (constant S_ .f32 0x40000000#32)) x))

/-- The gradient of the gain: the column sums of the normalised rows times the gradient above. -/
def gradGain (x dy : FVec Ideal S8192x1024 .f32) : FVec Ideal S1x1024 .f32 :=
  shapeCast S1x1024 (Host.reduceAdd (mulf (normal x) dy) (constant S_ .f32 0x00000000#32) reducesTo_S8192x1024_S1024_d0 h_S_) shapeCasts_S1024_S1x1024

/-- The normalised input. -/
def normedV (x : FVec Ideal S8192x1024 .f32) (g : FVec Ideal S1x1024 .f32) : FVec Ideal S8192x1024 .f32 := mulf (normal x) (gain g)

/-- The forget gate before its logarithm. -/
def gateV (h : FVec Ideal S8192x1024 .f32) (W : FVec Ideal S1024x3088 .f32) (b : FVec Ideal S1x16 .f32) : FVec Ideal S8192x16 .f32 :=
  addf (extractStridedSlice S8192x16 ![0, 3072] (Host.dotGeneral (φ₁ := .f32) (φ₂ := .f32) dot_S8192x1024_S1024x3088_S8192x3088_1_0_0_1_n_n none h W) slices_S8192x3088_S8192x16_0_3072) (broadcastInDim S8192x16 ![0, 1] bcast_S1x16_S8192x16_0_1 b)

/-- The softplus. -/
def softV (n : FVec Ideal S8192x16 .f32) : FVec Ideal S8192x16 .f32 :=
  select (cmpf .une (subf n (broadcastInDim S8192x16 ![] bcast_S_S8192x16 (constant (F := Ideal) S_ .f32 0x00000000#32))) (subf n (broadcastInDim S8192x16 ![] bcast_S_S8192x16 (constant (F := Ideal) S_ .f32 0x00000000#32)))) (addf n (broadcastInDim S8192x16 ![] bcast_S_S8192x16 (constant (F := Ideal) S_ .f32 0x00000000#32))) (addf (maximumf n (broadcastInDim S8192x16 ![] bcast_S_S8192x16 (constant (F := Ideal) S_ .f32 0x00000000#32))) (Host.log1p (Host.exp (Host.negf (Host.absf (subf n (broadcastInDim S8192x16 ![] bcast_S_S8192x16 (constant (F := Ideal) S_ .f32 0x00000000#32))))))))

/-- The gradient at the forget gate. -/
def gradGateV (dl : FVec Ideal S8192x128 .f32) (z : FVec Ideal S8192x16 .f32) : FVec Ideal S8192x16 .f32 :=
  Host.negf (mulf (Host.negf (extractStridedSlice S8192x16 ![0, 0] dl slices_S8192x128_S8192x16_0_0)) (Host.exp (subf (select (cmpf .oeq (Host.negf z) (broadcastInDim S8192x16 ![] bcast_S_S8192x16 (constant (F := Ideal) S_ .f32 0x7F800000#32))) (broadcastInDim S8192x16 ![] bcast_S_S8192x16 (constant (F := Ideal) S_ .f32 0x00000000#32)) (Host.negf z)) (select (cmpf .oeq (softV (Host.negf z)) (broadcastInDim S8192x16 ![] bcast_S_S8192x16 (constant (F := Ideal) S_ .f32 0x7F800000#32))) (broadcastInDim S8192x16 ![] bcast_S_S8192x16 (constant (F := Ideal) S_ .f32 0x00000000#32)) (softV (Host.negf z))))))

/-- The gradients of queries, keys, values and gate side by side. -/
def sideV (q k v : FVec Ideal S8192x1024 .f32) (f : FVec Ideal S8192x16 .f32) : FVec Ideal S8192x3088 .f32 :=
  addf (addf (addf (pad S8192x3088 ![0, 3072] ![0, 0] ![0, 0] f (constant (F := Ideal) S_ .f32 0x00000000#32) pads_S8192x16_S8192x3088_000_307200 h_S_)
      (pad S8192x3088 ![0, 2048] ![0, 16] ![0, 0] v (constant (F := Ideal) S_ .f32 0x00000000#32) pads_S8192x1024_S8192x3088_000_2048160 h_S_))
      (pad S8192x3088 ![0, 1024] ![0, 1040] ![0, 0] k (constant (F := Ideal) S_ .f32 0x00000000#32) pads_S8192x1024_S8192x3088_000_102410400 h_S_))
      (pad S8192x3088 ![0, 0] ![0, 2064] ![0, 0] q (constant (F := Ideal) S_ .f32 0x00000000#32) pads_S8192x1024_S8192x3088_000_020640 h_S_)

section At

variable (x dn dy : FVec Ideal S8192x1024 .f32) (g : FVec Ideal S1x1024 .f32) (r : Fin 8192) (k : Fin 1024)

theorem meanCol_at : meanCol x (ix2 r 0) = meanSq (fun k => x (ix2 r k)) := by
  pointwise [meanCol, meanSq]

theorem normal_at : normal x (ix2 r k) = x (ix2 r k) * scale (fun k => x (ix2 r k)) := by
  pointwise [normal, scale, meanCol_at]

theorem gain_at : gain g (ix2 r k) = g (ix2 0 k) := by
  pointwise [gain]

theorem gradRows_at : gradRows x dn (ix2 r k) = grad (fun k => x (ix2 r k)) (fun k => dn (ix2 r k)) k := by
  rw [← gradRsqrt_eq]
  pointwise [gradRows, gradRsqrt, scale, meanCol_at]
  rw [Fin.sum_univ_one, meanCol_at]

theorem gradGain_at : gradGain x dy (ix2 0 k) = ∑ r : Fin 8192, dy (ix2 r k) * (x (ix2 r k) * scale (fun k => x (ix2 r k))) := by
  pointwise [gradGain, normal_at]
  exact Finset.sum_congr rfl fun r _ => mul_comm _ _

theorem normedV_at : normedV x g (ix2 r k) = x (ix2 r k) * scale (fun k => x (ix2 r k)) * g (ix2 0 k) := by
  pointwise [normedV, normal_at, gain_at]

theorem gateV_at (h : FVec Ideal S8192x1024 .f32) (W : FVec Ideal S1024x3088 .f32) (b : FVec Ideal S1x16 .f32) (l : Fin 16) :
    gateV h W b (ix2 r l) = ∑ k : Fin 1024, h (ix2 r k) * W (ix2 k ⟨3072 + l.val, by omega⟩) + b (ix2 0 l) := by
  pointwise [gateV]

theorem softV_at (n : FVec Ideal S8192x16 .f32) (l : Fin 16) (z : EReal) (hz : n (ix2 r l) = -z) :
    softV n (ix2 r l) = -(logGate z) := by
  rw [← softplus_eq, softplus, neg_neg]
  pointwise [softV, Ideal.log1p, hz]
  rw [if_neg (not_not_intro rfl)]
  rfl

theorem inf_eq : Ideal.ofBits .f32 0x7F800000#32 = ⊤ := by simp [Ideal.ofBits, Ideal.ieee]

theorem gradGateV_at (dl : FVec Ideal S8192x128 .f32) (z : FVec Ideal S8192x16 .f32) (l : Fin 16) :
    gradGateV dl z (ix2 r l) = dl (ix2 r ⟨l.val, by omega⟩) * (1 - Ideal.exp (logGate (z (ix2 r l)))) := by
  rw [← grad_eq]
  have p : softV (Host.negf z) (ix2 r l) = -(logGate (z (ix2 r l))) := softV_at r _ l _ rfl
  pointwise [gradGateV, p, inf_eq, finite]

theorem sideV_q (q k' v : FVec Ideal S8192x1024 .f32) (f : FVec Ideal S8192x16 .f32) (j : Fin 1024) :
    sideV q k' v f (ix2 r ⟨j.val, by omega⟩) = q (ix2 r j) := by
  pointwise [sideV]
  split_ifs <;> first | (exfalso; omega) | (rename_i d; exact d.1.elim) | simp only [zero_add, add_zero]

theorem sideV_k (q k' v : FVec Ideal S8192x1024 .f32) (f : FVec Ideal S8192x16 .f32) (j : Fin 1024) :
    sideV q k' v f (ix2 r ⟨1024 + j.val, by omega⟩) = k' (ix2 r j) := by
  pointwise [sideV]
  split_ifs <;> first | (exfalso; omega) | simp only [zero_add, add_zero]

theorem sideV_v (q k' v : FVec Ideal S8192x1024 .f32) (f : FVec Ideal S8192x16 .f32) (j : Fin 1024) :
    sideV q k' v f (ix2 r ⟨2048 + j.val, by omega⟩) = v (ix2 r j) := by
  pointwise [sideV]
  split_ifs <;> first | (exfalso; omega) | simp only [zero_add, add_zero]

theorem sideV_f (q k' v : FVec Ideal S8192x1024 .f32) (f : FVec Ideal S8192x16 .f32) (l : Fin 16) :
    sideV q k' v f (ix2 r ⟨3072 + l.val, by omega⟩) = f (ix2 r l) := by
  pointwise [sideV]
  split_ifs <;> first | (exfalso; omega) | simp only [zero_add, add_zero]

end At

/-- A sum over the entrance's columns is the sum over its four parts. -/
theorem sum_parts (f : Fin 3088 → EReal) : ∑ j, f j = ∑ j : Fin 1024, f ⟨j.val, by omega⟩ + ∑ j : Fin 1024, f ⟨1024 + j.val, by omega⟩
    + ∑ j : Fin 1024, f ⟨2048 + j.val, by omega⟩ + ∑ l : Fin 16, f ⟨3072 + l.val, by omega⟩ := by
  show ∑ j : Fin (1024 + 1024 + 1024 + 16), f j = _
  rw [Fin.sum_univ_add, Fin.sum_univ_add, Fin.sum_univ_add]
  rfl

section Stages

variable (m' : (ℓ : Loc nD τ sig) → Buf (Elt Ideal) ℓ) (c : Dev nD)

def hV : FVec Ideal S8192x1024 .f32 := normedV (m' ((c.tc : Thread nD τ).loc main_arg1)) (m' ((c.tc : Thread nD τ).loc main_arg2))
def zV : FVec Ideal S8192x16 .f32 := gateV (hV m' c) (m' ((c.tc : Thread nD τ).loc main_arg3)) (m' ((c.tc : Thread nD τ).loc main_arg4))
def dfV : FVec Ideal S8192x16 .f32 := gradGateV (m' ((c.tc : Thread nD τ).loc main_arg8)) (zV m' c)
def dhV : FVec Ideal S8192x1024 .f32 := Host.dotGeneral (φ₁ := .f32) (φ₂ := .f32) dot_S8192x3088_S1024x3088_S8192x1024_1_1_0_0_n_n none (sideV (m' ((c.tc : Thread nD τ).loc main_arg5)) (m' ((c.tc : Thread nD τ).loc main_arg6)) (m' ((c.tc : Thread nD τ).loc main_arg7)) (dfV m' c)) (m' ((c.tc : Thread nD τ).loc main_arg3))
def dxV : FVec Ideal S8192x1024 .f32 := addf (m' ((c.tc : Thread nD τ).loc main_arg0)) (gradRows (m' ((c.tc : Thread nD τ).loc main_arg1)) (mulf (dhV m' c) (gain (m' ((c.tc : Thread nD τ).loc main_arg2)))))
def dfPadV : FVec Ideal S8192x128 .f32 :=
  concatenate S8192x128 1 [⟨S8192x16, dfV m' c⟩, ⟨S8192x112, broadcastInDim S8192x112 ![] bcast_S_S8192x112 (constant (F := Ideal) S_ .f32 0x00000000#32)⟩] concatenates_S8192x16_S8192x112_S8192x128_d1
def sumsV : FVec Ideal S8x1024 .f32 :=
  concatenate S8x1024 0 [⟨S1x1024, gradGain (m' ((c.tc : Thread nD τ).loc main_arg1)) (dhV m' c)⟩, ⟨S7x1024, broadcastInDim S7x1024 ![] bcast_S_S7x1024 (constant (F := Ideal) S_ .f32 0x00000000#32)⟩] concatenates_S1x1024_S7x1024_S8x1024_d0
def dbV : FVec Ideal S1x128 .f32 :=
  concatenate S1x128 1 [⟨S1x16, shapeCast S1x16 (Host.reduceAdd (dfV m' c) (constant (F := Ideal) S_ .f32 0x00000000#32) reducesTo_S8192x16_S16_d0 h_S_) shapeCasts_S16_S1x16⟩, ⟨S1x112, broadcastInDim S1x112 ![] bcast_S_S1x112 (constant (F := Ideal) S_ .f32 0x00000000#32)⟩] concatenates_S1x16_S1x112_S1x128_d1

end Stages

variable (m : (ℓ : Loc Kernel22Ideal.nD Kernel22Ideal.τ Kernel22Ideal.sig) → Buf (Elt Ideal) ℓ)
  (m' : (ℓ : Loc nD τ sig) → Buf (Elt Ideal) ℓ) (c : Dev nD)
  (h0 : m' ((c.tc : Thread nD τ).loc main_arg0) = m ((c.tc : Thread Kernel22Ideal.nD Kernel22Ideal.τ).loc Kernel22Ideal.main_arg0))
  (h1 : m' ((c.tc : Thread nD τ).loc main_arg1) = m ((c.tc : Thread Kernel22Ideal.nD Kernel22Ideal.τ).loc Kernel22Ideal.main_arg1))
  (h2 : m' ((c.tc : Thread nD τ).loc main_arg2) = m ((c.tc : Thread Kernel22Ideal.nD Kernel22Ideal.τ).loc Kernel22Ideal.main_arg2))
  (h3 : m' ((c.tc : Thread nD τ).loc main_arg3) = m ((c.tc : Thread Kernel22Ideal.nD Kernel22Ideal.τ).loc Kernel22Ideal.main_arg3))
  (h4 : m' ((c.tc : Thread nD τ).loc main_arg4) = m ((c.tc : Thread Kernel22Ideal.nD Kernel22Ideal.τ).loc Kernel22Ideal.main_arg4))
  (h5 : m' ((c.tc : Thread nD τ).loc main_arg5) = m ((c.tc : Thread Kernel22Ideal.nD Kernel22Ideal.τ).loc Kernel22Ideal.main_arg5))
  (h6 : m' ((c.tc : Thread nD τ).loc main_arg6) = m ((c.tc : Thread Kernel22Ideal.nD Kernel22Ideal.τ).loc Kernel22Ideal.main_arg6))
  (h7 : m' ((c.tc : Thread nD τ).loc main_arg7) = m ((c.tc : Thread Kernel22Ideal.nD Kernel22Ideal.τ).loc Kernel22Ideal.main_arg7))
  (h8 : m' ((c.tc : Thread nD τ).loc main_arg8) = m ((c.tc : Thread Kernel22Ideal.nD Kernel22Ideal.τ).loc Kernel22Ideal.main_arg8))
include h0 h1 h2 h3 h4 h5 h6 h7 h8

theorem hV_at (r : Fin 8192) (k : Fin 1024) : hV m' c (ix2 r k) = Kernel22Ideal.Arrays.normed m c r k := by
  unfold hV
  rw [h1, h2, normedV_at]
  rfl

theorem zV_at (r : Fin 8192) (l : Fin 16) : zV m' c (ix2 r l) = Kernel22Ideal.Arrays.gateIn m c r l := by
  unfold zV
  rw [h3, h4, gateV_at]
  simp only [hV_at m m' c h0 h1 h2 h3 h4 h5 h6 h7 h8]
  rfl

theorem dfV_at (r : Fin 8192) (l : Fin 16) : dfV m' c (ix2 r l) = Kernel22Ideal.Arrays.df m c r l := by
  unfold dfV
  rw [h8, gradGateV_at, zV_at m m' c h0 h1 h2 h3 h4 h5 h6 h7 h8]
  rfl

theorem dhV_at (r : Fin 8192) (k : Fin 1024) : dhV m' c (ix2 r k) = Kernel22Ideal.Arrays.dh m c r k := by
  have p := dfV_at m m' c h0 h1 h2 h3 h4 h5 h6 h7 h8
  unfold dhV
  rw [h3, h5, h6, h7]
  pointwise [Kernel22Ideal.Arrays.dh]
  rw [sum_parts]
  simp only [sideV_q, sideV_k, sideV_v, sideV_f, p]

theorem dxV_at (r : Fin 8192) (k : Fin 1024) : dxV m' c (ix2 r k) = Kernel22Ideal.Arrays.dx m c r k := by
  have p := dhV_at m m' c h0 h1 h2 h3 h4 h5 h6 h7 h8
  unfold dxV
  rw [h0, h1, h2]
  pointwise [gradRows_at, gain_at, p, Kernel22Ideal.Arrays.dx]

theorem dfPadV_at (r : Fin 8192) (l : Fin 128) : dfPadV m' c (ix2 r l) = Kernel22Ideal.Arrays.dfPad m c r l := by
  have p := dfV_at m m' c h0 h1 h2 h3 h4 h5 h6 h7 h8
  unfold dfPadV
  by_cases h : l.val < 16 <;> pointwise [p, Kernel22Ideal.Arrays.dfPad, h]

theorem sumsV_at (a : Fin 8) (k : Fin 1024) : sumsV m' c (ix2 a k) = Kernel22Ideal.Arrays.sums m c a k := by
  have p := dhV_at m m' c h0 h1 h2 h3 h4 h5 h6 h7 h8
  unfold sumsV
  rw [h1]
  fin_cases a <;> pointwise [gradGain_at, p, Kernel22Ideal.Arrays.sums]

theorem dbV_at (l : Fin 128) : dbV m' c (ix2 0 l) = Kernel22Ideal.Arrays.db m c l := by
  have p := dfV_at m m' c h0 h1 h2 h3 h4 h5 h6 h7 h8
  unfold dbV
  by_cases h : l.val < 16
  · pointwise [p, Kernel22Ideal.Arrays.db, Kernel22Ideal.Arrays.dfPad, h]
  · pointwise [Kernel22Ideal.Arrays.db, Kernel22Ideal.Arrays.dfPad, h]
    exact Finset.sum_const_zero.symm

theorem h16_at (r : Fin 8192) (k : Fin 1024) : truncf (F := Ideal) .bf16 (hV m' c) bitsLt_bf16_f32 (ix2 r k) = Kernel22Ideal.Arrays.normed m c r k := by
  have p := hV_at m m' c h0 h1 h2 h3 h4 h5 h6 h7 h8
  pointwise [p]

theorem df16_at (r : Fin 8192) (k : Fin 128) : truncf (F := Ideal) .bf16 (dfPadV m' c) bitsLt_bf16_f32 (ix2 r k) = Kernel22Ideal.Arrays.dfPad m c r k := by
  have p := dfPadV_at m m' c h0 h1 h2 h3 h4 h5 h6 h7 h8
  pointwise [p]

/-- The gradients at the layer's input are equal. -/
theorem result0 : (addf ((launchContents m' c) (Proc.devRef .tc main_arg0)) (addf (mulf (res_main_v39 (launchContents m' c)) (broadcastInDim S8192x1024 ![0, 1] bcast_S8192x1_S8192x1024_0_1 (res_main_v9 (launchContents m' c)))) (mulf (broadcastInDim S8192x1024 ![0] bcast_S8192_S8192x1024_0 (Host.reduceAdd (Host.divf (mulf (shapeCast _ (Host.reduceAdd (mulf ((launchContents m' c) (Proc.devRef .tc main_arg1)) (res_main_v39 (launchContents m' c))) (constant (F := Ideal) S_ .f32 0x00000000#32) reducesTo_S8192x1024_S8192_d1 h_S_) shapeCasts_S8192_S8192x1) (mulf (broadcastInDim S8192x1 ![] bcast_S_S8192x1 (constant (F := Ideal) S_ .f32 0xBF000000#32)) (Host.divf (res_main_v9 (launchContents m' c)) (res_main_v8 (launchContents m' c))))) (broadcastInDim S8192x1 ![] bcast_S_S8192x1 (constant (F := Ideal) S_ .f32 0x44800000#32))) (constant (F := Ideal) S_ .f32 0x00000000#32) reducesTo_S8192x1_S8192_d1 h_S_)) (mulf (broadcastInDim S8192x1024 ![] bcast_S_S8192x1024 (constant (F := Ideal) S_ .f32 0x40000000#32)) ((launchContents m' c) (Proc.devRef .tc main_arg1))))) : FVec Ideal S8192x1024 .f32)
    = (Kernel22Ideal.Gen.dats m 0 c).arrAt 10 Kernel22Ideal.cfg0.N := by
  rw [Kernel22Ideal.Arrays.final10]
  refine (show _ = dxV m' c from rfl).trans ?_
  funext y
  idx_vars y
  exact dxV_at m m' c h0 h1 h2 h3 h4 h5 h6 h7 h8 y0 y1

/-- The normalised inputs are equal. -/
theorem result1 : (truncf .bf16 (res_main_v16 (launchContents m' c)) bitsLt_bf16_f32 : FVec Ideal S8192x1024 .bf16)
    = (Kernel22Ideal.Gen.dats m 0 c).arrAt 11 Kernel22Ideal.cfg0.N := by
  rw [Kernel22Ideal.Arrays.final11]
  refine (show _ = truncf (F := Ideal) .bf16 (hV m' c) bitsLt_bf16_f32 from rfl).trans ?_
  funext y
  idx_vars y
  exact h16_at m m' c h0 h1 h2 h3 h4 h5 h6 h7 h8 y0 y1

/-- The gradients at the forget gate are equal. -/
theorem result2 : (truncf .bf16 (concatenate S8192x128 1 [⟨S8192x16, (res_main_v58 (launchContents m' c))⟩, ⟨S8192x112, (broadcastInDim S8192x112 ![] bcast_S_S8192x112 (constant (F := Ideal) S_ .f32 0x00000000#32))⟩] concatenates_S8192x16_S8192x112_S8192x128_d1) bitsLt_bf16_f32 : FVec Ideal S8192x128 .bf16)
    = (Kernel22Ideal.Gen.dats m 0 c).arrAt 12 Kernel22Ideal.cfg0.N := by
  rw [Kernel22Ideal.Arrays.final12]
  refine (show _ = truncf (F := Ideal) .bf16 (dfPadV m' c) bitsLt_bf16_f32 from rfl).trans ?_
  funext y
  idx_vars y
  exact df16_at m m' c h0 h1 h2 h3 h4 h5 h6 h7 h8 y0 y1

/-- The gain's gradients are equal. -/
theorem result3 : (concatenate S8x1024 0 [⟨S1x1024, (shapeCast _ (Host.reduceAdd (mulf (res_main_v14 (launchContents m' c)) (res_main_v34 (launchContents m' c))) (constant (F := Ideal) S_ .f32 0x00000000#32) reducesTo_S8192x1024_S1024_d0 h_S_) shapeCasts_S1024_S1x1024)⟩, ⟨S7x1024, (broadcastInDim S7x1024 ![] bcast_S_S7x1024 (constant (F := Ideal) S_ .f32 0x00000000#32))⟩] concatenates_S1x1024_S7x1024_S8x1024_d0 : FVec Ideal S8x1024 .f32)
    = (Kernel22Ideal.Gen.dats m 0 c).arrAt 13 Kernel22Ideal.cfg0.N := by
  rw [Kernel22Ideal.Arrays.final13]
  refine (show _ = sumsV m' c from rfl).trans ?_
  funext y
  idx_vars y
  exact sumsV_at m m' c h0 h1 h2 h3 h4 h5 h6 h7 h8 y0 y1

/-- The offset's gradients are equal. -/
theorem result4 : (concatenate S1x128 1 [⟨S1x16, (shapeCast _ (Host.reduceAdd (res_main_v58 (launchContents m' c)) (constant (F := Ideal) S_ .f32 0x00000000#32) reducesTo_S8192x16_S16_d0 h_S_) shapeCasts_S16_S1x16)⟩, ⟨S1x112, (broadcastInDim S1x112 ![] bcast_S_S1x112 (constant (F := Ideal) S_ .f32 0x00000000#32))⟩] concatenates_S1x16_S1x112_S1x128_d1 : FVec Ideal S1x128 .f32)
    = (Kernel22Ideal.Gen.dats m 0 c).arrAt 14 Kernel22Ideal.cfg0.N := by
  rw [Kernel22Ideal.Arrays.final14]
  refine (show _ = dbV m' c from rfl).trans ?_
  funext y
  have hy : y = ix2 0 (y 1) := (eq_ix2 y).trans (congrArg (fun i => ix2 i (y 1)) (Subsingleton.elim (α := Fin 1) _ _))
  rw [hy]
  exact dbV_at m m' c h0 h1 h2 h3 h4 h5 h6 h7 h8 (y 1)

end Cert.AttentionEntryGrad

end
-- ==== Proof.RunningSum.lean ====
/- Running sums of extended reals down the rows of a matrix: the window sum that a cumulative sum prints as, from the first row on
   or up to the last row, and a running sum taken in blocks. -/
module

public import Idealize.ShloMosaic.Lib.Routing.OpsOne
public import Idealize.ShloMosaic.Lib.ValueIdxCore
public import Idealize.ShloMosaic.Lib.WordCmp
public import Idealize.ShloMosaic.Lib.Pipeline.ValueKit
public import Idealize.ShloMosaic.Lib.Claim

@[expose] public section

noncomputable section

open Idealize.ShloMosaic Idealize.ShloMosaic.Routing

namespace Cert.RunningSum

/-- A finite sequence continued by zeros. -/
def ext {N : Nat} (v : Fin N → EReal) (n : Nat) : EReal := if h : n < N then v ⟨n, h⟩ else 0

theorem ext_at {N : Nat} (v : Fin N → EReal) (k : Fin N) : ext v k.val = v k := dif_pos k.isLt

/-- The sum of a sequence's entries from `a` up to, but without, `b`. -/
def between {N : Nat} (v : Fin N → EReal) (a b : Nat) : EReal := ∑ n ∈ Finset.Ico a b, ext v n

theorem between_same {N : Nat} (v : Fin N → EReal) (a : Nat) : between v a a = 0 := by
  unfold between
  rw [Finset.Ico_self, Finset.sum_empty]

theorem between_join {N : Nat} (v : Fin N → EReal) {a b d : Nat} (h : a ≤ b) (h' : b ≤ d) : between v a b + between v b d = between v a d :=
  Finset.sum_Ico_consecutive (ext v) h h'

/-- The sums of two sequences add. -/
theorem between_add {N : Nat} (v w : Fin N → EReal) (a b : Nat) : between (fun k => v k + w k) a b = between v a b + between w a b := by
  unfold between
  rw [← Finset.sum_add_distrib]
  refine Finset.sum_congr rfl fun n _ => ?_
  unfold ext
  split
  · rfl
  · exact (add_zero 0).symm

/-- A sum over all indices of the entries whose index lies in a range. -/
theorem sum_between {N : Nat} (v : Fin N → EReal) (p : Fin N → Prop) [DecidablePred p] (a b : Nat) (hb : b ≤ N)
    (hp : ∀ k : Fin N, p k ↔ a ≤ k.val ∧ k.val < b) : ∑ k : Fin N, (if p k then v k else 0) = between v a b := by
  have e : ∀ k : Fin N, (if p k then v k else 0) = (fun n : Nat => if a ≤ n ∧ n < b then ext v n else 0) k.val := by
    intro k
    show _ = if a ≤ k.val ∧ k.val < b then ext v k.val else 0
    rw [ext_at]
    exact if_congr (hp k) rfl rfl
  rw [Finset.sum_congr rfl fun k _ => e k, Fin.sum_univ_eq_sum_range (fun n : Nat => if a ≤ n ∧ n < b then ext v n else 0) N, ← Finset.sum_filter]
  refine Finset.sum_congr ?_ fun _ _ => rfl
  ext n
  simp only [Finset.mem_filter, Finset.mem_range, Finset.mem_Ico]
  omega

/-- The entries of a block, which starts at `s`, are the sequence's entries further on by `s`. -/
theorem between_block {N M : Nat} (v : Fin N → EReal) (s : Nat) (hs : s + M ≤ N) (a b : Nat) (hb : b ≤ M) :
    between (fun k : Fin M => v ⟨s + k.val, by omega⟩) a b = between v (s + a) (s + b) := by
  unfold between
  rw [Nat.add_comm s a, Nat.add_comm s b, ← Finset.sum_Ico_add' (ext v) a b s]
  refine Finset.sum_congr rfl fun n hn => ?_
  have h := (Finset.mem_Ico.1 hn).2
  unfold ext
  rw [dif_pos (by omega), dif_pos (by omega)]
  exact congrArg v (Fin.ext (Nat.add_comm _ _))

/-- Adding up a list's values from a start is the start plus their sum. -/
theorem foldl_add {ι : Type} (g : ι → EReal) (l : List ι) : ∀ z : EReal, l.foldl (fun r n => r + g n) z = z + (l.map g).sum := by
  induction l with
  | nil => exact fun z => (add_zero z).symm
  | cons n l ih =>
    intro z
    rw [List.foldl_cons, ih, List.map_cons, List.sum_cons, add_assoc]

/-- A window of the whole height and one column, at row `j`: the sum of the entries that it meets. -/
theorem window_sum {R lo hi C : Nat} (x : (shape2 R C).Idx → EReal) (init : shape0.Idx → EReal) (hinit : init (ix0) = 0)
    (h : (shape2 R C).ReduceWindows (![R, 1] : Fin 2 → Nat) ![1, 1] ![lo, 0] ![hi, 0] (shape2 R C)) (hu : 0 < shape0.numel) (j : Fin R) (c : Fin C) :
    Host.reduceWindow (fun a b : EReal => a + b) ![R, 1] ![1, 1] ![lo, 0] ![hi, 0] x init h hu (ix2 j c)
      = ∑ w : Fin R, if lo ≤ j.val + w.val then ext (fun k => (x (ix2 k c) : EReal)) (j.val + w.val - lo) else 0 := by
  have hv : init (Shape.Idx.first hu) = 0 := (congrArg init (funext fun a => a.elim0)).trans hinit
  have hc := c.isLt
  unfold Host.reduceWindow
  refine (foldl_add _ _ _).trans ?_
  rw [hv, zero_add, ← Fin.sum_univ_def]
  refine Fintype.sum_equiv (finCongr (numel_col R)) _ _ fun n => ?_
  have hw0 : ((shape2 R 1).rowMajor.symm n 0).val = n.val := by rw [symm_col]; rfl
  have hw1 : ((shape2 R 1).rowMajor.symm n 1).val = 0 := by rw [symm_col]; rfl
  show _ = if lo ≤ j.val + n.val then ext (fun k => (x (ix2 k c) : EReal)) (j.val + n.val - lo) else 0
  dsimp only
  split
  · next hin =>
    have h0 := hin 0
    change lo ≤ j.val * 1 + ((shape2 R 1).rowMajor.symm n 0).val
      ∧ j.val * 1 + ((shape2 R 1).rowMajor.symm n 0).val - lo < R at h0
    rw [hw0, Nat.mul_one] at h0
    rw [if_pos h0.1]
    unfold ext
    rw [dif_pos h0.2]
    refine congrArg x (funext fun a => Fin.ext ?_)
    match a with
    | ⟨0, _⟩ =>
      show j.val * 1 + ((shape2 R 1).rowMajor.symm n 0).val - lo = j.val + n.val - lo
      rw [hw0, Nat.mul_one]
    | ⟨1, _⟩ =>
      show c.val * 1 + ((shape2 R 1).rowMajor.symm n 1).val - 0 = c.val
      rw [hw1]
      omega
  · next hin =>
    by_cases hle : lo ≤ j.val + n.val
    · rw [if_pos hle]
      unfold ext
      rw [dif_neg fun hlt => hin fun a => by
        match a with
        | ⟨0, _⟩ =>
          show lo ≤ j.val * 1 + ((shape2 R 1).rowMajor.symm n 0).val
            ∧ j.val * 1 + ((shape2 R 1).rowMajor.symm n 0).val - lo < R
          rw [hw0, Nat.mul_one]
          exact ⟨hle, hlt⟩
        | ⟨1, _⟩ =>
          show 0 ≤ c.val * 1 + ((shape2 R 1).rowMajor.symm n 1).val ∧ c.val * 1 + ((shape2 R 1).rowMajor.symm n 1).val - 0 < C
          rw [hw1]
          omega]
    · rw [if_neg hle]

/-- Padded low by one less than its height, the window at row `j` meets the rows up to `j`. -/
theorem window_low {R Rm1 C : Nat} (hR : Rm1 + 1 = R) (x : FVec Ideal (shape2 R C) .f32) (init : FVec Ideal shape0 .f32) (hinit : (init ix0 : EReal) = 0)
    (h : (shape2 R C).ReduceWindows (![R, 1] : Fin 2 → Nat) ![1, 1] ![Rm1, 0] ![0, 0] (shape2 R C)) (hu : 0 < shape0.numel) (j : Fin R) (c : Fin C) :
    Host.reduceWindowAdd (F := Ideal) (φ := .f32) ![R, 1] ![1, 1] ![Rm1, 0] ![0, 0] x init h hu (ix2 j c)
      = between (fun k => (x (ix2 k c) : EReal)) 0 (j.val + 1) := by
  have hj := j.isLt
  unfold Host.reduceWindowAdd
  refine (window_sum x init hinit h hu j c).trans ?_
  rw [Fin.sum_univ_eq_sum_range (fun w : Nat => if Rm1 ≤ j.val + w then ext (fun k => (x (ix2 k c) : EReal)) (j.val + w - Rm1) else 0) R, ← Finset.sum_filter]
  unfold between
  refine Finset.sum_bij' (fun w _ => j.val + w - Rm1) (fun s _ => s + Rm1 - j.val) ?_ ?_ ?_ ?_ ?_
  · intro w hw
    have := Finset.mem_filter.1 hw
    have h1 := Finset.mem_range.1 this.1
    have h2 := this.2
    exact Finset.mem_Ico.2 ⟨by omega, by omega⟩
  · intro s hs
    have := Finset.mem_Ico.1 hs
    exact Finset.mem_filter.2 ⟨Finset.mem_range.2 (by omega), by omega⟩
  · intro w hw
    have := Finset.mem_filter.1 hw
    have h1 := Finset.mem_range.1 this.1
    have h2 := this.2
    show j.val + w - Rm1 + Rm1 - j.val = w
    omega
  · intro s hs
    have := Finset.mem_Ico.1 hs
    show j.val + (s + Rm1 - j.val) - Rm1 = s
    omega
  · intro w hw
    rfl

/-- Padded high by one less than its height, the window at row `j` meets the rows from `j` on. -/
theorem window_high {R Rm1 C : Nat} (hR : Rm1 + 1 = R) (x : FVec Ideal (shape2 R C) .f32) (init : FVec Ideal shape0 .f32) (hinit : (init ix0 : EReal) = 0)
    (h : (shape2 R C).ReduceWindows (![R, 1] : Fin 2 → Nat) ![1, 1] ![0, 0] ![Rm1, 0] (shape2 R C)) (hu : 0 < shape0.numel) (j : Fin R) (c : Fin C) :
    Host.reduceWindowAdd (F := Ideal) (φ := .f32) ![R, 1] ![1, 1] ![0, 0] ![Rm1, 0] x init h hu (ix2 j c)
      = between (fun k => (x (ix2 k c) : EReal)) j.val R := by
  have hj := j.isLt
  unfold Host.reduceWindowAdd
  refine (window_sum x init hinit h hu j c).trans ?_
  rw [Fin.sum_univ_eq_sum_range (fun w : Nat => if 0 ≤ j.val + w then ext (fun k => (x (ix2 k c) : EReal)) (j.val + w - 0) else 0) R]
  have far : between (fun k => (x (ix2 k c) : EReal)) R (R + j.val) = 0 := Finset.sum_eq_zero fun n hn => dif_neg (by have := (Finset.mem_Ico.1 hn).1; omega)
  rw [← add_zero (between (fun k => (x (ix2 k c) : EReal)) j.val R), ← far, between_join _ hj.le (by omega)]
  unfold between
  rw [Finset.sum_Ico_eq_sum_range _ j.val, Nat.add_sub_cancel]
  exact Finset.sum_congr rfl fun w _ => if_pos (Nat.zero_le _)

/-- Choosing by the comparison of two small numbers' words. -/
theorem pick_le (a b : Nat) (ha : a < 512) (hb : b < 512) (x : EReal) :
    Scalar.select (IntOp.cmpi .sle (BitVec.ofNat 32 a) (BitVec.ofNat 32 b)) x 0 = if a ≤ b then x else 0 := by
  rw [WordCmp.cmpi_sle_ofNat (by omega) (by omega)]
  by_cases h : a ≤ b
  · rw [if_pos h, decide_eq_true h]; rfl
  · rw [if_neg h, decide_eq_false h]; rfl

theorem pick_ge (a b : Nat) (ha : a < 512) (hb : b < 512) (x : EReal) :
    Scalar.select (IntOp.cmpi .sge (BitVec.ofNat 32 a) (BitVec.ofNat 32 b)) x 0 = if b ≤ a then x else 0 :=
  pick_le b a hb ha x

end Cert.RunningSum
-- ==== Proof.ForgetSum.lean ====
/- The forget gate's running sum: each block of rows adds its rows by a triangle of ones and carries its last row on; the result holds
   at each row the sum over the rows up to it, as the reference's does. -/
module

public import proofs.«01_k».proof.Proof.Gen.Kernel23Ideal.Value
public import proofs.«01_k».proof.Proof.Gen.Reference23Ideal.Run
public import proofs.«01_k».proof.Proof.RunningSum
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel23Ideal.Arrays

open Cert.Kernel23Ideal Cert.Kernel23Ideal.Gen Cert.RunningSum

variable (m : (ℓ : Loc nD τ sig) → Buf (Elt Ideal) ℓ) (c : Dev nD)

/-- The logarithms of the gate, one lane as a sequence down the rows. -/
def lane (l : Fin 128) (r : Fin 8192) : EReal := m ((c : Thread nD τ).loc main_arg0) (ix2 r l)

theorem idx : ∀ t : Fin cfg0.N, win0_0.index t = ![t.val, 0] ∧ win0_1.index t = ![t.val, 0] ∧ win0_2.index t = ![t.val, 0] :=
  (by decide +kernel : ∀ t : Fin grid0.N, _)

/-- The array row of a block's row. -/
def row (t : Fin cfg0.N) (i : Fin 512) : Fin 8192 := ⟨t.val * 512 + i.val, by have := lt_of_lt_of_eq t.isLt N_0; omega⟩

/-- A grid point's blocks of the two inputs. -/
abbrev first (t : Fin cfg0.N) : FVec Ideal S512x128 .f32 := iblk m c 0 t
abbrev second (t : Fin cfg0.N) : FVec Ideal S512x128 .f32 := iblk m c 1 t

theorem blk0 (t : Fin cfg0.N) (i : Fin 512) (l : Fin 128) : first m c t (ix2 i l) = lane m c l (row t i) := by
  unfold lane
  blk_ext [first, second, iblk, V_main_arg0, idx t, row]

theorem zeros_at (r : Fin 8192) (l : Fin 128) : (V m c main_v0 : FVec Ideal S8192x128 .f32) (ix2 r l) = (0 : EReal) := by
  simp only [V, hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  entry_read
  pointwise

theorem blk1 (t : Fin cfg0.N) (i : Fin 512) (l : Fin 128) : second m c t (ix2 i l) = (0 : EReal) := by
  rw [← zeros_at m c (row t i) l]
  blk_ext [first, second, iblk, idx t, row]

/-- A block's row: the sum of the block's rows up to it, and the carried row. -/
theorem pay2 (x0 x1 : FVec Ideal S512x128 .f32) (a : FVec Ideal S1x128 .f32) (i : Fin 512) (l : Fin 128) :
    k0_pay2 (F := Ideal) x0 x1 a (ix2 i l) = (∑ k : Fin 512, if k.val ≤ i.val then x0 (ix2 k l) + x1 (ix2 k l) else 0) + a (ix2 0 l) := by
  pointwise [k0_pay2]
  exact congrArg (· + a (ix2 0 l)) (Finset.sum_congr rfl fun k _ => pick_le k.val i.val k.isLt i.isLt _)

/-- The row carried on. -/
theorem pay3 (x0 x1 : FVec Ideal S512x128 .f32) (a : FVec Ideal S1x128 .f32) (l : Fin 128) :
    k0_pay3 (F := Ideal) x0 x1 a (ix2 0 l) = k0_pay2 (F := Ideal) x0 x1 a (ix2 511 l) := by
  unfold k0_pay3
  pointwise

/-- A grid point's block adds a stretch of the lane. -/
theorem stretch (t : Fin cfg0.N) (i : Fin 512) (l : Fin 128) :
    (∑ k : Fin 512, if k.val ≤ i.val then first m c t (ix2 k l) + second m c t (ix2 k l) else 0)
      = between (lane m c l) (t.val * 512) (t.val * 512 + (i.val + 1)) := by
  have ht := lt_of_lt_of_eq t.isLt N_0
  refine Eq.trans (Finset.sum_congr rfl fun k _ => ?_) ((sum_between (fun k : Fin 512 => lane m c l ⟨t.val * 512 + k.val, by omega⟩) (fun k => k.val ≤ i.val) 0 (i.val + 1) i.isLt (fun k => by omega)).trans
    (between_block (lane m c l) (t.val * 512) (by omega) 0 (i.val + 1) i.isLt))
  rw [blk0, blk1, add_zero]
  rfl

/-- The first grid point starts from a row of zeros, -/
theorem carry_first (t : Fin cfg0.N) (h : t.val % 16 = 0) (l : Fin 128) :
    (outsAt0 m c t.val t.isLt).2 (ix2 0 l) = k0_pay2 (F := Ideal) (first m c t) (second m c t) (k0_pay1 (F := Ideal)) (ix2 511 l) := by
  rw [outsAt0_A m c t h]
  frame_open
  simp (disch := decide) only [↓ View.readCov_skip, ↓ View.readCov_cons_toLoadRect, ↓ View.readCov_fill]
  frame_out
  exact pay3 _ _ _ l

theorem out_first (t : Fin cfg0.N) (h : t.val % 16 = 0) (i : Fin 512) (l : Fin 128) :
    (outsAt0 m c t.val t.isLt).1 (ix2 i l) = k0_pay2 (F := Ideal) (first m c t) (second m c t) (k0_pay1 (F := Ideal)) (ix2 i l) := by
  rw [outsAt0_A m c t h]
  frame_open
  simp (disch := decide) only [↓ View.readCov_skip, ↓ View.readCov_cons_toLoadRect, ↓ View.readCov_fill]
  frame_out

/-- and every later one from the row carried to it. -/
theorem carry_next (t : Fin cfg0.N) (h : ¬ t.val % 16 = 0) (l : Fin 128) :
    (outsAt0 m c t.val t.isLt).2 (ix2 0 l)
      = k0_pay2 (F := Ideal) (first m c t) (second m c t) (outsAt0 m c (t.val - 1) (Nat.lt_of_le_of_lt (Nat.sub_le _ _) t.isLt)).2 (ix2 511 l) := by
  rw [outsAt0_B m c t h]
  frame_out
  rw [read_unread_whole]
  exact pay3 _ _ _ l

theorem out_next (t : Fin cfg0.N) (h : ¬ t.val % 16 = 0) (i : Fin 512) (l : Fin 128) :
    (outsAt0 m c t.val t.isLt).1 (ix2 i l)
      = k0_pay2 (F := Ideal) (first m c t) (second m c t) (outsAt0 m c (t.val - 1) (Nat.lt_of_le_of_lt (Nat.sub_le _ _) t.isLt)).2 (ix2 i l) := by
  rw [outsAt0_B m c t h]
  frame_out
  rw [read_unread_whole]

theorem clear (l : Fin 128) : (k0_pay1 (F := Ideal)) (ix2 0 l) = 0 := by
  pointwise [k0_pay1]

/-- What a grid point carries on: the sum up to its last row. -/
theorem carry (l : Fin 128) : ∀ (n : ℕ) (hn : n < cfg0.N), (outsAt0 m c n hn).2 (ix2 0 l) = between (lane m c l) 0 ((n + 1) * 512) := by
  intro n
  induction n with
  | zero =>
    intro hn
    rw [carry_first m c ⟨0, hn⟩ rfl l, pay2, clear, add_zero]
    exact stretch m c ⟨0, hn⟩ 511 l
  | succ n ih =>
    intro hn
    have ht := lt_of_lt_of_eq hn N_0
    rw [carry_next m c ⟨n + 1, hn⟩ (by show ¬ (n + 1) % 16 = 0; omega) l, pay2, stretch]
    refine (congrArg (_ + ·) (ih (by omega))).trans ?_
    rw [add_comm]
    show between (lane m c l) 0 ((n + 1) * 512) + between (lane m c l) ((n + 1) * 512) ((n + 1) * 512 + 512) = _
    rw [show (n + 1 + 1) * 512 = (n + 1) * 512 + 512 by omega]
    exact between_join _ (by omega) (by omega)

/-- A grid point's block of the result. -/
theorem out2 (t : Fin cfg0.N) (i : Fin 512) (l : Fin 128) : (outsAt0 m c t.val t.isLt).1 (ix2 i l) = between (lane m c l) 0 ((row t i).val + 1) := by
  have ht := lt_of_lt_of_eq t.isLt N_0
  by_cases h : t.val % 16 = 0
  · rw [out_first m c t h i l, pay2, clear, add_zero, stretch]
    show _ = between (lane m c l) 0 (t.val * 512 + i.val + 1)
    rw [show t.val = 0 by omega, Nat.add_assoc]
  · rw [out_next m c t h i l, pay2, stretch, carry, add_comm, show (t.val - 1 + 1) * 512 = t.val * 512 by omega]
    exact between_join _ (by omega) (by omega)

theorem final2 : (dats m 0 c).arrAt 2 cfg0.N = fun i => between (lane m c (i 1)) 0 ((i 0).val + 1) := by
  refine (dats m 0 c).arrAt_eq_of_covers 2 _ (by decide +kernel) fun t hf y => ?_
  blk_simp
  rw [after0_2]
  idx_vars y
  refine (out2 m c t y0 y1).trans (congrArg₂ (fun (l : Fin 128) (r : ℕ) => between (lane m c l) 0 (r + 1)) (Fin.ext ?_) ?_) <;> blk_simp [idx t, row]

end Cert.Kernel23Ideal.Arrays

namespace Cert.ForgetSum

open Cert Cert.Reference23Ideal Cert.Reference23Ideal.Gen Idealize.ShloMosaic.StableHlo Cert.RunningSum

variable (m : (ℓ : Loc Kernel23Ideal.nD Kernel23Ideal.τ Kernel23Ideal.sig) → Buf (Elt Ideal) ℓ)
  (m' : (ℓ : Loc nD τ sig) → Buf (Elt Ideal) ℓ) (c : Dev nD)
  (h0 : m' ((c.tc : Thread nD τ).loc main_arg0) = m ((c.tc : Thread Kernel23Ideal.nD Kernel23Ideal.τ).loc Kernel23Ideal.main_arg0))
include h0

omit h0 in
/-- The start of a window's sum. -/
theorem start : ((broadcastInDim S_ ![] bcast_S_S_ (constant S_ .f32 0x00000000#32) : FVec Ideal S_ .f32) ix0 : EReal) = 0 := by
  pointwise

/-- The two programs' running sums are equal. -/
theorem result0 : Host.reduceWindowAdd (F := Ideal) (φ := .f32) ![8192, 1] ![1, 1] ![8191, 0] ![0, 0] (m' ((c.tc : Thread nD τ).loc main_arg0)) (broadcastInDim S_ ![] bcast_S_S_ (constant S_ .f32 0x00000000#32)) reduceWindows_S8192x128_S8192x128_w8192s1p8191_0_w1s1p0_0 h_S_
    = (Kernel23Ideal.Gen.dats m 0 c).arrAt 2 Kernel23Ideal.cfg0.N := by
  rw [Kernel23Ideal.Arrays.final2, h0]
  funext y
  idx_vars y
  exact window_low (R := 8192) (Rm1 := 8191) (C := 128) rfl _ _ start _ _ y0 y1

end Cert.ForgetSum

end
-- ==== Proof.ForgetSumGrad.lean ====
/- The gradient of the forget gate's running sum: the blocks of rows come last to first, each adds its rows from the bottom by a triangle of
   ones and carries its top row on; the result holds at each row the sum of both gradients over the rows from it on, as the reference's does. -/
module

public import proofs.«01_k».proof.Proof.Gen.Kernel24Ideal.Value
public import proofs.«01_k».proof.Proof.Gen.Reference24Ideal.Run
public import proofs.«01_k».proof.Proof.RunningSum
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.Kernel24Ideal.Arrays

open Cert.Kernel24Ideal Cert.Kernel24Ideal.Gen Cert.RunningSum

variable (m : (ℓ : Loc nD τ sig) → Buf (Elt Ideal) ℓ) (c : Dev nD)

/-- The two gradients that meet at the running sum. -/
abbrev DQ (r : Fin 8192) (l : Fin 128) : EReal := m ((c : Thread nD τ).loc main_arg0) (ix2 r l)
abbrev DK (r : Fin 8192) (l : Fin 128) : EReal := m ((c : Thread nD τ).loc main_arg1) (ix2 r l)

/-- Their sum, one lane as a sequence down the rows. -/
def lane (l : Fin 128) (r : Fin 8192) : EReal := DQ m c r l + DK m c r l

theorem idx : ∀ t : Fin cfg0.N, win0_0.index t = ![15 - t.val, 0] ∧ win0_1.index t = ![15 - t.val, 0] ∧ win0_2.index t = ![15 - t.val, 0] :=
  (by decide +kernel : ∀ t : Fin grid0.N, _)

/-- The array row of a block's row. -/
def row (t : Fin cfg0.N) (i : Fin 512) : Fin 8192 := ⟨(15 - t.val) * 512 + i.val, by have := lt_of_lt_of_eq t.isLt N_0; omega⟩

/-- A grid point's blocks of the two inputs. -/
abbrev first (t : Fin cfg0.N) : FVec Ideal S512x128 .f32 := iblk m c 0 t
abbrev second (t : Fin cfg0.N) : FVec Ideal S512x128 .f32 := iblk m c 1 t

theorem blk0 (t : Fin cfg0.N) (i : Fin 512) (l : Fin 128) : first m c t (ix2 i l) = DQ m c (row t i) l := by
  blk_ext [first, second, iblk, V_main_arg0, idx t, row]

theorem blk1 (t : Fin cfg0.N) (i : Fin 512) (l : Fin 128) : second m c t (ix2 i l) = DK m c (row t i) l := by
  blk_ext [first, second, iblk, V_main_arg1, idx t, row]

/-- A block's row: the sum of the block's rows from it, and the carried row. -/
theorem pay2 (x0 x1 : FVec Ideal S512x128 .f32) (a : FVec Ideal S1x128 .f32) (i : Fin 512) (l : Fin 128) :
    k0_pay2 (F := Ideal) x0 x1 a (ix2 i l) = (∑ k : Fin 512, if i.val ≤ k.val then x0 (ix2 k l) + x1 (ix2 k l) else 0) + a (ix2 0 l) := by
  pointwise [k0_pay2]
  exact congrArg (· + a (ix2 0 l)) (Finset.sum_congr rfl fun k _ => pick_ge k.val i.val k.isLt i.isLt _)

/-- The row carried on. -/
theorem pay3 (x0 x1 : FVec Ideal S512x128 .f32) (a : FVec Ideal S1x128 .f32) (l : Fin 128) :
    k0_pay3 (F := Ideal) x0 x1 a (ix2 0 l) = k0_pay2 (F := Ideal) x0 x1 a (ix2 0 l) := by
  unfold k0_pay3
  pointwise

/-- A grid point's block adds a stretch of the lane. -/
theorem stretch (t : Fin cfg0.N) (i : Fin 512) (l : Fin 128) :
    (∑ k : Fin 512, if i.val ≤ k.val then first m c t (ix2 k l) + second m c t (ix2 k l) else 0)
      = between (lane m c l) ((15 - t.val) * 512 + i.val) ((15 - t.val) * 512 + 512) := by
  have ht := lt_of_lt_of_eq t.isLt N_0
  refine Eq.trans (Finset.sum_congr rfl fun k _ => ?_) ((sum_between (fun k : Fin 512 => lane m c l ⟨(15 - t.val) * 512 + k.val, by omega⟩) (fun k => i.val ≤ k.val) i.val 512 le_rfl (fun k => ⟨fun h => ⟨h, k.isLt⟩, fun h => h.1⟩)).trans
    (between_block (lane m c l) ((15 - t.val) * 512) (by omega) i.val 512 le_rfl))
  rw [blk0, blk1]
  rfl

/-- The first grid point starts from a row of zeros, -/
theorem carry_first (t : Fin cfg0.N) (h : t.val % 16 = 0) (l : Fin 128) :
    (outsAt0 m c t.val t.isLt).2 (ix2 0 l) = k0_pay2 (F := Ideal) (first m c t) (second m c t) (k0_pay1 (F := Ideal)) (ix2 0 l) := by
  rw [outsAt0_A m c t h]
  frame_open
  simp (disch := decide) only [↓ View.readCov_skip, ↓ View.readCov_cons_toLoadRect, ↓ View.readCov_fill]
  frame_out
  exact pay3 _ _ _ l

theorem out_first (t : Fin cfg0.N) (h : t.val % 16 = 0) (i : Fin 512) (l : Fin 128) :
    (outsAt0 m c t.val t.isLt).1 (ix2 i l) = k0_pay2 (F := Ideal) (first m c t) (second m c t) (k0_pay1 (F := Ideal)) (ix2 i l) := by
  rw [outsAt0_A m c t h]
  frame_open
  simp (disch := decide) only [↓ View.readCov_skip, ↓ View.readCov_cons_toLoadRect, ↓ View.readCov_fill]
  frame_out

/-- and every later one from the row carried to it. -/
theorem carry_next (t : Fin cfg0.N) (h : ¬ t.val % 16 = 0) (l : Fin 128) :
    (outsAt0 m c t.val t.isLt).2 (ix2 0 l)
      = k0_pay2 (F := Ideal) (first m c t) (second m c t) (outsAt0 m c (t.val - 1) (Nat.lt_of_le_of_lt (Nat.sub_le _ _) t.isLt)).2 (ix2 0 l) := by
  rw [outsAt0_B m c t h]
  frame_out
  rw [read_unread_whole]
  exact pay3 _ _ _ l

theorem out_next (t : Fin cfg0.N) (h : ¬ t.val % 16 = 0) (i : Fin 512) (l : Fin 128) :
    (outsAt0 m c t.val t.isLt).1 (ix2 i l)
      = k0_pay2 (F := Ideal) (first m c t) (second m c t) (outsAt0 m c (t.val - 1) (Nat.lt_of_le_of_lt (Nat.sub_le _ _) t.isLt)).2 (ix2 i l) := by
  rw [outsAt0_B m c t h]
  frame_out
  rw [read_unread_whole]

theorem clear (l : Fin 128) : (k0_pay1 (F := Ideal)) (ix2 0 l) = 0 := by
  pointwise [k0_pay1]

/-- What a grid point carries on: the sum from its first row on. -/
theorem carry (l : Fin 128) : ∀ (n : ℕ) (hn : n < cfg0.N), (outsAt0 m c n hn).2 (ix2 0 l) = between (lane m c l) ((15 - n) * 512) 8192 := by
  intro n
  induction n with
  | zero =>
    intro hn
    rw [carry_first m c ⟨0, hn⟩ rfl l, pay2, clear, add_zero]
    exact stretch m c ⟨0, hn⟩ 0 l
  | succ n ih =>
    intro hn
    have ht := lt_of_lt_of_eq hn N_0
    rw [carry_next m c ⟨n + 1, hn⟩ (by show ¬ (n + 1) % 16 = 0; omega) l, pay2, stretch]
    refine (congrArg (_ + ·) (ih (by omega))).trans ?_
    show between (lane m c l) ((15 - (n + 1)) * 512 + 0) ((15 - (n + 1)) * 512 + 512) + _ = _
    rw [show (15 - n) * 512 = (15 - (n + 1)) * 512 + 512 by omega]
    exact between_join _ (by omega) (by omega)

/-- A grid point's block of the result. -/
theorem out2 (t : Fin cfg0.N) (i : Fin 512) (l : Fin 128) : (outsAt0 m c t.val t.isLt).1 (ix2 i l) = between (lane m c l) (row t i).val 8192 := by
  have ht := lt_of_lt_of_eq t.isLt N_0
  by_cases h : t.val % 16 = 0
  · rw [out_first m c t h i l, pay2, clear, add_zero, stretch]
    rw [show t.val = 0 by omega]
    show _ = between (lane m c l) ((15 - t.val) * 512 + i.val) 8192
    rw [show t.val = 0 by omega]
  · rw [out_next m c t h i l, pay2, stretch, carry]
    rw [show (15 - (t.val - 1)) * 512 = (15 - t.val) * 512 + 512 by omega]
    exact between_join _ (by omega) (by omega)

theorem final2 : (dats m 0 c).arrAt 2 cfg0.N = fun i => between (lane m c (i 1)) (i 0).val 8192 := by
  refine (dats m 0 c).arrAt_eq_of_covers 2 _ (by decide +kernel) fun t hf y => ?_
  blk_simp
  rw [after0_2]
  idx_vars y
  refine (out2 m c t y0 y1).trans (congrArg₂ (fun (l : Fin 128) (r : ℕ) => between (lane m c l) r 8192) (Fin.ext ?_) ?_) <;> blk_simp [idx t, row]

end Cert.Kernel24Ideal.Arrays

namespace Cert.ForgetSumGrad

open Cert Cert.Reference24Ideal Cert.Reference24Ideal.Gen Idealize.ShloMosaic.StableHlo Cert.RunningSum

variable (m : (ℓ : Loc Kernel24Ideal.nD Kernel24Ideal.τ Kernel24Ideal.sig) → Buf (Elt Ideal) ℓ)
  (m' : (ℓ : Loc nD τ sig) → Buf (Elt Ideal) ℓ) (c : Dev nD)
  (h0 : m' ((c.tc : Thread nD τ).loc main_arg0) = m ((c.tc : Thread Kernel24Ideal.nD Kernel24Ideal.τ).loc Kernel24Ideal.main_arg0))
  (h1 : m' ((c.tc : Thread nD τ).loc main_arg1) = m ((c.tc : Thread Kernel24Ideal.nD Kernel24Ideal.τ).loc Kernel24Ideal.main_arg1))
include h0 h1

omit h0 h1 in
/-- The start of a window's sum. -/
theorem start : ((broadcastInDim S_ ![] bcast_S_S_ (constant S_ .f32 0x00000000#32) : FVec Ideal S_ .f32) ix0 : EReal) = 0 := by
  pointwise

/-- The two programs' gradients are equal. -/
theorem result0 : addf (F := Ideal) (φ := .f32) (Host.reduceWindowAdd ![8192, 1] ![1, 1] ![0, 0] ![8191, 0] (m' ((c.tc : Thread nD τ).loc main_arg1)) (broadcastInDim S_ ![] bcast_S_S_ (constant S_ .f32 0x00000000#32)) reduceWindows_S8192x128_S8192x128_w8192s1p0_8191_w1s1p0_0 h_S_) (Host.reduceWindowAdd ![8192, 1] ![1, 1] ![0, 0] ![8191, 0] (m' ((c.tc : Thread nD τ).loc main_arg0)) (broadcastInDim S_ ![] bcast_S_S_ (constant S_ .f32 0x00000000#32)) reduceWindows_S8192x128_S8192x128_w8192s1p0_8191_w1s1p0_0 h_S_)
    = (Kernel24Ideal.Gen.dats m 0 c).arrAt 2 Kernel24Ideal.cfg0.N := by
  rw [Kernel24Ideal.Arrays.final2, h0, h1]
  funext y
  idx_vars y
  refine (congrArg₂ (fun a b : EReal => a + b) (window_high (R := 8192) (Rm1 := 8191) (C := 128) rfl _ _ start _ _ y0 y1)
    (window_high (R := 8192) (Rm1 := 8191) (C := 128) rfl _ _ start _ _ y0 y1)).trans ?_
  rw [add_comm]
  exact (between_add _ _ _ _).symm

end Cert.ForgetSumGrad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.MlpEquation
public import proofs.«01_k».proof.Proof.UpWeights
public import proofs.«01_k».proof.Proof.DownWeights
public import proofs.«01_k».proof.Proof.SquareWeights
public import proofs.«01_k».proof.Proof.EntranceWeights
public import proofs.«01_k».proof.Proof.MlpForward
public import proofs.«01_k».proof.Proof.LossEquation
public import proofs.«01_k».proof.Proof.ConvGrad
public import proofs.«01_k».proof.Proof.ConvEntry
public import proofs.«01_k».proof.Proof.AttentionExit
public import proofs.«01_k».proof.Proof.SmallStep
public import proofs.«01_k».proof.Proof.UpStep
public import proofs.«01_k».proof.Proof.DownStep
public import proofs.«01_k».proof.Proof.EntryStep
public import proofs.«01_k».proof.Proof.ExitStep
public import proofs.«01_k».proof.Proof.GateStep
public import proofs.«01_k».proof.Proof.TapStep
public import proofs.«01_k».proof.Proof.ConvExit
public import proofs.«01_k».proof.Proof.GateWeights
public import proofs.«01_k».proof.Proof.AttentionEntry
public import proofs.«01_k».proof.Proof.AttentionExitGrad
public import proofs.«01_k».proof.Proof.AttentionEntryGrad
public import proofs.«01_k».proof.Proof.ForgetSum
public import proofs.«01_k».proof.Proof.ForgetSumGrad
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments, and declares no semaphore. -/
theorem frameReference : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2.2.2, sem_eq_zero_of_no_sems (by decide) r.2⟩) (Cert.ReferenceIdeal.Value.run (F := Ideal) m ρ)

/-- The gradient kernel computes the reference's results. -/
theorem algebraic : Cert.algebraic_KernelIdeal_ReferenceIdeal (hKernelIdeal := Cert.KernelIdeal.Gen.facts) (hReferenceIdeal := Cert.ReferenceIdeal.Gen.facts) := by
  pair_intro
  · run_from Cert.KernelIdeal.Value.run_blocks m g
  · refine (θ_run (Cert.ReferenceIdeal.defs (F := Ideal)) _ _).mono (fun r h c => ?_) (Cert.ReferenceIdeal.Value.run (F := Ideal) m' g')
    obtain ⟨e0, e1, e2, e3, e4, e5⟩ := hagree c
    obtain ⟨r0, r1, r2, r3, r4, hrest⟩ := h c
    exact ⟨r0.trans (MlpEquation.result0 m m' c e0 e1 e2 e3 e4 e5), r1.trans (MlpEquation.result1 m m' c e0 e1 e2 e3 e4 e5),
      r2.trans (MlpEquation.result2 m m' c e0 e1 e2 e3 e4 e5), r3.trans (MlpEquation.result3 m m' c e0 e1 e2 e3 e4 e5),
      r4.trans (MlpEquation.result4 m m' c e0 e1 e2 e3 e4 e5), hrest⟩

theorem frameReference2 : Cert.quiescent_Reference2Ideal (hReference2Ideal := Cert.Reference2Ideal.Gen.facts) := fun m ρ _ =>
  (θ_run (Cert.Reference2Ideal.defs (F := Ideal)) _ _).mono
    (fun r h => ⟨fun c => (h c).2, sem_eq_zero_of_no_sems (by decide) r.2⟩) (Cert.Reference2Ideal.Value.run (F := Ideal) m ρ)

/-- The kernel of the up projection's weight gradient computes the reference's result. -/
theorem algebraic2 : Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · refine (θ_run (Cert.Reference2Ideal.defs (F := Ideal)) _ _).mono (fun r h c => ?_) (Cert.Reference2Ideal.Value.run (F := Ideal) m' g')
    obtain ⟨e0, e1⟩ := hagree c
    obtain ⟨r0, hrest⟩ := h c
    exact ⟨r0.trans (UpWeights.result m m' c e0 e1), hrest⟩

theorem frameReference3 : Cert.quiescent_Reference3Ideal (hReference3Ideal := Cert.Reference3Ideal.Gen.facts) := fun m ρ _ =>
  (θ_run (Cert.Reference3Ideal.defs (F := Ideal)) _ _).mono
    (fun r h => ⟨fun c => (h c).2, sem_eq_zero_of_no_sems (by decide) r.2⟩) (Cert.Reference3Ideal.Value.run (F := Ideal) m ρ)

/-- The kernel of the down projection's weight gradient computes the reference's result. -/
theorem algebraic3 : Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · refine (θ_run (Cert.Reference3Ideal.defs (F := Ideal)) _ _).mono (fun r h c => ?_) (Cert.Reference3Ideal.Value.run (F := Ideal) m' g')
    obtain ⟨e0, e1⟩ := hagree c
    obtain ⟨r0, hrest⟩ := h c
    exact ⟨r0.trans (DownWeights.result m m' c e0 e1), hrest⟩

theorem frameReference4 : Cert.quiescent_Reference4Ideal (hReference4Ideal := Cert.Reference4Ideal.Gen.facts) := fun m ρ _ =>
  (θ_run (Cert.Reference4Ideal.defs (F := Ideal)) _ _).mono
    (fun r h => ⟨fun c => (h c).2, sem_eq_zero_of_no_sems (by decide) r.2⟩) (Cert.Reference4Ideal.Value.run (F := Ideal) m ρ)

/-- The kernel of a square weight's gradient computes the reference's result. -/
theorem algebraic4 : Cert.algebraic_Kernel4Ideal_Reference4Ideal (hKernel4Ideal := Cert.Kernel4Ideal.Gen.facts) (hReference4Ideal := Cert.Reference4Ideal.Gen.facts) := by
  pair_intro
  · run_from Cert.Kernel4Ideal.Value.run_blocks m g
  · refine (θ_run (Cert.Reference4Ideal.defs (F := Ideal)) _ _).mono (fun r h c => ?_) (Cert.Reference4Ideal.Value.run (F := Ideal) m' g')
    obtain ⟨e0, e1⟩ := hagree c
    obtain ⟨r0, hrest⟩ := h c
    exact ⟨r0.trans (SquareWeights.result m m' c e0 e1), hrest⟩

theorem frameReference5 : Cert.quiescent_Reference5Ideal (hReference5Ideal := Cert.Reference5Ideal.Gen.facts) := fun m ρ _ =>
  (θ_run (Cert.Reference5Ideal.defs (F := Ideal)) _ _).mono
    (fun r h => ⟨fun c => (h c).2, sem_eq_zero_of_no_sems (by decide) r.2⟩) (Cert.Reference5Ideal.Value.run (F := Ideal) m ρ)

/-- The kernel of the entrance weight's gradient computes the reference's result. -/
theorem algebraic5 : Cert.algebraic_Kernel5Ideal_Reference5Ideal (hKernel5Ideal := Cert.Kernel5Ideal.Gen.facts) (hReference5Ideal := Cert.Reference5Ideal.Gen.facts) := by
  pair_intro
  · run_from Cert.Kernel5Ideal.Value.run_blocks m g
  · refine (θ_run (Cert.Reference5Ideal.defs (F := Ideal)) _ _).mono (fun r h c => ?_) (Cert.Reference5Ideal.Value.run (F := Ideal) m' g')
    obtain ⟨e0, e1⟩ := hagree c
    obtain ⟨r0, hrest⟩ := h c
    exact ⟨r0.trans (EntranceWeights.result m m' c e0 e1), hrest⟩

theorem frameReference6 : Cert.quiescent_Reference6Ideal (hReference6Ideal := Cert.Reference6Ideal.Gen.facts) := fun m ρ _ =>
  (θ_run (Cert.Reference6Ideal.defs (F := Ideal)) _ _).mono
    (fun r h => ⟨fun c => (h c).2.2.2, sem_eq_zero_of_no_sems (by decide) r.2⟩) (Cert.Reference6Ideal.Value.run (F := Ideal) m ρ)

/-- The forward kernel of an MLP sub-layer computes the reference's results. -/
theorem algebraic6 : Cert.algebraic_Kernel6Ideal_Reference6Ideal (hKernel6Ideal := Cert.Kernel6Ideal.Gen.facts) (hReference6Ideal := Cert.Reference6Ideal.Gen.facts) := by
  pair_intro
  · run_from Cert.Kernel6Ideal.Value.run_blocks m g
  · refine (θ_run (Cert.Reference6Ideal.defs (F := Ideal)) _ _).mono (fun r h c => ?_) (Cert.Reference6Ideal.Value.run (F := Ideal) m' g')
    obtain ⟨e0, e1, e2, e3, e4⟩ := hagree c
    obtain ⟨r0, r1, r2, hrest⟩ := h c
    exact ⟨r0.trans (MlpForward.result0 m m' c e0 e1 e2 e3 e4), r1.trans (MlpForward.result1 m m' c e0 e1 e2 e3 e4), r2.trans (MlpForward.result2 m m' c e0 e1 e2 e3 e4), hrest⟩

theorem frameReference7 : Cert.quiescent_Reference7Ideal (hReference7Ideal := Cert.Reference7Ideal.Gen.facts) := fun m ρ _ =>
  (θ_run (Cert.Reference7Ideal.defs (F := Ideal)) _ _).mono
    (fun r h => ⟨fun c => (h c).2.2.2.2.2, sem_eq_zero_of_no_sems (by decide) r.2⟩) (Cert.Reference7Ideal.Value.run (F := Ideal) m ρ)

/-- The gradient kernel of the last MLP sub-layer, loss included, computes the reference's results. -/
theorem algebraic7 : Cert.algebraic_Kernel7Ideal_Reference7Ideal (hKernel7Ideal := Cert.Kernel7Ideal.Gen.facts) (hReference7Ideal := Cert.Reference7Ideal.Gen.facts) := by
  pair_intro
  · run_from Cert.Kernel7Ideal.Value.run_blocks m g
  · refine (θ_run (Cert.Reference7Ideal.defs (F := Ideal)) _ _).mono (fun r h c => ?_) (Cert.Reference7Ideal.Value.run (F := Ideal) m' g')
    obtain ⟨e0, e1, e2, e3, e4, e5, e6⟩ := hagree c
    obtain ⟨r0, r1, r2, r3, r4, hrest⟩ := h c
    exact ⟨r0.trans (LossEquation.result0 m m' c e0 e1 e2 e3 e4 e5 e6), r1.trans (LossEquation.result1 m m' c e0 e1 e2 e3 e4 e5 e6), r2.trans (LossEquation.result2 m m' c e0 e1 e2 e3 e4 e5 e6), r3.trans (LossEquation.result3 m m' c e0 e1 e2 e3 e4 e5 e6), r4.trans (LossEquation.result4 m m' c e0 e1 e2 e3 e4 e5 e6), hrest⟩

theorem frameReference8 : Cert.quiescent_Reference8Ideal (hReference8Ideal := Cert.Reference8Ideal.Gen.facts) := fun m ρ _ =>
  (θ_run (Cert.Reference8Ideal.defs (F := Ideal)) _ _).mono
    (fun r h => ⟨fun c => (h c).2.2.2.2.2, sem_eq_zero_of_no_sems (by decide) r.2⟩) (Cert.Reference8Ideal.Value.run (F := Ideal) m ρ)

/-- The gradient kernel of the convolution's entrance computes the reference's results. -/
theorem algebraic8 : Cert.algebraic_Kernel8Ideal_Reference8Ideal (hKernel8Ideal := Cert.Kernel8Ideal.Gen.facts) (hReference8Ideal := Cert.Reference8Ideal.Gen.facts) := by
  pair_intro
  · run_from Cert.Kernel8Ideal.Value.run_blocks m g
  · refine (θ_run (Cert.Reference8Ideal.defs (F := Ideal)) _ _).mono (fun r h c => ?_) (Cert.Reference8Ideal.Value.run (F := Ideal) m' g')
    obtain ⟨e0, e1, e2, e3, e4, e5⟩ := hagree c
    obtain ⟨r0, r1, r2, r3, r4, hrest⟩ := h c
    exact ⟨r0.trans (ConvGrad.result0 m m' c e0 e1 e2 e3 e4 e5), r1.trans (ConvGrad.result1 m m' c e0 e1 e2 e3 e4 e5), r2.trans (ConvGrad.result2 m m' c e0 e1 e2 e3 e4 e5), r3.trans (ConvGrad.result3 m m' c e0 e1 e2 e3 e4 e5), r4.trans (ConvGrad.result4 m m' c e0 e1 e2 e3 e4 e5), hrest⟩

theorem frameReference9 : Cert.quiescent_Reference9Ideal (hReference9Ideal := Cert.Reference9Ideal.Gen.facts) := fun m ρ _ =>
  (θ_run (Cert.Reference9Ideal.defs (F := Ideal)) _ _).mono
    (fun r h => ⟨fun c => (h c).2.2, sem_eq_zero_of_no_sems (by decide) r.2⟩) (Cert.Reference9Ideal.Value.run (F := Ideal) m ρ)

/-- The kernel of the convolution's entrance computes the reference's results. -/
theorem algebraic9 : Cert.algebraic_Kernel9Ideal_Reference9Ideal (hKernel9Ideal := Cert.Kernel9Ideal.Gen.facts) (hReference9Ideal := Cert.Reference9Ideal.Gen.facts) := by
  pair_intro
  · run_from Cert.Kernel9Ideal.Value.run_blocks m g
  · refine (θ_run (Cert.Reference9Ideal.defs (F := Ideal)) _ _).mono (fun r h c => ?_) (Cert.Reference9Ideal.Value.run (F := Ideal) m' g')
    obtain ⟨e0, e1, e2, e3⟩ := hagree c
    obtain ⟨r0, r1, hrest⟩ := h c
    exact ⟨r0.trans (ConvEntry.result0 m m' c e0 e1 e2 e3), r1.trans (ConvEntry.result1 m m' c e0 e1 e2 e3), hrest⟩

theorem frameReference10 : Cert.quiescent_Reference10Ideal (hReference10Ideal := Cert.Reference10Ideal.Gen.facts) := fun m ρ _ =>
  (θ_run (Cert.Reference10Ideal.defs (F := Ideal)) _ _).mono
    (fun r h => ⟨fun c => (h c).2.2, sem_eq_zero_of_no_sems (by decide) r.2⟩) (Cert.Reference10Ideal.Value.run (F := Ideal) m ρ)

/-- The kernel of the attention's exit computes the reference's results. -/
theorem algebraic10 : Cert.algebraic_Kernel10Ideal_Reference10Ideal (hKernel10Ideal := Cert.Kernel10Ideal.Gen.facts) (hReference10Ideal := Cert.Reference10Ideal.Gen.facts) := by
  pair_intro
  · run_from Cert.Kernel10Ideal.Value.run_blocks m g
  · refine (θ_run (Cert.Reference10Ideal.defs (F := Ideal)) _ _).mono (fun r h c => ?_) (Cert.Reference10Ideal.Value.run (F := Ideal) m' g')
    obtain ⟨e0, e1, e2, e3⟩ := hagree c
    obtain ⟨r0, r1, hrest⟩ := h c
    exact ⟨r0.trans (AttentionExit.result0 m m' c e0 e1 e2 e3), r1.trans (AttentionExit.result1 m m' c e0 e1 e2 e3), hrest⟩

theorem frameReference11 : Cert.quiescent_Reference11Ideal (hReference11Ideal := Cert.Reference11Ideal.Gen.facts) := fun m ρ _ =>
  (θ_run (Cert.Reference11Ideal.defs (F := Ideal)) _ _).mono
    (fun r h => ⟨fun c => (h c).2.2.2.2, sem_eq_zero_of_no_sems (by decide) r.2⟩) (Cert.Reference11Ideal.Value.run (F := Ideal) m ρ)

/-- The optimiser's kernel of the packed small parameters computes the reference's results. -/
theorem algebraic11 : Cert.algebraic_Kernel11Ideal_Reference11Ideal (hKernel11Ideal := Cert.Kernel11Ideal.Gen.facts) (hReference11Ideal := Cert.Reference11Ideal.Gen.facts) := by
  pair_intro
  · run_from Cert.Kernel11Ideal.Value.run_blocks m g
  · refine (θ_run (Cert.Reference11Ideal.defs (F := Ideal)) _ _).mono (fun r h c => ?_) (Cert.Reference11Ideal.Value.run (F := Ideal) m' g')
    obtain ⟨e0, e1, e2, e3⟩ := hagree c
    obtain ⟨r0, r1, r2, r3, hrest⟩ := h c
    exact ⟨r0.trans (SmallStep.result0 m m' c e0 e1 e2 e3), r1.trans (SmallStep.result1 m m' c e0 e1 e2 e3), r2.trans (SmallStep.result2 m m' c e0 e1 e2 e3), r3.trans (SmallStep.result3 m m' c e0 e1 e2 e3), hrest⟩

theorem frameReference12 : Cert.quiescent_Reference12Ideal (hReference12Ideal := Cert.Reference12Ideal.Gen.facts) := fun m ρ _ =>
  (θ_run (Cert.Reference12Ideal.defs (F := Ideal)) _ _).mono
    (fun r h => ⟨fun c => (h c).2.2.2.2, sem_eq_zero_of_no_sems (by decide) r.2⟩) (Cert.Reference12Ideal.Value.run (F := Ideal) m ρ)

/-- The optimiser's kernel of the up projections computes the reference's results. -/
theorem algebraic12 : Cert.algebraic_Kernel12Ideal_Reference12Ideal (hKernel12Ideal := Cert.Kernel12Ideal.Gen.facts) (hReference12Ideal := Cert.Reference12Ideal.Gen.facts) := by
  pair_intro
  · run_from Cert.Kernel12Ideal.Value.run_blocks m g
  · refine (θ_run (Cert.Reference12Ideal.defs (F := Ideal)) _ _).mono (fun r h c => ?_) (Cert.Reference12Ideal.Value.run (F := Ideal) m' g')
    obtain ⟨e0, e1, e2, e3, e4⟩ := hagree c
    obtain ⟨r0, r1, r2, r3, hrest⟩ := h c
    exact ⟨r0.trans (UpStep.result0 m m' c e0 e1 e2 e3 e4), r1.trans (UpStep.result1 m m' c e0 e1 e2 e3 e4), r2.trans (UpStep.result2 m m' c e0 e1 e2 e3 e4), r3.trans (UpStep.result3 m m' c e0 e1 e2 e3 e4), hrest⟩

theorem frameReference13 : Cert.quiescent_Reference13Ideal (hReference13Ideal := Cert.Reference13Ideal.Gen.facts) := fun m ρ _ =>
  (θ_run (Cert.Reference13Ideal.defs (F := Ideal)) _ _).mono
    (fun r h => ⟨fun c => (h c).2.2.2.2, sem_eq_zero_of_no_sems (by decide) r.2⟩) (Cert.Reference13Ideal.Value.run (F := Ideal) m ρ)

/-- The optimiser's kernel of the down projections computes the reference's results. -/
theorem algebraic13 : Cert.algebraic_Kernel13Ideal_Reference13Ideal (hKernel13Ideal := Cert.Kernel13Ideal.Gen.facts) (hReference13Ideal := Cert.Reference13Ideal.Gen.facts) := by
  pair_intro
  · run_from Cert.Kernel13Ideal.Value.run_blocks m g
  · refine (θ_run (Cert.Reference13Ideal.defs (F := Ideal)) _ _).mono (fun r h c => ?_) (Cert.Reference13Ideal.Value.run (F := Ideal) m' g')
    obtain ⟨e0, e1, e2, e3, e4⟩ := hagree c
    obtain ⟨r0, r1, r2, r3, hrest⟩ := h c
    exact ⟨r0.trans (DownStep.result0 m m' c e0 e1 e2 e3 e4), r1.trans (DownStep.result1 m m' c e0 e1 e2 e3 e4), r2.trans (DownStep.result2 m m' c e0 e1 e2 e3 e4), r3.trans (DownStep.result3 m m' c e0 e1 e2 e3 e4), hrest⟩

theorem frameReference14 : Cert.quiescent_Reference14Ideal (hReference14Ideal := Cert.Reference14Ideal.Gen.facts) := fun m ρ _ =>
  (θ_run (Cert.Reference14Ideal.defs (F := Ideal)) _ _).mono
    (fun r h => ⟨fun c => (h c).2.2.2.2, sem_eq_zero_of_no_sems (by decide) r.2⟩) (Cert.Reference14Ideal.Value.run (F := Ideal) m ρ)

/-- The optimiser's kernel of the attention's entrance weight computes the reference's results. -/
theorem algebraic14 : Cert.algebraic_Kernel14Ideal_Reference14Ideal (hKernel14Ideal := Cert.Kernel14Ideal.Gen.facts) (hReference14Ideal := Cert.Reference14Ideal.Gen.facts) := by
  pair_intro
  · run_from Cert.Kernel14Ideal.Value.run_blocks m g
  · refine (θ_run (Cert.Reference14Ideal.defs (F := Ideal)) _ _).mono (fun r h c => ?_) (Cert.Reference14Ideal.Value.run (F := Ideal) m' g')
    obtain ⟨e0, e1, e2, e3⟩ := hagree c
    obtain ⟨r0, r1, r2, r3, hrest⟩ := h c
    exact ⟨r0.trans (EntryStep.result0 m m' c e0 e1 e2 e3), r1.trans (EntryStep.result1 m m' c e0 e1 e2 e3), r2.trans (EntryStep.result2 m m' c e0 e1 e2 e3), r3.trans (EntryStep.result3 m m' c e0 e1 e2 e3), hrest⟩

theorem frameReference15 : Cert.quiescent_Reference15Ideal (hReference15Ideal := Cert.Reference15Ideal.Gen.facts) := fun m ρ _ =>
  (θ_run (Cert.Reference15Ideal.defs (F := Ideal)) _ _).mono
    (fun r h => ⟨fun c => (h c).2.2.2.2, sem_eq_zero_of_no_sems (by decide) r.2⟩) (Cert.Reference15Ideal.Value.run (F := Ideal) m ρ)

/-- The optimiser's kernel of a square weight computes the reference's results. -/
theorem algebraic15 : Cert.algebraic_Kernel15Ideal_Reference15Ideal (hKernel15Ideal := Cert.Kernel15Ideal.Gen.facts) (hReference15Ideal := Cert.Reference15Ideal.Gen.facts) := by
  pair_intro
  · run_from Cert.Kernel15Ideal.Value.run_blocks m g
  · refine (θ_run (Cert.Reference15Ideal.defs (F := Ideal)) _ _).mono (fun r h c => ?_) (Cert.Reference15Ideal.Value.run (F := Ideal) m' g')
    obtain ⟨e0, e1, e2, e3⟩ := hagree c
    obtain ⟨r0, r1, r2, r3, hrest⟩ := h c
    exact ⟨r0.trans (ExitStep.result0 m m' c e0 e1 e2 e3), r1.trans (ExitStep.result1 m m' c e0 e1 e2 e3), r2.trans (ExitStep.result2 m m' c e0 e1 e2 e3), r3.trans (ExitStep.result3 m m' c e0 e1 e2 e3), hrest⟩

theorem frameReference16 : Cert.quiescent_Reference16Ideal (hReference16Ideal := Cert.Reference16Ideal.Gen.facts) := fun m ρ _ =>
  (θ_run (Cert.Reference16Ideal.defs (F := Ideal)) _ _).mono
    (fun r h => ⟨fun c => (h c).2.2.2.2, sem_eq_zero_of_no_sems (by decide) r.2⟩) (Cert.Reference16Ideal.Value.run (F := Ideal) m ρ)

/-- The optimiser's kernel of the convolution's entrance weight computes the reference's results. -/
theorem algebraic16 : Cert.algebraic_Kernel16Ideal_Reference16Ideal (hKernel16Ideal := Cert.Kernel16Ideal.Gen.facts) (hReference16Ideal := Cert.Reference16Ideal.Gen.facts) := by
  pair_intro
  · run_from Cert.Kernel16Ideal.Value.run_blocks m g
  · refine (θ_run (Cert.Reference16Ideal.defs (F := Ideal)) _ _).mono (fun r h c => ?_) (Cert.Reference16Ideal.Value.run (F := Ideal) m' g')
    obtain ⟨e0, e1, e2, e3⟩ := hagree c
    obtain ⟨r0, r1, r2, r3, hrest⟩ := h c
    exact ⟨r0.trans (GateStep.result0 m m' c e0 e1 e2 e3), r1.trans (GateStep.result1 m m' c e0 e1 e2 e3), r2.trans (GateStep.result2 m m' c e0 e1 e2 e3), r3.trans (GateStep.result3 m m' c e0 e1 e2 e3), hrest⟩

theorem frameReference17 : Cert.quiescent_Reference17Ideal (hReference17Ideal := Cert.Reference17Ideal.Gen.facts) := fun m ρ _ =>
  (θ_run (Cert.Reference17Ideal.defs (F := Ideal)) _ _).mono
    (fun r h => ⟨fun c => (h c).2.2.2.2, sem_eq_zero_of_no_sems (by decide) r.2⟩) (Cert.Reference17Ideal.Value.run (F := Ideal) m ρ)

/-- The optimiser's kernel of the depthwise taps computes the reference's results. -/
theorem algebraic17 : Cert.algebraic_Kernel17Ideal_Reference17Ideal (hKernel17Ideal := Cert.Kernel17Ideal.Gen.facts) (hReference17Ideal := Cert.Reference17Ideal.Gen.facts) := by
  pair_intro
  · run_from Cert.Kernel17Ideal.Value.run_blocks m g
  · refine (θ_run (Cert.Reference17Ideal.defs (F := Ideal)) _ _).mono (fun r h c => ?_) (Cert.Reference17Ideal.Value.run (F := Ideal) m' g')
    obtain ⟨e0, e1, e2, e3⟩ := hagree c
    obtain ⟨r0, r1, r2, r3, hrest⟩ := h c
    exact ⟨r0.trans (TapStep.result0 m m' c e0 e1 e2 e3), r1.trans (TapStep.result1 m m' c e0 e1 e2 e3), r2.trans (TapStep.result2 m m' c e0 e1 e2 e3), r3.trans (TapStep.result3 m m' c e0 e1 e2 e3), hrest⟩

theorem frameReference18 : Cert.quiescent_Reference18Ideal (hReference18Ideal := Cert.Reference18Ideal.Gen.facts) := fun m ρ _ =>
  (θ_run (Cert.Reference18Ideal.defs (F := Ideal)) _ _).mono
    (fun r h => ⟨fun c => (h c).2.2, sem_eq_zero_of_no_sems (by decide) r.2⟩) (Cert.Reference18Ideal.Value.run (F := Ideal) m ρ)

/-- The kernel of the convolution's exit computes the reference's results. -/
theorem algebraic18 : Cert.algebraic_Kernel18Ideal_Reference18Ideal (hKernel18Ideal := Cert.Kernel18Ideal.Gen.facts) (hReference18Ideal := Cert.Reference18Ideal.Gen.facts) := by
  pair_intro
  · run_from Cert.Kernel18Ideal.Value.run_blocks m g
  · refine (θ_run (Cert.Reference18Ideal.defs (F := Ideal)) _ _).mono (fun r h c => ?_) (Cert.Reference18Ideal.Value.run (F := Ideal) m' g')
    obtain ⟨e0, e1, e2, e3, e4, e5, e6⟩ := hagree c
    obtain ⟨r0, r1, hrest⟩ := h c
    exact ⟨r0.trans (ConvExit.result0 m m' c e0 e1 e2 e3 e4 e5 e6), r1.trans (ConvExit.result1 m m' c e0 e1 e2 e3 e4 e5 e6), hrest⟩

theorem frameReference19 : Cert.quiescent_Reference19Ideal (hReference19Ideal := Cert.Reference19Ideal.Gen.facts) := fun m ρ _ =>
  (θ_run (Cert.Reference19Ideal.defs (F := Ideal)) _ _).mono
    (fun r h => ⟨fun c => (h c).2, sem_eq_zero_of_no_sems (by decide) r.2⟩) (Cert.Reference19Ideal.Value.run (F := Ideal) m ρ)

/-- The kernel of the forget gate's weight gradient computes the reference's result. -/
theorem algebraic19 : Cert.algebraic_Kernel19Ideal_Reference19Ideal (hKernel19Ideal := Cert.Kernel19Ideal.Gen.facts) (hReference19Ideal := Cert.Reference19Ideal.Gen.facts) := by
  pair_intro
  · run_from Cert.Kernel19Ideal.Value.run_blocks m g
  · refine (θ_run (Cert.Reference19Ideal.defs (F := Ideal)) _ _).mono (fun r h c => ?_) (Cert.Reference19Ideal.Value.run (F := Ideal) m' g')
    obtain ⟨e0, e1⟩ := hagree c
    obtain ⟨r0, hrest⟩ := h c
    exact ⟨r0.trans (GateWeights.result0 m m' c e0 e1), hrest⟩

theorem frameReference20 : Cert.quiescent_Reference20Ideal (hReference20Ideal := Cert.Reference20Ideal.Gen.facts) := fun m ρ _ =>
  (θ_run (Cert.Reference20Ideal.defs (F := Ideal)) _ _).mono
    (fun r h => ⟨fun c => (h c).2.2.2.2, sem_eq_zero_of_no_sems (by decide) r.2⟩) (Cert.Reference20Ideal.Value.run (F := Ideal) m ρ)

/-- The kernel of the attention's entrance computes the reference's results. -/
theorem algebraic20 : Cert.algebraic_Kernel20Ideal_Reference20Ideal (hKernel20Ideal := Cert.Kernel20Ideal.Gen.facts) (hReference20Ideal := Cert.Reference20Ideal.Gen.facts) := by
  pair_intro
  · run_from Cert.Kernel20Ideal.Value.run_blocks m g
  · refine (θ_run (Cert.Reference20Ideal.defs (F := Ideal)) _ _).mono (fun r h c => ?_) (Cert.Reference20Ideal.Value.run (F := Ideal) m' g')
    obtain ⟨e0, e1, e2, e3⟩ := hagree c
    obtain ⟨r0, r1, r2, r3, hrest⟩ := h c
    exact ⟨r0.trans (AttentionEntry.result0 m m' c e0 e1 e2 e3), r1.trans (AttentionEntry.result1 m m' c e0 e1 e2 e3), r2.trans (AttentionEntry.result2 m m' c e0 e1 e2 e3), r3.trans (AttentionEntry.result3 m m' c e0 e1 e2 e3), hrest⟩

theorem frameReference21 : Cert.quiescent_Reference21Ideal (hReference21Ideal := Cert.Reference21Ideal.Gen.facts) := fun m ρ _ =>
  (θ_run (Cert.Reference21Ideal.defs (F := Ideal)) _ _).mono
    (fun r h => ⟨fun c => (h c).2.2.2.2, sem_eq_zero_of_no_sems (by decide) r.2⟩) (Cert.Reference21Ideal.Value.run (F := Ideal) m ρ)

/-- The gradient kernel of the attention's exit computes the reference's results. -/
theorem algebraic21 : Cert.algebraic_Kernel21Ideal_Reference21Ideal (hKernel21Ideal := Cert.Kernel21Ideal.Gen.facts) (hReference21Ideal := Cert.Reference21Ideal.Gen.facts) := by
  pair_intro
  · run_from Cert.Kernel21Ideal.Value.run_blocks m g
  · refine (θ_run (Cert.Reference21Ideal.defs (F := Ideal)) _ _).mono (fun r h c => ?_) (Cert.Reference21Ideal.Value.run (F := Ideal) m' g')
    obtain ⟨e0, e1, e2, e3⟩ := hagree c
    obtain ⟨r0, r1, r2, r3, hrest⟩ := h c
    exact ⟨r0.trans (AttentionExitGrad.result0 m m' c e0 e1 e2 e3), r1.trans (AttentionExitGrad.result1 m m' c e0 e1 e2 e3), r2.trans (AttentionExitGrad.result2 m m' c e0 e1 e2 e3), r3.trans (AttentionExitGrad.result3 m m' c e0 e1 e2 e3), hrest⟩

theorem frameReference22 : Cert.quiescent_Reference22Ideal (hReference22Ideal := Cert.Reference22Ideal.Gen.facts) := fun m ρ _ =>
  (θ_run (Cert.Reference22Ideal.defs (F := Ideal)) _ _).mono
    (fun r h => ⟨fun c => (h c).2.2.2.2.2, sem_eq_zero_of_no_sems (by decide) r.2⟩) (Cert.Reference22Ideal.Value.run (F := Ideal) m ρ)

/-- The gradient kernel of the attention's entrance computes the reference's results. -/
theorem algebraic22 : Cert.algebraic_Kernel22Ideal_Reference22Ideal (hKernel22Ideal := Cert.Kernel22Ideal.Gen.facts) (hReference22Ideal := Cert.Reference22Ideal.Gen.facts) := by
  pair_intro
  · run_from Cert.Kernel22Ideal.Value.run_blocks m g
  · refine (θ_run (Cert.Reference22Ideal.defs (F := Ideal)) _ _).mono (fun r h c => ?_) (Cert.Reference22Ideal.Value.run (F := Ideal) m' g')
    obtain ⟨e0, e1, e2, e3, e4, e5, e6, e7, e8⟩ := hagree c
    obtain ⟨r0, r1, r2, r3, r4, hrest⟩ := h c
    exact ⟨r0.trans (AttentionEntryGrad.result0 m m' c e0 e1 e2 e3 e4 e5 e6 e7 e8), r1.trans (AttentionEntryGrad.result1 m m' c e0 e1 e2 e3 e4 e5 e6 e7 e8), r2.trans (AttentionEntryGrad.result2 m m' c e0 e1 e2 e3 e4 e5 e6 e7 e8), r3.trans (AttentionEntryGrad.result3 m m' c e0 e1 e2 e3 e4 e5 e6 e7 e8), r4.trans (AttentionEntryGrad.result4 m m' c e0 e1 e2 e3 e4 e5 e6 e7 e8), hrest⟩

theorem frameReference23 : Cert.quiescent_Reference23Ideal (hReference23Ideal := Cert.Reference23Ideal.Gen.facts) := fun m ρ _ =>
  (θ_run (Cert.Reference23Ideal.defs (F := Ideal)) _ _).mono
    (fun r h => ⟨fun c => (h c).2, sem_eq_zero_of_no_sems (by decide) r.2⟩) (Cert.Reference23Ideal.Value.run (F := Ideal) m ρ)

/-- The forget gate's running sum equals the reference's. -/
theorem algebraic23 : Cert.algebraic_Kernel23Ideal_Reference23Ideal (hKernel23Ideal := Cert.Kernel23Ideal.Gen.facts) (hReference23Ideal := Cert.Reference23Ideal.Gen.facts) := by
  pair_intro
  · run_from Cert.Kernel23Ideal.Value.run_blocks m g
  · refine (θ_run (Cert.Reference23Ideal.defs (F := Ideal)) _ _).mono (fun r h c => ?_) (Cert.Reference23Ideal.Value.run (F := Ideal) m' g')
    have e0 := hagree c
    obtain ⟨r0, hrest⟩ := h c
    exact ⟨r0.trans (ForgetSum.result0 m m' c e0), hrest⟩

theorem frameReference24 : Cert.quiescent_Reference24Ideal (hReference24Ideal := Cert.Reference24Ideal.Gen.facts) := fun m ρ _ =>
  (θ_run (Cert.Reference24Ideal.defs (F := Ideal)) _ _).mono
    (fun r h => ⟨fun c => (h c).2, sem_eq_zero_of_no_sems (by decide) r.2⟩) (Cert.Reference24Ideal.Value.run (F := Ideal) m ρ)

/-- The gradient of the forget gate's running sum equals the reference's. -/
theorem algebraic24 : Cert.algebraic_Kernel24Ideal_Reference24Ideal (hKernel24Ideal := Cert.Kernel24Ideal.Gen.facts) (hReference24Ideal := Cert.Reference24Ideal.Gen.facts) := by
  pair_intro
  · run_from Cert.Kernel24Ideal.Value.run_blocks m g
  · refine (θ_run (Cert.Reference24Ideal.defs (F := Ideal)) _ _).mono (fun r h c => ?_) (Cert.Reference24Ideal.Value.run (F := Ideal) m' g')
    obtain ⟨e0, e1⟩ := hagree c
    obtain ⟨r0, hrest⟩ := h c
    exact ⟨r0.trans (ForgetSumGrad.result0 m m' c e0 e1), hrest⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts,
    fun m ρ _ => Cert.Kernel.Gen.frame m ρ, fun m ρ _ => Cert.KernelIdeal.Gen.frame m ρ, frameReference,
    fun m ρ _ => Cert.Kernel2.Gen.frame m ρ, fun m ρ _ => Cert.Kernel2Ideal.Gen.frame m ρ, frameReference2,
    fun m ρ _ => Cert.Kernel3.Gen.frame m ρ, fun m ρ _ => Cert.Kernel3Ideal.Gen.frame m ρ, frameReference3,
    fun m ρ _ => Cert.Kernel4.Gen.frame m ρ, fun m ρ _ => Cert.Kernel4Ideal.Gen.frame m ρ, frameReference4,
    fun m ρ _ => Cert.Kernel5.Gen.frame m ρ, fun m ρ _ => Cert.Kernel5Ideal.Gen.frame m ρ, frameReference5,
    fun m ρ _ => Cert.Kernel6.Gen.frame m ρ, fun m ρ _ => Cert.Kernel6Ideal.Gen.frame m ρ, frameReference6,
    fun m ρ _ => Cert.Kernel7.Gen.frame m ρ, fun m ρ _ => Cert.Kernel7Ideal.Gen.frame m ρ, frameReference7,
    fun m ρ _ => Cert.Kernel8.Gen.frame m ρ, fun m ρ _ => Cert.Kernel8Ideal.Gen.frame m ρ, frameReference8,
    fun m ρ _ => Cert.Kernel9.Gen.frame m ρ, fun m ρ _ => Cert.Kernel9Ideal.Gen.frame m ρ, frameReference9,
    fun m ρ _ => Cert.Kernel10.Gen.frame m ρ, fun m ρ _ => Cert.Kernel10Ideal.Gen.frame m ρ, frameReference10,
    fun m ρ _ => Cert.Kernel11.Gen.frame m ρ, fun m ρ _ => Cert.Kernel11Ideal.Gen.frame m ρ, frameReference11,
    fun m ρ _ => Cert.Kernel12.Gen.frame m ρ, fun m ρ _ => Cert.Kernel12Ideal.Gen.frame m ρ, frameReference12,
    fun m ρ _ => Cert.Kernel13.Gen.frame m ρ, fun m ρ _ => Cert.Kernel13Ideal.Gen.frame m ρ, frameReference13,
    fun m ρ _ => Cert.Kernel14.Gen.frame m ρ, fun m ρ _ => Cert.Kernel14Ideal.Gen.frame m ρ, frameReference14,
    fun m ρ _ => Cert.Kernel15.Gen.frame m ρ, fun m ρ _ => Cert.Kernel15Ideal.Gen.frame m ρ, frameReference15,
    fun m ρ _ => Cert.Kernel16.Gen.frame m ρ, fun m ρ _ => Cert.Kernel16Ideal.Gen.frame m ρ, frameReference16,
    fun m ρ _ => Cert.Kernel17.Gen.frame m ρ, fun m ρ _ => Cert.Kernel17Ideal.Gen.frame m ρ, frameReference17,
    fun m ρ _ => Cert.Kernel18.Gen.frame m ρ, fun m ρ _ => Cert.Kernel18Ideal.Gen.frame m ρ, frameReference18,
    fun m ρ _ => Cert.Kernel19.Gen.frame m ρ, fun m ρ _ => Cert.Kernel19Ideal.Gen.frame m ρ, frameReference19,
    fun m ρ _ => Cert.Kernel20.Gen.frame m ρ, fun m ρ _ => Cert.Kernel20Ideal.Gen.frame m ρ, frameReference20,
    fun m ρ _ => Cert.Kernel21.Gen.frame m ρ, fun m ρ _ => Cert.Kernel21Ideal.Gen.frame m ρ, frameReference21,
    fun m ρ _ => Cert.Kernel22.Gen.frame m ρ, fun m ρ _ => Cert.Kernel22Ideal.Gen.frame m ρ, frameReference22,
    fun m ρ _ => Cert.Kernel23.Gen.frame m ρ, fun m ρ _ => Cert.Kernel23Ideal.Gen.frame m ρ, frameReference23,
    fun m ρ _ => Cert.Kernel24.Gen.frame m ρ, fun m ρ _ => Cert.Kernel24Ideal.Gen.frame m ρ, frameReference24,
    trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24⟩

end Cert.Proof

end
